-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v7_4)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v7_4) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_v194) = v1 c
          ∧ r.2.mem ((c.tc : Thread Cert.ReferenceIdeal.nD Cert.ReferenceIdeal.τ).loc Cert.ReferenceIdeal.main_v197) = v2 c
          ∧ r.2.mem ((c.tc : Thread Cert.ReferenceIdeal.nD Cert.ReferenceIdeal.τ).loc Cert.ReferenceIdeal.main_v198) = v3 c
          ∧ r.2.mem ((c.tc : Thread Cert.ReferenceIdeal.nD Cert.ReferenceIdeal.τ).loc Cert.ReferenceIdeal.main_v199) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1024x2560 : Shape := ⟨3, ![24, 1024, 2560]⟩
abbrev S24x1024x6912 : Shape := ⟨3, ![24, 1024, 6912]⟩
abbrev S1280x6912 : Shape := ⟨2, ![1280, 6912]⟩
abbrev S40x6912 : Shape := ⟨2, ![40, 6912]⟩
abbrev S2560x16 : Shape := ⟨2, ![2560, 16]⟩
abbrev S16x6912 : Shape := ⟨2, ![16, 6912]⟩
abbrev S2560x6912 : Shape := ⟨2, ![2560, 6912]⟩
abbrev S256x768 : Shape := ⟨2, ![256, 768]⟩
abbrev S8x768 : Shape := ⟨2, ![8, 768]⟩
abbrev S512x768 : Shape := ⟨2, ![512, 768]⟩
abbrev S32x768 : Shape := ⟨2, ![32, 768]⟩
abbrev S64x768 : Shape := ⟨2, ![64, 768]⟩
abbrev S1x768 : Shape := ⟨2, ![1, 768]⟩
abbrev S_ : Shape := ⟨0, ![]⟩
abbrev S2560x256 : Shape := ⟨2, ![2560, 256]⟩
abbrev S16x2560 : Shape := ⟨2, ![16, 2560]⟩
abbrev S24576x6912 : Shape := ⟨2, ![24576, 6912]⟩
abbrev S24576x2560 : Shape := ⟨2, ![24576, 2560]⟩
abbrev S24576x16 : Shape := ⟨2, ![24576, 16]⟩
abbrev S512x6912 : Shape := ⟨2, ![512, 6912]⟩
abbrev S512x2560 : Shape := ⟨2, ![512, 2560]⟩
abbrev S512x16 : Shape := ⟨2, ![512, 16]⟩
abbrev S512x256 : Shape := ⟨2, ![512, 256]⟩
abbrev S16x512 : Shape := ⟨2, ![16, 512]⟩
abbrev S256x256 : Shape := ⟨2, ![256, 256]⟩
abbrev S128x256 : Shape := ⟨2, ![128, 256]⟩
abbrev S16x256 : Shape := ⟨2, ![16, 256]⟩
abbrev S112x256 : Shape := ⟨2, ![112, 256]⟩
abbrev S256x128 : Shape := ⟨2, ![256, 128]⟩
abbrev S256x16 : Shape := ⟨2, ![256, 16]⟩
abbrev S24x1024x16 : Shape := ⟨3, ![24, 1024, 16]⟩

abbrev nBuf : Space → Nat
  | .hbm => 25
  | .vmem => 25
  | .smem => 0
  | _ => 0

abbrev bufTy : (tb : Table) → Fin (tcTables nBuf tb) → BufTy
  | .hbm, ⟨0, _⟩ => ⟨S24x1024x2560, .bf16⟩
  | .hbm, ⟨1, _⟩ => ⟨S24x1024x6912, .bf16⟩
  | .hbm, ⟨2, _⟩ => ⟨S1280x6912, .i8⟩
  | .hbm, ⟨3, _⟩ => ⟨S40x6912, .bf16⟩
  | .hbm, ⟨4, _⟩ => ⟨S2560x16, .bf16⟩
  | .hbm, ⟨5, _⟩ => ⟨S16x6912, .bf16⟩
  | .hbm, ⟨6, _⟩ => ⟨S2560x6912, .bf16⟩
  | .hbm, ⟨7, _⟩ => ⟨S_, .bf16⟩
  | .hbm, ⟨8, _⟩ => ⟨S2560x16, .bf16⟩
  | .hbm, ⟨9, _⟩ => ⟨S2560x16, .bf16⟩
  | .hbm, ⟨10, _⟩ => ⟨S_, .i32⟩
  | .hbm, ⟨11, _⟩ => ⟨S_, .bf16⟩
  | .hbm, ⟨12, _⟩ => ⟨S2560x256, .bf16⟩
  | .hbm, ⟨13, _⟩ => ⟨S16x2560, .bf16⟩
  | .hbm, ⟨14, _⟩ => ⟨S24576x6912, .bf16⟩
  | .hbm, ⟨15, _⟩ => ⟨S24576x2560, .bf16⟩
  | .hbm, ⟨16, _⟩ => ⟨S24576x2560, .bf16⟩
  | .hbm, ⟨17, _⟩ => ⟨S24576x16, .bf16⟩
  | .hbm, ⟨18, _⟩ => ⟨S24576x16, .bf16⟩
  | .hbm, ⟨19, _⟩ => ⟨S16x2560, .f32⟩
  | .hbm, ⟨20, _⟩ => ⟨S16x6912, .f32⟩
  | .hbm, ⟨21, _⟩ => ⟨S24x1024x2560, .bf16⟩
  | .hbm, ⟨22, _⟩ => ⟨S2560x16, .f32⟩
  | .hbm, ⟨23, _⟩ => ⟨S24x1024x16, .bf16⟩
  | .hbm, ⟨24, _⟩ => ⟨S24x1024x16, .bf16⟩
  | .local _ .vmem, ⟨0, _⟩ => ⟨S256x768, .i8⟩
  | .local _ .vmem, ⟨1, _⟩ => ⟨S256x768, .i8⟩
  | .local _ .vmem, ⟨2, _⟩ => ⟨S8x768, .bf16⟩
  | .local _ .vmem, ⟨3, _⟩ => ⟨S8x768, .bf16⟩
  | .local _ .vmem, ⟨4, _⟩ => ⟨S512x768, .bf16⟩
  | .local _ .vmem, ⟨5, _⟩ => ⟨S512x768, .bf16⟩
  | .local _ .vmem, ⟨6, _⟩ => ⟨S512x6912, .bf16⟩
  | .local _ .vmem, ⟨7, _⟩ => ⟨S512x6912, .bf16⟩
  | .local _ .vmem, ⟨8, _⟩ => ⟨S512x2560, .bf16⟩
  | .local _ .vmem, ⟨9, _⟩ => ⟨S512x2560, .bf16⟩
  | .local _ .vmem, ⟨10, _⟩ => ⟨S2560x256, .bf16⟩
  | .local _ .vmem, ⟨11, _⟩ => ⟨S16x2560, .bf16⟩
  | .local _ .vmem, ⟨12, _⟩ => ⟨S16x6912, .bf16⟩
  | .local _ .vmem, ⟨13, _⟩ => ⟨S512x2560, .bf16⟩
  | .local _ .vmem, ⟨14, _⟩ => ⟨S512x2560, .bf16⟩
  | .local _ .vmem, ⟨15, _⟩ => ⟨S512x16, .bf16⟩
  | .local _ .vmem, ⟨16, _⟩ => ⟨S512x16, .bf16⟩
  | .local _ .vmem, ⟨17, _⟩ => ⟨S512x16, .bf16⟩
  | .local _ .vmem, ⟨18, _⟩ => ⟨S512x16, .bf16⟩
  | .local _ .vmem, ⟨19, _⟩ => ⟨S16x2560, .f32⟩
  | .local _ .vmem, ⟨20, _⟩ => ⟨S16x6912, .f32⟩
  | .local _ .vmem, ⟨21, _⟩ => ⟨S2560x6912, .bf16⟩
  | .local _ .vmem, ⟨22, _⟩ => ⟨S512x256, .bf16⟩
  | .local _ .vmem, ⟨23, _⟩ => ⟨S16x512, .bf16⟩
  | .local _ .vmem, ⟨24, _⟩ => ⟨S16x512, .bf16⟩
  | _, _ => ⟨S24x1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg9_0 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem9_0 : DmaSem sig := 20

abbrev nD : Nat := 1
abbrev τ : Topo := Topo.v7x

variable {F : FTy → Type} [FloatOps F]

abbrev grid0 : Pipeline.Grid := ⟨2, ![5, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x6912 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2560 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2560x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x2560 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x6912 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2560 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x16 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x16 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S16x2560 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x6912 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S24x1024x2560 : Shape := ⟨3, ![24, 1024, 2560]⟩
abbrev S24x1024x6912 : Shape := ⟨3, ![24, 1024, 6912]⟩
abbrev S1280x6912 : Shape := ⟨2, ![1280, 6912]⟩
abbrev S40x6912 : Shape := ⟨2, ![40, 6912]⟩
abbrev S2560x16 : Shape := ⟨2, ![2560, 16]⟩
abbrev S16x6912 : Shape := ⟨2, ![16, 6912]⟩
abbrev S16 : Shape := ⟨1, ![16]⟩
abbrev S24576x2560 : Shape := ⟨2, ![24576, 2560]⟩
abbrev S24576x6912 : Shape := ⟨2, ![24576, 6912]⟩
abbrev S_ : Shape := ⟨0, ![]⟩
abbrev S1 : Shape := ⟨1, ![1]⟩
abbrev S40x32x6912 : Shape := ⟨3, ![40, 32, 6912]⟩
abbrev S40x1x6912 : Shape := ⟨3, ![40, 1, 6912]⟩
abbrev S24576x1280 : Shape := ⟨2, ![24576, 1280]⟩
abbrev S24576x1280x1 : Shape := ⟨3, ![24576, 1280, 1]⟩
abbrev S24576x1280x2 : Shape := ⟨3, ![24576, 1280, 2]⟩
abbrev S24576x16 : Shape := ⟨2, ![24576, 16]⟩
abbrev S24x1024x16 : Shape := ⟨3, ![24, 1024, 16]⟩

abbrev nBuf : Space → Nat
  | .hbm => 228
  | .vmem => 0
  | .smem => 0
  | _ => 0

abbrev hbmTy0_0 (i : Nat) : BufTy := match i % 128 with
  | 0 => ⟨S24x1024x2560, .bf16⟩
  | 1 => ⟨S24x1024x6912, .bf16⟩
  | 2 => ⟨S1280x6912, .i8⟩
  | 3 => ⟨S40x6912, .bf16⟩
  | 4 => ⟨S2560x16, .bf16⟩
  | 5 => ⟨S16x6912, .bf16⟩
  | 6 => ⟨S16, .bf16⟩
  | 7 => ⟨S16, .bf16⟩
  | 8 => ⟨S24576x2560, .bf16⟩
  | 9 => ⟨S24576x6912, .bf16⟩
  | 10 => ⟨S_, .f32⟩
  | 11 => ⟨S_, .f32⟩
  | 12 => ⟨S_, .f32⟩
  | 13 => ⟨S1280x6912, .i32⟩
  | 14 => ⟨S_, .i32⟩
  | 15 => ⟨S1280x6912, .i32⟩
  | 16 => ⟨S1280x6912, .i32⟩
  | 17 => ⟨S1, .bf16⟩
  | 18 => ⟨S_, .bf16⟩
  | 19 => ⟨S1, .bf16⟩
  | 20 => ⟨S_, .bf16⟩
  | 21 => ⟨S1, .bf16⟩
  | 22 => ⟨S_, .bf16⟩
  | 23 => ⟨S1, .bf16⟩
  | 24 => ⟨S_, .bf16⟩
  | 25 => ⟨S1, .bf16⟩
  | 26 => ⟨S_, .bf16⟩
  | 27 => ⟨S1, .bf16⟩
  | 28 => ⟨S_, .bf16⟩
  | 29 => ⟨S1, .bf16⟩
  | 30 => ⟨S_, .bf16⟩
  | 31 => ⟨S1, .bf16⟩
  | 32 => ⟨S_, .bf16⟩
  | 33 => ⟨S1, .bf16⟩
  | 34 => ⟨S_, .bf16⟩
  | 35 => ⟨S1, .bf16⟩
  | 36 => ⟨S_, .bf16⟩
  | 37 => ⟨S1, .bf16⟩
  | 38 => ⟨S_, .bf16⟩
  | 39 => ⟨S1, .bf16⟩
  | 40 => ⟨S_, .bf16⟩
  | 41 => ⟨S1, .bf16⟩
  | 42 => ⟨S_, .bf16⟩
  | 43 => ⟨S1, .bf16⟩
  | 44 => ⟨S_, .bf16⟩
  | 45 => ⟨S1, .bf16⟩
  | 46 => ⟨S_, .bf16⟩
  | 47 => ⟨S1, .bf16⟩
  | 48 => ⟨S_, .bf16⟩
  | 49 => ⟨S_, .i32⟩
  | 50 => ⟨S1280x6912, .i32⟩
  | 51 => ⟨S1280x6912, .i32⟩
  | 52 => ⟨S_, .i32⟩
  | 53 => ⟨S1280x6912, .i32⟩
  | 54 => ⟨S1280x6912, .i1⟩
  | 55 => ⟨S_, .i32⟩
  | 56 => ⟨S1280x6912, .i32⟩
  | 57 => ⟨S1280x6912, .i32⟩
  | 58 => ⟨S_, .i32⟩
  | 59 => ⟨S1280x6912, .i32⟩
  | 60 => ⟨S1280x6912, .i1⟩
  | 61 => ⟨S_, .i32⟩
  | 62 => ⟨S1280x6912, .i32⟩
  | 63 => ⟨S1280x6912, .i32⟩
  | 64 => ⟨S_, .i32⟩
  | 65 => ⟨S1280x6912, .i32⟩
  | 66 => ⟨S1280x6912, .i1⟩
  | 67 => ⟨S_, .i32⟩
  | 68 => ⟨S1280x6912, .i32⟩
  | 69 => ⟨S1280x6912, .i32⟩
  | 70 => ⟨S_, .i32⟩
  | 71 => ⟨S1280x6912, .i32⟩
  | 72 => ⟨S1280x6912, .i1⟩
  | 73 => ⟨S1280x6912, .bf16⟩
  | 74 => ⟨S1280x6912, .bf16⟩
  | 75 => ⟨S1280x6912, .bf16⟩
  | 76 => ⟨S1280x6912, .bf16⟩
  | 77 => ⟨S1280x6912, .bf16⟩
  | 78 => ⟨S1280x6912, .bf16⟩
  | 79 => ⟨S1280x6912, .bf16⟩
  | 80 => ⟨S1280x6912, .bf16⟩
  | 81 => ⟨S1280x6912, .bf16⟩
  | 82 => ⟨S1280x6912, .bf16⟩
  | 83 => ⟨S1280x6912, .bf16⟩
  | 84 => ⟨S1280x6912, .bf16⟩
  | 85 => ⟨S1280x6912, .bf16⟩
  | 86 => ⟨S1280x6912, .bf16⟩
  | 87 => ⟨S1280x6912, .bf16⟩
  | 88 => ⟨S1280x6912, .bf16⟩
  | 89 => ⟨S1280x6912, .bf16⟩
  | 90 => ⟨S1280x6912, .bf16⟩
  | 91 => ⟨S1280x6912, .bf16⟩
  | 92 => ⟨S1280x6912, .bf16⟩
  | 93 => ⟨S1280x6912, .bf16⟩
  | 94 => ⟨S1280x6912, .bf16⟩
  | 95 => ⟨S1280x6912, .bf16⟩
  | 96 => ⟨S1280x6912, .bf16⟩
  | 97 => ⟨S1280x6912, .bf16⟩
  | 98 => ⟨S1280x6912, .bf16⟩
  | 99 => ⟨S1280x6912, .bf16⟩
  | 100 => ⟨S1280x6912, .bf16⟩
  | 101 => ⟨S1280x6912, .bf16⟩
  | 102 => ⟨S1280x6912, .bf16⟩
  | 103 => ⟨S1280x6912, .bf16⟩
  | 104 => ⟨S40x32x6912, .bf16⟩
  | 105 => ⟨S40x1x6912, .bf16⟩
  | 106 => ⟨S40x32x6912, .bf16⟩
  | 107 => ⟨S40x32x6912, .bf16⟩
  | 108 => ⟨S1280x6912, .bf16⟩
  | 109 => ⟨S_, .i32⟩
  | 110 => ⟨S1280x6912, .i32⟩
  | 111 => ⟨S1280x6912, .i32⟩
  | 112 => ⟨S1, .bf16⟩
  | 113 => ⟨S_, .bf16⟩
  | 114 => ⟨S1, .bf16⟩
  | 115 => ⟨S_, .bf16⟩
  | 116 => ⟨S1, .bf16⟩
  | 117 => ⟨S_, .bf16⟩
  | 118 => ⟨S1, .bf16⟩
  | 119 => ⟨S_, .bf16⟩
  | 120 => ⟨S1, .bf16⟩
  | 121 => ⟨S_, .bf16⟩
  | 122 => ⟨S1, .bf16⟩
  | 123 => ⟨S_, .bf16⟩
  | 124 => ⟨S1, .bf16⟩
  | 125 => ⟨S_, .bf16⟩
  | 126 => ⟨S1, .bf16⟩
  | 127 => ⟨S_, .bf16⟩
  | _ => ⟨S24x1024x2560, .bf16⟩

abbrev hbmTy0_1 (i : Nat) : BufTy := match i % 128 with
  | 0 => ⟨S1, .bf16⟩
  | 1 => ⟨S_, .bf16⟩
  | 2 => ⟨S1, .bf16⟩
  | 3 => ⟨S_, .bf16⟩
  | 4 => ⟨S1, .bf16⟩
  | 5 => ⟨S_, .bf16⟩
  | 6 => ⟨S1, .bf16⟩
  | 7 => ⟨S_, .bf16⟩
  | 8 => ⟨S1, .bf16⟩
  | 9 => ⟨S_, .bf16⟩
  | 10 => ⟨S1, .bf16⟩
  | 11 => ⟨S_, .bf16⟩
  | 12 => ⟨S1, .bf16⟩
  | 13 => ⟨S_, .bf16⟩
  | 14 => ⟨S1, .bf16⟩
  | 15 => ⟨S_, .bf16⟩
  | 16 => ⟨S_, .i32⟩
  | 17 => ⟨S1280x6912, .i32⟩
  | 18 => ⟨S1280x6912, .i32⟩
  | 19 => ⟨S_, .i32⟩
  | 20 => ⟨S1280x6912, .i32⟩
  | 21 => ⟨S1280x6912, .i1⟩
  | 22 => ⟨S_, .i32⟩
  | 23 => ⟨S1280x6912, .i32⟩
  | 24 => ⟨S1280x6912, .i32⟩
  | 25 => ⟨S_, .i32⟩
  | 26 => ⟨S1280x6912, .i32⟩
  | 27 => ⟨S1280x6912, .i1⟩
  | 28 => ⟨S_, .i32⟩
  | 29 => ⟨S1280x6912, .i32⟩
  | 30 => ⟨S1280x6912, .i32⟩
  | 31 => ⟨S_, .i32⟩
  | 32 => ⟨S1280x6912, .i32⟩
  | 33 => ⟨S1280x6912, .i1⟩
  | 34 => ⟨S_, .i32⟩
  | 35 => ⟨S1280x6912, .i32⟩
  | 36 => ⟨S1280x6912, .i32⟩
  | 37 => ⟨S_, .i32⟩
  | 38 => ⟨S1280x6912, .i32⟩
  | 39 => ⟨S1280x6912, .i1⟩
  | 40 => ⟨S1280x6912, .bf16⟩
  | 41 => ⟨S1280x6912, .bf16⟩
  | 42 => ⟨S1280x6912, .bf16⟩
  | 43 => ⟨S1280x6912, .bf16⟩
  | 44 => ⟨S1280x6912, .bf16⟩
  | 45 => ⟨S1280x6912, .bf16⟩
  | 46 => ⟨S1280x6912, .bf16⟩
  | 47 => ⟨S1280x6912, .bf16⟩
  | 48 => ⟨S1280x6912, .bf16⟩
  | 49 => ⟨S1280x6912, .bf16⟩
  | 50 => ⟨S1280x6912, .bf16⟩
  | 51 => ⟨S1280x6912, .bf16⟩
  | 52 => ⟨S1280x6912, .bf16⟩
  | 53 => ⟨S1280x6912, .bf16⟩
  | 54 => ⟨S1280x6912, .bf16⟩
  | 55 => ⟨S1280x6912, .bf16⟩
  | 56 => ⟨S1280x6912, .bf16⟩
  | 57 => ⟨S1280x6912, .bf16⟩
  | 58 => ⟨S1280x6912, .bf16⟩
  | 59 => ⟨S1280x6912, .bf16⟩
  | 60 => ⟨S1280x6912, .bf16⟩
  | 61 => ⟨S1280x6912, .bf16⟩
  | 62 => ⟨S1280x6912, .bf16⟩
  | 63 => ⟨S1280x6912, .bf16⟩
  | 64 => ⟨S1280x6912, .bf16⟩
  | 65 => ⟨S1280x6912, .bf16⟩
  | 66 => ⟨S1280x6912, .bf16⟩
  | 67 => ⟨S1280x6912, .bf16⟩
  | 68 => ⟨S1280x6912, .bf16⟩
  | 69 => ⟨S1280x6912, .bf16⟩
  | 70 => ⟨S1280x6912, .bf16⟩
  | 71 => ⟨S40x32x6912, .bf16⟩
  | 72 => ⟨S40x1x6912, .bf16⟩
  | 73 => ⟨S40x32x6912, .bf16⟩
  | 74 => ⟨S40x32x6912, .bf16⟩
  | 75 => ⟨S1280x6912, .bf16⟩
  | 76 => ⟨S24576x1280, .f32⟩
  | 77 => ⟨S24576x1280, .f32⟩
  | 78 => ⟨S24576x1280x1, .f32⟩
  | 79 => ⟨S24576x1280x1, .f32⟩
  | 80 => ⟨S24576x1280x2, .f32⟩
  | 81 => ⟨S24576x2560, .f32⟩
  | 82 => ⟨S24576x16, .f32⟩
  | 83 => ⟨S24576x16, .bf16⟩
  | 84 => ⟨S24576x16, .f32⟩
  | 85 => ⟨S24576x16, .bf16⟩
  | 86 => ⟨S24576x2560, .f32⟩
  | 87 => ⟨S24576x2560, .f32⟩
  | 88 => ⟨S24576x2560, .f32⟩
  | 89 => ⟨S24576x2560, .f32⟩
  | 90 => ⟨S24576x2560, .bf16⟩
  | 91 => ⟨S24x1024x2560, .bf16⟩
  | 92 => ⟨S2560x16, .f32⟩
  | 93 => ⟨S2560x16, .f32⟩
  | 94 => ⟨S2560x16, .f32⟩
  | 95 => ⟨S16x6912, .f32⟩
  | 96 => ⟨S16x6912, .f32⟩
  | 97 => ⟨S16x6912, .f32⟩
  | 98 => ⟨S24x1024x16, .bf16⟩
  | 99 => ⟨S24x1024x16, .bf16⟩
  | _ => ⟨S24x1024x2560, .bf16⟩

abbrev hbmTy (i : Nat) : BufTy := match i / 128 with
  | 0 => hbmTy0_0 i
  | 1 => hbmTy0_1 i
  | _ => ⟨S24x1024x2560, .bf16⟩

abbrev bufTy : (tb : Table) → Fin (tcTables nBuf tb) → BufTy
  | .hbm, ⟨i, _⟩ => hbmTy i
  | _, _ => ⟨S24x1024x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_cst_1 : Ref sig .tc := ⟨.hbm, 10, rfl⟩
abbrev main_cst_2 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_3 : Ref sig .tc := ⟨.hbm, 49, rfl⟩
abbrev main_v38 : Ref sig .tc := ⟨.hbm, 50, rfl⟩
abbrev main_v39 : Ref sig .tc := ⟨.hbm, 51, rfl⟩
abbrev main_c_4 : Ref sig .tc := ⟨.hbm, 52, rfl⟩
abbrev main_v40 : Ref sig .tc := ⟨.hbm, 53, rfl⟩
abbrev main_v41 : Ref sig .tc := ⟨.hbm, 54, rfl⟩
abbrev main_c_5 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_c_11 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_c_12 : Ref sig .tc := ⟨.hbm, 144, rfl⟩
abbrev main_v124 : Ref sig .tc := ⟨.hbm, 145, rfl⟩
abbrev main_v125 : Ref sig .tc := ⟨.hbm, 146, rfl⟩
abbrev main_c_13 : Ref sig .tc := ⟨.hbm, 147, rfl⟩
abbrev main_v126 : Ref sig .tc := ⟨.hbm, 148, rfl⟩
abbrev main_v127 : Ref sig .tc := ⟨.hbm, 149, rfl⟩
abbrev main_c_14 : Ref sig .tc := ⟨.hbm, 150, rfl⟩
abbrev main_v128 : Ref sig .tc := ⟨.hbm, 151, rfl⟩
abbrev main_v129 : Ref sig .tc := ⟨.hbm, 152, rfl⟩
abbrev main_c_15 : Ref sig .tc := ⟨.hbm, 153, rfl⟩
abbrev main_v130 : Ref sig .tc := ⟨.hbm, 154, rfl⟩
abbrev main_v131 : Ref sig .tc := ⟨.hbm, 155, rfl⟩
abbrev main_c_16 : Ref sig .tc := ⟨.hbm, 156, rfl⟩
abbrev main_v132 : Ref sig .tc := ⟨.hbm, 157, rfl⟩
abbrev main_v133 : Ref sig .tc := ⟨.hbm, 158, rfl⟩
abbrev main_c_17 : Ref sig .tc := ⟨.hbm, 159, rfl⟩
abbrev main_v134 : Ref sig .tc := ⟨.hbm, 160, rfl⟩
abbrev main_v135 : Ref sig .tc := ⟨.hbm, 161, rfl⟩
abbrev main_c_18 : Ref sig .tc := ⟨.hbm, 162, rfl⟩
abbrev main_v136 : Ref sig .tc := ⟨.hbm, 163, rfl⟩
abbrev main_v137 : Ref sig .tc := ⟨.hbm, 164, rfl⟩
abbrev main_c_19 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩

abbrev nD : Nat := 1
abbrev τ : Topo := Topo.v7x

variable {F : FTy → Type} [FloatOps F]
-- ==== Proof.Ops.lean ====
/- The small steps that the backward kernel's body is made of, as data, and what a list of them does.

   The body is a long straight line of a few kinds of step: load a tile into a vector register, stage it in the
   matrix unit, accumulate a product, pop an accumulator, store a tile. `Op` names each kind with the tile
   coordinates it uses, `St` holds the vector values in flight, and `run` is the program of a list of steps. -/
module

public import Idealize.ShloMosaic.Lib.Pipeline
public import Idealize.ShloMosaic.PureOps
public import Idealize.ShloMosaic.Lib.Mxu
public import Idealize.ShloMosaic.Lib.Mxu.Lemmas
public import Idealize.ShloMosaic.Lib.Memref

@[expose] public section

noncomputable section

namespace Cert.Qlora

open Idealize.ShloMosaic Idealize.SL.Sem

/-! ## The buffers -/

/-- The buffers in vector memory that the body works on: the blocks of `dy` and `x`, the dequantised weight,
    the padded adapter `A`, its transpose, `B`; the results `dx`, `g`, `xa`; the running sums of the two adapter
    gradients; the scratch copies of `g` (padded, and transposed) and of `xa` (transposed). -/
inductive B | dy | x | w | ap | at | b | dx | g | xa | dla | dlb | gp | gt | xt
  deriving DecidableEq

instance : Fintype B where
  elems := {.dy, .x, .w, .ap, .at, .b, .dx, .g, .xa, .dla, .dlb, .gp, .gt, .xt}
  complete b := by cases b <;> decide

/-- A buffer's shape. -/
@[reducible] def sh : B → Shape
  | .dy => ⟨2, ![512, 6912]⟩
  | .x => ⟨2, ![512, 2560]⟩
  | .w => ⟨2, ![2560, 6912]⟩
  | .ap => ⟨2, ![2560, 256]⟩
  | .at => ⟨2, ![16, 2560]⟩
  | .b => ⟨2, ![16, 6912]⟩
  | .dx => ⟨2, ![512, 2560]⟩
  | .g => ⟨2, ![512, 16]⟩
  | .xa => ⟨2, ![512, 16]⟩
  | .dla => ⟨2, ![16, 2560]⟩
  | .dlb => ⟨2, ![16, 6912]⟩
  | .gp => ⟨2, ![512, 256]⟩
  | .gt => ⟨2, ![16, 512]⟩
  | .xt => ⟨2, ![16, 512]⟩

/-- A buffer's element type. -/
@[reducible] def el : B → EltTy
  | .dla => .f32
  | .dlb => .f32
  | .dy => .bf16
  | .x => .bf16
  | .w => .bf16
  | .ap => .bf16
  | .at => .bf16
  | .b => .bf16
  | .dx => .bf16
  | .g => .bf16
  | .xa => .bf16
  | .gp => .bf16
  | .gt => .bf16
  | .xt => .bf16

abbrev T256 : Shape := ⟨2, ![256, 256]⟩
abbrev T128 : Shape := ⟨2, ![128, 256]⟩
abbrev T16 : Shape := ⟨2, ![16, 256]⟩
abbrev T112 : Shape := ⟨2, ![112, 256]⟩
abbrev U128 : Shape := ⟨2, ![256, 128]⟩
abbrev U16 : Shape := ⟨2, ![256, 16]⟩

/-! ## The steps -/

/-- A 256 × 256 tile by its buffer and its place. -/
inductive Tile
  | dy (i : Fin 2) (j : Fin 27)
  | x (i : Fin 2) (j : Fin 10)
  | w (i : Fin 10) (j : Fin 27)
  | ap (i : Fin 10)
  deriving DecidableEq

/-- A 128 × 256 tile. -/
inductive Strip
  | dy (c : Fin 4) (j : Fin 27)
  | gp (c : Fin 4)
  | dx (c : Fin 4) (n : Fin 10)
  deriving DecidableEq

/-- A 16 × 256 tile. -/
inductive Thin
  | at (i : Fin 10)
  | b (j : Fin 27)
  | gt (h : Fin 2)
  | xt (h : Fin 2)
  deriving DecidableEq

/-- A 16 × 256 tile of one of the two running sums. -/
inductive Acc
  | dla (i : Fin 10)
  | dlb (j : Fin 27)
  deriving DecidableEq

inductive Op
  /-- load a 256 × 256 tile; give it its own shape again; stage it -/
  | ldT (t : Tile) | castT | push (q r : Fin 2) (tr : Bool)
  /-- load a 128 × 256 tile; give it its own shape again; accumulate its product at chunk `c`, loading the staged tile
      first or using the loaded one -/
  | ldL (t : Strip) | castL | accL (q r : Fin 2) (c : Fin 4) | accLd (q : Fin 2) (c : Fin 4)
  /-- the same for 16 × 256 tiles, at rows `16 a` -/
  | ldS (t : Thin) | castS | accS (q r : Fin 2) (a : Fin 64)
  /-- read and empty a 128 × 256 accumulator, round it, store it to `dx` -/
  | rdL (q : Fin 2) (c : Fin 4) | popL (q : Fin 2) (c : Fin 4) | truncL | deadL (t : Strip) | stDx (c : Fin 4) (n : Fin 10)
  /-- read and empty a 16 × 256 accumulator, round it, store it to a scratch -/
  | rdS (q : Fin 2) (a : Fin 64) | popS (q : Fin 2) (a : Fin 64) | truncS | deadS (t : Thin) | stGt (h : Fin 2) | stXt (h : Fin 2)
  /-- pad it to 128 rows, transpose, round, store; take the first 16 columns, store -/
  | pad | tr | truncU | deadU (h : Fin 2) | stGp (h : Fin 2) | ext | deadG (h : Fin 2) | stG (h : Fin 2) | deadXa (h : Fin 2) | stXa (h : Fin 2)
  /-- add a popped accumulator into a running sum -/
  | ldO (t : Acc) | castO | one | mul | add | deadO (t : Acc) | stO (t : Acc)
  deriving DecidableEq

/-! ## Places are inside their buffers -/

theorem inb2 {s0 s1 o0 o1 t0 t1 : ℕ} (h0 : o0 + t0 ≤ s0) (h1 : o1 + t1 ≤ s1) :
    ∀ a, (![o0, o1] : Fin 2 → ℕ) a + (⟨2, ![t0, t1]⟩ : Shape).size a ≤ (⟨2, ![s0, s1]⟩ : Shape).size a := by
  intro a
  match a with
  | ⟨0, _⟩ => exact h0
  | ⟨1, _⟩ => exact h1

/-- The rectangle of `t0 × t1` elements at `(o0, o1)`. -/
abbrev rect {s0 s1 : ℕ} (o0 o1 t0 t1 : ℕ) (h0 : o0 + t0 ≤ s0) (h1 : o1 + t1 ≤ s1) : Rect ⟨2, ![s0, s1]⟩ :=
  Rect.unit (s := ⟨2, ![s0, s1]⟩) ![o0, o1] (⟨2, ![t0, t1]⟩ : Shape).size (inb2 h0 h1)

theorem packed {s0 s1 o0 o1 t0 t1 : ℕ} (h0 : o0 + t0 ≤ s0) (h1 : o1 + t1 ≤ s1) (ho : 2 ∣ o0) (ht : 2 ∣ t0) :
    (rect (s0 := s0) (s1 := s1) o0 o1 t0 t1 h0 h1).PackedRows (EltTy.packing .bf16) :=
  .inr ⟨le_refl 2, rfl, .inl ⟨ho, ht⟩⟩

theorem fitsL (c : Fin 4) : Mxu.Fits (32 * c) 128 := by
  have := c.isLt; unfold Mxu.Fits; omega

theorem fitsS (a : Fin 64) : Mxu.Fits (4 * a) 16 := by
  have := a.isLt; unfold Mxu.Fits; omega

variable {F : FTy → Type} [FloatOps F]

/-! ## The values in flight -/

structure St (F : FTy → Type) [FloatOps F] where
  mxu : Mxu F
  t : FVec F T256 .bf16
  l : FVec F T128 .bf16
  s : FVec F T16 .bf16
  f : FVec F T128 .f32
  p : FVec F T16 .f32
  o : FVec F T16 .f32
  c : FVec F T16 .f32
  y : FVec F U128 .f32
  u : FVec F U128 .bf16
  e : FVec F U16 .bf16

/-- The values in flight as a part of the body finds them: only the matrix unit and the register that crosses the
    cut are read. -/
def St.init : St F := ⟨Mxu.init, fun _ => FloatOps.ofBits _ 0, fun _ => FloatOps.ofBits _ 0, fun _ => FloatOps.ofBits _ 0, fun _ => FloatOps.ofBits _ 0,
  fun _ => FloatOps.ofBits _ 0, fun _ => FloatOps.ofBits _ 0, fun _ => FloatOps.ofBits _ 0, fun _ => FloatOps.ofBits _ 0, fun _ => FloatOps.ofBits _ 0,
  fun _ => FloatOps.ofBits _ 0⟩

variable {nD : ℕ} {τ : Topo} {sig : RefSig} {Λ : Labels}

/-- The memrefs a body is called with. -/
structure Args (sig : RefSig) where
  m : (b : B) → Memref sig .tc .vmem (sh b) (el b)
  h : (b : B) → (m b).IsWhole

/-- The programs of the body, as the TensorCore runs them. -/
abbrev P (nD : ℕ) (τ : Topo) (sig : RefSig) (F : FTy → Type) (Λ : Labels) : Type → Type _ := Prog (TpuEff nD τ sig (Elt F) Λ .tc)

variable (A : Args sig)

theorem numel_pos {a b : ℕ} (ha : 0 < a) (hb : 0 < b) : 0 < (⟨2, ![a, b]⟩ : Shape).numel := by
  have : (⟨2, ![a, b]⟩ : Shape).numel = a * b := by simp [Shape.numel, Fin.prod_univ_two]
  rw [this]; exact Nat.mul_pos ha hb

/-- Load a rectangle of a buffer. -/
abbrev ld (b : B) (r : Rect (sh b)) (h : 0 < r.shape.numel) : P nD τ sig F Λ (Vec F r.shape (el b)) :=
  Prog.lift (.load (A.m b) r.toLoadRect (View.loadsAt_vmem h))

/-- Store a rectangle of a bf16 buffer. -/
abbrev st (b : B) (r : Rect (sh b)) (h : 0 < r.shape.numel) (hp : r.PackedRows (el b).packing) (v : Vec F r.shape (el b)) :
    P nD τ sig F Λ PUnit :=
  Prog.lift (.store (A.m b) r v Finset.univ (View.stores_vmem h ((A.h b).storeExact_slice rfl _ hp) (fun _ => rfl)) (.inl rfl))

/-- Store a rectangle of an f32 buffer. -/
abbrev st32 (b : B) (r : Rect (sh b)) (h : 0 < r.shape.numel) (hb : (el b).bits = 32) (v : Vec F r.shape (el b)) :
    P nD τ sig F Λ PUnit :=
  Prog.lift (.store (A.m b) r v Finset.univ (View.stores_vmem_bits_univ h hb) (.inl rfl))

/-- The rectangle of a tile. -/
@[reducible] def Tile.buf : Tile → B
  | .dy .. => .dy
  | .x .. => .x
  | .w .. => .w
  | .ap .. => .ap

theorem lt_mul {n : ℕ} (k : ℕ) {m : ℕ} (i : Fin n) (h : k * n ≤ m := by decide) : k * i.val + k ≤ m := by
  have h1 : i.val + 1 ≤ n := i.isLt
  have := Nat.mul_le_mul_left k h1
  rw [Nat.mul_succ] at this; omega

abbrev rDy (i : Fin 2) (j : Fin 27) : Rect (sh .dy) := rect (256 * i) (256 * j) 256 256 (lt_mul 256 i) (lt_mul 256 j)
abbrev rX (i : Fin 2) (j : Fin 10) : Rect (sh .x) := rect (256 * i) (256 * j) 256 256 (lt_mul 256 i) (lt_mul 256 j)
abbrev rW (i : Fin 10) (j : Fin 27) : Rect (sh .w) := rect (256 * i) (256 * j) 256 256 (lt_mul 256 i) (lt_mul 256 j)
abbrev rAp (i : Fin 10) : Rect (sh .ap) := rect (256 * i) 0 256 256 (lt_mul 256 i) (by decide)
abbrev rDyL (c : Fin 4) (j : Fin 27) : Rect (sh .dy) := rect (128 * c) (256 * j) 128 256 (lt_mul 128 c) (lt_mul 256 j)
abbrev rGpL (c : Fin 4) : Rect (sh .gp) := rect (128 * c) 0 128 256 (lt_mul 128 c) (by decide)
abbrev rDx (c : Fin 4) (n : Fin 10) : Rect (sh .dx) := rect (128 * c) (256 * n) 128 256 (lt_mul 128 c) (lt_mul 256 n)
abbrev rAt (i : Fin 10) : Rect (sh .at) := rect 0 (256 * i) 16 256 (by decide) (lt_mul 256 i)
abbrev rB (j : Fin 27) : Rect (sh .b) := rect 0 (256 * j) 16 256 (by decide) (lt_mul 256 j)
abbrev rGt (h : Fin 2) : Rect (sh .gt) := rect 0 (256 * h) 16 256 (by decide) (lt_mul 256 h)
abbrev rXt (h : Fin 2) : Rect (sh .xt) := rect 0 (256 * h) 16 256 (by decide) (lt_mul 256 h)
abbrev rGp (h : Fin 2) : Rect (sh .gp) := rect (256 * h) 0 256 128 (lt_mul 256 h) (by decide)
abbrev rG (h : Fin 2) : Rect (sh .g) := rect (256 * h) 0 256 16 (lt_mul 256 h) (by decide)
abbrev rXa (h : Fin 2) : Rect (sh .xa) := rect (256 * h) 0 256 16 (lt_mul 256 h) (by decide)
abbrev rDla (i : Fin 10) : Rect (sh .dla) := rect 0 (256 * i) 16 256 (by decide) (lt_mul 256 i)
abbrev rDlb (j : Fin 27) : Rect (sh .dlb) := rect 0 (256 * j) 16 256 (by decide) (lt_mul 256 j)

theorem posT : 0 < T256.numel := numel_pos (by decide) (by decide)
theorem posL : 0 < T128.numel := numel_pos (by decide) (by decide)
theorem posS : 0 < T16.numel := numel_pos (by decide) (by decide)
theorem posU : 0 < U128.numel := numel_pos (by decide) (by decide)
theorem posE : 0 < U16.numel := numel_pos (by decide) (by decide)

theorem ltBits : FTy.bits .bf16 < FTy.bits .f32 := by decide

def ldTile : Tile → P nD τ sig F Λ (FVec F T256 .bf16)
  | .dy i j => ld A .dy (rDy i j) posT
  | .x i j => ld A .x (rX i j) posT
  | .w i j => ld A .w (rW i j) posT
  | .ap i => ld A .ap (rAp i) posT

def ldStrip : Strip → P nD τ sig F Λ (FVec F T128 .bf16)
  | .dy c j => ld A .dy (rDyL c j) posL
  | .gp c => ld A .gp (rGpL c) posL
  | .dx c n => ld A .dx (rDx c n) posL

def ldThin : Thin → P nD τ sig F Λ (FVec F T16 .bf16)
  | .at i => ld A .at (rAt i) posS
  | .b j => ld A .b (rB j) posS
  | .gt h => ld A .gt (rGt h) posS
  | .xt h => ld A .xt (rXt h) posS

def ldAcc : Acc → P nD τ sig F Λ (FVec F T16 .f32)
  | .dla i => ld A .dla (rDla i) posS
  | .dlb j => ld A .dlb (rDlb j) posS

def stAcc (v : FVec F T16 .f32) : Acc → P nD τ sig F Λ PUnit
  | .dla i => st32 A .dla (rDla i) posS rfl v
  | .dlb j => st32 A .dlb (rDlb j) posS rfl v

theorem castsT : T256.ShapeCasts T256 := by decide
theorem castsL : T128.ShapeCasts T128 := by decide
theorem castsS : T16.ShapeCasts T16 := by decide
theorem castsU : U128.ShapeCasts U128 := by decide
theorem concats : Shape.Concatenates [T16, T112] T128 0 := by decide
theorem transp : T128.Transposes [1, 0] U128 := by decide
theorem slices : U128.Slices ![0, 0] U16 := by decide

/-- What one step does. -/
def step : Op → St F → P nD τ sig F Λ (St F)
  | .ldT x, ⟨m, _, l, s, f, p, o, c, y, u, e⟩ => do let t ← ldTile A x; pure ⟨m, t, l, s, f, p, o, c, y, u, e⟩
  | .castT, ⟨m, t, l, s, f, p, o, c, y, u, e⟩ => pure ⟨m, shapeCast T256 t castsT, l, s, f, p, o, c, y, u, e⟩
  | .push q r tr, ⟨m, t, l, s, f, p, o, c, y, u, e⟩ => do let m ← m.pushRhs q r tr t; pure ⟨m, t, l, s, f, p, o, c, y, u, e⟩
  | .ldL x, ⟨m, t, _, s, f, p, o, c, y, u, e⟩ => do let l ← ldStrip A x; pure ⟨m, t, l, s, f, p, o, c, y, u, e⟩
  | .castL, ⟨m, t, l, s, f, p, o, c, y, u, e⟩ => pure ⟨m, t, shapeCast T128 l castsL, s, f, p, o, c, y, u, e⟩
  | .accL q r a, ⟨m, t, l, s, f, p, o, c, y, u, e⟩ => pure ⟨m.accLhs q r (32 * a) l (fitsL a), t, l, s, f, p, o, c, y, u, e⟩
  | .accLd q a, ⟨m, t, l, s, f, p, o, c, y, u, e⟩ => do
      let m ← m.accLhsLoaded q (32 * a) l (fitsL a); pure ⟨m, t, l, s, f, p, o, c, y, u, e⟩
  | .ldS x, ⟨m, t, l, _, f, p, o, c, y, u, e⟩ => do let s ← ldThin A x; pure ⟨m, t, l, s, f, p, o, c, y, u, e⟩
  | .castS, ⟨m, t, l, s, f, p, o, c, y, u, e⟩ => pure ⟨m, t, l, shapeCast T16 s castsS, f, p, o, c, y, u, e⟩
  | .accS q r a, ⟨m, t, l, s, f, p, o, c, y, u, e⟩ => pure ⟨m.accLhs q r (4 * a) s (fitsS a), t, l, s, f, p, o, c, y, u, e⟩
  | .rdL q a, ⟨m, t, l, s, _, p, o, c, y, u, e⟩ => pure ⟨m, t, l, s, m.read q (32 * a) (fitsL a), p, o, c, y, u, e⟩
  | .popL q a, ⟨m, t, l, s, f, p, o, c, y, u, e⟩ => pure ⟨m.pop q (32 * a) 128 (fitsL a), t, l, s, f, p, o, c, y, u, e⟩
  | .truncL, ⟨m, t, _, s, f, p, o, c, y, u, e⟩ => pure ⟨m, t, truncf .bf16 f ltBits, s, f, p, o, c, y, u, e⟩
  | .deadL x, ⟨m, t, l, s, f, p, o, c, y, u, e⟩ => do let _ ← ldStrip (F := F) A x; pure ⟨m, t, l, s, f, p, o, c, y, u, e⟩
  | .stDx k n, ⟨m, t, l, s, f, p, o, c, y, u, e⟩ => do
      st A .dx (rDx k n) posL (packed _ _ (by omega) (by decide)) l; pure ⟨m, t, l, s, f, p, o, c, y, u, e⟩
  | .rdS q a, ⟨m, t, l, s, f, _, o, c, y, u, e⟩ => pure ⟨m, t, l, s, f, m.read q (4 * a) (fitsS a), o, c, y, u, e⟩
  | .popS q a, ⟨m, t, l, s, f, p, o, c, y, u, e⟩ => pure ⟨m.pop q (4 * a) 16 (fitsS a), t, l, s, f, p, o, c, y, u, e⟩
  | .truncS, ⟨m, t, l, _, f, p, o, c, y, u, e⟩ => pure ⟨m, t, l, truncf .bf16 p ltBits, f, p, o, c, y, u, e⟩
  | .deadS x, ⟨m, t, l, s, f, p, o, c, y, u, e⟩ => do let _ ← ldThin (F := F) A x; pure ⟨m, t, l, s, f, p, o, c, y, u, e⟩
  | .stGt h, ⟨m, t, l, s, f, p, o, c, y, u, e⟩ => do
      st A .gt (rGt h) posS (packed _ _ (by decide) (by decide)) (shapeCast T16 s castsS); pure ⟨m, t, l, s, f, p, o, c, y, u, e⟩
  | .stXt h, ⟨m, t, l, s, f, p, o, c, y, u, e⟩ => do
      st A .xt (rXt h) posS (packed _ _ (by decide) (by decide)) (shapeCast T16 s castsS); pure ⟨m, t, l, s, f, p, o, c, y, u, e⟩
  | .pad, ⟨m, t, l, s, _, p, o, c, y, u, e⟩ =>
      pure ⟨m, t, l, s, concatenate T128 0 [⟨T16, p⟩, ⟨T112, broadcast T112 (Scalar.ofBits .f32 0x00000000#32)⟩] concats, p, o, c, y, u, e⟩
  | .tr, ⟨m, t, l, s, f, p, o, c, _, u, e⟩ => pure ⟨m, t, l, s, f, p, o, c, transpose U128 [1, 0] f transp, u, e⟩
  | .truncU, ⟨m, t, l, s, f, p, o, c, y, _, e⟩ => pure ⟨m, t, l, s, f, p, o, c, y, truncf .bf16 y ltBits, e⟩
  | .deadU h, ⟨m, t, l, s, f, p, o, c, y, u, e⟩ => do let _ ← ld (F := F) A .gp (rGp h) posU; pure ⟨m, t, l, s, f, p, o, c, y, u, e⟩
  | .stGp h, ⟨m, t, l, s, f, p, o, c, y, u, e⟩ => do
      st A .gp (rGp h) posU (packed _ _ (by omega) (by decide)) (shapeCast U128 u castsU); pure ⟨m, t, l, s, f, p, o, c, y, u, e⟩
  | .ext, ⟨m, t, l, s, f, p, o, c, y, u, _⟩ => pure ⟨m, t, l, s, f, p, o, c, y, u, extractStridedSlice U16 ![0, 0] u slices⟩
  | .deadG h, ⟨m, t, l, s, f, p, o, c, y, u, e⟩ => do let _ ← ld (F := F) A .g (rG h) posE; pure ⟨m, t, l, s, f, p, o, c, y, u, e⟩
  | .stG h, ⟨m, t, l, s, f, p, o, c, y, u, e⟩ => do
      st A .g (rG h) posE (packed _ _ (by omega) (by decide)) e; pure ⟨m, t, l, s, f, p, o, c, y, u, e⟩
  | .deadXa h, ⟨m, t, l, s, f, p, o, c, y, u, e⟩ => do let _ ← ld (F := F) A .xa (rXa h) posE; pure ⟨m, t, l, s, f, p, o, c, y, u, e⟩
  | .stXa h, ⟨m, t, l, s, f, p, o, c, y, u, e⟩ => do
      st A .xa (rXa h) posE (packed _ _ (by omega) (by decide)) e; pure ⟨m, t, l, s, f, p, o, c, y, u, e⟩
  | .ldO x, ⟨m, t, l, s, f, p, _, c, y, u, e⟩ => do let o ← ldAcc A x; pure ⟨m, t, l, s, f, p, o, c, y, u, e⟩
  | .castO, ⟨m, t, l, s, f, p, o, c, y, u, e⟩ => pure ⟨m, t, l, s, f, p, shapeCast T16 o castsS, c, y, u, e⟩
  | .one, ⟨m, t, l, s, f, p, o, _, y, u, e⟩ => pure ⟨m, t, l, s, f, p, o, broadcast T16 (Scalar.ofBits .f32 0x3F800000#32), y, u, e⟩
  | .mul, ⟨m, t, l, s, f, p, o, c, y, u, e⟩ => pure ⟨m, t, l, s, f, mulf c p, o, c, y, u, e⟩
  | .add, ⟨m, t, l, s, f, p, o, c, y, u, e⟩ => pure ⟨m, t, l, s, f, addf o p, o, c, y, u, e⟩
  | .deadO x, ⟨m, t, l, s, f, p, o, c, y, u, e⟩ => do let _ ← ldAcc (F := F) A x; pure ⟨m, t, l, s, f, p, o, c, y, u, e⟩
  | .stO x, ⟨m, t, l, s, f, p, o, c, y, u, e⟩ => do stAcc A p x; pure ⟨m, t, l, s, f, p, o, c, y, u, e⟩

/-- What a list of steps does. -/
def run : List Op → St F → P nD τ sig F Λ (St F)
  | [], s => pure s
  | o :: l, s => step A o s >>= run l

theorem run_append (l l' : List Op) (s : St F) : run (nD := nD) (τ := τ) (Λ := Λ) A (l ++ l') s = run A l s >>= run A l' := by
  induction l generalizing s with
  | nil => simp [run]
  | cons o l ih => simp only [List.cons_append, run, bind_assoc, ← ih]

end Cert.Qlora

end
-- ==== Proof.Code.lean ====
/- The backward kernel's body as a list of steps, cut where its printed text is cut. -/
module

public import proofs.«01_k».proof.Proof.Ops

@[expose] public section

set_option maxRecDepth 100000

namespace Cert.Qlora

def c1 : List Op :=
  [.ldT (.w 0 0), .push 0 0 true, .ldT (.w 1 0), .push 1 0 true, .ldT (.dy 0 0), .castT, .push 0 1 true, .ldT (.dy 1 0), .castT,
   .push 1 1 true, .ldL (.dy 0 0), .castL, .accL 0 0 0, .ldL (.dy 0 0), .castL, .accL 1 0 0, .ldL (.dy 1 0), .castL, .accLd 0 1,
   .ldL (.dy 1 0), .castL, .accLd 1 1, .ldL (.dy 2 0), .castL, .accLd 0 2, .ldL (.dy 2 0), .castL, .accLd 1 2, .ldL (.dy 3 0),
   .castL]
def c2 : List Op :=
  [.accLd 0 3, .ldL (.dy 3 0), .castL, .accLd 1 3, .ldT (.w 0 1), .push 0 0 true, .ldS (.b 0), .accS 0 1 32, .ldT (.w 1 1),
   .push 1 0 true, .ldS (.b 0), .accS 1 1 32, .ldT (.dy 0 1), .castT, .push 0 1 true, .ldT (.dy 1 1), .castT, .push 1 1 true,
   .ldL (.dy 0 1), .castL, .accL 0 0 0, .ldL (.dy 0 1), .castL, .accL 1 0 0, .ldL (.dy 1 1), .castL, .accLd 0 1, .ldL (.dy 1 1),
   .castL, .accLd 1 1, .ldL (.dy 2 1), .castL, .accLd 0 2, .ldL (.dy 2 1)]
def c3 : List Op :=
  [.castL, .accLd 1 2, .ldL (.dy 3 1), .castL, .accLd 0 3, .ldL (.dy 3 1), .castL, .accLd 1 3, .ldT (.w 0 2), .push 0 0 true,
   .ldS (.b 1), .accS 0 1 32, .ldT (.w 1 2), .push 1 0 true, .ldS (.b 1), .accS 1 1 32, .ldT (.dy 0 2), .castT, .push 0 1 true,
   .ldT (.dy 1 2), .castT, .push 1 1 true, .ldL (.dy 0 2), .castL, .accL 0 0 0, .ldL (.dy 0 2), .castL, .accL 1 0 0,
   .ldL (.dy 1 2), .castL, .accLd 0 1, .ldL (.dy 1 2), .castL, .accLd 1 1]
def c4 : List Op :=
  [.ldL (.dy 2 2), .castL, .accLd 0 2, .ldL (.dy 2 2), .castL, .accLd 1 2, .ldL (.dy 3 2), .castL, .accLd 0 3, .ldL (.dy 3 2),
   .castL, .accLd 1 3, .ldT (.w 0 3), .push 0 0 true, .ldS (.b 2), .accS 0 1 32, .ldT (.w 1 3), .push 1 0 true, .ldS (.b 2),
   .accS 1 1 32, .ldT (.dy 0 3), .castT, .push 0 1 true, .ldT (.dy 1 3), .castT, .push 1 1 true, .ldL (.dy 0 3), .castL,
   .accL 0 0 0, .ldL (.dy 0 3), .castL, .accL 1 0 0, .ldL (.dy 1 3), .castL, .accLd 0 1]
def c5 : List Op :=
  [.ldL (.dy 1 3), .castL, .accLd 1 1, .ldL (.dy 2 3), .castL, .accLd 0 2, .ldL (.dy 2 3), .castL, .accLd 1 2, .ldL (.dy 3 3),
   .castL, .accLd 0 3, .ldL (.dy 3 3), .castL, .accLd 1 3, .ldT (.w 0 4), .push 0 0 true, .ldS (.b 3), .accS 0 1 32,
   .ldT (.w 1 4), .push 1 0 true, .ldS (.b 3), .accS 1 1 32, .ldT (.dy 0 4), .castT, .push 0 1 true, .ldT (.dy 1 4), .castT,
   .push 1 1 true, .ldL (.dy 0 4), .castL, .accL 0 0 0, .ldL (.dy 0 4), .castL, .accL 1 0 0]
def c6 : List Op :=
  [.ldL (.dy 1 4), .castL, .accLd 0 1, .ldL (.dy 1 4), .castL, .accLd 1 1, .ldL (.dy 2 4), .castL, .accLd 0 2, .ldL (.dy 2 4),
   .castL, .accLd 1 2, .ldL (.dy 3 4), .castL, .accLd 0 3, .ldL (.dy 3 4), .castL, .accLd 1 3, .ldT (.w 0 5), .push 0 0 true,
   .ldS (.b 4), .accS 0 1 32, .ldT (.w 1 5), .push 1 0 true, .ldS (.b 4), .accS 1 1 32, .ldT (.dy 0 5), .castT, .push 0 1 true,
   .ldT (.dy 1 5), .castT, .push 1 1 true, .ldL (.dy 0 5), .castL]
def c7 : List Op :=
  [.accL 0 0 0, .ldL (.dy 0 5), .castL, .accL 1 0 0, .ldL (.dy 1 5), .castL, .accLd 0 1, .ldL (.dy 1 5), .castL, .accLd 1 1,
   .ldL (.dy 2 5), .castL, .accLd 0 2, .ldL (.dy 2 5), .castL, .accLd 1 2, .ldL (.dy 3 5), .castL, .accLd 0 3, .ldL (.dy 3 5),
   .castL, .accLd 1 3, .ldT (.w 0 6), .push 0 0 true, .ldS (.b 5), .accS 0 1 32, .ldT (.w 1 6), .push 1 0 true, .ldS (.b 5),
   .accS 1 1 32, .ldT (.dy 0 6), .castT, .push 0 1 true, .ldT (.dy 1 6)]
def c8 : List Op :=
  [.castT, .push 1 1 true, .ldL (.dy 0 6), .castL, .accL 0 0 0, .ldL (.dy 0 6), .castL, .accL 1 0 0, .ldL (.dy 1 6), .castL,
   .accLd 0 1, .ldL (.dy 1 6), .castL, .accLd 1 1, .ldL (.dy 2 6), .castL, .accLd 0 2, .ldL (.dy 2 6), .castL, .accLd 1 2,
   .ldL (.dy 3 6), .castL, .accLd 0 3, .ldL (.dy 3 6), .castL, .accLd 1 3, .ldT (.w 0 7), .push 0 0 true, .ldS (.b 6),
   .accS 0 1 32, .ldT (.w 1 7), .push 1 0 true, .ldS (.b 6), .accS 1 1 32]
def c9 : List Op :=
  [.ldT (.dy 0 7), .castT, .push 0 1 true, .ldT (.dy 1 7), .castT, .push 1 1 true, .ldL (.dy 0 7), .castL, .accL 0 0 0,
   .ldL (.dy 0 7), .castL, .accL 1 0 0, .ldL (.dy 1 7), .castL, .accLd 0 1, .ldL (.dy 1 7), .castL, .accLd 1 1, .ldL (.dy 2 7),
   .castL, .accLd 0 2, .ldL (.dy 2 7), .castL, .accLd 1 2, .ldL (.dy 3 7), .castL, .accLd 0 3, .ldL (.dy 3 7), .castL,
   .accLd 1 3, .ldT (.w 0 8), .push 0 0 true, .ldS (.b 7), .accS 0 1 32, .ldT (.w 1 8), .push 1 0 true]
def c10 : List Op :=
  [.ldS (.b 7), .accS 1 1 32, .ldT (.dy 0 8), .castT, .push 0 1 true, .ldT (.dy 1 8), .castT, .push 1 1 true, .ldL (.dy 0 8),
   .castL, .accL 0 0 0, .ldL (.dy 0 8), .castL, .accL 1 0 0, .ldL (.dy 1 8), .castL, .accLd 0 1, .ldL (.dy 1 8), .castL,
   .accLd 1 1, .ldL (.dy 2 8), .castL, .accLd 0 2, .ldL (.dy 2 8), .castL, .accLd 1 2, .ldL (.dy 3 8), .castL, .accLd 0 3,
   .ldL (.dy 3 8), .castL, .accLd 1 3, .ldT (.w 0 9), .push 0 0 true]
def c11 : List Op :=
  [.ldS (.b 8), .accS 0 1 32, .ldT (.w 1 9), .push 1 0 true, .ldS (.b 8), .accS 1 1 32, .ldT (.dy 0 9), .castT, .push 0 1 true,
   .ldT (.dy 1 9), .castT, .push 1 1 true, .ldL (.dy 0 9), .castL, .accL 0 0 0, .ldL (.dy 0 9), .castL, .accL 1 0 0,
   .ldL (.dy 1 9), .castL, .accLd 0 1, .ldL (.dy 1 9), .castL, .accLd 1 1, .ldL (.dy 2 9), .castL, .accLd 0 2, .ldL (.dy 2 9),
   .castL, .accLd 1 2, .ldL (.dy 3 9), .castL, .accLd 0 3, .ldL (.dy 3 9), .castL, .accLd 1 3]
def c12 : List Op :=
  [.ldT (.w 0 10), .push 0 0 true, .ldS (.b 9), .accS 0 1 32, .ldT (.w 1 10), .push 1 0 true, .ldS (.b 9), .accS 1 1 32,
   .ldT (.dy 0 10), .castT, .push 0 1 true, .ldT (.dy 1 10), .castT, .push 1 1 true, .ldL (.dy 0 10), .castL, .accL 0 0 0,
   .ldL (.dy 0 10), .castL, .accL 1 0 0, .ldL (.dy 1 10), .castL, .accLd 0 1, .ldL (.dy 1 10), .castL, .accLd 1 1,
   .ldL (.dy 2 10), .castL, .accLd 0 2, .ldL (.dy 2 10), .castL, .accLd 1 2, .ldL (.dy 3 10), .castL]
def c13 : List Op :=
  [.accLd 0 3, .ldL (.dy 3 10), .castL, .accLd 1 3, .ldT (.w 0 11), .push 0 0 true, .ldS (.b 10), .accS 0 1 32, .ldT (.w 1 11),
   .push 1 0 true, .ldS (.b 10), .accS 1 1 32, .ldT (.dy 0 11), .castT, .push 0 1 true, .ldT (.dy 1 11), .castT, .push 1 1 true,
   .ldL (.dy 0 11), .castL, .accL 0 0 0, .ldL (.dy 0 11), .castL, .accL 1 0 0, .ldL (.dy 1 11), .castL, .accLd 0 1,
   .ldL (.dy 1 11), .castL, .accLd 1 1, .ldL (.dy 2 11), .castL, .accLd 0 2, .ldL (.dy 2 11)]
def c14 : List Op :=
  [.castL, .accLd 1 2, .ldL (.dy 3 11), .castL, .accLd 0 3, .ldL (.dy 3 11), .castL, .accLd 1 3, .ldT (.w 0 12), .push 0 0 true,
   .ldS (.b 11), .accS 0 1 32, .ldT (.w 1 12), .push 1 0 true, .ldS (.b 11), .accS 1 1 32, .ldT (.dy 0 12), .castT,
   .push 0 1 true, .ldT (.dy 1 12), .castT, .push 1 1 true, .ldL (.dy 0 12), .castL, .accL 0 0 0, .ldL (.dy 0 12), .castL,
   .accL 1 0 0, .ldL (.dy 1 12), .castL, .accLd 0 1, .ldL (.dy 1 12), .castL, .accLd 1 1]
def c15 : List Op :=
  [.ldL (.dy 2 12), .castL, .accLd 0 2, .ldL (.dy 2 12), .castL, .accLd 1 2, .ldL (.dy 3 12), .castL, .accLd 0 3,
   .ldL (.dy 3 12), .castL, .accLd 1 3, .ldT (.w 0 13), .push 0 0 true, .ldS (.b 12), .accS 0 1 32, .ldT (.w 1 13),
   .push 1 0 true, .ldS (.b 12), .accS 1 1 32, .ldT (.dy 0 13), .castT, .push 0 1 true, .ldT (.dy 1 13), .castT, .push 1 1 true,
   .ldL (.dy 0 13), .castL, .accL 0 0 0, .ldL (.dy 0 13), .castL, .accL 1 0 0, .ldL (.dy 1 13), .castL, .accLd 0 1]
def c16 : List Op :=
  [.ldL (.dy 1 13), .castL, .accLd 1 1, .ldL (.dy 2 13), .castL, .accLd 0 2, .ldL (.dy 2 13), .castL, .accLd 1 2,
   .ldL (.dy 3 13), .castL, .accLd 0 3, .ldL (.dy 3 13), .castL, .accLd 1 3, .ldT (.w 0 14), .push 0 0 true, .ldS (.b 13),
   .accS 0 1 32, .ldT (.w 1 14), .push 1 0 true, .ldS (.b 13), .accS 1 1 32, .ldT (.dy 0 14), .castT, .push 0 1 true,
   .ldT (.dy 1 14), .castT, .push 1 1 true, .ldL (.dy 0 14), .castL, .accL 0 0 0, .ldL (.dy 0 14), .castL, .accL 1 0 0]
def c17 : List Op :=
  [.ldL (.dy 1 14), .castL, .accLd 0 1, .ldL (.dy 1 14), .castL, .accLd 1 1, .ldL (.dy 2 14), .castL, .accLd 0 2,
   .ldL (.dy 2 14), .castL, .accLd 1 2, .ldL (.dy 3 14), .castL, .accLd 0 3, .ldL (.dy 3 14), .castL, .accLd 1 3, .ldT (.w 0 15),
   .push 0 0 true, .ldS (.b 14), .accS 0 1 32, .ldT (.w 1 15), .push 1 0 true, .ldS (.b 14), .accS 1 1 32, .ldT (.dy 0 15),
   .castT, .push 0 1 true, .ldT (.dy 1 15), .castT, .push 1 1 true, .ldL (.dy 0 15), .castL]
def c18 : List Op :=
  [.accL 0 0 0, .ldL (.dy 0 15), .castL, .accL 1 0 0, .ldL (.dy 1 15), .castL, .accLd 0 1, .ldL (.dy 1 15), .castL, .accLd 1 1,
   .ldL (.dy 2 15), .castL, .accLd 0 2, .ldL (.dy 2 15), .castL, .accLd 1 2, .ldL (.dy 3 15), .castL, .accLd 0 3,
   .ldL (.dy 3 15), .castL, .accLd 1 3, .ldT (.w 0 16), .push 0 0 true, .ldS (.b 15), .accS 0 1 32, .ldT (.w 1 16),
   .push 1 0 true, .ldS (.b 15), .accS 1 1 32, .ldT (.dy 0 16), .castT, .push 0 1 true, .ldT (.dy 1 16)]
def c19 : List Op :=
  [.castT, .push 1 1 true, .ldL (.dy 0 16), .castL, .accL 0 0 0, .ldL (.dy 0 16), .castL, .accL 1 0 0, .ldL (.dy 1 16), .castL,
   .accLd 0 1, .ldL (.dy 1 16), .castL, .accLd 1 1, .ldL (.dy 2 16), .castL, .accLd 0 2, .ldL (.dy 2 16), .castL, .accLd 1 2,
   .ldL (.dy 3 16), .castL, .accLd 0 3, .ldL (.dy 3 16), .castL, .accLd 1 3, .ldT (.w 0 17), .push 0 0 true, .ldS (.b 16),
   .accS 0 1 32, .ldT (.w 1 17), .push 1 0 true, .ldS (.b 16), .accS 1 1 32]
def c20 : List Op :=
  [.ldT (.dy 0 17), .castT, .push 0 1 true, .ldT (.dy 1 17), .castT, .push 1 1 true, .ldL (.dy 0 17), .castL, .accL 0 0 0,
   .ldL (.dy 0 17), .castL, .accL 1 0 0, .ldL (.dy 1 17), .castL, .accLd 0 1, .ldL (.dy 1 17), .castL, .accLd 1 1,
   .ldL (.dy 2 17), .castL, .accLd 0 2, .ldL (.dy 2 17), .castL, .accLd 1 2, .ldL (.dy 3 17), .castL, .accLd 0 3,
   .ldL (.dy 3 17), .castL, .accLd 1 3, .ldT (.w 0 18), .push 0 0 true, .ldS (.b 17), .accS 0 1 32, .ldT (.w 1 18),
   .push 1 0 true]
def c21 : List Op :=
  [.ldS (.b 17), .accS 1 1 32, .ldT (.dy 0 18), .castT, .push 0 1 true, .ldT (.dy 1 18), .castT, .push 1 1 true, .ldL (.dy 0 18),
   .castL, .accL 0 0 0, .ldL (.dy 0 18), .castL, .accL 1 0 0, .ldL (.dy 1 18), .castL, .accLd 0 1, .ldL (.dy 1 18), .castL,
   .accLd 1 1, .ldL (.dy 2 18), .castL, .accLd 0 2, .ldL (.dy 2 18), .castL, .accLd 1 2, .ldL (.dy 3 18), .castL, .accLd 0 3,
   .ldL (.dy 3 18), .castL, .accLd 1 3, .ldT (.w 0 19), .push 0 0 true]
def c22 : List Op :=
  [.ldS (.b 18), .accS 0 1 32, .ldT (.w 1 19), .push 1 0 true, .ldS (.b 18), .accS 1 1 32, .ldT (.dy 0 19), .castT,
   .push 0 1 true, .ldT (.dy 1 19), .castT, .push 1 1 true, .ldL (.dy 0 19), .castL, .accL 0 0 0, .ldL (.dy 0 19), .castL,
   .accL 1 0 0, .ldL (.dy 1 19), .castL, .accLd 0 1, .ldL (.dy 1 19), .castL, .accLd 1 1, .ldL (.dy 2 19), .castL, .accLd 0 2,
   .ldL (.dy 2 19), .castL, .accLd 1 2, .ldL (.dy 3 19), .castL, .accLd 0 3, .ldL (.dy 3 19), .castL, .accLd 1 3]
def c23 : List Op :=
  [.ldT (.w 0 20), .push 0 0 true, .ldS (.b 19), .accS 0 1 32, .ldT (.w 1 20), .push 1 0 true, .ldS (.b 19), .accS 1 1 32,
   .ldT (.dy 0 20), .castT, .push 0 1 true, .ldT (.dy 1 20), .castT, .push 1 1 true, .ldL (.dy 0 20), .castL, .accL 0 0 0,
   .ldL (.dy 0 20), .castL, .accL 1 0 0, .ldL (.dy 1 20), .castL, .accLd 0 1, .ldL (.dy 1 20), .castL, .accLd 1 1,
   .ldL (.dy 2 20), .castL, .accLd 0 2, .ldL (.dy 2 20), .castL, .accLd 1 2, .ldL (.dy 3 20), .castL]
def c24 : List Op :=
  [.accLd 0 3, .ldL (.dy 3 20), .castL, .accLd 1 3, .ldT (.w 0 21), .push 0 0 true, .ldS (.b 20), .accS 0 1 32, .ldT (.w 1 21),
   .push 1 0 true, .ldS (.b 20), .accS 1 1 32, .ldT (.dy 0 21), .castT, .push 0 1 true, .ldT (.dy 1 21), .castT, .push 1 1 true,
   .ldL (.dy 0 21), .castL, .accL 0 0 0, .ldL (.dy 0 21), .castL, .accL 1 0 0, .ldL (.dy 1 21), .castL, .accLd 0 1,
   .ldL (.dy 1 21), .castL, .accLd 1 1, .ldL (.dy 2 21), .castL, .accLd 0 2, .ldL (.dy 2 21)]
def c25 : List Op :=
  [.castL, .accLd 1 2, .ldL (.dy 3 21), .castL, .accLd 0 3, .ldL (.dy 3 21), .castL, .accLd 1 3, .ldT (.w 0 22), .push 0 0 true,
   .ldS (.b 21), .accS 0 1 32, .ldT (.w 1 22), .push 1 0 true, .ldS (.b 21), .accS 1 1 32, .ldT (.dy 0 22), .castT,
   .push 0 1 true, .ldT (.dy 1 22), .castT, .push 1 1 true, .ldL (.dy 0 22), .castL, .accL 0 0 0, .ldL (.dy 0 22), .castL,
   .accL 1 0 0, .ldL (.dy 1 22), .castL, .accLd 0 1, .ldL (.dy 1 22), .castL, .accLd 1 1]
def c26 : List Op :=
  [.ldL (.dy 2 22), .castL, .accLd 0 2, .ldL (.dy 2 22), .castL, .accLd 1 2, .ldL (.dy 3 22), .castL, .accLd 0 3,
   .ldL (.dy 3 22), .castL, .accLd 1 3, .ldT (.w 0 23), .push 0 0 true, .ldS (.b 22), .accS 0 1 32, .ldT (.w 1 23),
   .push 1 0 true, .ldS (.b 22), .accS 1 1 32, .ldT (.dy 0 23), .castT, .push 0 1 true, .ldT (.dy 1 23), .castT, .push 1 1 true,
   .ldL (.dy 0 23), .castL, .accL 0 0 0, .ldL (.dy 0 23), .castL, .accL 1 0 0, .ldL (.dy 1 23), .castL, .accLd 0 1]
def c27 : List Op :=
  [.ldL (.dy 1 23), .castL, .accLd 1 1, .ldL (.dy 2 23), .castL, .accLd 0 2, .ldL (.dy 2 23), .castL, .accLd 1 2,
   .ldL (.dy 3 23), .castL, .accLd 0 3, .ldL (.dy 3 23), .castL, .accLd 1 3, .ldT (.w 0 24), .push 0 0 true, .ldS (.b 23),
   .accS 0 1 32, .ldT (.w 1 24), .push 1 0 true, .ldS (.b 23), .accS 1 1 32, .ldT (.dy 0 24), .castT, .push 0 1 true,
   .ldT (.dy 1 24), .castT, .push 1 1 true, .ldL (.dy 0 24), .castL, .accL 0 0 0, .ldL (.dy 0 24), .castL, .accL 1 0 0]
def c28 : List Op :=
  [.ldL (.dy 1 24), .castL, .accLd 0 1, .ldL (.dy 1 24), .castL, .accLd 1 1, .ldL (.dy 2 24), .castL, .accLd 0 2,
   .ldL (.dy 2 24), .castL, .accLd 1 2, .ldL (.dy 3 24), .castL, .accLd 0 3, .ldL (.dy 3 24), .castL, .accLd 1 3, .ldT (.w 0 25),
   .push 0 0 true, .ldS (.b 24), .accS 0 1 32, .ldT (.w 1 25), .push 1 0 true, .ldS (.b 24), .accS 1 1 32, .ldT (.dy 0 25),
   .castT, .push 0 1 true, .ldT (.dy 1 25), .castT, .push 1 1 true, .ldL (.dy 0 25), .castL]
def c29 : List Op :=
  [.accL 0 0 0, .ldL (.dy 0 25), .castL, .accL 1 0 0, .ldL (.dy 1 25), .castL, .accLd 0 1, .ldL (.dy 1 25), .castL, .accLd 1 1,
   .ldL (.dy 2 25), .castL, .accLd 0 2, .ldL (.dy 2 25), .castL, .accLd 1 2, .ldL (.dy 3 25), .castL, .accLd 0 3,
   .ldL (.dy 3 25), .castL, .accLd 1 3, .ldT (.w 0 26), .push 0 0 true, .ldS (.b 25), .accS 0 1 32, .ldT (.w 1 26),
   .push 1 0 true, .ldS (.b 25), .accS 1 1 32, .ldT (.dy 0 26), .castT, .push 0 1 true, .ldT (.dy 1 26)]
def c30 : List Op :=
  [.castT, .push 1 1 true, .ldL (.dy 0 26), .castL, .accL 0 0 0, .ldL (.dy 0 26), .castL, .accL 1 0 0, .ldL (.dy 1 26), .castL,
   .accLd 0 1, .ldL (.dy 1 26), .castL, .accLd 1 1, .ldL (.dy 2 26), .castL, .accLd 0 2, .ldL (.dy 2 26), .castL, .accLd 1 2,
   .ldL (.dy 3 26), .castL, .accLd 0 3, .ldL (.dy 3 26), .castL, .accLd 1 3, .ldT (.ap 0), .castT, .push 0 0 true, .ldS (.b 26),
   .accS 0 1 32, .ldT (.ap 1), .castT, .push 1 0 true, .ldS (.b 26), .accS 1 1 32]
def c31 : List Op :=
  [.rdS 0 32, .popS 0 32, .truncS, .deadS (.gt 0), .stGt 0, .pad, .tr, .truncU, .deadU 0, .stGp 0, .ext, .deadG 0, .stG 0,
   .rdS 1 32, .popS 1 32, .truncS, .deadS (.gt 1), .stGt 1, .pad, .tr, .truncU, .deadU 1, .stGp 1, .ext, .deadG 1, .stG 1,
   .ldL (.gp 0), .accL 0 0 0, .ldL (.gp 0), .accL 1 0 0]
def c32 : List Op :=
  [.ldL (.gp 1), .accLd 0 1, .ldL (.gp 1), .accLd 1 1, .ldL (.gp 2), .accLd 0 2, .ldL (.gp 2), .accLd 1 2, .ldL (.gp 3),
   .accLd 0 3, .ldL (.gp 3), .accLd 1 3, .rdL 0 0, .popL 0 0, .truncL, .deadL (.dx 0 0), .stDx 0 0, .rdL 1 0, .popL 1 0, .truncL,
   .deadL (.dx 0 1), .stDx 0 1, .rdL 0 1, .popL 0 1, .truncL, .deadL (.dx 1 0), .stDx 1 0, .rdL 1 1, .popL 1 1, .truncL,
   .deadL (.dx 1 1), .stDx 1 1, .rdL 0 2, .popL 0 2, .truncL, .deadL (.dx 2 0), .stDx 2 0, .rdL 1 2, .popL 1 2, .truncL]
def c33 : List Op :=
  [.deadL (.dx 2 1), .stDx 2 1, .rdL 0 3, .popL 0 3, .truncL, .deadL (.dx 3 0), .stDx 3 0, .rdL 1 3, .popL 1 3, .truncL,
   .deadL (.dx 3 1), .stDx 3 1, .ldT (.w 2 0), .push 0 0 true, .ldT (.w 3 0), .push 1 0 true, .ldT (.x 0 0), .castT,
   .push 0 1 true, .ldT (.x 1 0), .castT, .push 1 1 true, .ldL (.dy 0 0), .castL, .accL 0 0 0, .ldL (.dy 0 0), .castL,
   .accL 1 0 0, .ldL (.dy 1 0), .castL, .accLd 0 1, .ldL (.dy 1 0), .castL, .accLd 1 1, .ldL (.dy 2 0), .castL]
def c34 : List Op :=
  [.accLd 0 2, .ldL (.dy 2 0), .castL, .accLd 1 2, .ldL (.dy 3 0), .castL, .accLd 0 3, .ldL (.dy 3 0), .castL, .accLd 1 3,
   .ldT (.w 2 1), .push 0 0 true, .ldS (.at 0), .castS, .accS 0 1 33, .ldT (.w 3 1), .push 1 0 true, .ldS (.at 0), .castS,
   .accS 1 1 33, .ldT (.x 0 1), .castT, .push 0 1 true, .ldT (.x 1 1), .castT, .push 1 1 true, .ldL (.dy 0 1), .castL,
   .accL 0 0 0, .ldL (.dy 0 1), .castL, .accL 1 0 0, .ldL (.dy 1 1), .castL, .accLd 0 1]
def c35 : List Op :=
  [.ldL (.dy 1 1), .castL, .accLd 1 1, .ldL (.dy 2 1), .castL, .accLd 0 2, .ldL (.dy 2 1), .castL, .accLd 1 2, .ldL (.dy 3 1),
   .castL, .accLd 0 3, .ldL (.dy 3 1), .castL, .accLd 1 3, .ldT (.w 2 2), .push 0 0 true, .ldS (.at 1), .castS, .accS 0 1 33,
   .ldT (.w 3 2), .push 1 0 true, .ldS (.at 1), .castS, .accS 1 1 33, .ldT (.x 0 2), .castT, .push 0 1 true, .ldT (.x 1 2),
   .castT, .push 1 1 true, .ldL (.dy 0 2), .castL, .accL 0 0 0, .ldL (.dy 0 2)]
def c36 : List Op :=
  [.castL, .accL 1 0 0, .ldL (.dy 1 2), .castL, .accLd 0 1, .ldL (.dy 1 2), .castL, .accLd 1 1, .ldL (.dy 2 2), .castL,
   .accLd 0 2, .ldL (.dy 2 2), .castL, .accLd 1 2, .ldL (.dy 3 2), .castL, .accLd 0 3, .ldL (.dy 3 2), .castL, .accLd 1 3,
   .ldT (.w 2 3), .push 0 0 true, .ldS (.at 2), .castS, .accS 0 1 33, .ldT (.w 3 3), .push 1 0 true, .ldS (.at 2), .castS,
   .accS 1 1 33, .ldT (.x 0 3), .castT, .push 0 1 true, .ldT (.x 1 3), .castT, .push 1 1 true]
def c37 : List Op :=
  [.ldL (.dy 0 3), .castL, .accL 0 0 0, .ldL (.dy 0 3), .castL, .accL 1 0 0, .ldL (.dy 1 3), .castL, .accLd 0 1, .ldL (.dy 1 3),
   .castL, .accLd 1 1, .ldL (.dy 2 3), .castL, .accLd 0 2, .ldL (.dy 2 3), .castL, .accLd 1 2, .ldL (.dy 3 3), .castL,
   .accLd 0 3, .ldL (.dy 3 3), .castL, .accLd 1 3, .ldT (.w 2 4), .push 0 0 true, .ldS (.at 3), .castS, .accS 0 1 33,
   .ldT (.w 3 4), .push 1 0 true, .ldS (.at 3), .castS, .accS 1 1 33]
def c38 : List Op :=
  [.ldT (.x 0 4), .castT, .push 0 1 true, .ldT (.x 1 4), .castT, .push 1 1 true, .ldL (.dy 0 4), .castL, .accL 0 0 0,
   .ldL (.dy 0 4), .castL, .accL 1 0 0, .ldL (.dy 1 4), .castL, .accLd 0 1, .ldL (.dy 1 4), .castL, .accLd 1 1, .ldL (.dy 2 4),
   .castL, .accLd 0 2, .ldL (.dy 2 4), .castL, .accLd 1 2, .ldL (.dy 3 4), .castL, .accLd 0 3, .ldL (.dy 3 4), .castL,
   .accLd 1 3, .ldT (.w 2 5), .push 0 0 true, .ldS (.at 4), .castS, .accS 0 1 33, .ldT (.w 3 5)]
def c39 : List Op :=
  [.push 1 0 true, .ldS (.at 4), .castS, .accS 1 1 33, .ldT (.x 0 5), .castT, .push 0 1 true, .ldT (.x 1 5), .castT,
   .push 1 1 true, .ldL (.dy 0 5), .castL, .accL 0 0 0, .ldL (.dy 0 5), .castL, .accL 1 0 0, .ldL (.dy 1 5), .castL, .accLd 0 1,
   .ldL (.dy 1 5), .castL, .accLd 1 1, .ldL (.dy 2 5), .castL, .accLd 0 2, .ldL (.dy 2 5), .castL, .accLd 1 2, .ldL (.dy 3 5),
   .castL, .accLd 0 3, .ldL (.dy 3 5), .castL, .accLd 1 3, .ldT (.w 2 6), .push 0 0 true]
def c40 : List Op :=
  [.ldS (.at 5), .castS, .accS 0 1 33, .ldT (.w 3 6), .push 1 0 true, .ldS (.at 5), .castS, .accS 1 1 33, .ldT (.x 0 6), .castT,
   .push 0 1 true, .ldT (.x 1 6), .castT, .push 1 1 true, .ldL (.dy 0 6), .castL, .accL 0 0 0, .ldL (.dy 0 6), .castL,
   .accL 1 0 0, .ldL (.dy 1 6), .castL, .accLd 0 1, .ldL (.dy 1 6), .castL, .accLd 1 1, .ldL (.dy 2 6), .castL, .accLd 0 2,
   .ldL (.dy 2 6), .castL, .accLd 1 2, .ldL (.dy 3 6), .castL, .accLd 0 3]
def c41 : List Op :=
  [.ldL (.dy 3 6), .castL, .accLd 1 3, .ldT (.w 2 7), .push 0 0 true, .ldS (.at 6), .castS, .accS 0 1 33, .ldT (.w 3 7),
   .push 1 0 true, .ldS (.at 6), .castS, .accS 1 1 33, .ldT (.x 0 7), .castT, .push 0 1 true, .ldT (.x 1 7), .castT,
   .push 1 1 true, .ldL (.dy 0 7), .castL, .accL 0 0 0, .ldL (.dy 0 7), .castL, .accL 1 0 0, .ldL (.dy 1 7), .castL, .accLd 0 1,
   .ldL (.dy 1 7), .castL, .accLd 1 1, .ldL (.dy 2 7), .castL, .accLd 0 2, .ldL (.dy 2 7)]
def c42 : List Op :=
  [.castL, .accLd 1 2, .ldL (.dy 3 7), .castL, .accLd 0 3, .ldL (.dy 3 7), .castL, .accLd 1 3, .ldT (.w 2 8), .push 0 0 true,
   .ldS (.at 7), .castS, .accS 0 1 33, .ldT (.w 3 8), .push 1 0 true, .ldS (.at 7), .castS, .accS 1 1 33, .ldT (.x 0 8), .castT,
   .push 0 1 true, .ldT (.x 1 8), .castT, .push 1 1 true, .ldL (.dy 0 8), .castL, .accL 0 0 0, .ldL (.dy 0 8), .castL,
   .accL 1 0 0, .ldL (.dy 1 8), .castL, .accLd 0 1, .ldL (.dy 1 8), .castL, .accLd 1 1]
def c43 : List Op :=
  [.ldL (.dy 2 8), .castL, .accLd 0 2, .ldL (.dy 2 8), .castL, .accLd 1 2, .ldL (.dy 3 8), .castL, .accLd 0 3, .ldL (.dy 3 8),
   .castL, .accLd 1 3, .ldT (.w 2 9), .push 0 0 true, .ldS (.at 8), .castS, .accS 0 1 33, .ldT (.w 3 9), .push 1 0 true,
   .ldS (.at 8), .castS, .accS 1 1 33, .ldT (.x 0 9), .castT, .push 0 1 true, .ldT (.x 1 9), .castT, .push 1 1 true,
   .ldL (.dy 0 9), .castL, .accL 0 0 0, .ldL (.dy 0 9), .castL, .accL 1 0 0]
def c44 : List Op :=
  [.ldL (.dy 1 9), .castL, .accLd 0 1, .ldL (.dy 1 9), .castL, .accLd 1 1, .ldL (.dy 2 9), .castL, .accLd 0 2, .ldL (.dy 2 9),
   .castL, .accLd 1 2, .ldL (.dy 3 9), .castL, .accLd 0 3, .ldL (.dy 3 9), .castL, .accLd 1 3, .ldT (.w 2 10), .push 0 0 true,
   .ldS (.at 9), .castS, .accS 0 1 33, .ldT (.w 3 10), .push 1 0 true, .ldS (.at 9), .castS, .accS 1 1 33, .ldL (.dy 0 10),
   .castL, .accL 0 0 0, .ldL (.dy 0 10), .castL, .accL 1 0 0, .ldL (.dy 1 10), .castL]
def c45 : List Op :=
  [.accLd 0 1, .ldL (.dy 1 10), .castL, .accLd 1 1, .ldL (.dy 2 10), .castL, .accLd 0 2, .ldL (.dy 2 10), .castL, .accLd 1 2,
   .ldL (.dy 3 10), .castL, .accLd 0 3, .ldL (.dy 3 10), .castL, .accLd 1 3, .ldT (.w 2 11), .push 0 0 true, .ldT (.w 3 11),
   .push 1 0 true, .ldL (.dy 0 11), .castL, .accL 0 0 0, .ldL (.dy 0 11), .castL, .accL 1 0 0, .ldL (.dy 1 11), .castL,
   .accLd 0 1, .ldL (.dy 1 11), .castL, .accLd 1 1, .ldL (.dy 2 11), .castL, .accLd 0 2]
def c46 : List Op :=
  [.ldL (.dy 2 11), .castL, .accLd 1 2, .ldL (.dy 3 11), .castL, .accLd 0 3, .ldL (.dy 3 11), .castL, .accLd 1 3, .ldT (.w 2 12),
   .push 0 0 true, .ldT (.w 3 12), .push 1 0 true, .ldL (.dy 0 12), .castL, .accL 0 0 0, .ldL (.dy 0 12), .castL, .accL 1 0 0,
   .ldL (.dy 1 12), .castL, .accLd 0 1, .ldL (.dy 1 12), .castL, .accLd 1 1, .ldL (.dy 2 12), .castL, .accLd 0 2,
   .ldL (.dy 2 12), .castL, .accLd 1 2, .ldL (.dy 3 12), .castL, .accLd 0 3, .ldL (.dy 3 12)]
def c47 : List Op :=
  [.castL, .accLd 1 3, .ldT (.w 2 13), .push 0 0 true, .ldT (.w 3 13), .push 1 0 true, .ldL (.dy 0 13), .castL, .accL 0 0 0,
   .ldL (.dy 0 13), .castL, .accL 1 0 0, .ldL (.dy 1 13), .castL, .accLd 0 1, .ldL (.dy 1 13), .castL, .accLd 1 1,
   .ldL (.dy 2 13), .castL, .accLd 0 2, .ldL (.dy 2 13), .castL, .accLd 1 2, .ldL (.dy 3 13), .castL, .accLd 0 3,
   .ldL (.dy 3 13), .castL, .accLd 1 3, .ldT (.w 2 14), .push 0 0 true, .ldT (.w 3 14), .push 1 0 true]
def c48 : List Op :=
  [.ldL (.dy 0 14), .castL, .accL 0 0 0, .ldL (.dy 0 14), .castL, .accL 1 0 0, .ldL (.dy 1 14), .castL, .accLd 0 1,
   .ldL (.dy 1 14), .castL, .accLd 1 1, .ldL (.dy 2 14), .castL, .accLd 0 2, .ldL (.dy 2 14), .castL, .accLd 1 2,
   .ldL (.dy 3 14), .castL, .accLd 0 3, .ldL (.dy 3 14), .castL, .accLd 1 3, .ldT (.w 2 15), .push 0 0 true, .ldT (.w 3 15),
   .push 1 0 true, .ldL (.dy 0 15), .castL, .accL 0 0 0, .ldL (.dy 0 15), .castL, .accL 1 0 0, .ldL (.dy 1 15), .castL]
def c49 : List Op :=
  [.accLd 0 1, .ldL (.dy 1 15), .castL, .accLd 1 1, .ldL (.dy 2 15), .castL, .accLd 0 2, .ldL (.dy 2 15), .castL, .accLd 1 2,
   .ldL (.dy 3 15), .castL, .accLd 0 3, .ldL (.dy 3 15), .castL, .accLd 1 3, .ldT (.w 2 16), .push 0 0 true, .ldT (.w 3 16),
   .push 1 0 true, .ldL (.dy 0 16), .castL, .accL 0 0 0, .ldL (.dy 0 16), .castL, .accL 1 0 0, .ldL (.dy 1 16), .castL,
   .accLd 0 1, .ldL (.dy 1 16), .castL, .accLd 1 1, .ldL (.dy 2 16), .castL, .accLd 0 2]
def c50 : List Op :=
  [.ldL (.dy 2 16), .castL, .accLd 1 2, .ldL (.dy 3 16), .castL, .accLd 0 3, .ldL (.dy 3 16), .castL, .accLd 1 3, .ldT (.w 2 17),
   .push 0 0 true, .ldT (.w 3 17), .push 1 0 true, .ldL (.dy 0 17), .castL, .accL 0 0 0, .ldL (.dy 0 17), .castL, .accL 1 0 0,
   .ldL (.dy 1 17), .castL, .accLd 0 1, .ldL (.dy 1 17), .castL, .accLd 1 1, .ldL (.dy 2 17), .castL, .accLd 0 2,
   .ldL (.dy 2 17), .castL, .accLd 1 2, .ldL (.dy 3 17), .castL, .accLd 0 3, .ldL (.dy 3 17)]
def c51 : List Op :=
  [.castL, .accLd 1 3, .ldT (.w 2 18), .push 0 0 true, .ldT (.w 3 18), .push 1 0 true, .ldL (.dy 0 18), .castL, .accL 0 0 0,
   .ldL (.dy 0 18), .castL, .accL 1 0 0, .ldL (.dy 1 18), .castL, .accLd 0 1, .ldL (.dy 1 18), .castL, .accLd 1 1,
   .ldL (.dy 2 18), .castL, .accLd 0 2, .ldL (.dy 2 18), .castL, .accLd 1 2, .ldL (.dy 3 18), .castL, .accLd 0 3,
   .ldL (.dy 3 18), .castL, .accLd 1 3, .ldT (.w 2 19), .push 0 0 true, .ldT (.w 3 19), .push 1 0 true]
def c52 : List Op :=
  [.ldL (.dy 0 19), .castL, .accL 0 0 0, .ldL (.dy 0 19), .castL, .accL 1 0 0, .ldL (.dy 1 19), .castL, .accLd 0 1,
   .ldL (.dy 1 19), .castL, .accLd 1 1, .ldL (.dy 2 19), .castL, .accLd 0 2, .ldL (.dy 2 19), .castL, .accLd 1 2,
   .ldL (.dy 3 19), .castL, .accLd 0 3, .ldL (.dy 3 19), .castL, .accLd 1 3, .ldT (.w 2 20), .push 0 0 true, .ldT (.w 3 20),
   .push 1 0 true, .ldL (.dy 0 20), .castL, .accL 0 0 0, .ldL (.dy 0 20), .castL, .accL 1 0 0, .ldL (.dy 1 20), .castL]
def c53 : List Op :=
  [.accLd 0 1, .ldL (.dy 1 20), .castL, .accLd 1 1, .ldL (.dy 2 20), .castL, .accLd 0 2, .ldL (.dy 2 20), .castL, .accLd 1 2,
   .ldL (.dy 3 20), .castL, .accLd 0 3, .ldL (.dy 3 20), .castL, .accLd 1 3, .ldT (.w 2 21), .push 0 0 true, .ldT (.w 3 21),
   .push 1 0 true, .ldL (.dy 0 21), .castL, .accL 0 0 0, .ldL (.dy 0 21), .castL, .accL 1 0 0, .ldL (.dy 1 21), .castL,
   .accLd 0 1, .ldL (.dy 1 21), .castL, .accLd 1 1, .ldL (.dy 2 21), .castL, .accLd 0 2]
def c54 : List Op :=
  [.ldL (.dy 2 21), .castL, .accLd 1 2, .ldL (.dy 3 21), .castL, .accLd 0 3, .ldL (.dy 3 21), .castL, .accLd 1 3, .ldT (.w 2 22),
   .push 0 0 true, .ldT (.w 3 22), .push 1 0 true, .ldL (.dy 0 22), .castL, .accL 0 0 0, .ldL (.dy 0 22), .castL, .accL 1 0 0,
   .ldL (.dy 1 22), .castL, .accLd 0 1, .ldL (.dy 1 22), .castL, .accLd 1 1, .ldL (.dy 2 22), .castL, .accLd 0 2,
   .ldL (.dy 2 22), .castL, .accLd 1 2, .ldL (.dy 3 22), .castL, .accLd 0 3, .ldL (.dy 3 22)]
def c55 : List Op :=
  [.castL, .accLd 1 3, .ldT (.w 2 23), .push 0 0 true, .ldT (.w 3 23), .push 1 0 true, .ldL (.dy 0 23), .castL, .accL 0 0 0,
   .ldL (.dy 0 23), .castL, .accL 1 0 0, .ldL (.dy 1 23), .castL, .accLd 0 1, .ldL (.dy 1 23), .castL, .accLd 1 1,
   .ldL (.dy 2 23), .castL, .accLd 0 2, .ldL (.dy 2 23), .castL, .accLd 1 2, .ldL (.dy 3 23), .castL, .accLd 0 3,
   .ldL (.dy 3 23), .castL, .accLd 1 3, .ldT (.w 2 24), .push 0 0 true, .ldT (.w 3 24), .push 1 0 true]
def c56 : List Op :=
  [.ldL (.dy 0 24), .castL, .accL 0 0 0, .ldL (.dy 0 24), .castL, .accL 1 0 0, .ldL (.dy 1 24), .castL, .accLd 0 1,
   .ldL (.dy 1 24), .castL, .accLd 1 1, .ldL (.dy 2 24), .castL, .accLd 0 2, .ldL (.dy 2 24), .castL, .accLd 1 2,
   .ldL (.dy 3 24), .castL, .accLd 0 3, .ldL (.dy 3 24), .castL, .accLd 1 3, .ldT (.w 2 25), .push 0 0 true, .ldT (.w 3 25),
   .push 1 0 true, .ldL (.dy 0 25), .castL, .accL 0 0 0, .ldL (.dy 0 25), .castL, .accL 1 0 0, .ldL (.dy 1 25), .castL]
def c57 : List Op :=
  [.accLd 0 1, .ldL (.dy 1 25), .castL, .accLd 1 1, .ldL (.dy 2 25), .castL, .accLd 0 2, .ldL (.dy 2 25), .castL, .accLd 1 2,
   .ldL (.dy 3 25), .castL, .accLd 0 3, .ldL (.dy 3 25), .castL, .accLd 1 3, .ldT (.w 2 26), .push 0 0 true, .ldT (.w 3 26),
   .push 1 0 true, .ldL (.dy 0 26), .castL, .accL 0 0 0, .ldL (.dy 0 26), .castL, .accL 1 0 0, .ldL (.dy 1 26), .castL,
   .accLd 0 1, .ldL (.dy 1 26), .castL, .accLd 1 1, .ldL (.dy 2 26), .castL, .accLd 0 2]
def c58 : List Op :=
  [.ldL (.dy 2 26), .castL, .accLd 1 2, .ldL (.dy 3 26), .castL, .accLd 0 3, .ldL (.dy 3 26), .castL, .accLd 1 3, .ldT (.ap 2),
   .castT, .push 0 0 true, .ldT (.ap 3), .castT, .push 1 0 true, .rdS 0 33, .popS 0 33, .truncS, .deadS (.xt 0), .stXt 0, .pad,
   .tr, .truncU, .ext, .deadXa 0, .stXa 0, .rdS 1 33, .popS 1 33, .truncS, .deadS (.xt 1), .stXt 1, .pad, .tr, .truncU, .ext]
def c59 : List Op :=
  [.deadXa 1, .stXa 1, .ldL (.gp 0), .accL 0 0 0, .ldL (.gp 0), .accL 1 0 0, .ldL (.gp 1), .accLd 0 1, .ldL (.gp 1), .accLd 1 1,
   .ldL (.gp 2), .accLd 0 2, .ldL (.gp 2), .accLd 1 2, .ldL (.gp 3), .accLd 0 3, .ldL (.gp 3), .accLd 1 3, .rdL 0 0, .popL 0 0,
   .truncL, .deadL (.dx 0 2), .stDx 0 2, .rdL 1 0, .popL 1 0, .truncL, .deadL (.dx 0 3), .stDx 0 3, .rdL 0 1, .popL 0 1, .truncL,
   .deadL (.dx 1 2), .stDx 1 2, .rdL 1 1, .popL 1 1, .truncL]
def c60 : List Op :=
  [.deadL (.dx 1 3), .stDx 1 3, .rdL 0 2, .popL 0 2, .truncL, .deadL (.dx 2 2), .stDx 2 2, .rdL 1 2, .popL 1 2, .truncL,
   .deadL (.dx 2 3), .stDx 2 3, .rdL 0 3, .popL 0 3, .truncL, .deadL (.dx 3 2), .stDx 3 2, .rdL 1 3, .popL 1 3, .truncL,
   .deadL (.dx 3 3), .stDx 3 3, .ldT (.w 4 0), .push 0 0 true, .ldT (.w 5 0), .push 1 0 true, .ldT (.dy 0 0), .castT,
   .push 0 1 false, .ldT (.dy 0 1), .castT, .push 1 1 false, .ldL (.dy 0 0), .castL, .accL 0 0 0, .ldL (.dy 0 0), .castL,
   .accL 1 0 0]
def c61 : List Op :=
  [.ldL (.dy 1 0), .castL, .accLd 0 1, .ldL (.dy 1 0), .castL, .accLd 1 1, .ldL (.dy 2 0), .castL, .accLd 0 2, .ldL (.dy 2 0),
   .castL, .accLd 1 2, .ldL (.dy 3 0), .castL, .accLd 0 3, .ldL (.dy 3 0), .castL, .accLd 1 3, .ldT (.w 4 1), .push 0 0 true,
   .ldS (.xt 0), .accS 0 1 34, .ldT (.w 5 1), .push 1 0 true, .ldS (.xt 0), .accS 1 1 34, .ldT (.dy 1 0), .castT,
   .push 0 1 false, .ldT (.dy 1 1), .castT, .push 1 1 false, .ldL (.dy 0 1), .castL, .accL 0 0 0]
def c62 : List Op :=
  [.ldL (.dy 0 1), .castL, .accL 1 0 0, .ldL (.dy 1 1), .castL, .accLd 0 1, .ldL (.dy 1 1), .castL, .accLd 1 1, .ldL (.dy 2 1),
   .castL, .accLd 0 2, .ldL (.dy 2 1), .castL, .accLd 1 2, .ldL (.dy 3 1), .castL, .accLd 0 3, .ldL (.dy 3 1), .castL,
   .accLd 1 3, .ldT (.w 4 2), .push 0 0 true, .ldS (.xt 1), .accS 0 1 34, .ldT (.w 5 2), .push 1 0 true, .ldS (.xt 1),
   .accS 1 1 34, .ldT (.dy 0 2), .castT, .push 0 1 false, .ldT (.dy 0 3), .castT, .push 1 1 false]
def c63 : List Op :=
  [.ldL (.dy 0 2), .castL, .accL 0 0 0, .ldL (.dy 0 2), .castL, .accL 1 0 0, .ldL (.dy 1 2), .castL, .accLd 0 1, .ldL (.dy 1 2),
   .castL, .accLd 1 1, .ldL (.dy 2 2), .castL, .accLd 0 2, .ldL (.dy 2 2), .castL, .accLd 1 2, .ldL (.dy 3 2), .castL,
   .accLd 0 3, .ldL (.dy 3 2), .castL, .accLd 1 3, .ldT (.w 4 3), .push 0 0 true, .ldS (.xt 0), .accS 0 1 35, .ldT (.w 5 3),
   .push 1 0 true, .ldS (.xt 0), .accS 1 1 35, .ldT (.dy 1 2), .castT]
def c64 : List Op :=
  [.push 0 1 false, .ldT (.dy 1 3), .castT, .push 1 1 false, .ldL (.dy 0 3), .castL, .accL 0 0 0, .ldL (.dy 0 3), .castL,
   .accL 1 0 0, .ldL (.dy 1 3), .castL, .accLd 0 1, .ldL (.dy 1 3), .castL, .accLd 1 1, .ldL (.dy 2 3), .castL, .accLd 0 2,
   .ldL (.dy 2 3), .castL, .accLd 1 2, .ldL (.dy 3 3), .castL, .accLd 0 3, .ldL (.dy 3 3), .castL, .accLd 1 3, .ldT (.w 4 4),
   .push 0 0 true, .ldS (.xt 1), .accS 0 1 35, .ldT (.w 5 4), .push 1 0 true]
def c65 : List Op :=
  [.ldS (.xt 1), .accS 1 1 35, .ldT (.dy 0 4), .castT, .push 0 1 false, .ldT (.dy 0 5), .castT, .push 1 1 false, .ldL (.dy 0 4),
   .castL, .accL 0 0 0, .ldL (.dy 0 4), .castL, .accL 1 0 0, .ldL (.dy 1 4), .castL, .accLd 0 1, .ldL (.dy 1 4), .castL,
   .accLd 1 1, .ldL (.dy 2 4), .castL, .accLd 0 2, .ldL (.dy 2 4), .castL, .accLd 1 2, .ldL (.dy 3 4), .castL, .accLd 0 3,
   .ldL (.dy 3 4), .castL, .accLd 1 3, .ldT (.w 4 5), .push 0 0 true, .ldS (.xt 0), .accS 0 1 36]
def c66 : List Op :=
  [.ldT (.w 5 5), .push 1 0 true, .ldS (.xt 0), .accS 1 1 36, .ldT (.dy 1 4), .castT, .push 0 1 false, .ldT (.dy 1 5), .castT,
   .push 1 1 false, .ldL (.dy 0 5), .castL, .accL 0 0 0, .ldL (.dy 0 5), .castL, .accL 1 0 0, .ldL (.dy 1 5), .castL, .accLd 0 1,
   .ldL (.dy 1 5), .castL, .accLd 1 1, .ldL (.dy 2 5), .castL, .accLd 0 2, .ldL (.dy 2 5), .castL, .accLd 1 2, .ldL (.dy 3 5),
   .castL, .accLd 0 3, .ldL (.dy 3 5), .castL, .accLd 1 3]
def c67 : List Op :=
  [.ldT (.w 4 6), .push 0 0 true, .ldS (.xt 1), .accS 0 1 36, .ldT (.w 5 6), .push 1 0 true, .ldS (.xt 1), .accS 1 1 36,
   .ldT (.dy 0 6), .castT, .push 0 1 false, .ldT (.dy 0 7), .castT, .push 1 1 false, .ldL (.dy 0 6), .castL, .accL 0 0 0,
   .ldL (.dy 0 6), .castL, .accL 1 0 0, .ldL (.dy 1 6), .castL, .accLd 0 1, .ldL (.dy 1 6), .castL, .accLd 1 1, .ldL (.dy 2 6),
   .castL, .accLd 0 2, .ldL (.dy 2 6), .castL, .accLd 1 2, .ldL (.dy 3 6), .castL, .accLd 0 3]
def c68 : List Op :=
  [.ldL (.dy 3 6), .castL, .accLd 1 3, .ldT (.w 4 7), .push 0 0 true, .ldS (.xt 0), .accS 0 1 37, .ldT (.w 5 7), .push 1 0 true,
   .ldS (.xt 0), .accS 1 1 37, .ldT (.dy 1 6), .castT, .push 0 1 false, .ldT (.dy 1 7), .castT, .push 1 1 false, .ldL (.dy 0 7),
   .castL, .accL 0 0 0, .ldL (.dy 0 7), .castL, .accL 1 0 0, .ldL (.dy 1 7), .castL, .accLd 0 1, .ldL (.dy 1 7), .castL,
   .accLd 1 1, .ldL (.dy 2 7), .castL, .accLd 0 2, .ldL (.dy 2 7), .castL, .accLd 1 2]
def c69 : List Op :=
  [.ldL (.dy 3 7), .castL, .accLd 0 3, .ldL (.dy 3 7), .castL, .accLd 1 3, .ldT (.w 4 8), .push 0 0 true, .ldS (.xt 1),
   .accS 0 1 37, .ldT (.w 5 8), .push 1 0 true, .ldS (.xt 1), .accS 1 1 37, .ldT (.dy 0 8), .castT, .push 0 1 false,
   .ldT (.dy 0 9), .castT, .push 1 1 false, .ldL (.dy 0 8), .castL, .accL 0 0 0, .ldL (.dy 0 8), .castL, .accL 1 0 0,
   .ldL (.dy 1 8), .castL, .accLd 0 1, .ldL (.dy 1 8), .castL, .accLd 1 1, .ldL (.dy 2 8), .castL]
def c70 : List Op :=
  [.accLd 0 2, .ldL (.dy 2 8), .castL, .accLd 1 2, .ldL (.dy 3 8), .castL, .accLd 0 3, .ldL (.dy 3 8), .castL, .accLd 1 3,
   .ldT (.w 4 9), .push 0 0 true, .ldS (.xt 0), .accS 0 1 38, .ldT (.w 5 9), .push 1 0 true, .ldS (.xt 0), .accS 1 1 38,
   .ldT (.dy 1 8), .castT, .push 0 1 false, .ldT (.dy 1 9), .castT, .push 1 1 false, .ldL (.dy 0 9), .castL, .accL 0 0 0,
   .ldL (.dy 0 9), .castL, .accL 1 0 0, .ldL (.dy 1 9), .castL, .accLd 0 1, .ldL (.dy 1 9)]
def c71 : List Op :=
  [.castL, .accLd 1 1, .ldL (.dy 2 9), .castL, .accLd 0 2, .ldL (.dy 2 9), .castL, .accLd 1 2, .ldL (.dy 3 9), .castL,
   .accLd 0 3, .ldL (.dy 3 9), .castL, .accLd 1 3, .ldT (.w 4 10), .push 0 0 true, .ldS (.xt 1), .accS 0 1 38, .ldT (.w 5 10),
   .push 1 0 true, .ldS (.xt 1), .accS 1 1 38, .ldT (.dy 0 10), .castT, .push 0 1 false, .ldT (.dy 0 11), .castT,
   .push 1 1 false, .ldL (.dy 0 10), .castL, .accL 0 0 0, .ldL (.dy 0 10), .castL, .accL 1 0 0]
def c72 : List Op :=
  [.ldL (.dy 1 10), .castL, .accLd 0 1, .ldL (.dy 1 10), .castL, .accLd 1 1, .ldL (.dy 2 10), .castL, .accLd 0 2,
   .ldL (.dy 2 10), .castL, .accLd 1 2, .ldL (.dy 3 10), .castL, .accLd 0 3, .ldL (.dy 3 10), .castL, .accLd 1 3, .ldT (.w 4 11),
   .push 0 0 true, .ldS (.xt 0), .accS 0 1 39, .ldT (.w 5 11), .push 1 0 true, .ldS (.xt 0), .accS 1 1 39, .ldT (.dy 1 10),
   .castT, .push 0 1 false, .ldT (.dy 1 11), .castT, .push 1 1 false, .ldL (.dy 0 11), .castL, .accL 0 0 0]
def c73 : List Op :=
  [.ldL (.dy 0 11), .castL, .accL 1 0 0, .ldL (.dy 1 11), .castL, .accLd 0 1, .ldL (.dy 1 11), .castL, .accLd 1 1,
   .ldL (.dy 2 11), .castL, .accLd 0 2, .ldL (.dy 2 11), .castL, .accLd 1 2, .ldL (.dy 3 11), .castL, .accLd 0 3,
   .ldL (.dy 3 11), .castL, .accLd 1 3, .ldT (.w 4 12), .push 0 0 true, .ldS (.xt 1), .accS 0 1 39, .ldT (.w 5 12),
   .push 1 0 true, .ldS (.xt 1), .accS 1 1 39, .ldT (.dy 0 12), .castT, .push 0 1 false, .ldT (.dy 0 13), .castT, .push 1 1 false]
def c74 : List Op :=
  [.ldL (.dy 0 12), .castL, .accL 0 0 0, .ldL (.dy 0 12), .castL, .accL 1 0 0, .ldL (.dy 1 12), .castL, .accLd 0 1,
   .ldL (.dy 1 12), .castL, .accLd 1 1, .ldL (.dy 2 12), .castL, .accLd 0 2, .ldL (.dy 2 12), .castL, .accLd 1 2,
   .ldL (.dy 3 12), .castL, .accLd 0 3, .ldL (.dy 3 12), .castL, .accLd 1 3, .ldT (.w 4 13), .push 0 0 true, .ldS (.xt 0),
   .accS 0 1 40, .ldT (.w 5 13), .push 1 0 true, .ldS (.xt 0), .accS 1 1 40, .ldT (.dy 1 12), .castT]
def c75 : List Op :=
  [.push 0 1 false, .ldT (.dy 1 13), .castT, .push 1 1 false, .ldL (.dy 0 13), .castL, .accL 0 0 0, .ldL (.dy 0 13), .castL,
   .accL 1 0 0, .ldL (.dy 1 13), .castL, .accLd 0 1, .ldL (.dy 1 13), .castL, .accLd 1 1, .ldL (.dy 2 13), .castL, .accLd 0 2,
   .ldL (.dy 2 13), .castL, .accLd 1 2, .ldL (.dy 3 13), .castL, .accLd 0 3, .ldL (.dy 3 13), .castL, .accLd 1 3, .ldT (.w 4 14),
   .push 0 0 true, .ldS (.xt 1), .accS 0 1 40, .ldT (.w 5 14), .push 1 0 true]
def c76 : List Op :=
  [.ldS (.xt 1), .accS 1 1 40, .ldT (.dy 0 14), .castT, .push 0 1 false, .ldT (.dy 0 15), .castT, .push 1 1 false,
   .ldL (.dy 0 14), .castL, .accL 0 0 0, .ldL (.dy 0 14), .castL, .accL 1 0 0, .ldL (.dy 1 14), .castL, .accLd 0 1,
   .ldL (.dy 1 14), .castL, .accLd 1 1, .ldL (.dy 2 14), .castL, .accLd 0 2, .ldL (.dy 2 14), .castL, .accLd 1 2,
   .ldL (.dy 3 14), .castL, .accLd 0 3, .ldL (.dy 3 14), .castL, .accLd 1 3, .ldT (.w 4 15), .push 0 0 true, .ldS (.xt 0),
   .accS 0 1 41]
def c77 : List Op :=
  [.ldT (.w 5 15), .push 1 0 true, .ldS (.xt 0), .accS 1 1 41, .ldT (.dy 1 14), .castT, .push 0 1 false, .ldT (.dy 1 15), .castT,
   .push 1 1 false, .ldL (.dy 0 15), .castL, .accL 0 0 0, .ldL (.dy 0 15), .castL, .accL 1 0 0, .ldL (.dy 1 15), .castL,
   .accLd 0 1, .ldL (.dy 1 15), .castL, .accLd 1 1, .ldL (.dy 2 15), .castL, .accLd 0 2, .ldL (.dy 2 15), .castL, .accLd 1 2,
   .ldL (.dy 3 15), .castL, .accLd 0 3, .ldL (.dy 3 15), .castL, .accLd 1 3]
def c78 : List Op :=
  [.ldT (.w 4 16), .push 0 0 true, .ldS (.xt 1), .accS 0 1 41, .ldT (.w 5 16), .push 1 0 true, .ldS (.xt 1), .accS 1 1 41,
   .ldT (.dy 0 16), .castT, .push 0 1 false, .ldT (.dy 0 17), .castT, .push 1 1 false, .ldL (.dy 0 16), .castL, .accL 0 0 0,
   .ldL (.dy 0 16), .castL, .accL 1 0 0, .ldL (.dy 1 16), .castL, .accLd 0 1, .ldL (.dy 1 16), .castL, .accLd 1 1,
   .ldL (.dy 2 16), .castL, .accLd 0 2, .ldL (.dy 2 16), .castL, .accLd 1 2, .ldL (.dy 3 16), .castL, .accLd 0 3]
def c79 : List Op :=
  [.ldL (.dy 3 16), .castL, .accLd 1 3, .ldT (.w 4 17), .push 0 0 true, .ldS (.xt 0), .accS 0 1 42, .ldT (.w 5 17),
   .push 1 0 true, .ldS (.xt 0), .accS 1 1 42, .ldT (.dy 1 16), .castT, .push 0 1 false, .ldT (.dy 1 17), .castT,
   .push 1 1 false, .ldL (.dy 0 17), .castL, .accL 0 0 0, .ldL (.dy 0 17), .castL, .accL 1 0 0, .ldL (.dy 1 17), .castL,
   .accLd 0 1, .ldL (.dy 1 17), .castL, .accLd 1 1, .ldL (.dy 2 17), .castL, .accLd 0 2, .ldL (.dy 2 17), .castL, .accLd 1 2]
def c80 : List Op :=
  [.ldL (.dy 3 17), .castL, .accLd 0 3, .ldL (.dy 3 17), .castL, .accLd 1 3, .ldT (.w 4 18), .push 0 0 true, .ldS (.xt 1),
   .accS 0 1 42, .ldT (.w 5 18), .push 1 0 true, .ldS (.xt 1), .accS 1 1 42, .ldT (.dy 0 18), .castT, .push 0 1 false,
   .ldT (.dy 0 19), .castT, .push 1 1 false, .ldL (.dy 0 18), .castL, .accL 0 0 0, .ldL (.dy 0 18), .castL, .accL 1 0 0,
   .ldL (.dy 1 18), .castL, .accLd 0 1, .ldL (.dy 1 18), .castL, .accLd 1 1, .ldL (.dy 2 18), .castL]
def c81 : List Op :=
  [.accLd 0 2, .ldL (.dy 2 18), .castL, .accLd 1 2, .ldL (.dy 3 18), .castL, .accLd 0 3, .ldL (.dy 3 18), .castL, .accLd 1 3,
   .ldT (.w 4 19), .push 0 0 true, .ldS (.xt 0), .accS 0 1 43, .ldT (.w 5 19), .push 1 0 true, .ldS (.xt 0), .accS 1 1 43,
   .ldT (.dy 1 18), .castT, .push 0 1 false, .ldT (.dy 1 19), .castT, .push 1 1 false, .ldL (.dy 0 19), .castL, .accL 0 0 0,
   .ldL (.dy 0 19), .castL, .accL 1 0 0, .ldL (.dy 1 19), .castL, .accLd 0 1, .ldL (.dy 1 19)]
def c82 : List Op :=
  [.castL, .accLd 1 1, .ldL (.dy 2 19), .castL, .accLd 0 2, .ldL (.dy 2 19), .castL, .accLd 1 2, .ldL (.dy 3 19), .castL,
   .accLd 0 3, .ldL (.dy 3 19), .castL, .accLd 1 3, .ldT (.w 4 20), .push 0 0 true, .ldS (.xt 1), .accS 0 1 43, .ldT (.w 5 20),
   .push 1 0 true, .ldS (.xt 1), .accS 1 1 43, .ldT (.dy 0 20), .castT, .push 0 1 false, .ldT (.dy 0 21), .castT,
   .push 1 1 false, .ldL (.dy 0 20), .castL, .accL 0 0 0, .ldL (.dy 0 20), .castL, .accL 1 0 0]
def c83 : List Op :=
  [.ldL (.dy 1 20), .castL, .accLd 0 1, .ldL (.dy 1 20), .castL, .accLd 1 1, .ldL (.dy 2 20), .castL, .accLd 0 2,
   .ldL (.dy 2 20), .castL, .accLd 1 2, .ldL (.dy 3 20), .castL, .accLd 0 3, .ldL (.dy 3 20), .castL, .accLd 1 3, .ldT (.w 4 21),
   .push 0 0 true, .ldS (.xt 0), .accS 0 1 44, .ldT (.w 5 21), .push 1 0 true, .ldS (.xt 0), .accS 1 1 44, .ldT (.dy 1 20),
   .castT, .push 0 1 false, .ldT (.dy 1 21), .castT, .push 1 1 false, .ldL (.dy 0 21), .castL, .accL 0 0 0]
def c84 : List Op :=
  [.ldL (.dy 0 21), .castL, .accL 1 0 0, .ldL (.dy 1 21), .castL, .accLd 0 1, .ldL (.dy 1 21), .castL, .accLd 1 1,
   .ldL (.dy 2 21), .castL, .accLd 0 2, .ldL (.dy 2 21), .castL, .accLd 1 2, .ldL (.dy 3 21), .castL, .accLd 0 3,
   .ldL (.dy 3 21), .castL, .accLd 1 3, .ldT (.w 4 22), .push 0 0 true, .ldS (.xt 1), .accS 0 1 44, .ldT (.w 5 22),
   .push 1 0 true, .ldS (.xt 1), .accS 1 1 44, .ldT (.dy 0 22), .castT, .push 0 1 false, .ldT (.dy 0 23), .castT, .push 1 1 false]
def c85 : List Op :=
  [.ldL (.dy 0 22), .castL, .accL 0 0 0, .ldL (.dy 0 22), .castL, .accL 1 0 0, .ldL (.dy 1 22), .castL, .accLd 0 1,
   .ldL (.dy 1 22), .castL, .accLd 1 1, .ldL (.dy 2 22), .castL, .accLd 0 2, .ldL (.dy 2 22), .castL, .accLd 1 2,
   .ldL (.dy 3 22), .castL, .accLd 0 3, .ldL (.dy 3 22), .castL, .accLd 1 3, .ldT (.w 4 23), .push 0 0 true, .ldS (.xt 0),
   .accS 0 1 45, .ldT (.w 5 23), .push 1 0 true, .ldS (.xt 0), .accS 1 1 45, .ldT (.dy 1 22), .castT]
def c86 : List Op :=
  [.push 0 1 false, .ldT (.dy 1 23), .castT, .push 1 1 false, .ldL (.dy 0 23), .castL, .accL 0 0 0, .ldL (.dy 0 23), .castL,
   .accL 1 0 0, .ldL (.dy 1 23), .castL, .accLd 0 1, .ldL (.dy 1 23), .castL, .accLd 1 1, .ldL (.dy 2 23), .castL, .accLd 0 2,
   .ldL (.dy 2 23), .castL, .accLd 1 2, .ldL (.dy 3 23), .castL, .accLd 0 3, .ldL (.dy 3 23), .castL, .accLd 1 3, .ldT (.w 4 24),
   .push 0 0 true, .ldS (.xt 1), .accS 0 1 45, .ldT (.w 5 24), .push 1 0 true]
def c87 : List Op :=
  [.ldS (.xt 1), .accS 1 1 45, .ldT (.dy 0 24), .castT, .push 0 1 false, .ldT (.dy 0 25), .castT, .push 1 1 false,
   .ldL (.dy 0 24), .castL, .accL 0 0 0, .ldL (.dy 0 24), .castL, .accL 1 0 0, .ldL (.dy 1 24), .castL, .accLd 0 1,
   .ldL (.dy 1 24), .castL, .accLd 1 1, .ldL (.dy 2 24), .castL, .accLd 0 2, .ldL (.dy 2 24), .castL, .accLd 1 2,
   .ldL (.dy 3 24), .castL, .accLd 0 3, .ldL (.dy 3 24), .castL, .accLd 1 3, .ldT (.w 4 25), .push 0 0 true, .ldS (.xt 0),
   .accS 0 1 46]
def c88 : List Op :=
  [.ldT (.w 5 25), .push 1 0 true, .ldS (.xt 0), .accS 1 1 46, .ldT (.dy 1 24), .castT, .push 0 1 false, .ldT (.dy 1 25), .castT,
   .push 1 1 false, .ldL (.dy 0 25), .castL, .accL 0 0 0, .ldL (.dy 0 25), .castL, .accL 1 0 0, .ldL (.dy 1 25), .castL,
   .accLd 0 1, .ldL (.dy 1 25), .castL, .accLd 1 1, .ldL (.dy 2 25), .castL, .accLd 0 2, .ldL (.dy 2 25), .castL, .accLd 1 2,
   .ldL (.dy 3 25), .castL, .accLd 0 3, .ldL (.dy 3 25), .castL, .accLd 1 3]
def c89 : List Op :=
  [.ldT (.w 4 26), .push 0 0 true, .ldS (.xt 1), .accS 0 1 46, .ldT (.w 5 26), .push 1 0 true, .ldS (.xt 1), .accS 1 1 46,
   .ldT (.dy 0 26), .castT, .push 0 1 false, .ldL (.dy 0 26), .castL, .accL 0 0 0, .ldL (.dy 0 26), .castL, .accL 1 0 0,
   .ldL (.dy 1 26), .castL, .accLd 0 1, .ldL (.dy 1 26), .castL, .accLd 1 1, .ldL (.dy 2 26), .castL, .accLd 0 2,
   .ldL (.dy 2 26), .castL, .accLd 1 2, .ldL (.dy 3 26), .castL, .accLd 0 3, .ldL (.dy 3 26), .castL, .accLd 1 3]
def c90 : List Op :=
  [.ldT (.ap 4), .castT, .push 0 0 true, .ldS (.xt 0), .accS 0 1 47, .ldT (.ap 5), .castT, .push 1 0 true, .ldL (.gp 0),
   .accL 0 0 0, .ldL (.gp 0), .accL 1 0 0, .ldL (.gp 1), .accLd 0 1, .ldL (.gp 1), .accLd 1 1, .ldL (.gp 2), .accLd 0 2,
   .ldL (.gp 2), .accLd 1 2, .ldL (.gp 3), .accLd 0 3, .ldL (.gp 3), .accLd 1 3, .rdL 0 0, .popL 0 0, .truncL, .deadL (.dx 0 4),
   .stDx 0 4, .rdL 1 0, .popL 1 0, .truncL, .deadL (.dx 0 5), .stDx 0 5, .rdL 0 1]
def c91 : List Op :=
  [.popL 0 1, .truncL, .deadL (.dx 1 4), .stDx 1 4, .rdL 1 1, .popL 1 1, .truncL, .deadL (.dx 1 5), .stDx 1 5, .rdL 0 2,
   .popL 0 2, .truncL, .deadL (.dx 2 4), .stDx 2 4, .rdL 1 2, .popL 1 2, .truncL, .deadL (.dx 2 5), .stDx 2 5, .rdL 0 3,
   .popL 0 3, .truncL, .deadL (.dx 3 4), .stDx 3 4, .rdL 1 3, .popL 1 3, .truncL, .deadL (.dx 3 5), .stDx 3 5, .ldT (.w 6 0),
   .push 0 0 true, .ldT (.w 7 0), .push 1 0 true, .ldT (.dy 1 26), .castT, .push 0 1 false, .ldT (.x 0 1), .castT,
   .push 1 1 false]
def c92 : List Op :=
  [.ldL (.dy 0 0), .castL, .accL 0 0 0, .ldL (.dy 0 0), .castL, .accL 1 0 0, .ldL (.dy 1 0), .castL, .accLd 0 1, .ldL (.dy 1 0),
   .castL, .accLd 1 1, .ldL (.dy 2 0), .castL, .accLd 0 2, .ldL (.dy 2 0), .castL, .accLd 1 2, .ldL (.dy 3 0), .castL,
   .accLd 0 3, .ldL (.dy 3 0), .castL, .accLd 1 3, .ldT (.w 6 1), .push 0 0 true, .ldS (.xt 1), .accS 0 1 47, .ldT (.w 7 1),
   .push 1 0 true, .ldS (.gt 0), .accS 1 1 47, .ldT (.x 0 0), .castT, .push 0 1 false]
def c93 : List Op :=
  [.ldT (.x 1 1), .castT, .push 1 1 false, .ldL (.dy 0 1), .castL, .accL 0 0 0, .ldL (.dy 0 1), .castL, .accL 1 0 0,
   .ldL (.dy 1 1), .castL, .accLd 0 1, .ldL (.dy 1 1), .castL, .accLd 1 1, .ldL (.dy 2 1), .castL, .accLd 0 2, .ldL (.dy 2 1),
   .castL, .accLd 1 2, .ldL (.dy 3 1), .castL, .accLd 0 3, .ldL (.dy 3 1), .castL, .accLd 1 3, .ldT (.w 6 2), .push 0 0 true,
   .ldS (.gt 0), .accS 0 1 48, .ldT (.w 7 2), .push 1 0 true, .ldS (.gt 1)]
def c94 : List Op :=
  [.accS 1 1 47, .ldT (.x 1 0), .castT, .push 0 1 false, .ldT (.x 0 3), .castT, .push 1 1 false, .ldL (.dy 0 2), .castL,
   .accL 0 0 0, .ldL (.dy 0 2), .castL, .accL 1 0 0, .ldL (.dy 1 2), .castL, .accLd 0 1, .ldL (.dy 1 2), .castL, .accLd 1 1,
   .ldL (.dy 2 2), .castL, .accLd 0 2, .ldL (.dy 2 2), .castL, .accLd 1 2, .ldL (.dy 3 2), .castL, .accLd 0 3, .ldL (.dy 3 2),
   .castL, .accLd 1 3, .ldT (.w 6 3), .push 0 0 true, .ldS (.gt 1), .accS 0 1 48]
def c95 : List Op :=
  [.ldT (.w 7 3), .push 1 0 true, .ldS (.gt 0), .accS 1 1 48, .ldT (.x 0 2), .castT, .push 0 1 false, .ldT (.x 1 3), .castT,
   .push 1 1 false, .ldL (.dy 0 3), .castL, .accL 0 0 0, .ldL (.dy 0 3), .castL, .accL 1 0 0, .ldL (.dy 1 3), .castL, .accLd 0 1,
   .ldL (.dy 1 3), .castL, .accLd 1 1, .ldL (.dy 2 3), .castL, .accLd 0 2, .ldL (.dy 2 3), .castL, .accLd 1 2, .ldL (.dy 3 3),
   .castL, .accLd 0 3, .ldL (.dy 3 3), .castL, .accLd 1 3, .ldT (.w 6 4)]
def c96 : List Op :=
  [.push 0 0 true, .ldS (.gt 0), .accS 0 1 49, .ldT (.w 7 4), .push 1 0 true, .ldS (.gt 1), .accS 1 1 48, .ldT (.x 1 2), .castT,
   .push 0 1 false, .ldT (.x 0 5), .castT, .push 1 1 false, .ldL (.dy 0 4), .castL, .accL 0 0 0, .ldL (.dy 0 4), .castL,
   .accL 1 0 0, .ldL (.dy 1 4), .castL, .accLd 0 1, .ldL (.dy 1 4), .castL, .accLd 1 1, .ldL (.dy 2 4), .castL, .accLd 0 2,
   .ldL (.dy 2 4), .castL, .accLd 1 2, .ldL (.dy 3 4), .castL, .accLd 0 3]
def c97 : List Op :=
  [.ldL (.dy 3 4), .castL, .accLd 1 3, .ldT (.w 6 5), .push 0 0 true, .ldS (.gt 1), .accS 0 1 49, .ldT (.w 7 5), .push 1 0 true,
   .ldS (.gt 0), .accS 1 1 49, .ldT (.x 0 4), .castT, .push 0 1 false, .ldT (.x 1 5), .castT, .push 1 1 false, .ldL (.dy 0 5),
   .castL, .accL 0 0 0, .ldL (.dy 0 5), .castL, .accL 1 0 0, .ldL (.dy 1 5), .castL, .accLd 0 1, .ldL (.dy 1 5), .castL,
   .accLd 1 1, .ldL (.dy 2 5), .castL, .accLd 0 2, .ldL (.dy 2 5), .castL, .accLd 1 2]
def c98 : List Op :=
  [.ldL (.dy 3 5), .castL, .accLd 0 3, .ldL (.dy 3 5), .castL, .accLd 1 3, .ldT (.w 6 6), .push 0 0 true, .ldS (.gt 0),
   .accS 0 1 50, .ldT (.w 7 6), .push 1 0 true, .ldS (.gt 1), .accS 1 1 49, .ldT (.x 1 4), .castT, .push 0 1 false,
   .ldT (.x 0 7), .castT, .push 1 1 false, .ldL (.dy 0 6), .castL, .accL 0 0 0, .ldL (.dy 0 6), .castL, .accL 1 0 0,
   .ldL (.dy 1 6), .castL, .accLd 0 1, .ldL (.dy 1 6), .castL, .accLd 1 1, .ldL (.dy 2 6), .castL, .accLd 0 2]
def c99 : List Op :=
  [.ldL (.dy 2 6), .castL, .accLd 1 2, .ldL (.dy 3 6), .castL, .accLd 0 3, .ldL (.dy 3 6), .castL, .accLd 1 3, .ldT (.w 6 7),
   .push 0 0 true, .ldS (.gt 1), .accS 0 1 50, .ldT (.w 7 7), .push 1 0 true, .ldS (.gt 0), .accS 1 1 50, .ldT (.x 0 6), .castT,
   .push 0 1 false, .ldT (.x 1 7), .castT, .push 1 1 false, .ldL (.dy 0 7), .castL, .accL 0 0 0, .ldL (.dy 0 7), .castL,
   .accL 1 0 0, .ldL (.dy 1 7), .castL, .accLd 0 1, .ldL (.dy 1 7), .castL]
def c100 : List Op :=
  [.accLd 1 1, .ldL (.dy 2 7), .castL, .accLd 0 2, .ldL (.dy 2 7), .castL, .accLd 1 2, .ldL (.dy 3 7), .castL, .accLd 0 3,
   .ldL (.dy 3 7), .castL, .accLd 1 3, .ldT (.w 6 8), .push 0 0 true, .ldS (.gt 0), .accS 0 1 51, .ldT (.w 7 8), .push 1 0 true,
   .ldS (.gt 1), .accS 1 1 50, .ldT (.x 1 6), .castT, .push 0 1 false, .ldT (.x 0 9), .castT, .push 1 1 false, .ldL (.dy 0 8),
   .castL, .accL 0 0 0, .ldL (.dy 0 8), .castL, .accL 1 0 0, .ldL (.dy 1 8)]
def c101 : List Op :=
  [.castL, .accLd 0 1, .ldL (.dy 1 8), .castL, .accLd 1 1, .ldL (.dy 2 8), .castL, .accLd 0 2, .ldL (.dy 2 8), .castL,
   .accLd 1 2, .ldL (.dy 3 8), .castL, .accLd 0 3, .ldL (.dy 3 8), .castL, .accLd 1 3, .ldT (.w 6 9), .push 0 0 true,
   .ldS (.gt 1), .accS 0 1 51, .ldT (.w 7 9), .push 1 0 true, .ldS (.gt 0), .accS 1 1 51, .ldT (.x 0 8), .castT, .push 0 1 false,
   .ldT (.x 1 9), .castT, .push 1 1 false, .ldL (.dy 0 9), .castL, .accL 0 0 0]
def c102 : List Op :=
  [.ldL (.dy 0 9), .castL, .accL 1 0 0, .ldL (.dy 1 9), .castL, .accLd 0 1, .ldL (.dy 1 9), .castL, .accLd 1 1, .ldL (.dy 2 9),
   .castL, .accLd 0 2, .ldL (.dy 2 9), .castL, .accLd 1 2, .ldL (.dy 3 9), .castL, .accLd 0 3, .ldL (.dy 3 9), .castL,
   .accLd 1 3, .ldT (.w 6 10), .push 0 0 true, .ldS (.gt 0), .accS 0 1 52, .ldT (.w 7 10), .push 1 0 true, .ldS (.gt 1),
   .accS 1 1 51, .ldT (.x 1 8), .castT, .push 0 1 false, .ldL (.dy 0 10), .castL, .accL 0 0 0]
def c103 : List Op :=
  [.ldL (.dy 0 10), .castL, .accL 1 0 0, .ldL (.dy 1 10), .castL, .accLd 0 1, .ldL (.dy 1 10), .castL, .accLd 1 1,
   .ldL (.dy 2 10), .castL, .accLd 0 2, .ldL (.dy 2 10), .castL, .accLd 1 2, .ldL (.dy 3 10), .castL, .accLd 0 3,
   .ldL (.dy 3 10), .castL, .accLd 1 3, .ldT (.w 6 11), .push 0 0 true, .ldS (.gt 1), .accS 0 1 52, .ldT (.w 7 11),
   .push 1 0 true, .ldL (.dy 0 11), .castL, .accL 0 0 0, .ldL (.dy 0 11), .castL, .accL 1 0 0, .ldL (.dy 1 11), .castL]
def c104 : List Op :=
  [.accLd 0 1, .ldL (.dy 1 11), .castL, .accLd 1 1, .ldL (.dy 2 11), .castL, .accLd 0 2, .ldL (.dy 2 11), .castL, .accLd 1 2,
   .ldL (.dy 3 11), .castL, .accLd 0 3, .ldL (.dy 3 11), .castL, .accLd 1 3, .ldT (.w 6 12), .push 0 0 true, .ldT (.w 7 12),
   .push 1 0 true, .ldL (.dy 0 12), .castL, .accL 0 0 0, .ldL (.dy 0 12), .castL, .accL 1 0 0, .ldL (.dy 1 12), .castL,
   .accLd 0 1, .ldL (.dy 1 12), .castL, .accLd 1 1, .ldL (.dy 2 12), .castL, .accLd 0 2]
def c105 : List Op :=
  [.ldL (.dy 2 12), .castL, .accLd 1 2, .ldL (.dy 3 12), .castL, .accLd 0 3, .ldL (.dy 3 12), .castL, .accLd 1 3, .ldT (.w 6 13),
   .push 0 0 true, .ldT (.w 7 13), .push 1 0 true, .ldL (.dy 0 13), .castL, .accL 0 0 0, .ldL (.dy 0 13), .castL, .accL 1 0 0,
   .ldL (.dy 1 13), .castL, .accLd 0 1, .ldL (.dy 1 13), .castL, .accLd 1 1, .ldL (.dy 2 13), .castL, .accLd 0 2,
   .ldL (.dy 2 13), .castL, .accLd 1 2, .ldL (.dy 3 13), .castL, .accLd 0 3, .ldL (.dy 3 13)]
def c106 : List Op :=
  [.castL, .accLd 1 3, .ldT (.w 6 14), .push 0 0 true, .ldT (.w 7 14), .push 1 0 true, .ldL (.dy 0 14), .castL, .accL 0 0 0,
   .ldL (.dy 0 14), .castL, .accL 1 0 0, .ldL (.dy 1 14), .castL, .accLd 0 1, .ldL (.dy 1 14), .castL, .accLd 1 1,
   .ldL (.dy 2 14), .castL, .accLd 0 2, .ldL (.dy 2 14), .castL, .accLd 1 2, .ldL (.dy 3 14), .castL, .accLd 0 3,
   .ldL (.dy 3 14), .castL, .accLd 1 3, .ldT (.w 6 15), .push 0 0 true, .ldT (.w 7 15), .push 1 0 true]
def c107 : List Op :=
  [.ldL (.dy 0 15), .castL, .accL 0 0 0, .ldL (.dy 0 15), .castL, .accL 1 0 0, .ldL (.dy 1 15), .castL, .accLd 0 1,
   .ldL (.dy 1 15), .castL, .accLd 1 1, .ldL (.dy 2 15), .castL, .accLd 0 2, .ldL (.dy 2 15), .castL, .accLd 1 2,
   .ldL (.dy 3 15), .castL, .accLd 0 3, .ldL (.dy 3 15), .castL, .accLd 1 3, .ldT (.w 6 16), .push 0 0 true, .ldT (.w 7 16),
   .push 1 0 true, .ldL (.dy 0 16), .castL, .accL 0 0 0, .ldL (.dy 0 16), .castL, .accL 1 0 0, .ldL (.dy 1 16), .castL]
def c108 : List Op :=
  [.accLd 0 1, .ldL (.dy 1 16), .castL, .accLd 1 1, .ldL (.dy 2 16), .castL, .accLd 0 2, .ldL (.dy 2 16), .castL, .accLd 1 2,
   .ldL (.dy 3 16), .castL, .accLd 0 3, .ldL (.dy 3 16), .castL, .accLd 1 3, .ldT (.w 6 17), .push 0 0 true, .ldT (.w 7 17),
   .push 1 0 true, .ldL (.dy 0 17), .castL, .accL 0 0 0, .ldL (.dy 0 17), .castL, .accL 1 0 0, .ldL (.dy 1 17), .castL,
   .accLd 0 1, .ldL (.dy 1 17), .castL, .accLd 1 1, .ldL (.dy 2 17), .castL, .accLd 0 2]
def c109 : List Op :=
  [.ldL (.dy 2 17), .castL, .accLd 1 2, .ldL (.dy 3 17), .castL, .accLd 0 3, .ldL (.dy 3 17), .castL, .accLd 1 3, .ldT (.w 6 18),
   .push 0 0 true, .ldT (.w 7 18), .push 1 0 true, .ldL (.dy 0 18), .castL, .accL 0 0 0, .ldL (.dy 0 18), .castL, .accL 1 0 0,
   .ldL (.dy 1 18), .castL, .accLd 0 1, .ldL (.dy 1 18), .castL, .accLd 1 1, .ldL (.dy 2 18), .castL, .accLd 0 2,
   .ldL (.dy 2 18), .castL, .accLd 1 2, .ldL (.dy 3 18), .castL, .accLd 0 3, .ldL (.dy 3 18)]
def c110 : List Op :=
  [.castL, .accLd 1 3, .ldT (.w 6 19), .push 0 0 true, .ldT (.w 7 19), .push 1 0 true, .ldL (.dy 0 19), .castL, .accL 0 0 0,
   .ldL (.dy 0 19), .castL, .accL 1 0 0, .ldL (.dy 1 19), .castL, .accLd 0 1, .ldL (.dy 1 19), .castL, .accLd 1 1,
   .ldL (.dy 2 19), .castL, .accLd 0 2, .ldL (.dy 2 19), .castL, .accLd 1 2, .ldL (.dy 3 19), .castL, .accLd 0 3,
   .ldL (.dy 3 19), .castL, .accLd 1 3, .ldT (.w 6 20), .push 0 0 true, .ldT (.w 7 20), .push 1 0 true]
def c111 : List Op :=
  [.ldL (.dy 0 20), .castL, .accL 0 0 0, .ldL (.dy 0 20), .castL, .accL 1 0 0, .ldL (.dy 1 20), .castL, .accLd 0 1,
   .ldL (.dy 1 20), .castL, .accLd 1 1, .ldL (.dy 2 20), .castL, .accLd 0 2, .ldL (.dy 2 20), .castL, .accLd 1 2,
   .ldL (.dy 3 20), .castL, .accLd 0 3, .ldL (.dy 3 20), .castL, .accLd 1 3, .ldT (.w 6 21), .push 0 0 true, .ldT (.w 7 21),
   .push 1 0 true, .ldL (.dy 0 21), .castL, .accL 0 0 0, .ldL (.dy 0 21), .castL, .accL 1 0 0, .ldL (.dy 1 21), .castL]
def c112 : List Op :=
  [.accLd 0 1, .ldL (.dy 1 21), .castL, .accLd 1 1, .ldL (.dy 2 21), .castL, .accLd 0 2, .ldL (.dy 2 21), .castL, .accLd 1 2,
   .ldL (.dy 3 21), .castL, .accLd 0 3, .ldL (.dy 3 21), .castL, .accLd 1 3, .ldT (.w 6 22), .push 0 0 true, .ldT (.w 7 22),
   .push 1 0 true, .ldL (.dy 0 22), .castL, .accL 0 0 0, .ldL (.dy 0 22), .castL, .accL 1 0 0, .ldL (.dy 1 22), .castL,
   .accLd 0 1, .ldL (.dy 1 22), .castL, .accLd 1 1, .ldL (.dy 2 22), .castL, .accLd 0 2]
def c113 : List Op :=
  [.ldL (.dy 2 22), .castL, .accLd 1 2, .ldL (.dy 3 22), .castL, .accLd 0 3, .ldL (.dy 3 22), .castL, .accLd 1 3, .ldT (.w 6 23),
   .push 0 0 true, .ldT (.w 7 23), .push 1 0 true, .ldL (.dy 0 23), .castL, .accL 0 0 0, .ldL (.dy 0 23), .castL, .accL 1 0 0,
   .ldL (.dy 1 23), .castL, .accLd 0 1, .ldL (.dy 1 23), .castL, .accLd 1 1, .ldL (.dy 2 23), .castL, .accLd 0 2,
   .ldL (.dy 2 23), .castL, .accLd 1 2, .ldL (.dy 3 23), .castL, .accLd 0 3, .ldL (.dy 3 23)]
def c114 : List Op :=
  [.castL, .accLd 1 3, .ldT (.w 6 24), .push 0 0 true, .ldT (.w 7 24), .push 1 0 true, .ldL (.dy 0 24), .castL, .accL 0 0 0,
   .ldL (.dy 0 24), .castL, .accL 1 0 0, .ldL (.dy 1 24), .castL, .accLd 0 1, .ldL (.dy 1 24), .castL, .accLd 1 1,
   .ldL (.dy 2 24), .castL, .accLd 0 2, .ldL (.dy 2 24), .castL, .accLd 1 2, .ldL (.dy 3 24), .castL, .accLd 0 3,
   .ldL (.dy 3 24), .castL, .accLd 1 3, .ldT (.w 6 25), .push 0 0 true, .ldT (.w 7 25), .push 1 0 true]
def c115 : List Op :=
  [.ldL (.dy 0 25), .castL, .accL 0 0 0, .ldL (.dy 0 25), .castL, .accL 1 0 0, .ldL (.dy 1 25), .castL, .accLd 0 1,
   .ldL (.dy 1 25), .castL, .accLd 1 1, .ldL (.dy 2 25), .castL, .accLd 0 2, .ldL (.dy 2 25), .castL, .accLd 1 2,
   .ldL (.dy 3 25), .castL, .accLd 0 3, .ldL (.dy 3 25), .castL, .accLd 1 3, .ldT (.w 6 26), .push 0 0 true, .ldT (.w 7 26),
   .push 1 0 true, .ldL (.dy 0 26), .castL, .accL 0 0 0, .ldL (.dy 0 26), .castL, .accL 1 0 0, .ldL (.dy 1 26), .castL]
def c116 : List Op :=
  [.accLd 0 1, .ldL (.dy 1 26), .castL, .accLd 1 1, .ldL (.dy 2 26), .castL, .accLd 0 2, .ldL (.dy 2 26), .castL, .accLd 1 2,
   .ldL (.dy 3 26), .castL, .accLd 0 3, .ldL (.dy 3 26), .castL, .accLd 1 3, .ldT (.ap 6), .castT, .push 0 0 true, .ldT (.ap 7),
   .castT, .push 1 0 true, .ldL (.gp 0), .accL 0 0 0, .ldL (.gp 0), .accL 1 0 0, .ldL (.gp 1), .accLd 0 1, .ldL (.gp 1),
   .accLd 1 1, .ldL (.gp 2), .accLd 0 2, .ldL (.gp 2), .accLd 1 2]
def c117 : List Op :=
  [.ldL (.gp 3), .accLd 0 3, .ldL (.gp 3), .accLd 1 3, .rdL 0 0, .popL 0 0, .truncL, .deadL (.dx 0 6), .stDx 0 6, .rdL 1 0,
   .popL 1 0, .truncL, .deadL (.dx 0 7), .stDx 0 7, .rdL 0 1, .popL 0 1, .truncL, .deadL (.dx 1 6), .stDx 1 6, .rdL 1 1,
   .popL 1 1, .truncL, .deadL (.dx 1 7), .stDx 1 7, .rdL 0 2, .popL 0 2, .truncL, .deadL (.dx 2 6), .stDx 2 6, .rdL 1 2,
   .popL 1 2, .truncL, .deadL (.dx 2 7), .stDx 2 7, .rdL 0 3, .popL 0 3, .truncL, .deadL (.dx 3 6), .stDx 3 6, .rdL 1 3,
   .popL 1 3, .truncL]
def c118 : List Op :=
  [.deadL (.dx 3 7), .stDx 3 7, .ldT (.w 8 0), .push 0 0 true, .ldT (.w 9 0), .push 1 0 true, .ldL (.dy 0 0), .castL,
   .accL 0 0 0, .ldL (.dy 0 0), .castL, .accL 1 0 0, .ldL (.dy 1 0), .castL, .accLd 0 1, .ldL (.dy 1 0), .castL, .accLd 1 1,
   .ldL (.dy 2 0), .castL, .accLd 0 2, .ldL (.dy 2 0), .castL, .accLd 1 2, .ldL (.dy 3 0), .castL, .accLd 0 3, .ldL (.dy 3 0),
   .castL, .accLd 1 3, .ldT (.w 8 1), .push 0 0 true, .ldT (.w 9 1), .push 1 0 true]
def c119 : List Op :=
  [.ldL (.dy 0 1), .castL, .accL 0 0 0, .ldL (.dy 0 1), .castL, .accL 1 0 0, .ldL (.dy 1 1), .castL, .accLd 0 1, .ldL (.dy 1 1),
   .castL, .accLd 1 1, .ldL (.dy 2 1), .castL, .accLd 0 2, .ldL (.dy 2 1), .castL, .accLd 1 2, .ldL (.dy 3 1), .castL,
   .accLd 0 3, .ldL (.dy 3 1), .castL, .accLd 1 3, .ldT (.w 8 2), .push 0 0 true, .ldT (.w 9 2), .push 1 0 true, .ldL (.dy 0 2),
   .castL, .accL 0 0 0, .ldL (.dy 0 2), .castL, .accL 1 0 0]
def c120 : List Op :=
  [.ldL (.dy 1 2), .castL, .accLd 0 1, .ldL (.dy 1 2), .castL, .accLd 1 1, .ldL (.dy 2 2), .castL, .accLd 0 2, .ldL (.dy 2 2),
   .castL, .accLd 1 2, .ldL (.dy 3 2), .castL, .accLd 0 3, .ldL (.dy 3 2), .castL, .accLd 1 3, .ldT (.w 8 3), .push 0 0 true,
   .ldT (.w 9 3), .push 1 0 true, .ldL (.dy 0 3), .castL, .accL 0 0 0, .ldL (.dy 0 3), .castL, .accL 1 0 0, .ldL (.dy 1 3),
   .castL, .accLd 0 1, .ldL (.dy 1 3), .castL, .accLd 1 1, .ldL (.dy 2 3), .castL]
def c121 : List Op :=
  [.accLd 0 2, .ldL (.dy 2 3), .castL, .accLd 1 2, .ldL (.dy 3 3), .castL, .accLd 0 3, .ldL (.dy 3 3), .castL, .accLd 1 3,
   .ldT (.w 8 4), .push 0 0 true, .ldT (.w 9 4), .push 1 0 true, .ldL (.dy 0 4), .castL, .accL 0 0 0, .ldL (.dy 0 4), .castL,
   .accL 1 0 0, .ldL (.dy 1 4), .castL, .accLd 0 1, .ldL (.dy 1 4), .castL, .accLd 1 1, .ldL (.dy 2 4), .castL, .accLd 0 2,
   .ldL (.dy 2 4), .castL, .accLd 1 2, .ldL (.dy 3 4), .castL, .accLd 0 3]
def c122 : List Op :=
  [.ldL (.dy 3 4), .castL, .accLd 1 3, .ldT (.w 8 5), .push 0 0 true, .ldT (.w 9 5), .push 1 0 true, .ldL (.dy 0 5), .castL,
   .accL 0 0 0, .ldL (.dy 0 5), .castL, .accL 1 0 0, .ldL (.dy 1 5), .castL, .accLd 0 1, .ldL (.dy 1 5), .castL, .accLd 1 1,
   .ldL (.dy 2 5), .castL, .accLd 0 2, .ldL (.dy 2 5), .castL, .accLd 1 2, .ldL (.dy 3 5), .castL, .accLd 0 3, .ldL (.dy 3 5),
   .castL, .accLd 1 3, .ldT (.w 8 6), .push 0 0 true, .ldT (.w 9 6), .push 1 0 true]
def c123 : List Op :=
  [.ldL (.dy 0 6), .castL, .accL 0 0 0, .ldL (.dy 0 6), .castL, .accL 1 0 0, .ldL (.dy 1 6), .castL, .accLd 0 1, .ldL (.dy 1 6),
   .castL, .accLd 1 1, .ldL (.dy 2 6), .castL, .accLd 0 2, .ldL (.dy 2 6), .castL, .accLd 1 2, .ldL (.dy 3 6), .castL,
   .accLd 0 3, .ldL (.dy 3 6), .castL, .accLd 1 3, .ldT (.w 8 7), .push 0 0 true, .ldT (.w 9 7), .push 1 0 true, .ldL (.dy 0 7),
   .castL, .accL 0 0 0, .ldL (.dy 0 7), .castL, .accL 1 0 0]
def c124 : List Op :=
  [.ldL (.dy 1 7), .castL, .accLd 0 1, .ldL (.dy 1 7), .castL, .accLd 1 1, .ldL (.dy 2 7), .castL, .accLd 0 2, .ldL (.dy 2 7),
   .castL, .accLd 1 2, .ldL (.dy 3 7), .castL, .accLd 0 3, .ldL (.dy 3 7), .castL, .accLd 1 3, .ldT (.w 8 8), .push 0 0 true,
   .ldT (.w 9 8), .push 1 0 true, .ldL (.dy 0 8), .castL, .accL 0 0 0, .ldL (.dy 0 8), .castL, .accL 1 0 0, .ldL (.dy 1 8),
   .castL, .accLd 0 1, .ldL (.dy 1 8), .castL, .accLd 1 1, .ldL (.dy 2 8), .castL]
def c125 : List Op :=
  [.accLd 0 2, .ldL (.dy 2 8), .castL, .accLd 1 2, .ldL (.dy 3 8), .castL, .accLd 0 3, .ldL (.dy 3 8), .castL, .accLd 1 3,
   .ldT (.w 8 9), .push 0 0 true, .ldT (.w 9 9), .push 1 0 true, .ldL (.dy 0 9), .castL, .accL 0 0 0, .ldL (.dy 0 9), .castL,
   .accL 1 0 0, .ldL (.dy 1 9), .castL, .accLd 0 1, .ldL (.dy 1 9), .castL, .accLd 1 1, .ldL (.dy 2 9), .castL, .accLd 0 2,
   .ldL (.dy 2 9), .castL, .accLd 1 2, .ldL (.dy 3 9), .castL, .accLd 0 3]
def c126 : List Op :=
  [.ldL (.dy 3 9), .castL, .accLd 1 3, .ldT (.w 8 10), .push 0 0 true, .ldT (.w 9 10), .push 1 0 true, .ldL (.dy 0 10), .castL,
   .accL 0 0 0, .ldL (.dy 0 10), .castL, .accL 1 0 0, .ldL (.dy 1 10), .castL, .accLd 0 1, .ldL (.dy 1 10), .castL, .accLd 1 1,
   .ldL (.dy 2 10), .castL, .accLd 0 2, .ldL (.dy 2 10), .castL, .accLd 1 2, .ldL (.dy 3 10), .castL, .accLd 0 3,
   .ldL (.dy 3 10), .castL, .accLd 1 3, .ldT (.w 8 11), .push 0 0 true, .ldT (.w 9 11), .push 1 0 true]
def c127 : List Op :=
  [.ldL (.dy 0 11), .castL, .accL 0 0 0, .ldL (.dy 0 11), .castL, .accL 1 0 0, .ldL (.dy 1 11), .castL, .accLd 0 1,
   .ldL (.dy 1 11), .castL, .accLd 1 1, .ldL (.dy 2 11), .castL, .accLd 0 2, .ldL (.dy 2 11), .castL, .accLd 1 2,
   .ldL (.dy 3 11), .castL, .accLd 0 3, .ldL (.dy 3 11), .castL, .accLd 1 3, .ldT (.w 8 12), .push 0 0 true, .ldT (.w 9 12),
   .push 1 0 true, .ldL (.dy 0 12), .castL, .accL 0 0 0, .ldL (.dy 0 12), .castL, .accL 1 0 0]
def c128 : List Op :=
  [.ldL (.dy 1 12), .castL, .accLd 0 1, .ldL (.dy 1 12), .castL, .accLd 1 1, .ldL (.dy 2 12), .castL, .accLd 0 2,
   .ldL (.dy 2 12), .castL, .accLd 1 2, .ldL (.dy 3 12), .castL, .accLd 0 3, .ldL (.dy 3 12), .castL, .accLd 1 3, .ldT (.w 8 13),
   .push 0 0 true, .ldT (.w 9 13), .push 1 0 true, .ldL (.dy 0 13), .castL, .accL 0 0 0, .ldL (.dy 0 13), .castL, .accL 1 0 0,
   .ldL (.dy 1 13), .castL, .accLd 0 1, .ldL (.dy 1 13), .castL, .accLd 1 1, .ldL (.dy 2 13), .castL]
def c129 : List Op :=
  [.accLd 0 2, .ldL (.dy 2 13), .castL, .accLd 1 2, .ldL (.dy 3 13), .castL, .accLd 0 3, .ldL (.dy 3 13), .castL, .accLd 1 3,
   .ldT (.w 8 14), .push 0 0 true, .ldT (.w 9 14), .push 1 0 true, .ldL (.dy 0 14), .castL, .accL 0 0 0, .ldL (.dy 0 14), .castL,
   .accL 1 0 0, .ldL (.dy 1 14), .castL, .accLd 0 1, .ldL (.dy 1 14), .castL, .accLd 1 1, .ldL (.dy 2 14), .castL, .accLd 0 2,
   .ldL (.dy 2 14), .castL, .accLd 1 2, .ldL (.dy 3 14), .castL, .accLd 0 3]
def c130 : List Op :=
  [.ldL (.dy 3 14), .castL, .accLd 1 3, .ldT (.w 8 15), .push 0 0 true, .ldT (.w 9 15), .push 1 0 true, .ldL (.dy 0 15), .castL,
   .accL 0 0 0, .ldL (.dy 0 15), .castL, .accL 1 0 0, .ldL (.dy 1 15), .castL, .accLd 0 1, .ldL (.dy 1 15), .castL, .accLd 1 1,
   .ldL (.dy 2 15), .castL, .accLd 0 2, .ldL (.dy 2 15), .castL, .accLd 1 2, .ldL (.dy 3 15), .castL, .accLd 0 3,
   .ldL (.dy 3 15), .castL, .accLd 1 3, .ldT (.w 8 16), .push 0 0 true, .ldT (.w 9 16), .push 1 0 true]
def c131 : List Op :=
  [.ldL (.dy 0 16), .castL, .accL 0 0 0, .ldL (.dy 0 16), .castL, .accL 1 0 0, .ldL (.dy 1 16), .castL, .accLd 0 1,
   .ldL (.dy 1 16), .castL, .accLd 1 1, .ldL (.dy 2 16), .castL, .accLd 0 2, .ldL (.dy 2 16), .castL, .accLd 1 2,
   .ldL (.dy 3 16), .castL, .accLd 0 3, .ldL (.dy 3 16), .castL, .accLd 1 3, .ldT (.w 8 17), .push 0 0 true, .ldT (.w 9 17),
   .push 1 0 true, .ldL (.dy 0 17), .castL, .accL 0 0 0, .ldL (.dy 0 17), .castL, .accL 1 0 0]
def c132 : List Op :=
  [.ldL (.dy 1 17), .castL, .accLd 0 1, .ldL (.dy 1 17), .castL, .accLd 1 1, .ldL (.dy 2 17), .castL, .accLd 0 2,
   .ldL (.dy 2 17), .castL, .accLd 1 2, .ldL (.dy 3 17), .castL, .accLd 0 3, .ldL (.dy 3 17), .castL, .accLd 1 3, .ldT (.w 8 18),
   .push 0 0 true, .ldT (.w 9 18), .push 1 0 true, .ldL (.dy 0 18), .castL, .accL 0 0 0, .ldL (.dy 0 18), .castL, .accL 1 0 0,
   .ldL (.dy 1 18), .castL, .accLd 0 1, .ldL (.dy 1 18), .castL, .accLd 1 1, .ldL (.dy 2 18), .castL]
def c133 : List Op :=
  [.accLd 0 2, .ldL (.dy 2 18), .castL, .accLd 1 2, .ldL (.dy 3 18), .castL, .accLd 0 3, .ldL (.dy 3 18), .castL, .accLd 1 3,
   .ldT (.w 8 19), .push 0 0 true, .ldT (.w 9 19), .push 1 0 true, .ldL (.dy 0 19), .castL, .accL 0 0 0, .ldL (.dy 0 19), .castL,
   .accL 1 0 0, .ldL (.dy 1 19), .castL, .accLd 0 1, .ldL (.dy 1 19), .castL, .accLd 1 1, .ldL (.dy 2 19), .castL, .accLd 0 2,
   .ldL (.dy 2 19), .castL, .accLd 1 2, .ldL (.dy 3 19), .castL, .accLd 0 3]
def c134 : List Op :=
  [.ldL (.dy 3 19), .castL, .accLd 1 3, .ldT (.w 8 20), .push 0 0 true, .ldT (.w 9 20), .push 1 0 true, .ldL (.dy 0 20), .castL,
   .accL 0 0 0, .ldL (.dy 0 20), .castL, .accL 1 0 0, .ldL (.dy 1 20), .castL, .accLd 0 1, .ldL (.dy 1 20), .castL, .accLd 1 1,
   .ldL (.dy 2 20), .castL, .accLd 0 2, .ldL (.dy 2 20), .castL, .accLd 1 2, .ldL (.dy 3 20), .castL, .accLd 0 3,
   .ldL (.dy 3 20), .castL, .accLd 1 3, .ldT (.w 8 21), .push 0 0 true, .ldT (.w 9 21), .push 1 0 true]
def c135 : List Op :=
  [.ldL (.dy 0 21), .castL, .accL 0 0 0, .ldL (.dy 0 21), .castL, .accL 1 0 0, .ldL (.dy 1 21), .castL, .accLd 0 1,
   .ldL (.dy 1 21), .castL, .accLd 1 1, .ldL (.dy 2 21), .castL, .accLd 0 2, .ldL (.dy 2 21), .castL, .accLd 1 2,
   .ldL (.dy 3 21), .castL, .accLd 0 3, .ldL (.dy 3 21), .castL, .accLd 1 3, .ldT (.w 8 22), .push 0 0 true, .ldT (.w 9 22),
   .push 1 0 true, .ldL (.dy 0 22), .castL, .accL 0 0 0, .ldL (.dy 0 22), .castL, .accL 1 0 0]
def c136 : List Op :=
  [.ldL (.dy 1 22), .castL, .accLd 0 1, .ldL (.dy 1 22), .castL, .accLd 1 1, .ldL (.dy 2 22), .castL, .accLd 0 2,
   .ldL (.dy 2 22), .castL, .accLd 1 2, .ldL (.dy 3 22), .castL, .accLd 0 3, .ldL (.dy 3 22), .castL, .accLd 1 3, .ldT (.w 8 23),
   .push 0 0 true, .ldT (.w 9 23), .push 1 0 true, .ldL (.dy 0 23), .castL, .accL 0 0 0, .ldL (.dy 0 23), .castL, .accL 1 0 0,
   .ldL (.dy 1 23), .castL, .accLd 0 1, .ldL (.dy 1 23), .castL, .accLd 1 1, .ldL (.dy 2 23), .castL]
def c137 : List Op :=
  [.accLd 0 2, .ldL (.dy 2 23), .castL, .accLd 1 2, .ldL (.dy 3 23), .castL, .accLd 0 3, .ldL (.dy 3 23), .castL, .accLd 1 3,
   .ldT (.w 8 24), .push 0 0 true, .ldT (.w 9 24), .push 1 0 true, .ldL (.dy 0 24), .castL, .accL 0 0 0, .ldL (.dy 0 24), .castL,
   .accL 1 0 0, .ldL (.dy 1 24), .castL, .accLd 0 1, .ldL (.dy 1 24), .castL, .accLd 1 1, .ldL (.dy 2 24), .castL, .accLd 0 2,
   .ldL (.dy 2 24), .castL, .accLd 1 2, .ldL (.dy 3 24), .castL, .accLd 0 3]
def c138 : List Op :=
  [.ldL (.dy 3 24), .castL, .accLd 1 3, .ldT (.w 8 25), .push 0 0 true, .ldT (.w 9 25), .push 1 0 true, .ldL (.dy 0 25), .castL,
   .accL 0 0 0, .ldL (.dy 0 25), .castL, .accL 1 0 0, .ldL (.dy 1 25), .castL, .accLd 0 1, .ldL (.dy 1 25), .castL, .accLd 1 1,
   .ldL (.dy 2 25), .castL, .accLd 0 2, .ldL (.dy 2 25), .castL, .accLd 1 2, .ldL (.dy 3 25), .castL, .accLd 0 3,
   .ldL (.dy 3 25), .castL, .accLd 1 3, .ldT (.w 8 26), .push 0 0 true, .ldT (.w 9 26), .push 1 0 true]
def c139 : List Op :=
  [.ldL (.dy 0 26), .castL, .accL 0 0 0, .ldL (.dy 0 26), .castL, .accL 1 0 0, .ldL (.dy 1 26), .castL, .accLd 0 1,
   .ldL (.dy 1 26), .castL, .accLd 1 1, .ldL (.dy 2 26), .castL, .accLd 0 2, .ldL (.dy 2 26), .castL, .accLd 1 2,
   .ldL (.dy 3 26), .castL, .accLd 0 3, .ldL (.dy 3 26), .castL, .accLd 1 3, .ldT (.ap 8), .castT, .push 0 0 true, .ldT (.ap 9),
   .castT, .push 1 0 true, .ldL (.gp 0), .accL 0 0 0, .ldL (.gp 0), .accL 1 0 0]
def c140 : List Op :=
  [.ldL (.gp 1), .accLd 0 1, .ldL (.gp 1), .accLd 1 1, .ldL (.gp 2), .accLd 0 2, .ldL (.gp 2), .accLd 1 2, .ldL (.gp 3),
   .accLd 0 3, .ldL (.gp 3), .accLd 1 3, .rdL 0 0, .popL 0 0, .truncL, .deadL (.dx 0 8), .stDx 0 8, .rdL 1 0, .popL 1 0, .truncL,
   .deadL (.dx 0 9), .stDx 0 9, .rdL 0 1, .popL 0 1, .truncL, .deadL (.dx 1 8), .stDx 1 8, .rdL 1 1, .popL 1 1, .truncL,
   .deadL (.dx 1 9), .stDx 1 9, .rdL 0 2, .popL 0 2, .truncL, .deadL (.dx 2 8), .stDx 2 8, .rdL 1 2, .popL 1 2, .truncL]
def c141 : List Op :=
  [.deadL (.dx 2 9), .stDx 2 9, .rdL 0 3, .popL 0 3, .truncL, .deadL (.dx 3 8), .stDx 3 8, .rdL 1 3, .popL 1 3, .truncL,
   .deadL (.dx 3 9), .stDx 3 9, .ldO (.dlb 0), .castO, .rdS 0 34, .popS 0 34, .one, .mul, .add, .deadO (.dlb 0), .stO (.dlb 0),
   .ldO (.dlb 1), .castO, .rdS 1 34, .popS 1 34, .one, .mul, .add, .deadO (.dlb 1), .stO (.dlb 1), .ldO (.dlb 2), .castO,
   .rdS 0 35, .popS 0 35, .one, .mul, .add, .deadO (.dlb 2), .stO (.dlb 2)]
def c142 : List Op :=
  [.ldO (.dlb 3), .castO, .rdS 1 35, .popS 1 35, .one, .mul, .add, .deadO (.dlb 3), .stO (.dlb 3), .ldO (.dlb 4), .castO,
   .rdS 0 36, .popS 0 36, .one, .mul, .add, .deadO (.dlb 4), .stO (.dlb 4), .ldO (.dlb 5), .castO, .rdS 1 36, .popS 1 36, .one,
   .mul, .add, .deadO (.dlb 5), .stO (.dlb 5), .ldO (.dlb 6), .castO, .rdS 0 37, .popS 0 37, .one, .mul, .add, .deadO (.dlb 6),
   .stO (.dlb 6), .ldO (.dlb 7), .castO]
def c143 : List Op :=
  [.rdS 1 37, .popS 1 37, .one, .mul, .add, .deadO (.dlb 7), .stO (.dlb 7), .ldO (.dlb 8), .castO, .rdS 0 38, .popS 0 38, .one,
   .mul, .add, .deadO (.dlb 8), .stO (.dlb 8), .ldO (.dlb 9), .castO, .rdS 1 38, .popS 1 38, .one, .mul, .add, .deadO (.dlb 9),
   .stO (.dlb 9), .ldO (.dlb 10), .castO, .rdS 0 39, .popS 0 39, .one, .mul, .add, .deadO (.dlb 10), .stO (.dlb 10),
   .ldO (.dlb 11), .castO, .rdS 1 39, .popS 1 39, .one]
def c144 : List Op :=
  [.mul, .add, .deadO (.dlb 11), .stO (.dlb 11), .ldO (.dlb 12), .castO, .rdS 0 40, .popS 0 40, .one, .mul, .add,
   .deadO (.dlb 12), .stO (.dlb 12), .ldO (.dlb 13), .castO, .rdS 1 40, .popS 1 40, .one, .mul, .add, .deadO (.dlb 13),
   .stO (.dlb 13), .ldO (.dlb 14), .castO, .rdS 0 41, .popS 0 41, .one, .mul, .add, .deadO (.dlb 14), .stO (.dlb 14),
   .ldO (.dlb 15), .castO, .rdS 1 41, .popS 1 41, .one, .mul, .add]
def c145 : List Op :=
  [.deadO (.dlb 15), .stO (.dlb 15), .ldO (.dlb 16), .castO, .rdS 0 42, .popS 0 42, .one, .mul, .add, .deadO (.dlb 16),
   .stO (.dlb 16), .ldO (.dlb 17), .castO, .rdS 1 42, .popS 1 42, .one, .mul, .add, .deadO (.dlb 17), .stO (.dlb 17),
   .ldO (.dlb 18), .castO, .rdS 0 43, .popS 0 43, .one, .mul, .add, .deadO (.dlb 18), .stO (.dlb 18), .ldO (.dlb 19), .castO,
   .rdS 1 43, .popS 1 43, .one, .mul, .add, .deadO (.dlb 19), .stO (.dlb 19)]
def c146 : List Op :=
  [.ldO (.dlb 20), .castO, .rdS 0 44, .popS 0 44, .one, .mul, .add, .deadO (.dlb 20), .stO (.dlb 20), .ldO (.dlb 21), .castO,
   .rdS 1 44, .popS 1 44, .one, .mul, .add, .deadO (.dlb 21), .stO (.dlb 21), .ldO (.dlb 22), .castO, .rdS 0 45, .popS 0 45,
   .one, .mul, .add, .deadO (.dlb 22), .stO (.dlb 22), .ldO (.dlb 23), .castO, .rdS 1 45, .popS 1 45, .one, .mul, .add,
   .deadO (.dlb 23), .stO (.dlb 23), .ldO (.dlb 24), .castO, .rdS 0 46, .popS 0 46]
def c147 : List Op :=
  [.one, .mul, .add, .deadO (.dlb 24), .stO (.dlb 24), .ldO (.dlb 25), .castO, .rdS 1 46, .popS 1 46, .one, .mul, .add,
   .deadO (.dlb 25), .stO (.dlb 25), .ldO (.dlb 26), .castO, .rdS 0 47, .popS 0 47, .one, .mul, .add, .deadO (.dlb 26),
   .stO (.dlb 26), .rdS 0 48, .popS 0 48, .one, .mul, .ldO (.dla 0), .castO, .add, .deadO (.dla 0), .stO (.dla 0), .rdS 1 47,
   .popS 1 47, .one, .mul, .ldO (.dla 1), .castO, .add]
def c148 : List Op :=
  [.deadO (.dla 1), .stO (.dla 1), .rdS 0 49, .popS 0 49, .one, .mul, .ldO (.dla 2), .castO, .add, .deadO (.dla 2),
   .stO (.dla 2), .rdS 1 48, .popS 1 48, .one, .mul, .ldO (.dla 3), .castO, .add, .deadO (.dla 3), .stO (.dla 3), .rdS 0 50,
   .popS 0 50, .one, .mul, .ldO (.dla 4), .castO, .add, .deadO (.dla 4), .stO (.dla 4), .rdS 1 49, .popS 1 49, .one, .mul,
   .ldO (.dla 5), .castO, .add, .deadO (.dla 5), .stO (.dla 5)]
def c149 : List Op :=
  [.rdS 0 51, .popS 0 51, .one, .mul, .ldO (.dla 6), .castO, .add, .deadO (.dla 6), .stO (.dla 6), .rdS 1 50, .popS 1 50, .one,
   .mul, .ldO (.dla 7), .castO, .add, .deadO (.dla 7), .stO (.dla 7), .rdS 0 52, .popS 0 52, .one]
def c150 : List Op :=
  [.mul, .ldO (.dla 8), .castO, .add, .deadO (.dla 8), .stO (.dla 8), .rdS 1 51, .popS 1 51, .one, .mul, .ldO (.dla 9), .castO,
   .add, .deadO (.dla 9), .stO (.dla 9)]

/-- The whole body. -/
def code : List Op :=
  [c1, c2, c3, c4, c5, c6, c7, c8, c9, c10, c11, c12, c13, c14, c15, c16, c17, c18, c19, c20, c21, c22, c23, c24, c25, c26, c27,
   c28, c29, c30, c31, c32, c33, c34, c35, c36, c37, c38, c39, c40, c41, c42, c43, c44, c45, c46, c47, c48, c49, c50, c51, c52,
   c53, c54, c55, c56, c57, c58, c59, c60, c61, c62, c63, c64, c65, c66, c67, c68, c69, c70, c71, c72, c73, c74, c75, c76, c77,
   c78, c79, c80, c81, c82, c83, c84, c85, c86, c87, c88, c89, c90, c91, c92, c93, c94, c95, c96, c97, c98, c99, c100, c101,
   c102, c103, c104, c105, c106, c107, c108, c109, c110, c111, c112, c113, c114, c115, c116, c117, c118, c119, c120, c121, c122,
   c123, c124, c125, c126, c127, c128, c129, c130, c131, c132, c133, c134, c135, c136, c137, c138, c139, c140, c141, c142, c143,
   c144, c145, c146, c147, c148, c149, c150].flatten

end Cert.Qlora

end
-- ==== Proof.BodyIdeal.lean ====
/- The printed body is its list of steps: each part by computation, the parts chained. -/
module

public import proofs.«01_k».proof.KernelIdeal
public import proofs.«01_k».proof.Proof.Code

@[expose] public section

set_option maxRecDepth 100000

open Idealize.ShloMosaic in
attribute [local irreducible] Mxu.accLhs Mxu.pushed Mxu.accBy Mxu.read Mxu.pop Mxu.PushOk shapeCast truncf mulf addf concatenate transpose extractStridedSlice broadcast

noncomputable section

namespace Cert.KernelIdeal

open Idealize.ShloMosaic Idealize.SL.Sem Cert.Qlora

variable {F : FTy → Type} [FloatOps F] [Facts]
variable (A : Args sig) (i : grid1.Coords) (w : Memref sig .tc .hbm S2560x6912 .bf16) (hw : w.IsWhole) (d : DmaSems sig S_)

/-- What a part takes before its registers. -/
abbrev Part (α : Type 1) : Type 1 := grid1.Coords →
  (m1 : Memref sig .tc .vmem (sh .dy) (el .dy)) → m1.IsWhole →
  (m2 : Memref sig .tc .vmem (sh .x) (el .x)) → m2.IsWhole →
  (w : Memref sig .tc .hbm S2560x6912 .bf16) → w.IsWhole →
  (m4 : Memref sig .tc .vmem (sh .ap) (el .ap)) → m4.IsWhole →
  (m5 : Memref sig .tc .vmem (sh .at) (el .at)) → m5.IsWhole →
  (m6 : Memref sig .tc .vmem (sh .b) (el .b)) → m6.IsWhole →
  (m7 : Memref sig .tc .vmem (sh .dx) (el .dx)) → m7.IsWhole →
  (m8 : Memref sig .tc .vmem (sh .g) (el .g)) → m8.IsWhole →
  (m9 : Memref sig .tc .vmem (sh .xa) (el .xa)) → m9.IsWhole →
  (m10 : Memref sig .tc .vmem (sh .dla) (el .dla)) → m10.IsWhole →
  (m11 : Memref sig .tc .vmem (sh .dlb) (el .dlb)) → m11.IsWhole →
  (m12 : Memref sig .tc .vmem (sh .w) (el .w)) → m12.IsWhole →
  (m13 : Memref sig .tc .vmem (sh .gp) (el .gp)) → m13.IsWhole →
  (m14 : Memref sig .tc .vmem (sh .gt) (el .gt)) → m14.IsWhole →
  (m15 : Memref sig .tc .vmem (sh .xt) (el .xt)) → m15.IsWhole →
  DmaSems sig S_ → α

/-- A part called with the buffers. -/
abbrev app {α : Type 1} (f : Part α) : α :=
  f i (A.m .dy) (A.h .dy) (A.m .x) (A.h .x) w hw (A.m .ap) (A.h .ap) (A.m .at) (A.h .at) (A.m .b) (A.h .b) (A.m .dx) (A.h .dx) (A.m .g) (A.h .g) (A.m .xa) (A.h .xa) (A.m .dla) (A.h .dla) (A.m .dlb) (A.h .dlb) (A.m .w) (A.h .w) (A.m .gp) (A.h .gp) (A.m .gt) (A.h .gt) (A.m .xt) (A.h .xt) d

/-- The programs of the body. -/
abbrev PB (α : Type) : Type 1 := Prog (TpuEff nD τ sig (Elt F) Λ₀ .tc) α

/-- A part followed by the rest. -/
theorem chain {β γ : Type} {p : PB (F := F) β} {f : St F → β} {l l' : List Op} {s : St F} {k : β → PB (F := F) γ} {g : St F → γ}
    (h : p = (run A l s >>= fun s => pure (f s))) (hk : ∀ s, k (f s) = (run A l' s >>= fun s => pure (g s))) :
    (p >>= k) = (run A (l ++ l') s >>= fun s => pure (g s)) := by
  rw [h, run_append]
  simp only [bind_assoc, pure_bind, hk]

variable (s : St F)

theorem p2 : app A i w hw d (k1_part2 (F := F)) s.mxu s.l = (run A c2 s >>= fun s => pure ⟨s.mxu, s.l⟩) := rfl
theorem p3 : app A i w hw d (k1_part3 (F := F)) s.mxu s.l = (run A c3 s >>= fun s => pure s.mxu) := rfl
theorem p4 : app A i w hw d (k1_part4 (F := F)) s.mxu = (run A c4 s >>= fun s => pure s.mxu) := rfl
theorem p5 : app A i w hw d (k1_part5 (F := F)) s.mxu = (run A c5 s >>= fun s => pure s.mxu) := rfl
theorem p6 : app A i w hw d (k1_part6 (F := F)) s.mxu = (run A c6 s >>= fun s => pure ⟨s.mxu, s.l⟩) := rfl
theorem p7 : app A i w hw d (k1_part7 (F := F)) s.mxu s.l = (run A c7 s >>= fun s => pure ⟨s.mxu, s.t⟩) := rfl
theorem p8 : app A i w hw d (k1_part8 (F := F)) s.mxu s.t = (run A c8 s >>= fun s => pure s.mxu) := rfl
theorem p9 : app A i w hw d (k1_part9 (F := F)) s.mxu = (run A c9 s >>= fun s => pure s.mxu) := rfl
theorem p10 : app A i w hw d (k1_part10 (F := F)) s.mxu = (run A c10 s >>= fun s => pure s.mxu) := rfl
theorem p11 : app A i w hw d (k1_part11 (F := F)) s.mxu = (run A c11 s >>= fun s => pure s.mxu) := rfl
theorem p12 : app A i w hw d (k1_part12 (F := F)) s.mxu = (run A c12 s >>= fun s => pure ⟨s.mxu, s.l⟩) := rfl
theorem p13 : app A i w hw d (k1_part13 (F := F)) s.mxu s.l = (run A c13 s >>= fun s => pure ⟨s.mxu, s.l⟩) := rfl
theorem p14 : app A i w hw d (k1_part14 (F := F)) s.mxu s.l = (run A c14 s >>= fun s => pure s.mxu) := rfl
theorem p15 : app A i w hw d (k1_part15 (F := F)) s.mxu = (run A c15 s >>= fun s => pure s.mxu) := rfl
theorem p16 : app A i w hw d (k1_part16 (F := F)) s.mxu = (run A c16 s >>= fun s => pure s.mxu) := rfl
theorem p17 : app A i w hw d (k1_part17 (F := F)) s.mxu = (run A c17 s >>= fun s => pure ⟨s.mxu, s.l⟩) := rfl
theorem p18 : app A i w hw d (k1_part18 (F := F)) s.mxu s.l = (run A c18 s >>= fun s => pure ⟨s.mxu, s.t⟩) := rfl
theorem p19 : app A i w hw d (k1_part19 (F := F)) s.mxu s.t = (run A c19 s >>= fun s => pure s.mxu) := rfl
theorem p20 : app A i w hw d (k1_part20 (F := F)) s.mxu = (run A c20 s >>= fun s => pure s.mxu) := rfl
theorem p21 : app A i w hw d (k1_part21 (F := F)) s.mxu = (run A c21 s >>= fun s => pure s.mxu) := rfl
theorem p22 : app A i w hw d (k1_part22 (F := F)) s.mxu = (run A c22 s >>= fun s => pure s.mxu) := rfl
theorem p23 : app A i w hw d (k1_part23 (F := F)) s.mxu = (run A c23 s >>= fun s => pure ⟨s.mxu, s.l⟩) := rfl
theorem p24 : app A i w hw d (k1_part24 (F := F)) s.mxu s.l = (run A c24 s >>= fun s => pure ⟨s.mxu, s.l⟩) := rfl
theorem p25 : app A i w hw d (k1_part25 (F := F)) s.mxu s.l = (run A c25 s >>= fun s => pure s.mxu) := rfl
theorem p26 : app A i w hw d (k1_part26 (F := F)) s.mxu = (run A c26 s >>= fun s => pure s.mxu) := rfl
theorem p27 : app A i w hw d (k1_part27 (F := F)) s.mxu = (run A c27 s >>= fun s => pure s.mxu) := rfl
theorem p28 : app A i w hw d (k1_part28 (F := F)) s.mxu = (run A c28 s >>= fun s => pure ⟨s.mxu, s.l⟩) := rfl
theorem p29 : app A i w hw d (k1_part29 (F := F)) s.mxu s.l = (run A c29 s >>= fun s => pure ⟨s.mxu, s.t⟩) := rfl
theorem p30 : app A i w hw d (k1_part30 (F := F)) s.mxu s.t = (run A c30 s >>= fun s => pure s.mxu) := rfl
theorem p31 : app A i w hw d (k1_part31 (F := F)) s.mxu = (run A c31 s >>= fun s => pure s.mxu) := rfl
theorem p32 : app A i w hw d (k1_part32 (F := F)) s.mxu = (run A c32 s >>= fun s => pure ⟨s.mxu, s.l⟩) := rfl
theorem p33 : app A i w hw d (k1_part33 (F := F)) s.mxu s.l = (run A c33 s >>= fun s => pure ⟨s.mxu, s.l⟩) := rfl
theorem p34 : app A i w hw d (k1_part34 (F := F)) s.mxu s.l = (run A c34 s >>= fun s => pure s.mxu) := rfl
theorem p35 : app A i w hw d (k1_part35 (F := F)) s.mxu = (run A c35 s >>= fun s => pure ⟨s.mxu, s.l⟩) := rfl
theorem p36 : app A i w hw d (k1_part36 (F := F)) s.mxu s.l = (run A c36 s >>= fun s => pure s.mxu) := rfl
theorem p37 : app A i w hw d (k1_part37 (F := F)) s.mxu = (run A c37 s >>= fun s => pure s.mxu) := rfl
theorem p38 : app A i w hw d (k1_part38 (F := F)) s.mxu = (run A c38 s >>= fun s => pure ⟨s.mxu, s.t⟩) := rfl
theorem p39 : app A i w hw d (k1_part39 (F := F)) s.mxu s.t = (run A c39 s >>= fun s => pure s.mxu) := rfl
theorem p40 : app A i w hw d (k1_part40 (F := F)) s.mxu = (run A c40 s >>= fun s => pure s.mxu) := rfl
theorem p41 : app A i w hw d (k1_part41 (F := F)) s.mxu = (run A c41 s >>= fun s => pure ⟨s.mxu, s.l⟩) := rfl
theorem p42 : app A i w hw d (k1_part42 (F := F)) s.mxu s.l = (run A c42 s >>= fun s => pure s.mxu) := rfl
theorem p43 : app A i w hw d (k1_part43 (F := F)) s.mxu = (run A c43 s >>= fun s => pure s.mxu) := rfl
theorem p44 : app A i w hw d (k1_part44 (F := F)) s.mxu = (run A c44 s >>= fun s => pure ⟨s.mxu, s.l⟩) := rfl
theorem p45 : app A i w hw d (k1_part45 (F := F)) s.mxu s.l = (run A c45 s >>= fun s => pure s.mxu) := rfl
theorem p46 : app A i w hw d (k1_part46 (F := F)) s.mxu = (run A c46 s >>= fun s => pure ⟨s.mxu, s.l⟩) := rfl
theorem p47 : app A i w hw d (k1_part47 (F := F)) s.mxu s.l = (run A c47 s >>= fun s => pure s.mxu) := rfl
theorem p48 : app A i w hw d (k1_part48 (F := F)) s.mxu = (run A c48 s >>= fun s => pure ⟨s.mxu, s.l⟩) := rfl
theorem p49 : app A i w hw d (k1_part49 (F := F)) s.mxu s.l = (run A c49 s >>= fun s => pure s.mxu) := rfl
theorem p50 : app A i w hw d (k1_part50 (F := F)) s.mxu = (run A c50 s >>= fun s => pure ⟨s.mxu, s.l⟩) := rfl
theorem p51 : app A i w hw d (k1_part51 (F := F)) s.mxu s.l = (run A c51 s >>= fun s => pure s.mxu) := rfl
theorem p52 : app A i w hw d (k1_part52 (F := F)) s.mxu = (run A c52 s >>= fun s => pure ⟨s.mxu, s.l⟩) := rfl
theorem p53 : app A i w hw d (k1_part53 (F := F)) s.mxu s.l = (run A c53 s >>= fun s => pure s.mxu) := rfl
theorem p54 : app A i w hw d (k1_part54 (F := F)) s.mxu = (run A c54 s >>= fun s => pure ⟨s.mxu, s.l⟩) := rfl
theorem p55 : app A i w hw d (k1_part55 (F := F)) s.mxu s.l = (run A c55 s >>= fun s => pure s.mxu) := rfl
theorem p56 : app A i w hw d (k1_part56 (F := F)) s.mxu = (run A c56 s >>= fun s => pure ⟨s.mxu, s.l⟩) := rfl
theorem p57 : app A i w hw d (k1_part57 (F := F)) s.mxu s.l = (run A c57 s >>= fun s => pure s.mxu) := rfl
theorem p58 : app A i w hw d (k1_part58 (F := F)) s.mxu = (run A c58 s >>= fun s => pure ⟨s.mxu, s.e⟩) := rfl
theorem p59 : app A i w hw d (k1_part59 (F := F)) s.mxu s.e = (run A c59 s >>= fun s => pure ⟨s.mxu, s.l⟩) := rfl
theorem p60 : app A i w hw d (k1_part60 (F := F)) s.mxu s.l = (run A c60 s >>= fun s => pure s.mxu) := rfl
theorem p61 : app A i w hw d (k1_part61 (F := F)) s.mxu = (run A c61 s >>= fun s => pure s.mxu) := rfl
theorem p62 : app A i w hw d (k1_part62 (F := F)) s.mxu = (run A c62 s >>= fun s => pure s.mxu) := rfl
theorem p63 : app A i w hw d (k1_part63 (F := F)) s.mxu = (run A c63 s >>= fun s => pure ⟨s.mxu, s.t⟩) := rfl
theorem p64 : app A i w hw d (k1_part64 (F := F)) s.mxu s.t = (run A c64 s >>= fun s => pure s.mxu) := rfl
theorem p65 : app A i w hw d (k1_part65 (F := F)) s.mxu = (run A c65 s >>= fun s => pure s.mxu) := rfl
theorem p66 : app A i w hw d (k1_part66 (F := F)) s.mxu = (run A c66 s >>= fun s => pure s.mxu) := rfl
theorem p67 : app A i w hw d (k1_part67 (F := F)) s.mxu = (run A c67 s >>= fun s => pure s.mxu) := rfl
theorem p68 : app A i w hw d (k1_part68 (F := F)) s.mxu = (run A c68 s >>= fun s => pure s.mxu) := rfl
theorem p69 : app A i w hw d (k1_part69 (F := F)) s.mxu = (run A c69 s >>= fun s => pure ⟨s.mxu, s.l⟩) := rfl
theorem p70 : app A i w hw d (k1_part70 (F := F)) s.mxu s.l = (run A c70 s >>= fun s => pure ⟨s.mxu, s.l⟩) := rfl
theorem p71 : app A i w hw d (k1_part71 (F := F)) s.mxu s.l = (run A c71 s >>= fun s => pure s.mxu) := rfl
theorem p72 : app A i w hw d (k1_part72 (F := F)) s.mxu = (run A c72 s >>= fun s => pure s.mxu) := rfl
theorem p73 : app A i w hw d (k1_part73 (F := F)) s.mxu = (run A c73 s >>= fun s => pure s.mxu) := rfl
theorem p74 : app A i w hw d (k1_part74 (F := F)) s.mxu = (run A c74 s >>= fun s => pure ⟨s.mxu, s.t⟩) := rfl
theorem p75 : app A i w hw d (k1_part75 (F := F)) s.mxu s.t = (run A c75 s >>= fun s => pure s.mxu) := rfl
theorem p76 : app A i w hw d (k1_part76 (F := F)) s.mxu = (run A c76 s >>= fun s => pure s.mxu) := rfl
theorem p77 : app A i w hw d (k1_part77 (F := F)) s.mxu = (run A c77 s >>= fun s => pure s.mxu) := rfl
theorem p78 : app A i w hw d (k1_part78 (F := F)) s.mxu = (run A c78 s >>= fun s => pure s.mxu) := rfl
theorem p79 : app A i w hw d (k1_part79 (F := F)) s.mxu = (run A c79 s >>= fun s => pure s.mxu) := rfl
theorem p80 : app A i w hw d (k1_part80 (F := F)) s.mxu = (run A c80 s >>= fun s => pure ⟨s.mxu, s.l⟩) := rfl
theorem p81 : app A i w hw d (k1_part81 (F := F)) s.mxu s.l = (run A c81 s >>= fun s => pure ⟨s.mxu, s.l⟩) := rfl
theorem p82 : app A i w hw d (k1_part82 (F := F)) s.mxu s.l = (run A c82 s >>= fun s => pure s.mxu) := rfl
theorem p83 : app A i w hw d (k1_part83 (F := F)) s.mxu = (run A c83 s >>= fun s => pure s.mxu) := rfl
theorem p84 : app A i w hw d (k1_part84 (F := F)) s.mxu = (run A c84 s >>= fun s => pure s.mxu) := rfl
theorem p85 : app A i w hw d (k1_part85 (F := F)) s.mxu = (run A c85 s >>= fun s => pure ⟨s.mxu, s.t⟩) := rfl
theorem p86 : app A i w hw d (k1_part86 (F := F)) s.mxu s.t = (run A c86 s >>= fun s => pure s.mxu) := rfl
theorem p87 : app A i w hw d (k1_part87 (F := F)) s.mxu = (run A c87 s >>= fun s => pure s.mxu) := rfl
theorem p88 : app A i w hw d (k1_part88 (F := F)) s.mxu = (run A c88 s >>= fun s => pure s.mxu) := rfl
theorem p89 : app A i w hw d (k1_part89 (F := F)) s.mxu = (run A c89 s >>= fun s => pure s.mxu) := rfl
theorem p90 : app A i w hw d (k1_part90 (F := F)) s.mxu = (run A c90 s >>= fun s => pure ⟨s.mxu, s.f⟩) := rfl
theorem p91 : app A i w hw d (k1_part91 (F := F)) s.mxu s.f = (run A c91 s >>= fun s => pure s.mxu) := rfl
theorem p92 : app A i w hw d (k1_part92 (F := F)) s.mxu = (run A c92 s >>= fun s => pure s.mxu) := rfl
theorem p93 : app A i w hw d (k1_part93 (F := F)) s.mxu = (run A c93 s >>= fun s => pure ⟨s.mxu, s.s⟩) := rfl
theorem p94 : app A i w hw d (k1_part94 (F := F)) s.mxu s.s = (run A c94 s >>= fun s => pure s.mxu) := rfl
theorem p95 : app A i w hw d (k1_part95 (F := F)) s.mxu = (run A c95 s >>= fun s => pure ⟨s.mxu, s.t⟩) := rfl
theorem p96 : app A i w hw d (k1_part96 (F := F)) s.mxu s.t = (run A c96 s >>= fun s => pure s.mxu) := rfl
theorem p97 : app A i w hw d (k1_part97 (F := F)) s.mxu = (run A c97 s >>= fun s => pure s.mxu) := rfl
theorem p98 : app A i w hw d (k1_part98 (F := F)) s.mxu = (run A c98 s >>= fun s => pure s.mxu) := rfl
theorem p99 : app A i w hw d (k1_part99 (F := F)) s.mxu = (run A c99 s >>= fun s => pure ⟨s.mxu, s.l⟩) := rfl
theorem p100 : app A i w hw d (k1_part100 (F := F)) s.mxu s.l = (run A c100 s >>= fun s => pure ⟨s.mxu, s.l⟩) := rfl
theorem p101 : app A i w hw d (k1_part101 (F := F)) s.mxu s.l = (run A c101 s >>= fun s => pure s.mxu) := rfl
theorem p102 : app A i w hw d (k1_part102 (F := F)) s.mxu = (run A c102 s >>= fun s => pure s.mxu) := rfl
theorem p103 : app A i w hw d (k1_part103 (F := F)) s.mxu = (run A c103 s >>= fun s => pure ⟨s.mxu, s.l⟩) := rfl
theorem p104 : app A i w hw d (k1_part104 (F := F)) s.mxu s.l = (run A c104 s >>= fun s => pure s.mxu) := rfl
theorem p105 : app A i w hw d (k1_part105 (F := F)) s.mxu = (run A c105 s >>= fun s => pure ⟨s.mxu, s.l⟩) := rfl
theorem p106 : app A i w hw d (k1_part106 (F := F)) s.mxu s.l = (run A c106 s >>= fun s => pure s.mxu) := rfl
theorem p107 : app A i w hw d (k1_part107 (F := F)) s.mxu = (run A c107 s >>= fun s => pure ⟨s.mxu, s.l⟩) := rfl
theorem p108 : app A i w hw d (k1_part108 (F := F)) s.mxu s.l = (run A c108 s >>= fun s => pure s.mxu) := rfl
theorem p109 : app A i w hw d (k1_part109 (F := F)) s.mxu = (run A c109 s >>= fun s => pure ⟨s.mxu, s.l⟩) := rfl
theorem p110 : app A i w hw d (k1_part110 (F := F)) s.mxu s.l = (run A c110 s >>= fun s => pure s.mxu) := rfl
theorem p111 : app A i w hw d (k1_part111 (F := F)) s.mxu = (run A c111 s >>= fun s => pure ⟨s.mxu, s.l⟩) := rfl
theorem p112 : app A i w hw d (k1_part112 (F := F)) s.mxu s.l = (run A c112 s >>= fun s => pure s.mxu) := rfl
theorem p113 : app A i w hw d (k1_part113 (F := F)) s.mxu = (run A c113 s >>= fun s => pure ⟨s.mxu, s.l⟩) := rfl
theorem p114 : app A i w hw d (k1_part114 (F := F)) s.mxu s.l = (run A c114 s >>= fun s => pure s.mxu) := rfl
theorem p115 : app A i w hw d (k1_part115 (F := F)) s.mxu = (run A c115 s >>= fun s => pure ⟨s.mxu, s.l⟩) := rfl
theorem p116 : app A i w hw d (k1_part116 (F := F)) s.mxu s.l = (run A c116 s >>= fun s => pure s.mxu) := rfl
theorem p117 : app A i w hw d (k1_part117 (F := F)) s.mxu = (run A c117 s >>= fun s => pure ⟨s.mxu, s.l⟩) := rfl
theorem p118 : app A i w hw d (k1_part118 (F := F)) s.mxu s.l = (run A c118 s >>= fun s => pure s.mxu) := rfl
theorem p119 : app A i w hw d (k1_part119 (F := F)) s.mxu = (run A c119 s >>= fun s => pure s.mxu) := rfl
theorem p120 : app A i w hw d (k1_part120 (F := F)) s.mxu = (run A c120 s >>= fun s => pure ⟨s.mxu, s.l⟩) := rfl
theorem p121 : app A i w hw d (k1_part121 (F := F)) s.mxu s.l = (run A c121 s >>= fun s => pure s.mxu) := rfl
theorem p122 : app A i w hw d (k1_part122 (F := F)) s.mxu = (run A c122 s >>= fun s => pure s.mxu) := rfl
theorem p123 : app A i w hw d (k1_part123 (F := F)) s.mxu = (run A c123 s >>= fun s => pure s.mxu) := rfl
theorem p124 : app A i w hw d (k1_part124 (F := F)) s.mxu = (run A c124 s >>= fun s => pure ⟨s.mxu, s.l⟩) := rfl
theorem p125 : app A i w hw d (k1_part125 (F := F)) s.mxu s.l = (run A c125 s >>= fun s => pure s.mxu) := rfl
theorem p126 : app A i w hw d (k1_part126 (F := F)) s.mxu = (run A c126 s >>= fun s => pure s.mxu) := rfl
theorem p127 : app A i w hw d (k1_part127 (F := F)) s.mxu = (run A c127 s >>= fun s => pure s.mxu) := rfl
theorem p128 : app A i w hw d (k1_part128 (F := F)) s.mxu = (run A c128 s >>= fun s => pure ⟨s.mxu, s.l⟩) := rfl
theorem p129 : app A i w hw d (k1_part129 (F := F)) s.mxu s.l = (run A c129 s >>= fun s => pure s.mxu) := rfl
theorem p130 : app A i w hw d (k1_part130 (F := F)) s.mxu = (run A c130 s >>= fun s => pure s.mxu) := rfl
theorem p131 : app A i w hw d (k1_part131 (F := F)) s.mxu = (run A c131 s >>= fun s => pure s.mxu) := rfl
theorem p132 : app A i w hw d (k1_part132 (F := F)) s.mxu = (run A c132 s >>= fun s => pure ⟨s.mxu, s.l⟩) := rfl
theorem p133 : app A i w hw d (k1_part133 (F := F)) s.mxu s.l = (run A c133 s >>= fun s => pure s.mxu) := rfl
theorem p134 : app A i w hw d (k1_part134 (F := F)) s.mxu = (run A c134 s >>= fun s => pure s.mxu) := rfl
theorem p135 : app A i w hw d (k1_part135 (F := F)) s.mxu = (run A c135 s >>= fun s => pure s.mxu) := rfl
theorem p136 : app A i w hw d (k1_part136 (F := F)) s.mxu = (run A c136 s >>= fun s => pure ⟨s.mxu, s.l⟩) := rfl
theorem p137 : app A i w hw d (k1_part137 (F := F)) s.mxu s.l = (run A c137 s >>= fun s => pure s.mxu) := rfl
theorem p138 : app A i w hw d (k1_part138 (F := F)) s.mxu = (run A c138 s >>= fun s => pure s.mxu) := rfl
theorem p139 : app A i w hw d (k1_part139 (F := F)) s.mxu = (run A c139 s >>= fun s => pure s.mxu) := rfl
theorem p140 : app A i w hw d (k1_part140 (F := F)) s.mxu = (run A c140 s >>= fun s => pure ⟨s.mxu, s.l⟩) := rfl
theorem p141 : app A i w hw d (k1_part141 (F := F)) s.mxu s.l = (run A c141 s >>= fun s => pure s.mxu) := rfl
theorem p142 : app A i w hw d (k1_part142 (F := F)) s.mxu = (run A c142 s >>= fun s => pure ⟨s.mxu, s.o⟩) := rfl
theorem p143 : app A i w hw d (k1_part143 (F := F)) s.mxu s.o = (run A c143 s >>= fun s => pure ⟨s.o, s.p, s.mxu, s.c⟩) := rfl
theorem p144 : app A i w hw d (k1_part144 (F := F)) s.o s.p s.mxu s.c = (run A c144 s >>= fun s => pure ⟨s.mxu, s.p⟩) := rfl
theorem p145 : app A i w hw d (k1_part145 (F := F)) s.mxu s.p = (run A c145 s >>= fun s => pure s.mxu) := rfl
theorem p146 : app A i w hw d (k1_part146 (F := F)) s.mxu = (run A c146 s >>= fun s => pure ⟨s.o, s.p, s.mxu⟩) := rfl
theorem p147 : app A i w hw d (k1_part147 (F := F)) s.o s.p s.mxu = (run A c147 s >>= fun s => pure ⟨s.mxu, s.p⟩) := rfl
theorem p148 : app A i w hw d (k1_part148 (F := F)) s.mxu s.p = (run A c148 s >>= fun s => pure s.mxu) := rfl
theorem p150 : app A i w hw d (k1_part150 (F := F)) s.mxu = (run A [c61, c62, c63, c64, c65, c66, c67, c68, c69, c70, c71, c72, c73, c74, c75, c76, c77, c78, c79, c80, c81, c82, c83, c84, c85, c86, c87, c88, c89, c90, c91, c92, c93, c94, c95, c96, c97, c98, c99, c100, c101, c102, c103, c104, c105, c106, c107, c108, c109, c110, c111, c112, c113, c114, c115, c116, c117, c118, c119, c120].flatten s >>= fun s => pure ⟨s.mxu, s.l⟩) :=
  chain A (p61 A i w hw d s) fun s =>
  chain A (p62 A i w hw d s) fun s =>
  chain A (p63 A i w hw d s) fun s =>
  chain A (p64 A i w hw d s) fun s =>
  chain A (p65 A i w hw d s) fun s =>
  chain A (p66 A i w hw d s) fun s =>
  chain A (p67 A i w hw d s) fun s =>
  chain A (p68 A i w hw d s) fun s =>
  chain A (p69 A i w hw d s) fun s =>
  chain A (p70 A i w hw d s) fun s =>
  chain A (p71 A i w hw d s) fun s =>
  chain A (p72 A i w hw d s) fun s =>
  chain A (p73 A i w hw d s) fun s =>
  chain A (p74 A i w hw d s) fun s =>
  chain A (p75 A i w hw d s) fun s =>
  chain A (p76 A i w hw d s) fun s =>
  chain A (p77 A i w hw d s) fun s =>
  chain A (p78 A i w hw d s) fun s =>
  chain A (p79 A i w hw d s) fun s =>
  chain A (p80 A i w hw d s) fun s =>
  chain A (p81 A i w hw d s) fun s =>
  chain A (p82 A i w hw d s) fun s =>
  chain A (p83 A i w hw d s) fun s =>
  chain A (p84 A i w hw d s) fun s =>
  chain A (p85 A i w hw d s) fun s =>
  chain A (p86 A i w hw d s) fun s =>
  chain A (p87 A i w hw d s) fun s =>
  chain A (p88 A i w hw d s) fun s =>
  chain A (p89 A i w hw d s) fun s =>
  chain A (p90 A i w hw d s) fun s =>
  chain A (p91 A i w hw d s) fun s =>
  chain A (p92 A i w hw d s) fun s =>
  chain A (p93 A i w hw d s) fun s =>
  chain A (p94 A i w hw d s) fun s =>
  chain A (p95 A i w hw d s) fun s =>
  chain A (p96 A i w hw d s) fun s =>
  chain A (p97 A i w hw d s) fun s =>
  chain A (p98 A i w hw d s) fun s =>
  chain A (p99 A i w hw d s) fun s =>
  chain A (p100 A i w hw d s) fun s =>
  chain A (p101 A i w hw d s) fun s =>
  chain A (p102 A i w hw d s) fun s =>
  chain A (p103 A i w hw d s) fun s =>
  chain A (p104 A i w hw d s) fun s =>
  chain A (p105 A i w hw d s) fun s =>
  chain A (p106 A i w hw d s) fun s =>
  chain A (p107 A i w hw d s) fun s =>
  chain A (p108 A i w hw d s) fun s =>
  chain A (p109 A i w hw d s) fun s =>
  chain A (p110 A i w hw d s) fun s =>
  chain A (p111 A i w hw d s) fun s =>
  chain A (p112 A i w hw d s) fun s =>
  chain A (p113 A i w hw d s) fun s =>
  chain A (p114 A i w hw d s) fun s =>
  chain A (p115 A i w hw d s) fun s =>
  chain A (p116 A i w hw d s) fun s =>
  chain A (p117 A i w hw d s) fun s =>
  chain A (p118 A i w hw d s) fun s =>
  chain A (p119 A i w hw d s) fun s =>
  chain A (p120 A i w hw d s) fun s =>
  rfl

theorem p151 : app A i w hw d (k1_part151 (F := F)) s.mxu s.l = (run A [c121, c122, c123, c124, c125, c126, c127, c128, c129, c130, c131, c132, c133, c134, c135, c136, c137, c138, c139, c140, c141, c142, c143, c144, c145, c146, c147, c148, c149].flatten s >>= fun s => pure ⟨s.p, s.mxu, s.c⟩) :=
  chain A (p121 A i w hw d s) fun s =>
  chain A (p122 A i w hw d s) fun s =>
  chain A (p123 A i w hw d s) fun s =>
  chain A (p124 A i w hw d s) fun s =>
  chain A (p125 A i w hw d s) fun s =>
  chain A (p126 A i w hw d s) fun s =>
  chain A (p127 A i w hw d s) fun s =>
  chain A (p128 A i w hw d s) fun s =>
  chain A (p129 A i w hw d s) fun s =>
  chain A (p130 A i w hw d s) fun s =>
  chain A (p131 A i w hw d s) fun s =>
  chain A (p132 A i w hw d s) fun s =>
  chain A (p133 A i w hw d s) fun s =>
  chain A (p134 A i w hw d s) fun s =>
  chain A (p135 A i w hw d s) fun s =>
  chain A (p136 A i w hw d s) fun s =>
  chain A (p137 A i w hw d s) fun s =>
  chain A (p138 A i w hw d s) fun s =>
  chain A (p139 A i w hw d s) fun s =>
  chain A (p140 A i w hw d s) fun s =>
  chain A (p141 A i w hw d s) fun s =>
  chain A (p142 A i w hw d s) fun s =>
  chain A (p143 A i w hw d s) fun s =>
  chain A (p144 A i w hw d s) fun s =>
  chain A (p145 A i w hw d s) fun s =>
  chain A (p146 A i w hw d s) fun s =>
  chain A (p147 A i w hw d s) fun s =>
  chain A (p148 A i w hw d s) fun s =>
  rfl

end Cert.KernelIdeal

end
-- ==== Proof.Prologue.lean ====
/- What the body does at the first grid point before its steps: the dequantised weight is copied into scratch, the padded
   copy of `g` and the two running sums are zeroed. -/
module

public import proofs.«01_k».proof.Proof.Ops

@[expose] public section

noncomputable section

namespace Cert.Qlora

open Idealize.ShloMosaic Idealize.SL.Sem

variable {F : FTy → Type} [FloatOps F]
variable {nD : ℕ} {τ : Topo} {sig : RefSig} {Λ : Labels}
variable (A : Args sig)

abbrev SW : Shape := ⟨2, ![2560, 6912]⟩
abbrev rGpAll : Rect (sh .gp) := rect 0 0 512 256 (by decide) (by decide)
abbrev rDlbAll : Rect (sh .dlb) := rect 0 0 16 6912 (by decide) (by decide)
abbrev rDlaAll : Rect (sh .dla) := rect 0 0 16 2560 (by decide) (by decide)

theorem casts_gp : (⟨2, ![512, 256]⟩ : Shape).ShapeCasts ⟨2, ![512, 256]⟩ := by decide

/-- The first point's work. -/
def prologue (g : BitVec 1) (w : Memref sig .tc .hbm SW .bf16) (hw : w.IsWhole) (d : DmaSem sig) : P nD τ sig F Λ PUnit :=
  if g = 1#1 then do
    Prog.lift (.enqueueDma w (.here (A.m .w)) (.dma d) hw.wordExact (A.h .w).wordExact ⟨Or.inl rfl, trivial⟩)
    let _ ← ld (F := F) A .gp rGpAll (numel_pos (by decide) (by decide))
    st A .gp rGpAll (numel_pos (by decide) (by decide)) (packed _ _ (by decide) (by decide))
      (shapeCast ⟨2, ![512, 256]⟩ (broadcast ⟨2, ![512, 256]⟩ (Scalar.ofBits .bf16 0x0000#16)) casts_gp)
    let _ ← ld (F := F) A .dlb rDlbAll (numel_pos (by decide) (by decide))
    st32 A .dlb rDlbAll (numel_pos (by decide) (by decide)) rfl (broadcast ⟨2, ![16, 6912]⟩ (Scalar.ofBits .f32 0x00000000#32))
    let _ ← ld (F := F) A .dla rDlaAll (numel_pos (by decide) (by decide))
    st32 A .dla rDlaAll (numel_pos (by decide) (by decide)) rfl (broadcast ⟨2, ![16, 2560]⟩ (Scalar.ofBits .f32 0x00000000#32))
    Prog.lift (.waitDma2 d w (A.m .w) hw.wordExact (A.h .w).wordExact)
    pure ⟨⟩
  else pure ⟨⟩

end Cert.Qlora

end
-- ==== Proof.BodyIdealEq.lean ====
/- The printed body is the first point's work, its list of steps, and the return. -/
module

public import proofs.«01_k».proof.Proof.BodyIdeal
public import proofs.«01_k».proof.Proof.Prologue

@[expose] public section

set_option maxRecDepth 100000

open Idealize.ShloMosaic in
attribute [local irreducible] Mxu.accLhs Mxu.pushed Mxu.accBy Mxu.read Mxu.pop Mxu.PushOk shapeCast truncf mulf addf concatenate transpose extractStridedSlice broadcast

noncomputable section

namespace Cert.KernelIdeal

open Idealize.ShloMosaic Idealize.SL.Sem Cert.Qlora

variable {F : FTy → Type} [FloatOps F] [Facts]
variable (A : Args sig) (i : grid1.Coords) (w : Memref sig .tc .hbm S2560x6912 .bf16) (hw : w.IsWhole) (d : DmaSems sig S_)
variable (s : St F)

/-- Is this the first point? -/
abbrev isFirst (i : grid1.Coords) : BitVec 1 :=
  Scalar.cmpi .ne ((Scalar.extui (Scalar.cmpi .eq (BitVec.ofNat 32 (i 0).val) 0#32)) : BitVec 32) 0#32

theorem p1 : app A i w hw d (k1_part1 (F := F)) =
    (prologue A (isFirst i) w hw d.sem >>= fun _ => run A c1 St.init >>= fun s => pure ⟨s.mxu, s.l⟩) := by
  unfold prologue
  split
  case isTrue h =>
    exact (dif_pos h).trans rfl
  case isFalse h => exact (dif_neg h).trans rfl

theorem p149 : app A i w hw d (k1_part149 (F := F)) =
    (prologue A (isFirst i) w hw d.sem >>= fun _ => run A [c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60].flatten St.init >>= fun s => pure s.mxu) := by
  refine (congrArg (· >>= _) (p1 A i w hw d)).trans ?_
  refine (bind_assoc _ _ _).trans (congrArg _ (funext fun _ => ?_))
  exact chain A rfl fun s =>
  chain A (p2 A i w hw d s) fun s =>
  chain A (p3 A i w hw d s) fun s =>
  chain A (p4 A i w hw d s) fun s =>
  chain A (p5 A i w hw d s) fun s =>
  chain A (p6 A i w hw d s) fun s =>
  chain A (p7 A i w hw d s) fun s =>
  chain A (p8 A i w hw d s) fun s =>
  chain A (p9 A i w hw d s) fun s =>
  chain A (p10 A i w hw d s) fun s =>
  chain A (p11 A i w hw d s) fun s =>
  chain A (p12 A i w hw d s) fun s =>
  chain A (p13 A i w hw d s) fun s =>
  chain A (p14 A i w hw d s) fun s =>
  chain A (p15 A i w hw d s) fun s =>
  chain A (p16 A i w hw d s) fun s =>
  chain A (p17 A i w hw d s) fun s =>
  chain A (p18 A i w hw d s) fun s =>
  chain A (p19 A i w hw d s) fun s =>
  chain A (p20 A i w hw d s) fun s =>
  chain A (p21 A i w hw d s) fun s =>
  chain A (p22 A i w hw d s) fun s =>
  chain A (p23 A i w hw d s) fun s =>
  chain A (p24 A i w hw d s) fun s =>
  chain A (p25 A i w hw d s) fun s =>
  chain A (p26 A i w hw d s) fun s =>
  chain A (p27 A i w hw d s) fun s =>
  chain A (p28 A i w hw d s) fun s =>
  chain A (p29 A i w hw d s) fun s =>
  chain A (p30 A i w hw d s) fun s =>
  chain A (p31 A i w hw d s) fun s =>
  chain A (p32 A i w hw d s) fun s =>
  chain A (p33 A i w hw d s) fun s =>
  chain A (p34 A i w hw d s) fun s =>
  chain A (p35 A i w hw d s) fun s =>
  chain A (p36 A i w hw d s) fun s =>
  chain A (p37 A i w hw d s) fun s =>
  chain A (p38 A i w hw d s) fun s =>
  chain A (p39 A i w hw d s) fun s =>
  chain A (p40 A i w hw d s) fun s =>
  chain A (p41 A i w hw d s) fun s =>
  chain A (p42 A i w hw d s) fun s =>
  chain A (p43 A i w hw d s) fun s =>
  chain A (p44 A i w hw d s) fun s =>
  chain A (p45 A i w hw d s) fun s =>
  chain A (p46 A i w hw d s) fun s =>
  chain A (p47 A i w hw d s) fun s =>
  chain A (p48 A i w hw d s) fun s =>
  chain A (p49 A i w hw d s) fun s =>
  chain A (p50 A i w hw d s) fun s =>
  chain A (p51 A i w hw d s) fun s =>
  chain A (p52 A i w hw d s) fun s =>
  chain A (p53 A i w hw d s) fun s =>
  chain A (p54 A i w hw d s) fun s =>
  chain A (p55 A i w hw d s) fun s =>
  chain A (p56 A i w hw d s) fun s =>
  chain A (p57 A i w hw d s) fun s =>
  chain A (p58 A i w hw d s) fun s =>
  chain A (p59 A i w hw d s) fun s =>
  (p60 A i w hw d s).trans (by simp only [List.flatten_cons, List.flatten_nil, List.append_nil])

theorem body_eq : app A i w hw d (cc1_qlora_backward (F := F)) =
    (prologue A (isFirst i) w hw d.sem >>= fun _ => run A code St.init >>= fun s => s.mxu.exit >>= fun _ => pure ⟨⟩) := by
  have h : code = [c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60].flatten ++
      ([c61, c62, c63, c64, c65, c66, c67, c68, c69, c70, c71, c72, c73, c74, c75, c76, c77, c78, c79, c80, c81, c82, c83, c84, c85, c86, c87, c88, c89, c90, c91, c92, c93, c94, c95, c96, c97, c98, c99, c100, c101, c102, c103, c104, c105, c106, c107, c108, c109, c110, c111, c112, c113, c114, c115, c116, c117, c118, c119, c120].flatten ++
      ([c121, c122, c123, c124, c125, c126, c127, c128, c129, c130, c131, c132, c133, c134, c135, c136, c137, c138, c139, c140, c141, c142, c143, c144, c145, c146, c147, c148, c149].flatten ++ c150)) := by
    simp only [code, List.flatten_cons, List.flatten_nil, List.append_assoc, List.append_nil]
  rw [h]
  refine (congrArg (· >>= _) (p149 A i w hw d)).trans ?_
  refine (bind_assoc _ _ _).trans (congrArg _ (funext fun _ => ?_))
  rw [run_append]
  refine (bind_assoc _ _ _).trans ((congrArg _ (funext fun s => ?_)).trans (bind_assoc _ _ _).symm)
  refine (pure_bind _ _).trans ?_
  refine (congrArg (· >>= _) (p150 A i w hw d s)).trans ?_
  rw [run_append]
  refine (bind_assoc _ _ _).trans ((congrArg _ (funext fun s => ?_)).trans (bind_assoc _ _ _).symm)
  refine (pure_bind _ _).trans ?_
  refine (congrArg (· >>= _) (p151 A i w hw d s)).trans ?_
  rw [run_append]
  refine (bind_assoc _ _ _).trans ((congrArg _ (funext fun s => ?_)).trans (bind_assoc _ _ _).symm)
  refine (pure_bind _ _).trans ?_
  rfl

end Cert.KernelIdeal

end
-- ==== Proof.Chk.lean ====
/- A symbolic run of the steps: which tile each register holds, which products each accumulator has summed, which tiles
   have been stored. `chk` refuses a step whose assumptions fail or that stores anything but the sum expected there. -/
module

public import proofs.«01_k».proof.Proof.Ops

@[expose] public section

namespace Cert.Qlora

open Idealize.ShloMosaic

/-! ## Association lists -/

section Assoc

variable {K V : Type} [DecidableEq K]

def find (k : K) : List (K × V) → Option V
  | [] => none
  | (k', v) :: l => if k = k' then some v else find k l

def del (k : K) : List (K × V) → List (K × V)
  | [] => []
  | (k', v) :: l => if k = k' then del k l else (k', v) :: del k l

def put (k : K) (v : V) (l : List (K × V)) : List (K × V) := (k, v) :: del k l

theorem find_del (k k' : K) (l : List (K × V)) : find k' (del k l) = if k' = k then none else find k' l := by
  induction l with
  | nil => simp [del, find]
  | cons p l ih =>
    obtain ⟨a, v⟩ := p
    by_cases h : k = a
    · subst h
      by_cases h' : k' = k
      · subst h'; simpa [del] using ih
      · simpa [del, find, h'] using ih
    · by_cases h' : k' = a
      · subst h'; simp [del, find, h, Ne.symm h]
      · simp [del, find, h, h', ih]

theorem find_put (k k' : K) (v : V) (l : List (K × V)) : find k' (put k v l) = if k' = k then some v else find k' l := by
  by_cases h : k' = k
  · subst h; simp [put, find]
  · simp [put, find, h, find_del]

end Assoc

/-! ## What is expected of each accumulator -/

/-- The products summed into a 128 × 256 accumulator, the last first: a strip times a tile, the tile transposed or not. -/
abbrev LogL := List (Tile × Bool × Strip)
/-- The products summed into a 16 × 256 accumulator, the last first. -/
abbrev LogS := List (Tile × Bool × Thin)

/-- The 27 column tiles of the output features, the last first. -/
def down27 : List (Fin 27) :=
  [26, 25, 24, 23, 22, 21, 20, 19, 18, 17, 16, 15, 14, 13, 12, 11, 10, 9, 8, 7, 6, 5, 4, 3, 2, 1, 0]

/-- The 10 column tiles of the input features, the last first. -/
def down10 : List (Fin 10) := [9, 8, 7, 6, 5, 4, 3, 2, 1, 0]

/-- `dx` at chunk `c`, column tile `n`: `dy` by `W` over the output features, then `g` by `A`. -/
def dxLog (c : Fin 4) (n : Fin 10) : LogL := (.ap n, true, .gp c) :: down27.map fun j => (.w n j, true, .dy c j)

/-- `g` transposed, token half `h`: `B` by `dy` over the output features. -/
def gtLog (h : Fin 2) : LogS := down27.map fun j => (.dy h j, true, .b j)

/-- `xa` transposed, token half `h`: `A` transposed by `x` over the input features. -/
def xtLog (h : Fin 2) : LogS := down10.map fun i => (.x h i, true, .at i)

/-- A tile of an adapter gradient: over the two token halves. -/
def accLog : Acc → LogS
  | .dla i => [(.x 1 i, false, .gt 1), (.x 0 i, false, .gt 0)]
  | .dlb j => [(.dy 1 j, false, .xt 1), (.dy 0 j, false, .xt 0)]

/-! ## The symbolic state -/

/-- The tiles the body stores. -/
inductive Wr
  | dx (c : Fin 4) (n : Fin 10)
  | gt (h : Fin 2)
  | xt (h : Fin 2)
  | gp (h : Fin 2)
  | g (h : Fin 2)
  | xa (h : Fin 2)
  | o (x : Acc)
  deriving DecidableEq

/-- A 128 × 256 value: a tile of a buffer, or an accumulator rounded. -/
inductive VL | tile (x : Strip) | rnd (l : LogL)
  deriving DecidableEq

/-- A 16 × 256 value. -/
inductive VS | tile (x : Thin) | rnd (l : LogS)
  deriving DecidableEq

/-- A 128 × 256 sum: an accumulator, or a 16 × 256 one padded with zero rows. -/
inductive VF | sum (l : LogL) | pad (l : LogS)
  deriving DecidableEq

/-- A 16 × 256 sum: an accumulator, one scaled, one added to the running sum. -/
inductive VP | sum (l : LogS) | scaled (l : LogS) | added (x : Acc) (l : LogS)
  deriving DecidableEq

/-- The symbolic matrix unit. -/
structure AM where
  reg : List ((Fin 2 × Fin 2) × (Tile × Bool)) := []
  gmr : List (Fin 2 × (Tile × Bool)) := []
  accL : List ((Fin 2 × Fin 4) × LogL) := []
  accS : List ((Fin 2 × Fin 64) × LogS) := []

/-- The symbolic registers. -/
structure AV where
  t : Option Tile := none
  l : Option VL := none
  s : Option VS := none
  f : Option VF := none
  p : Option VP := none
  o : Option Acc := none
  c : Bool := false
  y : Option LogS := none
  u : Option LogS := none
  e : Option LogS := none

structure AS where
  m : AM := {}
  v : AV := {}
  done : List Wr := []

/-- Is tile `w` among those stored? -/
def isIn (w : Wr) : List Wr → Bool
  | [] => false
  | v :: l => if w = v then true else isIn w l

/-- May this strip be loaded yet? A strip of the padded `g` may once the half it lies in is stored. -/
def strip_ok (done : List Wr) : Strip → Bool
  | .dy .. => true
  | .gp ⟨0, _⟩ => isIn (.gp 0) done
  | .gp ⟨1, _⟩ => isIn (.gp 0) done
  | .gp ⟨2, _⟩ => isIn (.gp 1) done
  | .gp ⟨_ + 3, _⟩ => isIn (.gp 1) done
  | .dx .. => false

def thin_ok (done : List Wr) : Thin → Bool
  | .at .. => true
  | .b .. => true
  | .gt h => isIn (.gt h) done
  | .xt h => isIn (.xt h) done

/-! ## A step, symbolically -/

/-- The matrix unit's part of a step. -/
def AM.deposL (a : AM) (q : Fin 2) (c : Fin 4) (d : Tile × Bool) (x : Strip) : AM :=
  { a with accL := put (q, c) ((d.1, d.2, x) :: (find (q, c) a.accL).getD []) a.accL }

def AM.deposS (a : AM) (q : Fin 2) (k : Fin 64) (d : Tile × Bool) (x : Thin) : AM :=
  { a with accS := put (q, k) ((d.1, d.2, x) :: (find (q, k) a.accS).getD []) a.accS }

def AM.load (a : AM) (q r : Fin 2) (d : Tile × Bool) : AM :=
  { a with reg := del (q, r) a.reg, gmr := put q d a.gmr }

def AS.setV (a : AS) (v : AV) : AS := { a with v := v }
def AS.setM (a : AS) (m : AM) : AS := { a with m := m }
def AS.stored (a : AS) (w : Wr) : AS := { a with done := w :: a.done }

/-- A step: the state after it, or `none` when it is refused. -/
def chk (a : AS) : Op → Option AS
  | .ldT x => some (a.setV { a.v with t := some x })
  | .castT => some a
  | .push q r tr =>
    match a.v.t, find (q, r) a.m.reg with
    | some x, none => some (a.setM { a.m with reg := put (q, r) (x, tr) a.m.reg })
    | _, _ => none
  | .ldL x => if strip_ok a.done x then some (a.setV { a.v with l := some (.tile x) }) else none
  | .castL => some a
  | .accL q r c =>
    match a.v.l, find (q, r) a.m.reg with
    | some (.tile x), some d => some (a.setM ((a.m.load q r d).deposL q c d x))
    | _, _ => none
  | .accLd q c =>
    match a.v.l, find q a.m.gmr with
    | some (.tile x), some d => some (a.setM (a.m.deposL q c d x))
    | _, _ => none
  | .ldS x => if thin_ok a.done x then some (a.setV { a.v with s := some (.tile x) }) else none
  | .castS => some a
  | .accS q r k =>
    match a.v.s, find (q, r) a.m.reg with
    | some (.tile x), some d => if 32 ≤ k.val then some (a.setM ((a.m.load q r d).deposS q k d x)) else none
    | _, _ => none
  | .rdL q c => match find (q, c) a.m.accL with
    | some l => some (a.setV { a.v with f := some (.sum l) })
    | none => none
  | .popL q c => some (a.setM { a.m with accL := del (q, c) a.m.accL })
  | .truncL => match a.v.f with
    | some (.sum l) => some (a.setV { a.v with l := some (.rnd l) })
    | _ => none
  | .deadL _ => some a
  | .stDx c n => match a.v.l with
    | some (.rnd l) => if l = dxLog c n then some (a.stored (.dx c n)) else none
    | _ => none
  | .rdS q k => match find (q, k) a.m.accS with
    | some l => if 32 ≤ k.val then some (a.setV { a.v with p := some (.sum l) }) else none
    | none => none
  | .popS q k => if 32 ≤ k.val then some (a.setM { a.m with accS := del (q, k) a.m.accS }) else none
  | .truncS => match a.v.p with
    | some (.sum l) => some (a.setV { a.v with s := some (.rnd l) })
    | _ => none
  | .deadS _ => some a
  | .stGt h => match a.v.s with
    | some (.rnd l) => if l = gtLog h then some (a.stored (.gt h)) else none
    | _ => none
  | .stXt h => match a.v.s with
    | some (.rnd l) => if l = xtLog h then some (a.stored (.xt h)) else none
    | _ => none
  | .pad => match a.v.p with
    | some (.sum l) => some (a.setV { a.v with f := some (.pad l) })
    | _ => none
  | .tr => match a.v.f with
    | some (.pad l) => some (a.setV { a.v with y := some l })
    | _ => none
  | .truncU => some (a.setV { a.v with u := a.v.y })
  | .deadU _ => some a
  | .stGp h => match a.v.u with
    | some l => if l = gtLog h then some (a.stored (.gp h)) else none
    | _ => none
  | .ext => some (a.setV { a.v with e := a.v.u })
  | .deadG _ => some a
  | .stG h => match a.v.e with
    | some l => if l = gtLog h then some (a.stored (.g h)) else none
    | _ => none
  | .deadXa _ => some a
  | .stXa h => match a.v.e with
    | some l => if l = xtLog h then some (a.stored (.xa h)) else none
    | _ => none
  | .ldO x => if isIn (.o x) a.done then none else some (a.setV { a.v with o := some x })
  | .castO => some a
  | .one => some (a.setV { a.v with c := true })
  | .mul => match a.v.c, a.v.p with
    | true, some (.sum l) => some (a.setV { a.v with p := some (.scaled l) })
    | _, _ => none
  | .add => match a.v.o, a.v.p with
    | some x, some (.scaled l) => some (a.setV { a.v with p := some (.added x l) })
    | _, _ => none
  | .deadO _ => some a
  | .stO x => match a.v.p with
    | some (.added x' l) => if x = x' then if l = accLog x then some (a.stored (.o x)) else none else none
    | _ => none

/-- A list of steps. -/
def chkAll : AS → List Op → Option AS
  | a, [] => some a
  | a, o :: l => match chk a o with
    | some a' => chkAll a' l
    | none => none

def all4 : List (Fin 4) := [0, 1, 2, 3]
def all2 : List (Fin 2) := [0, 1]

/-- Every tile the body owes. -/
def allWr : List Wr :=
  (all4.flatMap fun c => down10.map fun n => Wr.dx c n) ++ all2.map Wr.gt ++ all2.map Wr.xt ++ all2.map Wr.gp ++ all2.map Wr.g
    ++ all2.map Wr.xa ++ down10.map (fun i => Wr.o (.dla i)) ++ down27.map (fun j => Wr.o (.dlb j))

/-- The state a body must end in: the matrix unit drained, every tile stored. -/
def AS.fin (a : AS) : Bool :=
  a.m.reg.isEmpty && a.m.accL.isEmpty && a.m.accS.isEmpty && allWr.all fun w => isIn w a.done

/-- The whole check. -/
def chkFin (l : List Op) : Bool := match chkAll {} l with
  | some a => a.fin
  | none => false

end Cert.Qlora

end
-- ==== Proof.Mem.lean ====
/- The buffers' contents while the body runs: the tiles already stored hold their final values, the rest what they held
   at the start. -/
module

public import proofs.«01_k».proof.Proof.Chk
public import Idealize.ShloMosaic.Lib.Pipeline.Value

@[expose] public section

noncomputable section

namespace Cert.Qlora

open Idealize.ShloMosaic

variable {F : FTy → Type} [FloatOps F]

/-- The buffers' contents. -/
abbrev Mem (F : FTy → Type) : Type := (b : B) → (sh b).Idx → Elt F (el b)

/-- A rectangle of an array. -/
abbrev get {s : Shape} {α : Type} (f : s.Idx → α) (r : Rect s) : r.shape.Idx → α := fun i => f (r.emb i)

/-- The buffer and the rectangle of a stored tile. -/
@[reducible] def Wr.buf : Wr → B
  | .dx .. => .dx
  | .gt .. => .gt
  | .xt .. => .xt
  | .gp .. => .gp
  | .g .. => .g
  | .xa .. => .xa
  | .o (.dla _) => .dla
  | .o (.dlb _) => .dlb

@[reducible] def Wr.rect : (w : Wr) → Rect (sh w.buf)
  | .dx c n => rDx c n
  | .gt h => rGt h
  | .xt h => rXt h
  | .gp h => rGp h
  | .g h => rG h
  | .xa h => rXa h
  | .o (.dla i) => rDla i
  | .o (.dlb j) => rDlb j

/-- Is element `y` of buffer `b` in tile `w`? -/
def Covers (w : Wr) (b : B) (y : (sh b).Idx) : Prop := ∃ h : w.buf = b, y ∈ (h ▸ w.rect).set

theorem covers_self (w : Wr) (y : (sh w.buf).Idx) : Covers w w.buf y ↔ y ∈ w.rect.set :=
  ⟨fun ⟨_, h⟩ => h, fun h => ⟨rfl, h⟩⟩

/-- The contents once the tiles of a list are stored. -/
structure Mixed (E M₀ : Mem F) (done : List Wr) (M : Mem F) : Prop where
  new : ∀ b y, (∃ w, isIn w done = true ∧ Covers w b y) → M b y = E b y
  old : ∀ b y, (¬ ∃ w, isIn w done = true ∧ Covers w b y) → M b y = M₀ b y

theorem isIn_cons (w v : Wr) (l : List Wr) : isIn w (v :: l) = true ↔ w = v ∨ isIn w l = true := by
  simp only [isIn]; by_cases h : w = v <;> simp [h]

/-- Storing a tile's final value. -/
theorem Mixed.store {E M₀ M : Mem F} {done : List Wr} (h : Mixed E M₀ done M) (w : Wr) (v : w.rect.shape.Idx → Elt F (el w.buf))
    (hv : v = get (E w.buf) w.rect) : Mixed E M₀ (w :: done) (Function.update M w.buf (w.rect.overlay (M w.buf) v)) := by
  have key : ∀ y, y ∈ w.rect.set → w.rect.overlay (M w.buf) v y = E w.buf y := fun y hy => by
    obtain ⟨i, rfl⟩ := w.rect.exists_idx_of_mem hy
    exact (Rect.overlay_emb _ _ _ i).trans (congrFun hv i)
  constructor
  · rintro b y ⟨w', hw', hc⟩
    by_cases hb : b = w.buf
    · subst hb
      rw [Function.update_self]
      by_cases hy : y ∈ w.rect.set
      · exact key y hy
      · rw [Rect.overlay_of_not_mem _ _ _ hy]
        rcases (isIn_cons _ _ _).1 hw' with e | e
        · subst e; exact absurd ((covers_self _ _).1 hc) hy
        · exact h.new _ y ⟨w', e, hc⟩
    · rw [Function.update_of_ne hb]
      rcases (isIn_cons _ _ _).1 hw' with e | e
      · subst e; obtain ⟨e, -⟩ := hc; exact absurd e.symm hb
      · exact h.new _ y ⟨w', e, hc⟩
  · intro b y hn
    have hn' : ¬ ∃ w', isIn w' done = true ∧ Covers w' b y := fun ⟨w', e, hc⟩ => hn ⟨w', (isIn_cons _ _ _).2 (.inr e), hc⟩
    by_cases hb : b = w.buf
    · subst hb
      rw [Function.update_self]
      have hy : y ∉ w.rect.set := fun hy => hn ⟨w, (isIn_cons _ _ _).2 (.inl rfl), (covers_self _ _).2 hy⟩
      rw [Rect.overlay_of_not_mem _ _ _ hy]
      exact h.old _ y hn'
    · rw [Function.update_of_ne hb]
      exact h.old _ y hn'

/-! ## The values -/

/-- A tile's value. -/
@[reducible] def tileV (E : Mem F) : Tile → FVec F T256 .bf16
  | .dy i j => get (E .dy) (rDy i j)
  | .x i j => get (E .x) (rX i j)
  | .w i j => get (E .w) (rW i j)
  | .ap i => get (E .ap) (rAp i)

@[reducible] def stripV (E : Mem F) : Strip → FVec F T128 .bf16
  | .dy c j => get (E .dy) (rDyL c j)
  | .gp c => get (E .gp) (rGpL c)
  | .dx c n => get (E .dx) (rDx c n)

@[reducible] def thinV (E : Mem F) : Thin → FVec F T16 .bf16
  | .at i => get (E .at) (rAt i)
  | .b j => get (E .b) (rB j)
  | .gt h => get (E .gt) (rGt h)
  | .xt h => get (E .xt) (rXt h)

@[reducible] def accV (E : Mem F) : Acc → FVec F T16 .f32
  | .dla i => get (E .dla) (rDla i)
  | .dlb j => get (E .dlb) (rDlb j)

/-- The staged tile of a symbolic one. -/
abbrev stg (E : Mem F) (d : Tile × Bool) : Mxu.Staged F := ⟨.bf16, d.2, tileV E d.1⟩

/-- The sum a 128 × 256 accumulator holds: the first product, then each further one added to it. -/
def sumL (E : Mem F) : LogL → FVec F T128 .f32
  | [] => fun _ => FloatOps.ofBits .f32 0
  | [(x, tr, y)] => (stg E (x, tr)).pass (stripV E y)
  | (x, tr, y) :: l => addf (sumL E l) ((stg E (x, tr)).pass (stripV E y))

/-- The sum a 16 × 256 accumulator holds. -/
def sumS (E : Mem F) : LogS → FVec F T16 .f32
  | [] => fun _ => FloatOps.ofBits .f32 0
  | [(x, tr, y)] => (stg E (x, tr)).pass (thinV E y)
  | (x, tr, y) :: l => addf (sumS E l) ((stg E (x, tr)).pass (thinV E y))

/-- A 16 × 256 sum padded to 128 rows. -/
def padV (v : FVec F T16 .f32) : FVec F T128 .f32 :=
  concatenate T128 0 [⟨T16, v⟩, ⟨T112, broadcast T112 (Scalar.ofBits .f32 0x00000000#32)⟩] concats

/-- It transposed. -/
def trV (v : FVec F T16 .f32) : FVec F U128 .f32 := transpose U128 [1, 0] (padV v) transp

/-- It rounded. -/
def rndV (v : FVec F T16 .f32) : FVec F U128 .bf16 := truncf .bf16 (trV v) ltBits

/-- Its first 16 columns. -/
def extV (v : FVec F T16 .f32) : FVec F U16 .bf16 := extractStridedSlice U16 ![0, 0] (rndV v) slices

/-- It scaled by one. -/
def oneV (v : FVec F T16 .f32) : FVec F T16 .f32 := mulf (broadcast T16 (Scalar.ofBits .f32 0x3F800000#32)) v

/-- The contents `E` the body leaves from the contents `M₀`: each stored tile is its sum, rounded; everything else is
    as it was. -/
structure Final (E M₀ : Mem F) : Prop where
  dx : ∀ c n, get (E .dx) (rDx c n) = truncf .bf16 (sumL E (dxLog c n)) ltBits
  gt : ∀ h, get (E .gt) (rGt h) = truncf .bf16 (sumS E (gtLog h)) ltBits
  xt : ∀ h, get (E .xt) (rXt h) = truncf .bf16 (sumS E (xtLog h)) ltBits
  gp : ∀ h, get (E .gp) (rGp h) = rndV (sumS E (gtLog h))
  g : ∀ h, get (E .g) (rG h) = extV (sumS E (gtLog h))
  xa : ∀ h, get (E .xa) (rXa h) = extV (sumS E (xtLog h))
  o : ∀ x, accV E x = addf (accV M₀ x) (oneV (sumS E (accLog x)))
  rest : ∀ b y, (¬ ∃ w, Covers w b y) → E b y = M₀ b y

end Cert.Qlora

end
-- ==== Proof.Unit.lean ====
/- What the matrix unit holds is what the symbolic run says it holds. -/
module

public import proofs.«01_k».proof.Proof.Mem
public import Idealize.ShloMosaic.Lib.Mxu.Lemmas

@[expose] public section

noncomputable section

namespace Cert.Qlora

open Idealize.ShloMosaic

variable {F : FTy → Type} [FloatOps F]

structure RM (E : Mem F) (a : AM) (m : Mxu F) : Prop where
  reg : ∀ q r, m.reg q r = (find (q, r) a.reg).map (stg E)
  gmr : ∀ q d, find q a.gmr = some d → m.gmr q = some (stg E d)
  liveL : ∀ q (c : Fin 4) (r : Fin 128), m.live q (Mxu.row (fitsL c) r) = (find (q, c) a.accL).isSome
  readL : ∀ q c l, find (q, c) a.accL = some l → l ≠ [] ∧ m.read q (32 * c) (fitsL c) = sumL E l
  liveS : ∀ q (k : Fin 64), 32 ≤ k.val → ∀ r : Fin 16, m.live q (Mxu.row (fitsS k) r) = (find (q, k) a.accS).isSome
  readS : ∀ q k l, 32 ≤ k.val → find (q, k) a.accS = some l → l ≠ [] ∧ m.read q (4 * k) (fitsS k) = sumS E l

variable {E : Mem F} {a : AM} {m : Mxu F}

theorem RM.init : RM E {} (Mxu.init : Mxu F) where
  reg _ _ := rfl
  gmr _ _ h := by cases h
  liveL _ _ _ := rfl
  readL _ _ _ h := by cases h
  liveS _ _ _ _ := rfl
  readS _ _ _ _ h := by cases h

theorem RM.push (h : RM E a m) {q r : Fin 2} (tr : Bool) {x : Tile} (hn : find (q, r) a.reg = none) :
    RM E { a with reg := put (q, r) (x, tr) a.reg } (m.pushed q r tr (tileV E x)) := by
  have hr : m.reg q r = none := by rw [h.reg, hn]; rfl
  constructor
  · intro q' r'
    dsimp only
    rw [find_put]
    by_cases e : q' = q ∧ r' = r
    · obtain ⟨rfl, rfl⟩ := e
      rw [Mxu.reg_pushed_of_none _ _ _ _ _ hr]; simp
    · rw [Mxu.reg_pushed_ne _ _ _ _ _ _ _ e, h.reg, if_neg (by simpa using e)]
  · intro q' d hd; rw [Mxu.gmr_pushed]; exact h.gmr q' d hd
  · intro q' c r'; rw [Mxu.live_pushed]; exact h.liveL q' c r'
  · intro q' c l hl; rw [Mxu.read_pushed]; exact h.readL q' c l hl
  · intro q' k hk r'; rw [Mxu.live_pushed]; exact h.liveS q' k hk r'
  · intro q' k l hk hl; rw [Mxu.read_pushed]; exact h.readS q' k l hk hl

theorem sumL_cons (d : Tile × Bool) (x : Strip) (l : LogL) (h : l ≠ []) :
    sumL E ((d.1, d.2, x) :: l) = addf (sumL E l) ((stg E d).pass (stripV E x)) := by
  cases l with
  | nil => exact absurd rfl h
  | cons e l => rfl

theorem sumS_cons (d : Tile × Bool) (x : Thin) (l : LogS) (h : l ≠ []) :
    sumS E ((d.1, d.2, x) :: l) = addf (sumS E l) ((stg E d).pass (thinV E x)) := by
  cases l with
  | nil => exact absurd rfl h
  | cons e l => rfl

theorem rowL_val (c : Fin 4) (r : Fin 128) : (Mxu.row (fitsL c) r).val = 4 * (32 * c.val) + r.val := rfl
theorem rowS_val (k : Fin 64) (r : Fin 16) : (Mxu.row (fitsS k) r).val = 4 * (4 * k.val) + r.val := rfl

theorem RM.deposL (h : RM E a m) (q : Fin 2) (c : Fin 4) (d : Tile × Bool) (x : Strip) :
    RM E (a.deposL q c d x) (m.accBy q (stg E d) (32 * c) (stripV E x) (fitsL c)) := by
  constructor
  · exact h.reg
  · exact h.gmr
  · intro q' c' r
    simp only [AM.deposL, find_put]
    rw [Mxu.live_accBy, h.liveL, rowL_val]
    have := r.isLt
    by_cases e : q' = q ∧ c' = c
    · obtain ⟨rfl, rfl⟩ := e; rw [if_pos ⟨rfl, by omega, by omega⟩]; simp
    · rw [if_neg (fun ⟨e1, e2, e3⟩ => e ⟨e1, Fin.ext (by omega)⟩), if_neg (by simpa using e)]
  · intro q' c' l
    simp only [AM.deposL, find_put]
    by_cases e : q' = q ∧ c' = c
    · obtain ⟨rfl, rfl⟩ := e
      simp only [if_true, Option.some.injEq]
      rintro rfl
      refine ⟨by simp, ?_⟩
      rcases hf : find (q', c') a.accL with _ | l
      · rw [Mxu.read_accBy_of_not_live _ _ _ _ _ _ (fun r => by rw [h.liveL, hf]; rfl)]; rfl
      · obtain ⟨h1, h2⟩ := h.readL q' c' l hf
        rw [Mxu.read_accBy_of_live _ _ _ _ _ _ (fun r => by rw [h.liveL, hf]; rfl), h2]
        exact (sumL_cons d x l h1).symm
    · rw [if_neg (by simpa using e)]
      intro hl
      rw [Mxu.read_accBy_ne _ _ _ _ _ _ _ _ _ (by
        by_cases eq : q' = q
        · have : c'.val ≠ c.val := fun e2 => e ⟨eq, Fin.ext e2⟩
          omega
        · exact .inl eq)]
      exact h.readL q' c' l hl
  · intro q' k hk r
    rw [Mxu.live_accBy, if_neg, h.liveS q' k hk]; rfl
    rintro ⟨-, -, e3⟩
    rw [rowS_val] at e3; have := c.isLt; omega
  · intro q' k l hk hl
    rw [Mxu.read_accBy_ne _ _ _ _ _ _ _ _ _ (by have := c.isLt; omega)]
    exact h.readS q' k l hk hl

theorem RM.deposS (h : RM E a m) (q : Fin 2) (k : Fin 64) (hk : 32 ≤ k.val) (d : Tile × Bool) (x : Thin) :
    RM E (a.deposS q k d x) (m.accBy q (stg E d) (4 * k) (thinV E x) (fitsS k)) := by
  constructor
  · exact h.reg
  · exact h.gmr
  · intro q' c r
    rw [Mxu.live_accBy, if_neg, h.liveL q' c]; rfl
    rintro ⟨-, e2, -⟩
    rw [rowL_val] at e2; have := c.isLt; have := r.isLt; omega
  · intro q' c l hl
    rw [Mxu.read_accBy_ne _ _ _ _ _ _ _ _ _ (by have := c.isLt; omega)]
    exact h.readL q' c l hl
  · intro q' c' hc' r
    simp only [AM.deposS, find_put]
    rw [Mxu.live_accBy, h.liveS q' c' hc', rowS_val]
    have := r.isLt
    by_cases e : q' = q ∧ c' = k
    · obtain ⟨rfl, rfl⟩ := e; rw [if_pos ⟨rfl, by omega, by omega⟩]; simp
    · rw [if_neg (fun ⟨e1, e2, e3⟩ => e ⟨e1, Fin.ext (by omega)⟩), if_neg (by simpa using e)]
  · intro q' c' l hc'
    simp only [AM.deposS, find_put]
    by_cases e : q' = q ∧ c' = k
    · obtain ⟨rfl, rfl⟩ := e
      simp only [if_true, Option.some.injEq]
      rintro rfl
      refine ⟨by simp, ?_⟩
      rcases hf : find (q', c') a.accS with _ | l
      · rw [Mxu.read_accBy_of_not_live _ _ _ _ _ _ (fun r => by rw [h.liveS q' c' hk, hf]; rfl)]; rfl
      · obtain ⟨h1, h2⟩ := h.readS q' c' l hk hf
        rw [Mxu.read_accBy_of_live _ _ _ _ _ _ (fun r => by rw [h.liveS q' c' hk, hf]; rfl), h2]
        exact (sumS_cons d x l h1).symm
    · rw [if_neg (by simpa using e)]
      intro hl
      rw [Mxu.read_accBy_ne _ _ _ _ _ _ _ _ _ (by
        by_cases eq : q' = q
        · have : c'.val ≠ k.val := fun e2 => e ⟨eq, Fin.ext e2⟩
          omega
        · exact .inl eq)]
      exact h.readS q' c' l hc' hl

/-- A register moved into the loaded-tile slot. -/
theorem RM.load (h : RM E a m) {q r : Fin 2} {d : Tile × Bool} (hd : find (q, r) a.reg = some d) :
    RM E (a.load q r d) { m with
      reg := fun q' r' => if q' = q ∧ r' = r then none else m.reg q' r'
      gmr := fun q' => if q' = q then some (m.staged q r) else m.gmr q' } := by
  have hs : m.staged q r = stg E d := by unfold Mxu.staged; rw [h.reg, hd]; rfl
  constructor
  · intro q' r'
    simp only [AM.load, find_del]
    by_cases e : q' = q ∧ r' = r
    · rw [if_pos e, if_pos (by simpa using e)]; rfl
    · rw [if_neg e, if_neg (by simpa using e), h.reg]
  · intro q' d' hd'
    simp only [AM.load, find_put] at hd'
    dsimp only
    by_cases e : q' = q
    · rw [if_pos e] at hd' ⊢; rw [hs]; exact congrArg some (congrArg _ (Option.some.inj hd'))
    · rw [if_neg e] at hd' ⊢; exact h.gmr q' d' hd'
  · exact h.liveL
  · exact h.readL
  · exact h.liveS
  · exact h.readS

theorem RM.accL (h : RM E a m) {q r : Fin 2} {d : Tile × Bool} (hd : find (q, r) a.reg = some d) (c : Fin 4) (x : Strip) :
    RM E ((a.load q r d).deposL q c d x) (m.accLhs q r (32 * c) (stripV E x) (fitsL c)) := by
  have hs : m.staged q r = stg E d := by unfold Mxu.staged; rw [h.reg, hd]; rfl
  have := (h.load hd).deposL q c d x
  rw [← hs] at this
  exact this

theorem RM.accS (h : RM E a m) {q r : Fin 2} {d : Tile × Bool} (hd : find (q, r) a.reg = some d) (k : Fin 64) (hk : 32 ≤ k.val)
    (x : Thin) : RM E ((a.load q r d).deposS q k d x) (m.accLhs q r (4 * k) (thinV E x) (fitsS k)) := by
  have hs : m.staged q r = stg E d := by unfold Mxu.staged; rw [h.reg, hd]; rfl
  have := (h.load hd).deposS q k hk d x
  rw [← hs] at this
  exact this

theorem read_pop_ne {A A' M M' : ℕ} (q q' : Fin 2) (h : Mxu.Fits A M) (h' : Mxu.Fits A' M')
    (hne : q' ≠ q ∨ 4 * A' + M' ≤ 4 * A ∨ 4 * A + M ≤ 4 * A') : (m.pop q A M h).read q' A' h' = m.read q' A' h' := by
  funext i
  have hi : (i 0).val < M' := (i 0).isLt
  show (if q' = q ∧ 4 * A ≤ (Mxu.row h' (i 0)).val ∧ (Mxu.row h' (i 0)).val < 4 * A + M then _ else _) = _
  rw [if_neg]; rfl
  rintro ⟨e1, e2, e3⟩
  have e : (Mxu.row h' (i 0)).val = 4 * A' + (i 0).val := rfl
  rw [e] at e2 e3
  rcases hne with hne | hne | hne
  · exact hne e1
  · omega
  · omega

theorem live_pop' {A M : ℕ} (q q' : Fin 2) (h : Mxu.Fits A M) (R : Fin 1024) :
    (m.pop q A M h).live q' R = if q' = q ∧ 4 * A ≤ R.val ∧ R.val < 4 * A + M then false else m.live q' R := rfl

theorem RM.popL (h : RM E a m) (q : Fin 2) (c : Fin 4) :
    RM E { a with accL := del (q, c) a.accL } (m.pop q (32 * c) 128 (fitsL c)) := by
  constructor
  · exact h.reg
  · exact h.gmr
  · intro q' c' r
    dsimp only
    rw [find_del, live_pop', h.liveL, rowL_val]
    have := r.isLt
    by_cases e : q' = q ∧ c' = c
    · obtain ⟨rfl, rfl⟩ := e; rw [if_pos ⟨rfl, by omega, by omega⟩]; simp
    · rw [if_neg (fun ⟨e1, e2, e3⟩ => e ⟨e1, Fin.ext (by omega)⟩), if_neg (by simpa using e)]
  · intro q' c' l hl
    dsimp only at hl
    rw [find_del] at hl
    by_cases e : q' = q ∧ c' = c
    · rw [if_pos (by simpa using e)] at hl; cases hl
    · rw [if_neg (by simpa using e)] at hl
      rw [read_pop_ne _ _ _ _ (by
        by_cases eq : q' = q
        · have : c'.val ≠ c.val := fun e2 => e ⟨eq, Fin.ext e2⟩
          omega
        · exact .inl eq)]
      exact h.readL q' c' l hl
  · intro q' k hk r
    rw [live_pop', if_neg, h.liveS q' k hk]
    rintro ⟨-, -, e3⟩
    rw [rowS_val] at e3; have := c.isLt; omega
  · intro q' k l hk hl
    rw [read_pop_ne _ _ _ _ (by have := c.isLt; omega)]
    exact h.readS q' k l hk hl

theorem RM.popS (h : RM E a m) (q : Fin 2) (k : Fin 64) (hk : 32 ≤ k.val) :
    RM E { a with accS := del (q, k) a.accS } (m.pop q (4 * k) 16 (fitsS k)) := by
  constructor
  · exact h.reg
  · exact h.gmr
  · intro q' c r
    rw [live_pop', if_neg, h.liveL q' c]
    rintro ⟨-, e2, -⟩
    rw [rowL_val] at e2; have := c.isLt; have := r.isLt; omega
  · intro q' c l hl
    rw [read_pop_ne _ _ _ _ (by have := c.isLt; omega)]
    exact h.readL q' c l hl
  · intro q' c' hc' r
    dsimp only
    rw [find_del, live_pop', h.liveS q' c' hc', rowS_val]
    have := r.isLt
    by_cases e : q' = q ∧ c' = k
    · obtain ⟨rfl, rfl⟩ := e; rw [if_pos ⟨rfl, by omega, by omega⟩]; simp
    · rw [if_neg (fun ⟨e1, e2, e3⟩ => e ⟨e1, Fin.ext (by omega)⟩), if_neg (by simpa using e)]
  · intro q' c' l hc' hl
    dsimp only at hl
    rw [find_del] at hl
    by_cases e : q' = q ∧ c' = k
    · rw [if_pos (by simpa using e)] at hl; cases hl
    · rw [if_neg (by simpa using e)] at hl
      rw [read_pop_ne _ _ _ _ (by
        by_cases eq : q' = q
        · have : c'.val ≠ k.val := fun e2 => e ⟨eq, Fin.ext e2⟩
          omega
        · exact .inl eq)]
      exact h.readS q' c' l hc' hl

/-- Nothing staged and nothing summed: the unit is drained. -/
theorem RM.drained (h : RM E a m) (h1 : a.reg = []) (h2 : a.accL = []) (h3 : a.accS = []) : m.Drained := by
  constructor
  · intro q r; rw [h.reg, h1]; rfl
  · intro q R
    by_cases hR : R.val < 512
    · have := h.liveL q ⟨R.val / 128, by omega⟩ ⟨R.val % 128, by omega⟩
      rw [h2] at this
      rw [show R = Mxu.row (fitsL ⟨R.val / 128, by omega⟩) (⟨R.val % 128, by omega⟩ : Fin 128) from Fin.ext (by
        rw [rowL_val]; dsimp only; omega)]
      exact this
    · have hR' := R.isLt
      have := h.liveS q ⟨R.val / 16, by omega⟩ (by dsimp only; omega) ⟨R.val % 16, by omega⟩
      rw [h3] at this
      rw [show R = Mxu.row (fitsS ⟨R.val / 16, by omega⟩) (⟨R.val % 16, by omega⟩ : Fin 16) from Fin.ext (by
        rw [rowS_val]; dsimp only; omega)]
      exact this

end Cert.Qlora

end
-- ==== Proof.Sound.lean ====
/- A list of steps that passes the symbolic run, run from contents `M₀`, leaves the contents `E` the symbolic run speaks
   of. -/
module

public import proofs.«01_k».proof.Proof.Unit
public import Idealize.ShloMosaic.Lib.Tactic

@[expose] public section

noncomputable section

namespace Cert.Qlora

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : ℕ} {τ : Topo} {sig : RefSig} {Ix : Type} [DecidableEq Ix] {Name : Type} [DecidableEq Name]
variable {U : Type} [URA U] {Lvl : Type} [Preorder Lvl] {Λ : Labels}

local notation "𝕄" => MT nD τ sig Ix (Elt F) Name U Lvl

/-- The fourteen buffers held at contents `M`. -/
def mems (c : Dev nD) (A : Args sig) (M : Mem F) : sProp 𝕄 :=
  bigSep Finset.univ fun b => owns (c : Thread nD τ) (A.m b) fullShare (M b)

/-- The buffers other than `b`. -/
def others (c : Dev nD) (A : Args sig) (M : Mem F) (b : B) : sProp 𝕄 :=
  bigSep (Finset.univ.erase b) fun b => owns (c : Thread nD τ) (A.m b) fullShare (M b)

theorem mems_split (c : Dev nD) (A : Args sig) (M : Mem F) (b : B) :
    (mems c A M : sProp 𝕄) = iprop((∃ f, ⌜(A.m b).view.read (Elt F) f = M b⌝ ∗ ((A.m b).view.loc (c : Thread nD τ) ↦[(A.m b).view.set]{fullShare} f))
      ∗ others c A M b) := by
  unfold mems others
  rw [bigSep_univ_split b]; rfl

theorem others_update (c : Dev nD) (A : Args sig) (M : Mem F) (b : B) (v : (sh b).Idx → Elt F (el b)) :
    (others c A (Function.update M b v) b : sProp 𝕄) = others c A M b := by
  unfold others
  exact bigSep_congr fun i hi => by rw [Function.update_of_ne (Finset.ne_of_mem_erase hi)]

/-! ## A load and a store -/

section Wp

variable {defs : Defs nD τ sig (Elt F) Λ} (𝒱 : Variants) (c : Dev nD) (Em : Set Name)
variable (A : Args sig) {M : Mem F} {α : Type}

theorem wp_ld {R : sProp 𝕄} {Q : α → sProp 𝕄} (b : B) (r : Rect (sh b)) (h : 0 < r.shape.numel) {k : Vec F r.shape (el b) → P nD τ sig F Λ α}
    (H : iprop(mems c A M ∗ R) ⊢ wp (M := 𝕄) frame (wpE defs 𝒱 (c : Thread nD τ) none) Em (k (get (M b) r)) Q) :
    iprop(mems c A M ∗ R) ⊢ wp (M := 𝕄) frame (wpE defs 𝒱 (c : Thread nD τ) none) Em ((ld A b r h : P nD τ sig F Λ _) >>= k) Q := by
  rw [mems_split c A M b] at H ⊢
  iintro ⟨⟨⟨%f, %hf, Hb⟩, Hrest⟩, HR⟩
  simp only [ld, Prog.lift, Prog.bind_op, Prog.bind_ret]
  iapply (wp_load_rect (defs := defs) 𝒱 (c : Thread nD τ) none Em (m := A.m b) (r := r) (S := (A.m b).view.set) ((A.m b).view.set_slice_subset r)) $$ [Hb]
  · iexact Hb
  iintro Hb
  have e : ((A.m b).access r).read (Elt F) f = get (M b) r := by
    rw [← hf]; rfl
  rw [e]
  iapply H
  isplitr [HR]
  · isplitl [Hb]
    · iexists f; isplitr; · ipureintro; exact hf
      iexact Hb
    iexact Hrest
  iexact HR

theorem read_store {s : Shape} {e : EltTy} {κ : Kind} {sp : Space} (v : View sig κ sp s e) (r : Rect s) (f : v.ty.Contents (Elt F))
    (w : r.shape.Idx → Elt F e) : v.read (Elt F) ((v.slice r).write (Elt F) f w Finset.univ) = r.overlay (v.read (Elt F) f) w := by
  funext y
  by_cases hy : y ∈ r.set
  · obtain ⟨i, rfl⟩ := r.exists_idx_of_mem hy
    exact (View.read_slice_write_emb r f w (Finset.mem_univ i)).trans (Rect.overlay_emb r _ w i).symm
  · rw [Rect.overlay_of_not_mem _ _ _ hy, View.read_slice_write_of_not_mem _ _ _ _ (by rw [Rect.map_emb_univ]; exact hy)]

theorem wp_st {R : sProp 𝕄} {Q : α → sProp 𝕄} (b : B) (r : Rect (sh b)) {v : Vec F r.shape (el b)} {hx : ((A.m b).access r).Stores Finset.univ}
    {hm : (Finset.univ : Finset r.shape.Idx) = Finset.univ ∨ ∀ a, r.stride a = 1} {k : PUnit → P nD τ sig F Λ α}
    (H : iprop(mems c A (Function.update M b (r.overlay (M b) v)) ∗ R) ⊢ wp (M := 𝕄) frame (wpE defs 𝒱 (c : Thread nD τ) none) Em (k ⟨⟩) Q) :
    iprop(mems c A M ∗ R) ⊢ wp (M := 𝕄) frame (wpE defs 𝒱 (c : Thread nD τ) none) Em
      ((Prog.lift (.store (A.m b) r v Finset.univ hx hm) : P nD τ sig F Λ _) >>= k) Q := by
  rw [mems_split c A M b]
  rw [mems_split c A _ b, others_update, Function.update_self] at H
  iintro ⟨⟨⟨%f, %hf, Hb⟩, Hrest⟩, HR⟩
  simp only [Prog.lift, Prog.bind_op, Prog.bind_ret]
  iapply (wp_store (defs := defs) 𝒱 (c : Thread nD τ) none Em (m := A.m b) (r := r) (S := (A.m b).view.set) ((A.m b).view.set_slice_subset r)) $$ [Hb]
  · iexact Hb
  iintro Hb
  iapply H
  isplitr [HR]
  · isplitl [Hb]
    · iexists _; isplitr
      swap; · iexact Hb
      ipureintro
      rw [← hf]; exact read_store _ _ _ _
    iexact Hrest
  iexact HR

end Wp

/-! ## The registers -/

def lV (E : Mem F) : VL → FVec F T128 .bf16
  | .tile x => stripV E x
  | .rnd l => truncf .bf16 (sumL E l) ltBits

def sV (E : Mem F) : VS → FVec F T16 .bf16
  | .tile x => thinV E x
  | .rnd l => truncf .bf16 (sumS E l) ltBits

def fV (E : Mem F) : VF → FVec F T128 .f32
  | .sum l => sumL E l
  | .pad l => padV (sumS E l)

def pV (E M₀ : Mem F) : VP → FVec F T16 .f32
  | .sum l => sumS E l
  | .scaled l => oneV (sumS E l)
  | .added x l => addf (accV M₀ x) (oneV (sumS E l))

/-- The registers hold what the symbolic run says they hold. -/
structure RV (E M₀ : Mem F) (a : AV) (z : St F) : Prop where
  t : ∀ x, a.t = some x → z.t = tileV E x
  l : ∀ x, a.l = some x → z.l = lV E x
  s : ∀ x, a.s = some x → z.s = sV E x
  f : ∀ x, a.f = some x → z.f = fV E x
  p : ∀ x, a.p = some x → z.p = pV E M₀ x
  o : ∀ x, a.o = some x → z.o = accV M₀ x
  c : a.c = true → z.c = broadcast T16 (Scalar.ofBits .f32 0x3F800000#32)
  y : ∀ x, a.y = some x → z.y = trV (sumS E x)
  u : ∀ x, a.u = some x → z.u = rndV (sumS E x)
  e : ∀ x, a.e = some x → z.e = extV (sumS E x)

/-- The whole state does. -/
structure Rel (E M₀ : Mem F) (a : AS) (s : St F) (M : Mem F) : Prop where
  m : RM E a.m s.mxu
  v : RV E M₀ a.v s
  mem : Mixed E M₀ a.done M

/-! ## What a load finds -/

section Loads

variable {E M₀ M : Mem F} {done : List Wr}

theorem Mixed.get_new (h : Mixed E M₀ done M) (hF : Final E M₀) {b : B} (r : Rect (sh b))
    (hr : ∀ w i, Covers w b (r.emb i) → isIn w done = true) : get (M b) r = get (E b) r := by
  funext i
  by_cases hc : ∃ w, Covers w b (r.emb i)
  · obtain ⟨w, hw⟩ := hc; exact h.new _ _ ⟨w, hr w i hw, hw⟩
  · exact (h.old _ _ fun ⟨w, _, hw⟩ => hc ⟨w, hw⟩).trans (hF.rest _ _ hc).symm

theorem Mixed.get_old (h : Mixed E M₀ done M) {b : B} (r : Rect (sh b))
    (hr : ∀ w i, Covers w b (r.emb i) → isIn w done = false) : get (M b) r = get (M₀ b) r := by
  funext i
  exact h.old _ _ fun ⟨w, hd, hw⟩ => by rw [hr w i hw] at hd; cases hd

theorem rect_meet {s0 s1 o0 o1 t0 t1 o0' o1' t0' t1' : ℕ} {h0 : o0 + t0 ≤ s0} {h1 : o1 + t1 ≤ s1} {h0' : o0' + t0' ≤ s0}
    {h1' : o1' + t1' ≤ s1} (i : (rect (s0 := s0) (s1 := s1) o0 o1 t0 t1 h0 h1).shape.Idx)
    (h : (rect (s0 := s0) (s1 := s1) o0 o1 t0 t1 h0 h1).emb i ∈ (rect (s0 := s0) (s1 := s1) o0' o1' t0' t1' h0' h1').set) :
    (o0' < o0 + t0 ∧ o0 < o0' + t0') ∧ (o1' < o1 + t1 ∧ o1 < o1' + t1') := by
  have h' : (rect (s0 := s0) (s1 := s1) o0 o1 t0 t1 h0 h1).emb i ∈ (rect (s0 := s0) (s1 := s1) o0 o1 t0 t1 h0 h1).set :=
    by rw [← Rect.map_emb_univ]; exact Finset.mem_map_of_mem _ (Finset.mem_univ i)
  have a := Rect.mem_set_unit.1 h
  have b := Rect.mem_set_unit.1 h'
  have a0 := a 0; have a1 := a 1; have b0 := b 0; have b1 := b 1
  simp at a0 a1 b0 b1
  omega

theorem ldTile_val (h : Mixed E M₀ done M) (hF : Final E M₀) (x : Tile) : tileV M x = tileV E x := by
  cases x <;> exact h.get_new hF _ (by rintro w i ⟨hb, -⟩; rcases w with _ | _ | _ | _ | _ | _ | (_ | _) <;> cases hb)

theorem ldStrip_val (h : Mixed E M₀ done M) (hF : Final E M₀) (x : Strip) (hx : strip_ok done x = true) : stripV M x = stripV E x := by
  cases x with
  | dy c j => exact h.get_new hF _ (by rintro w i ⟨hb, -⟩; rcases w with _ | _ | _ | _ | _ | _ | (_ | _) <;> cases hb)
  | dx c n => cases hx
  | gp c =>
    refine h.get_new hF _ ?_
    rintro w i ⟨hb, hy⟩
    rcases w with _ | _ | _ | k | _ | _ | (_ | _) <;> try cases hb
    have hy : (rGpL c).emb i ∈ (rGp k).set := hy
    have := rect_meet i hy
    have hk : k.val = c.val / 2 := by omega
    match c, hx with
    | ⟨0, _⟩, hx => rw [show k = 0 from Fin.ext (by simpa using hk)]; exact hx
    | ⟨1, _⟩, hx => rw [show k = 0 from Fin.ext (by simpa using hk)]; exact hx
    | ⟨2, _⟩, hx => rw [show k = 1 from Fin.ext (by simpa using hk)]; exact hx
    | ⟨3, _⟩, hx => rw [show k = 1 from Fin.ext (by simpa using hk)]; exact hx

theorem ldThin_val (h : Mixed E M₀ done M) (hF : Final E M₀) (x : Thin) (hx : thin_ok done x = true) : thinV M x = thinV E x := by
  cases x with
  | «at» i => exact h.get_new hF _ (by rintro w i ⟨hb, -⟩; rcases w with _ | _ | _ | _ | _ | _ | (_ | _) <;> cases hb)
  | b i => exact h.get_new hF _ (by rintro w i ⟨hb, -⟩; rcases w with _ | _ | _ | _ | _ | _ | (_ | _) <;> cases hb)
  | gt j =>
    refine h.get_new hF _ ?_
    rintro w i ⟨hb, hy⟩
    rcases w with _ | k | _ | _ | _ | _ | (_ | _) <;> try cases hb
    have := rect_meet i (show (rGt j).emb i ∈ (rGt k).set from hy)
    rw [show k = j from Fin.ext (by omega)]; exact hx
  | xt j =>
    refine h.get_new hF _ ?_
    rintro w i ⟨hb, hy⟩
    rcases w with _ | _ | k | _ | _ | _ | (_ | _) <;> try cases hb
    have := rect_meet i (show (rXt j).emb i ∈ (rXt k).set from hy)
    rw [show k = j from Fin.ext (by omega)]; exact hx

theorem ldAcc_val (h : Mixed E M₀ done M) (x : Acc) (hx : isIn (.o x) done = false) : accV M x = accV M₀ x := by
  cases x with
  | dla j =>
    refine h.get_old _ ?_
    rintro w i ⟨hb, hy⟩
    rcases w with _ | _ | _ | _ | _ | _ | (k | k) <;> try cases hb
    have := rect_meet i (show (rDla j).emb i ∈ (rDla k).set from hy)
    rw [show k = j from Fin.ext (by omega)]; exact hx
  | dlb j =>
    refine h.get_old _ ?_
    rintro w i ⟨hb, hy⟩
    rcases w with _ | _ | _ | _ | _ | _ | (k | k) <;> try cases hb
    have := rect_meet i (show (rDlb j).emb i ∈ (rDlb k).set from hy)
    rw [show k = j from Fin.ext (by omega)]; exact hx

end Loads

/-! ## A step -/

section Step

variable {defs : Defs nD τ sig (Elt F) Λ} (𝒱 : Variants) (c : Dev nD) (Em : Set Name)
variable (A : Args sig) {M : Mem F} {α : Type} {E M₀ : Mem F}

theorem wp_ldTile {R : sProp 𝕄} {Q : α → sProp 𝕄} (x : Tile) {k : FVec F T256 .bf16 → P nD τ sig F Λ α}
    (H : iprop(mems c A M ∗ R) ⊢ wp (M := 𝕄) frame (wpE defs 𝒱 (c : Thread nD τ) none) Em (k (tileV M x)) Q) :
    iprop(mems c A M ∗ R) ⊢ wp (M := 𝕄) frame (wpE defs 𝒱 (c : Thread nD τ) none) Em (ldTile A x >>= k) Q := by
  cases x with
  | dy i j => exact wp_ld 𝒱 c Em A .dy (rDy i j) posT H
  | x i j => exact wp_ld 𝒱 c Em A .x (rX i j) posT H
  | w i j => exact wp_ld 𝒱 c Em A .w (rW i j) posT H
  | ap i => exact wp_ld 𝒱 c Em A .ap (rAp i) posT H

theorem wp_ldStrip {R : sProp 𝕄} {Q : α → sProp 𝕄} (x : Strip) {k : FVec F T128 .bf16 → P nD τ sig F Λ α}
    (H : iprop(mems c A M ∗ R) ⊢ wp (M := 𝕄) frame (wpE defs 𝒱 (c : Thread nD τ) none) Em (k (stripV M x)) Q) :
    iprop(mems c A M ∗ R) ⊢ wp (M := 𝕄) frame (wpE defs 𝒱 (c : Thread nD τ) none) Em (ldStrip A x >>= k) Q := by
  cases x with
  | dy k' j => exact wp_ld 𝒱 c Em A .dy (rDyL k' j) posL H
  | gp k' => exact wp_ld 𝒱 c Em A .gp (rGpL k') posL H
  | dx k' n => exact wp_ld 𝒱 c Em A .dx (rDx k' n) posL H

theorem wp_ldThin {R : sProp 𝕄} {Q : α → sProp 𝕄} (x : Thin) {k : FVec F T16 .bf16 → P nD τ sig F Λ α}
    (H : iprop(mems c A M ∗ R) ⊢ wp (M := 𝕄) frame (wpE defs 𝒱 (c : Thread nD τ) none) Em (k (thinV M x)) Q) :
    iprop(mems c A M ∗ R) ⊢ wp (M := 𝕄) frame (wpE defs 𝒱 (c : Thread nD τ) none) Em (ldThin A x >>= k) Q := by
  cases x with
  | «at» i => exact wp_ld 𝒱 c Em A .at (rAt i) posS H
  | b j => exact wp_ld 𝒱 c Em A .b (rB j) posS H
  | gt j => exact wp_ld 𝒱 c Em A .gt (rGt j) posS H
  | xt j => exact wp_ld 𝒱 c Em A .xt (rXt j) posS H

theorem wp_ldAcc {R : sProp 𝕄} {Q : α → sProp 𝕄} (x : Acc) {k : FVec F T16 .f32 → P nD τ sig F Λ α}
    (H : iprop(mems c A M ∗ R) ⊢ wp (M := 𝕄) frame (wpE defs 𝒱 (c : Thread nD τ) none) Em (k (accV M x)) Q) :
    iprop(mems c A M ∗ R) ⊢ wp (M := 𝕄) frame (wpE defs 𝒱 (c : Thread nD τ) none) Em (ldAcc A x >>= k) Q := by
  cases x with
  | dla i => exact wp_ld 𝒱 c Em A .dla (rDla i) posS H
  | dlb j => exact wp_ld 𝒱 c Em A .dlb (rDlb j) posS H

/-- One step the symbolic run accepts. -/
theorem step_sound {R : sProp 𝕄} {Q : α → sProp 𝕄} (hF : Final E M₀) (op : Op) (a a' : AS) (z : St F) (hc : chk a op = some a')
    (h : Rel E M₀ a z M) {k : St F → P nD τ sig F Λ α}
    (H : ∀ z' M', Rel E M₀ a' z' M' →
      iprop(mems c A M' ∗ R) ⊢ wp (M := 𝕄) frame (wpE defs 𝒱 (c : Thread nD τ) none) Em (k z') Q) :
    iprop(mems c A M ∗ R) ⊢ wp (M := 𝕄) frame (wpE defs 𝒱 (c : Thread nD τ) none) Em (step A op z >>= k) Q := by
  obtain ⟨hm, hv, hM⟩ := h
  obtain ⟨m, t, l, s, f, p, o, cc, y, u, e⟩ := z
  dsimp only at hm
  cases op with
  | ldT x =>
    simp only [chk, Option.some.injEq] at hc; subst hc
    simp only [step, bind_assoc, pure_bind]
    exact wp_ldTile 𝒱 c Em A x (H _ _ ⟨hm, { hv with t := by rintro _ ⟨⟩; exact ldTile_val hM hF x }, hM⟩)
  | ldL x =>
    simp only [chk] at hc
    split at hc
    case isFalse => cases hc
    case isTrue hx =>
      cases hc
      simp only [step, bind_assoc, pure_bind]
      exact wp_ldStrip 𝒱 c Em A x (H _ _ ⟨hm, { hv with l := by rintro _ ⟨⟩; exact ldStrip_val hM hF x hx }, hM⟩)
  | ldS x =>
    simp only [chk] at hc
    split at hc
    case isFalse => cases hc
    case isTrue hx =>
      cases hc
      simp only [step, bind_assoc, pure_bind]
      exact wp_ldThin 𝒱 c Em A x (H _ _ ⟨hm, { hv with s := by rintro _ ⟨⟩; exact ldThin_val hM hF x hx }, hM⟩)
  | ldO x =>
    simp only [chk] at hc
    split at hc
    case isTrue => cases hc
    case isFalse hx =>
      cases hc
      simp only [step, bind_assoc, pure_bind]
      exact wp_ldAcc 𝒱 c Em A x (H _ _ ⟨hm, { hv with o := by rintro _ ⟨⟩; exact ldAcc_val hM x (by simpa using hx) }, hM⟩)
  | castT =>
    simp only [chk, Option.some.injEq] at hc; subst hc
    simp only [step, shapeCast_self, pure_bind]
    exact H _ _ ⟨hm, hv, hM⟩
  | castL =>
    simp only [chk, Option.some.injEq] at hc; subst hc
    simp only [step, shapeCast_self, pure_bind]
    exact H _ _ ⟨hm, hv, hM⟩
  | castS =>
    simp only [chk, Option.some.injEq] at hc; subst hc
    simp only [step, shapeCast_self, pure_bind]
    exact H _ _ ⟨hm, hv, hM⟩
  | castO =>
    simp only [chk, Option.some.injEq] at hc; subst hc
    simp only [step, shapeCast_self, pure_bind]
    exact H _ _ ⟨hm, hv, hM⟩
  | deadL x =>
    simp only [chk, Option.some.injEq] at hc; subst hc
    simp only [step, bind_assoc, pure_bind]
    exact wp_ldStrip 𝒱 c Em A x (H _ _ ⟨hm, hv, hM⟩)
  | deadS x =>
    simp only [chk, Option.some.injEq] at hc; subst hc
    simp only [step, bind_assoc, pure_bind]
    exact wp_ldThin 𝒱 c Em A x (H _ _ ⟨hm, hv, hM⟩)
  | deadO x =>
    simp only [chk, Option.some.injEq] at hc; subst hc
    simp only [step, bind_assoc, pure_bind]
    exact wp_ldAcc 𝒱 c Em A x (H _ _ ⟨hm, hv, hM⟩)
  | deadU x =>
    simp only [chk, Option.some.injEq] at hc; subst hc
    simp only [step, bind_assoc, pure_bind]
    exact wp_ld 𝒱 c Em A _ _ _ (H _ _ ⟨hm, hv, hM⟩)
  | deadG x =>
    simp only [chk, Option.some.injEq] at hc; subst hc
    simp only [step, bind_assoc, pure_bind]
    exact wp_ld 𝒱 c Em A _ _ _ (H _ _ ⟨hm, hv, hM⟩)
  | deadXa x =>
    simp only [chk, Option.some.injEq] at hc; subst hc
    simp only [step, bind_assoc, pure_bind]
    exact wp_ld 𝒱 c Em A _ _ _ (H _ _ ⟨hm, hv, hM⟩)
  | push q r tr =>
    simp only [chk] at hc
    split at hc
    case h_2 => cases hc
    case h_1 x h1 h2 =>
      cases hc
      obtain rfl := hv.t _ h1
      simp only [step, bind_assoc, pure_bind]
      refine .trans ?_ (Mxu.wp_pushRhs _ fun t ht => by rw [hm.reg, h2] at ht; cases ht)
      exact H _ _ ⟨hm.push tr h2, { hv with }, hM⟩
  | accL q r k' =>
    simp only [chk] at hc
    split at hc
    case h_2 => cases hc
    case h_1 x d h1 h2 =>
      cases hc
      obtain rfl := hv.l _ h1
      simp only [step, pure_bind]
      exact H _ _ ⟨hm.accL h2 k' x, { hv with }, hM⟩
  | accLd q k' =>
    simp only [chk] at hc
    split at hc
    case h_2 => cases hc
    case h_1 x d h1 h2 =>
      cases hc
      obtain rfl := hv.l _ h1
      simp only [step, bind_assoc, pure_bind]
      refine .trans ?_ (Mxu.wp_accLhsLoaded _ _ (hm.gmr q d h2))
      exact H _ _ ⟨hm.deposL q k' d x, { hv with }, hM⟩
  | accS q r k' =>
    simp only [chk] at hc
    split at hc
    case h_2 => cases hc
    case h_1 x d h1 h2 =>
      split at hc
      case isFalse => cases hc
      case isTrue h3 =>
        cases hc
        obtain rfl := hv.s _ h1
        simp only [step, pure_bind]
        exact H _ _ ⟨hm.accS h2 k' h3 x, { hv with }, hM⟩
  | rdL q k' =>
    simp only [chk] at hc
    split at hc
    case h_2 => cases hc
    case h_1 x h1 =>
      cases hc
      simp only [step, pure_bind]
      exact H _ _ ⟨hm, { hv with f := by rintro _ ⟨⟩; exact (hm.readL q k' x h1).2 }, hM⟩
  | rdS q k' =>
    simp only [chk] at hc
    split at hc
    case h_2 => cases hc
    case h_1 x h1 =>
      split at hc
      case isFalse => cases hc
      case isTrue h3 =>
        cases hc
        simp only [step, pure_bind]
        exact H _ _ ⟨hm, { hv with p := by rintro _ ⟨⟩; exact (hm.readS q k' x h3 h1).2 }, hM⟩
  | popL q k' =>
    simp only [chk, Option.some.injEq] at hc; subst hc
    simp only [step, pure_bind]
    exact H _ _ ⟨hm.popL q k', { hv with }, hM⟩
  | popS q k' =>
    simp only [chk] at hc
    split at hc
    case isFalse => cases hc
    case isTrue h3 =>
      cases hc
      simp only [step, pure_bind]
      exact H _ _ ⟨hm.popS q k' h3, { hv with }, hM⟩
  | truncL =>
    simp only [chk] at hc
    split at hc
    case h_2 => cases hc
    case h_1 x h1 =>
      cases hc
      obtain rfl := hv.f _ h1
      simp only [step, pure_bind]
      exact H _ _ ⟨hm, { hv with l := by rintro _ ⟨⟩; rfl }, hM⟩
  | truncS =>
    simp only [chk] at hc
    split at hc
    case h_2 => cases hc
    case h_1 x h1 =>
      cases hc
      obtain rfl := hv.p _ h1
      simp only [step, pure_bind]
      exact H _ _ ⟨hm, { hv with s := by rintro _ ⟨⟩; rfl }, hM⟩
  | pad =>
    simp only [chk] at hc
    split at hc
    case h_2 => cases hc
    case h_1 x h1 =>
      cases hc
      obtain rfl := hv.p _ h1
      simp only [step, pure_bind]
      exact H _ _ ⟨hm, { hv with f := by rintro _ ⟨⟩; rfl }, hM⟩
  | tr =>
    simp only [chk] at hc
    split at hc
    case h_2 => cases hc
    case h_1 x h1 =>
      cases hc
      obtain rfl := hv.f _ h1
      simp only [step, pure_bind]
      exact H _ _ ⟨hm, { hv with y := by rintro _ ⟨⟩; rfl }, hM⟩
  | truncU =>
    simp only [chk, Option.some.injEq] at hc; subst hc
    simp only [step, pure_bind]
    exact H _ _ ⟨hm, { hv with u := fun x hx => by obtain rfl := hv.y _ hx; rfl }, hM⟩
  | ext =>
    simp only [chk, Option.some.injEq] at hc; subst hc
    simp only [step, pure_bind]
    exact H _ _ ⟨hm, { hv with e := fun x hx => by obtain rfl := hv.u _ hx; rfl }, hM⟩
  | one =>
    simp only [chk, Option.some.injEq] at hc; subst hc
    simp only [step, pure_bind]
    exact H _ _ ⟨hm, { hv with c := fun _ => rfl }, hM⟩
  | mul =>
    simp only [chk] at hc
    split at hc
    case h_2 => cases hc
    case h_1 x h1 h2 =>
      cases hc
      obtain rfl := hv.p _ h2
      obtain rfl := hv.c h1
      simp only [step, pure_bind]
      exact H _ _ ⟨hm, { hv with p := by rintro _ ⟨⟩; rfl }, hM⟩
  | add =>
    simp only [chk] at hc
    split at hc
    case h_2 => cases hc
    case h_1 x l' h1 h2 =>
      cases hc
      obtain rfl := hv.p _ h2
      obtain rfl := hv.o _ h1
      simp only [step, pure_bind]
      exact H _ _ ⟨hm, { hv with p := by rintro _ ⟨⟩; rfl }, hM⟩
  | stDx k' n =>
    simp only [chk] at hc
    split at hc
    case h_2 => cases hc
    case h_1 x h1 =>
      split at hc
      case isFalse => cases hc
      case isTrue h2 =>
        cases hc
        subst h2
        obtain rfl := hv.l _ h1
        simp only [step, shapeCast_self, bind_assoc, pure_bind]
        exact wp_st 𝒱 c Em A _ _ (H _ _ ⟨hm, hv, hM.store (.dx k' n) _ (hF.dx k' n).symm⟩)
  | stGt j =>
    simp only [chk] at hc
    split at hc
    case h_2 => cases hc
    case h_1 x h1 =>
      split at hc
      case isFalse => cases hc
      case isTrue h2 =>
        cases hc
        subst h2
        obtain rfl := hv.s _ h1
        simp only [step, shapeCast_self, bind_assoc, pure_bind]
        exact wp_st 𝒱 c Em A _ _ (H _ _ ⟨hm, hv, hM.store (.gt j) _ (hF.gt j).symm⟩)
  | stXt j =>
    simp only [chk] at hc
    split at hc
    case h_2 => cases hc
    case h_1 x h1 =>
      split at hc
      case isFalse => cases hc
      case isTrue h2 =>
        cases hc
        subst h2
        obtain rfl := hv.s _ h1
        simp only [step, shapeCast_self, bind_assoc, pure_bind]
        exact wp_st 𝒱 c Em A _ _ (H _ _ ⟨hm, hv, hM.store (.xt j) _ (hF.xt j).symm⟩)
  | stGp j =>
    simp only [chk] at hc
    split at hc
    case h_2 => cases hc
    case h_1 x h1 =>
      split at hc
      case isFalse => cases hc
      case isTrue h2 =>
        cases hc
        subst h2
        obtain rfl := hv.u _ h1
        simp only [step, shapeCast_self, bind_assoc, pure_bind]
        exact wp_st 𝒱 c Em A _ _ (H _ _ ⟨hm, hv, hM.store (.gp j) _ (hF.gp j).symm⟩)
  | stG j =>
    simp only [chk] at hc
    split at hc
    case h_2 => cases hc
    case h_1 x h1 =>
      split at hc
      case isFalse => cases hc
      case isTrue h2 =>
        cases hc
        subst h2
        obtain rfl := hv.e _ h1
        simp only [step, shapeCast_self, bind_assoc, pure_bind]
        exact wp_st 𝒱 c Em A _ _ (H _ _ ⟨hm, hv, hM.store (.g j) _ (hF.g j).symm⟩)
  | stXa j =>
    simp only [chk] at hc
    split at hc
    case h_2 => cases hc
    case h_1 x h1 =>
      split at hc
      case isFalse => cases hc
      case isTrue h2 =>
        cases hc
        subst h2
        obtain rfl := hv.e _ h1
        simp only [step, shapeCast_self, bind_assoc, pure_bind]
        exact wp_st 𝒱 c Em A _ _ (H _ _ ⟨hm, hv, hM.store (.xa j) _ (hF.xa j).symm⟩)
  | stO x =>
    simp only [chk] at hc
    split at hc
    case h_2 => cases hc
    case h_1 x' l' h1 =>
      split at hc
      case isFalse => cases hc
      case isTrue h2 =>
        split at hc
        case isFalse => cases hc
        case isTrue h3 =>
          cases hc
          subst h2; subst h3
          obtain rfl := hv.p _ h1
          simp only [step, bind_assoc, pure_bind]
          have hs := hM.store (.o x)
          cases x <;> exact wp_st 𝒱 c Em A _ _ (H _ _ ⟨hm, hv, hs _ (hF.o _).symm⟩)

/-- A list of steps the symbolic run accepts. -/
theorem run_sound {R : sProp 𝕄} {Q : α → sProp 𝕄} (hF : Final E M₀) (l : List Op) (a a' : AS) (z : St F) (hc : chkAll a l = some a')
    (h : Rel E M₀ a z M) {k : St F → P nD τ sig F Λ α}
    (H : ∀ z' M', Rel E M₀ a' z' M' →
      iprop(mems c A M' ∗ R) ⊢ wp (M := 𝕄) frame (wpE defs 𝒱 (c : Thread nD τ) none) Em (k z') Q) :
    iprop(mems c A M ∗ R) ⊢ wp (M := 𝕄) frame (wpE defs 𝒱 (c : Thread nD τ) none) Em (run A l z >>= k) Q := by
  induction l generalizing a z M with
  | nil =>
    simp only [chkAll, Option.some.injEq] at hc; subst hc
    exact H z M h
  | cons op l ih =>
    simp only [chkAll] at hc
    split at hc
    case h_2 => cases hc
    case h_1 a₁ h1 =>
      simp only [run, bind_assoc]
      exact step_sound 𝒱 c Em A hF op a a₁ z h1 h fun z' M' h' => ih a₁ z' hc h'

theorem mem_allWr (w : Wr) : w ∈ allWr := by
  have h1 : ∀ c n, Wr.dx c n ∈ allWr := by decide
  have h2 : ∀ h, Wr.gt h ∈ allWr := by decide
  have h3 : ∀ h, Wr.xt h ∈ allWr := by decide
  have h4 : ∀ h, Wr.gp h ∈ allWr := by decide
  have h5 : ∀ h, Wr.g h ∈ allWr := by decide
  have h6 : ∀ h, Wr.xa h ∈ allWr := by decide
  have h7 : ∀ i, Wr.o (.dla i) ∈ allWr := by decide
  have h8 : ∀ i, Wr.o (.dlb i) ∈ allWr := by decide
  rcases w with ⟨k, n⟩ | k | k | k | k | k | (k | k)
  · exact h1 k n
  · exact h2 k
  · exact h3 k
  · exact h4 k
  · exact h5 k
  · exact h6 k
  · exact h7 k
  · exact h8 k

/-- A body that passes the whole check takes the contents `M₀` to the contents `E` and leaves the matrix unit drained. -/
theorem body_sound {R : sProp 𝕄} {Q : α → sProp 𝕄} (hF : Final E M₀) (l : List Op) (hl : chkFin l = true) (z : St F)
    (hz : z.mxu = Mxu.init) {k : St F → P nD τ sig F Λ α}
    (H : ∀ z' : St F, z'.mxu.Drained →
      iprop(mems c A E ∗ R) ⊢ wp (M := 𝕄) frame (wpE defs 𝒱 (c : Thread nD τ) none) Em (k z') Q) :
    iprop(mems c A M₀ ∗ R) ⊢ wp (M := 𝕄) frame (wpE defs 𝒱 (c : Thread nD τ) none) Em (run A l z >>= k) Q := by
  unfold chkFin at hl
  split at hl
  case h_2 => cases hl
  case h_1 a ha =>
    simp only [AS.fin, Bool.and_eq_true, List.isEmpty_iff, List.all_eq_true] at hl
    obtain ⟨⟨⟨h1, h2⟩, h3⟩, h4⟩ := hl
    refine run_sound 𝒱 c Em A hF l {} a z ha ⟨hz ▸ RM.init, ?_, ?_⟩ fun z' M' h => ?_
    · constructor <;> intros <;> contradiction
    · refine ⟨?_, fun _ _ _ => rfl⟩
      rintro b y ⟨w, hw, -⟩; cases hw
    · have e : M' = E := by
        funext b y
        by_cases hy : ∃ w, Covers w b y
        · obtain ⟨w, hw⟩ := hy
          exact h.mem.new b y ⟨w, h4 w (mem_allWr w), hw⟩
        · exact (h.mem.old b y fun ⟨w, _, hw⟩ => hy ⟨w, hw⟩).trans (hF.rest b y hy).symm
      rw [e]
      exact H z' (h.m.drained h1 h2 h3)

end Step

end Cert.Qlora

end
-- ==== Proof.Fin.lean ====
/- The contents the body leaves, in closed form: every stored buffer is cut into tiles, each tile its sum. -/
module

public import proofs.«01_k».proof.Proof.Mem
public import Idealize.ShloMosaic.Lib.Pointwise.Index
public import Idealize.ShloMosaic.Lib.Pipeline.ValueKit.Geometry

@[expose] public section

noncomputable section

namespace Cert.Qlora

open Idealize.ShloMosaic

variable {F : FTy → Type} [FloatOps F]

/-- A matrix made of `P × Q` blocks of `p × q` elements. -/
def blocks {α : Type} (p q P Q : ℕ) {m n : ℕ} (hm : m = p * P) (hn : n = q * Q) (f : Fin P → Fin Q → (⟨2, ![p, q]⟩ : Shape).Idx → α) :
    (⟨2, ![m, n]⟩ : Shape).Idx → α := fun y =>
  have h0 : (y 0).val < p * P := hm ▸ (y 0).isLt
  have h1 : (y 1).val < q * Q := hn ▸ (y 1).isLt
  f ⟨(y 0).val / p, Nat.div_lt_of_lt_mul h0⟩ ⟨(y 1).val / q, Nat.div_lt_of_lt_mul h1⟩
    (ix2 ⟨(y 0).val % p, Nat.mod_lt _ (Nat.pos_of_ne_zero fun h => by simp [h] at h0)⟩
      ⟨(y 1).val % q, Nat.mod_lt _ (Nat.pos_of_ne_zero fun h => by simp [h] at h1)⟩)

theorem blocks_at {α : Type} {p q P Q m n : ℕ} (hm : m = p * P) (hn : n = q * Q)
    (f : Fin P → Fin Q → (⟨2, ![p, q]⟩ : Shape).Idx → α) (y : (⟨2, ![m, n]⟩ : Shape).Idx) (i : Fin P) (j : Fin Q) (l : (⟨2, ![p, q]⟩ : Shape).Idx)
    (h0 : (y 0).val = p * i + (l 0).val) (h1 : (y 1).val = q * j + (l 1).val) : blocks p q P Q hm hn f y = f i j l := by
  have l0 : (l 0).val < p := (l 0).isLt
  have l1 : (l 1).val < q := (l 1).isLt
  have a0 : (y 0).val / p = i := by rw [h0, Nat.mul_add_div (by omega), Nat.div_eq_of_lt l0]; rfl
  have a1 : (y 1).val / q = j := by rw [h1, Nat.mul_add_div (by omega), Nat.div_eq_of_lt l1]; rfl
  have b0 : (y 0).val % p = (l 0).val := by rw [h0, Nat.mul_add_mod, Nat.mod_eq_of_lt l0]
  have b1 : (y 1).val % q = (l 1).val := by rw [h1, Nat.mul_add_mod, Nat.mod_eq_of_lt l1]
  have c0 : (⟨(y 0).val / p, a0 ▸ i.isLt⟩ : Fin P) = i := Fin.ext a0
  have c1 : (⟨(y 1).val / q, a1 ▸ j.isLt⟩ : Fin Q) = j := Fin.ext a1
  have c2 : (ix2 ⟨(y 0).val % p, b0 ▸ l0⟩ ⟨(y 1).val % q, b1 ▸ l1⟩ : (⟨2, ![p, q]⟩ : Shape).Idx) = l := by
    funext a
    match a with
    | ⟨0, _⟩ => exact Fin.ext b0
    | ⟨1, _⟩ => exact Fin.ext b1
  exact congr (congr (congrArg f c0) c1) c2

theorem emb_val {s0 s1 o0 o1 t0 t1 : ℕ} (h0 : o0 + t0 ≤ s0) (h1 : o1 + t1 ≤ s1) (l : (rect (s0 := s0) (s1 := s1) o0 o1 t0 t1 h0 h1).shape.Idx) :
    (((rect o0 o1 t0 t1 h0 h1).emb l) 0).val = o0 + (l 0).val ∧ (((rect o0 o1 t0 t1 h0 h1).emb l) 1).val = o1 + (l 1).val := by
  constructor <;> exact ValueKit.rect_emb_unit_val _ _ _ _ _

/-- One block read off. -/
theorem get_blocks {α : Type} {p q P Q m n : ℕ} (hm : m = p * P) (hn : n = q * Q)
    (f : Fin P → Fin Q → (⟨2, ![p, q]⟩ : Shape).Idx → α) {o0 o1 : ℕ} (h0 : o0 + p ≤ m) (h1 : o1 + q ≤ n) (i : Fin P) (j : Fin Q)
    (e0 : o0 = p * i) (e1 : o1 = q * j) : get (blocks p q P Q hm hn f) (rect o0 o1 p q h0 h1) = f i j := by
  funext l
  exact blocks_at hm hn f _ i j l (by rw [← e0]; exact (emb_val h0 h1 l).1) (by rw [← e1]; exact (emb_val h0 h1 l).2)

/-- An element in a rectangle. -/
theorem mem_rect {s0 s1 o0 o1 t0 t1 : ℕ} (h0 : o0 + t0 ≤ s0) (h1 : o1 + t1 ≤ s1) (y : (⟨2, ![s0, s1]⟩ : Shape).Idx)
    (a0 : o0 ≤ (y 0).val) (b0 : (y 0).val < o0 + t0) (a1 : o1 ≤ (y 1).val) (b1 : (y 1).val < o1 + t1) :
    y ∈ (rect (s0 := s0) (s1 := s1) o0 o1 t0 t1 h0 h1).set := by
  have e : y = (rect o0 o1 t0 t1 h0 h1).emb (ix2 ⟨(y 0).val - o0, by omega⟩ ⟨(y 1).val - o1, by omega⟩) := by
    funext a
    have := emb_val h0 h1 (ix2 ⟨(y 0).val - o0, by omega⟩ ⟨(y 1).val - o1, by omega⟩)
    match a with
    | ⟨0, _⟩ => refine Fin.ext (Eq.symm (this.1.trans ?_)); show o0 + ((y 0).val - o0) = (y 0).val; omega
    | ⟨1, _⟩ => refine Fin.ext (Eq.symm (this.2.trans ?_)); show o1 + ((y 1).val - o1) = (y 1).val; omega
  rw [e]
  rw [← Rect.map_emb_univ]; exact Finset.mem_map_of_mem _ (Finset.mem_univ _)

/-! ## The contents, in three stages -/

/-- The transposed copies of `g` and `xa` filled in. -/
def fin1 (I : Mem F) : Mem F
  | .gt => blocks 16 256 1 2 rfl rfl fun _ h => truncf .bf16 (sumS I (gtLog h)) ltBits
  | .xt => blocks 16 256 1 2 rfl rfl fun _ h => truncf .bf16 (sumS I (xtLog h)) ltBits
  | .dy => I .dy | .x => I .x | .w => I .w | .ap => I .ap | .at => I .at | .b => I .b | .dx => I .dx | .g => I .g | .xa => I .xa
  | .dla => I .dla | .dlb => I .dlb | .gp => I .gp

/-- The padded copy of `g` filled in. -/
def fin2 (I : Mem F) : Mem F
  | .gp => blocks 256 128 2 2 rfl rfl fun h k => if k.val = 0 then rndV (sumS I (gtLog h)) else broadcast U128 (Scalar.ofBits .bf16 0x0000#16)
  | .gt => fin1 I .gt | .xt => fin1 I .xt
  | .dy => I .dy | .x => I .x | .w => I .w | .ap => I .ap | .at => I .at | .b => I .b | .dx => I .dx | .g => I .g | .xa => I .xa
  | .dla => I .dla | .dlb => I .dlb

/-- The results filled in. -/
def fin (I : Mem F) : Mem F
  | .dx => blocks 128 256 4 10 rfl rfl fun c n => truncf .bf16 (sumL (fin2 I) (dxLog c n)) ltBits
  | .g => blocks 256 16 2 1 rfl rfl fun h _ => extV (sumS I (gtLog h))
  | .xa => blocks 256 16 2 1 rfl rfl fun h _ => extV (sumS I (xtLog h))
  | .dla => blocks 16 256 1 10 rfl rfl fun _ i => addf (accV I (.dla i)) (oneV (sumS (fin1 I) (accLog (.dla i))))
  | .dlb => blocks 16 256 1 27 rfl rfl fun _ j => addf (accV I (.dlb j)) (oneV (sumS (fin1 I) (accLog (.dlb j))))
  | .gp => fin2 I .gp | .gt => fin1 I .gt | .xt => fin1 I .xt
  | .dy => I .dy | .x => I .x | .w => I .w | .ap => I .ap | .at => I .at | .b => I .b

theorem sumS_congr {E E' : Mem F} (ht : ∀ d, tileV E d = tileV E' d) : ∀ l : LogS, (∀ e ∈ l, thinV E e.2.2 = thinV E' e.2.2) →
    sumS E l = sumS E' l
  | [], _ => rfl
  | [(x, tr, y)], h => by simp only [sumS, stg]; rw [ht x, h (x, tr, y) (by simp)]
  | (x, tr, y) :: e :: l, h => by
    simp only [sumS, stg]; rw [ht x, h (x, tr, y) (by simp), sumS_congr ht (e :: l) fun e' he => h e' (by simp [List.mem_cons.1 he])]

theorem sumL_congr {E E' : Mem F} (ht : ∀ d, tileV E d = tileV E' d) (hs : ∀ d, (∀ c n, d ≠ .dx c n) → stripV E d = stripV E' d) :
    ∀ l : LogL, (∀ e ∈ l, ∀ c n, e.2.2 ≠ .dx c n) → sumL E l = sumL E' l
  | [], _ => rfl
  | [(x, tr, y)], h => by simp only [sumL, stg]; rw [ht x, hs y (h (x, tr, y) (by simp))]
  | (x, tr, y) :: e :: l, h => by
    simp only [sumL, stg]; rw [ht x, hs y (h (x, tr, y) (by simp)), sumL_congr ht hs (e :: l) fun e' he => h e' (by simp [List.mem_cons.1 he])]

theorem gt_sum (I : Mem F) (h : Fin 2) : sumS (fin I) (gtLog h) = sumS I (gtLog h) :=
  sumS_congr (fun d => by cases d <;> rfl) _ fun e he => by
    obtain ⟨j, -, rfl⟩ := List.mem_map.1 he; rfl

theorem xt_sum (I : Mem F) (h : Fin 2) : sumS (fin I) (xtLog h) = sumS I (xtLog h) :=
  sumS_congr (fun d => by cases d <;> rfl) _ fun e he => by
    obtain ⟨j, -, rfl⟩ := List.mem_map.1 he; rfl

theorem acc_sum (I : Mem F) (x : Acc) : sumS (fin I) (accLog x) = sumS (fin1 I) (accLog x) :=
  sumS_congr (fun d => by cases d <;> rfl) _ fun e _ => by rcases e with ⟨_, _, _ | _ | _ | _⟩ <;> rfl

theorem dx_sum (I : Mem F) (c : Fin 4) (n : Fin 10) : sumL (fin I) (dxLog c n) = sumL (fin2 I) (dxLog c n) :=
  sumL_congr (fun d => by cases d <;> rfl) (fun d hd => by
      cases d with
      | dy => rfl
      | gp => rfl
      | dx c n => exact absurd rfl (hd c n)) _ fun e he c' n' => by
    unfold dxLog at he
    rcases List.mem_cons.1 he with rfl | he
    · exact fun h => by cases h
    · obtain ⟨j, -, rfl⟩ := List.mem_map.1 he; exact fun h => by cases h

/-- Contents that the body takes to `fin I`: those that agree with `I` on what the body reads. -/
structure Starts (I M₀ : Mem F) : Prop where
  dy : M₀ .dy = I .dy
  x : M₀ .x = I .x
  w : M₀ .w = I .w
  ap : M₀ .ap = I .ap
  at' : M₀ .at = I .at
  b : M₀ .b = I .b
  dla : M₀ .dla = I .dla
  dlb : M₀ .dlb = I .dlb
  gp : ∀ y : (sh .gp).Idx, 128 ≤ (y 1).val → M₀ .gp y = Scalar.ofBits .bf16 0x0000#16

/-- What the body leaves of the padded copy of `g` past column 128. -/
theorem fin_gp (I : Mem F) (y : (sh .gp).Idx) (hy : 128 ≤ (y 1).val) : fin I .gp y = Scalar.ofBits .bf16 0x0000#16 := by
  have h0 : (y 0).val < 512 := (y 0).isLt
  have h1 : (y 1).val < 256 := (y 1).isLt
  have e0 : (y 0).val = 256 * ((y 0).val / 256) + (y 0).val % 256 := by omega
  have e1 : (y 1).val = 128 * 1 + ((y 1).val - 128) := by omega
  have k0 : (y 0).val / 256 < 2 := by omega
  have k1 : (y 0).val % 256 < 256 := by omega
  have k2 : (y 1).val - 128 < 128 := by omega
  exact (blocks_at (p := 256) (q := 128) (P := 2) (Q := 2) (m := 512) (n := 256) rfl rfl
    (fun h k => if k.val = 0 then rndV (sumS I (gtLog h)) else broadcast U128 (Scalar.ofBits .bf16 0x0000#16)) y
    ⟨(y 0).val / 256, k0⟩ 1 (ix2 ⟨(y 0).val % 256, k1⟩ ⟨(y 1).val - 128, k2⟩) e0 e1).trans (congrFun (if_neg (by decide)) _)

theorem fin_final {I M₀ : Mem F} (h : Starts I M₀) : Final (fin I) M₀ where
  dx c n := by rw [dx_sum]; exact get_blocks (p := 128) (q := 256) (P := 4) (Q := 10) (m := 512) (n := 2560) rfl rfl (fun c n => truncf .bf16 (sumL (fin2 I) (dxLog c n)) ltBits) _ _ c n rfl rfl
  gt t := by rw [gt_sum]; exact get_blocks (p := 16) (q := 256) (P := 1) (Q := 2) (m := 16) (n := 512) rfl rfl (fun _ h => truncf .bf16 (sumS I (gtLog h)) ltBits) _ _ 0 t rfl rfl
  xt t := by rw [xt_sum]; exact get_blocks (p := 16) (q := 256) (P := 1) (Q := 2) (m := 16) (n := 512) rfl rfl (fun _ h => truncf .bf16 (sumS I (xtLog h)) ltBits) _ _ 0 t rfl rfl
  gp t := by rw [gt_sum]; exact (get_blocks (p := 256) (q := 128) (P := 2) (Q := 2) (m := 512) (n := 256) rfl rfl (fun h k => if k.val = 0 then rndV (sumS I (gtLog h)) else broadcast U128 (Scalar.ofBits .bf16 0x0000#16)) _ _ t 0 rfl rfl).trans (if_pos rfl)
  g t := by rw [gt_sum]; exact get_blocks (p := 256) (q := 16) (P := 2) (Q := 1) (m := 512) (n := 16) rfl rfl (fun h _ => extV (sumS I (gtLog h))) _ _ t 0 rfl rfl
  xa t := by rw [xt_sum]; exact get_blocks (p := 256) (q := 16) (P := 2) (Q := 1) (m := 512) (n := 16) rfl rfl (fun h _ => extV (sumS I (xtLog h))) _ _ t 0 rfl rfl
  o x := by
    rw [acc_sum]
    cases x with
    | dla i => simp only [accV, h.dla]; exact get_blocks (p := 16) (q := 256) (P := 1) (Q := 10) (m := 16) (n := 2560) rfl rfl (fun _ i => addf (accV I (.dla i)) (oneV (sumS (fin1 I) (accLog (.dla i))))) _ _ 0 i rfl rfl
    | dlb i => simp only [accV, h.dlb]; exact get_blocks (p := 16) (q := 256) (P := 1) (Q := 27) (m := 16) (n := 6912) rfl rfl (fun _ j => addf (accV I (.dlb j)) (oneV (sumS (fin1 I) (accLog (.dlb j))))) _ _ 0 i rfl rfl
  rest b y hn := by
    cases b with
    | dy => exact (congrFun h.dy y).symm
    | x => exact (congrFun h.x y).symm
    | w => exact (congrFun h.w y).symm
    | ap => exact (congrFun h.ap y).symm
    | «at» => exact (congrFun h.at' y).symm
    | b => exact (congrFun h.b y).symm
    | dx =>
      have h0 : (y 0).val < 512 := (y 0).isLt
      have h1 : (y 1).val < 2560 := (y 1).isLt
      exact absurd ⟨.dx ⟨(y 0).val / 128, by omega⟩ ⟨(y 1).val / 256, by omega⟩, rfl,
        mem_rect (lt_mul 128 (⟨(y 0).val / 128, by omega⟩ : Fin 4)) (lt_mul 256 (⟨(y 1).val / 256, by omega⟩ : Fin 10)) y
          (by dsimp only; omega) (by dsimp only; omega) (by dsimp only; omega) (by dsimp only; omega)⟩ hn
    | g =>
      have h0 : (y 0).val < 512 := (y 0).isLt
      have h1 : (y 1).val < 16 := (y 1).isLt
      exact absurd ⟨.g ⟨(y 0).val / 256, by omega⟩, rfl,
        mem_rect (lt_mul 256 (⟨(y 0).val / 256, by omega⟩ : Fin 2)) (by decide) y (by dsimp only; omega) (by dsimp only; omega) (by omega) (by omega)⟩ hn
    | xa =>
      have h0 : (y 0).val < 512 := (y 0).isLt
      have h1 : (y 1).val < 16 := (y 1).isLt
      exact absurd ⟨.xa ⟨(y 0).val / 256, by omega⟩, rfl,
        mem_rect (lt_mul 256 (⟨(y 0).val / 256, by omega⟩ : Fin 2)) (by decide) y (by dsimp only; omega) (by dsimp only; omega) (by omega) (by omega)⟩ hn
    | gt =>
      have h0 : (y 0).val < 16 := (y 0).isLt
      have h1 : (y 1).val < 512 := (y 1).isLt
      exact absurd ⟨.gt ⟨(y 1).val / 256, by omega⟩, rfl,
        mem_rect (by decide) (lt_mul 256 (⟨(y 1).val / 256, by omega⟩ : Fin 2)) y (by omega) (by omega) (by dsimp only; omega) (by dsimp only; omega)⟩ hn
    | xt =>
      have h0 : (y 0).val < 16 := (y 0).isLt
      have h1 : (y 1).val < 512 := (y 1).isLt
      exact absurd ⟨.xt ⟨(y 1).val / 256, by omega⟩, rfl,
        mem_rect (by decide) (lt_mul 256 (⟨(y 1).val / 256, by omega⟩ : Fin 2)) y (by omega) (by omega) (by dsimp only; omega) (by dsimp only; omega)⟩ hn
    | dla =>
      have h0 : (y 0).val < 16 := (y 0).isLt
      have h1 : (y 1).val < 2560 := (y 1).isLt
      exact absurd ⟨.o (.dla ⟨(y 1).val / 256, by omega⟩), rfl,
        mem_rect (by decide) (lt_mul 256 (⟨(y 1).val / 256, by omega⟩ : Fin 10)) y (by omega) (by omega) (by dsimp only; omega) (by dsimp only; omega)⟩ hn
    | dlb =>
      have h0 : (y 0).val < 16 := (y 0).isLt
      have h1 : (y 1).val < 6912 := (y 1).isLt
      exact absurd ⟨.o (.dlb ⟨(y 1).val / 256, by omega⟩), rfl,
        mem_rect (by decide) (lt_mul 256 (⟨(y 1).val / 256, by omega⟩ : Fin 27)) y (by omega) (by omega) (by dsimp only; omega) (by dsimp only; omega)⟩ hn
    | gp =>
      have h0 : (y 0).val < 512 := (y 0).isLt
      have h1 : (y 1).val < 256 := (y 1).isLt
      by_cases hc : (y 1).val < 128
      · exact absurd ⟨.gp ⟨(y 0).val / 256, by omega⟩, rfl,
          mem_rect (lt_mul 256 (⟨(y 0).val / 256, by omega⟩ : Fin 2)) (by decide) y (by dsimp only; omega) (by dsimp only; omega) (by omega) (by omega)⟩ hn
      · exact (fin_gp I y (by omega)).trans (h.gp y (by omega)).symm

end Cert.Qlora

end
-- ==== Proof.PrologueSound.lean ====
/- What the first grid point's own work does to the buffers: the weight is copied in whole, the padded copy of `g` and the two
   running sums become zero, the semaphore is back at zero. -/
module

public import proofs.«01_k».proof.Proof.Sound
public import proofs.«01_k».proof.Proof.Prologue
public import proofs.«01_k».proof.Proof.Fin
public import Idealize.ShloMosaic.Lib.Transfers
public import Idealize.ShloMosaic.Lib.Tactic

@[expose] public section

noncomputable section

namespace Cert.Qlora

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : ℕ} {τ : Topo} {sig : RefSig} {Ix : Type} [DecidableEq Ix]
variable {U : Type} [URA U] [CountersIn U] {Lvl : Type} [Preorder Lvl] {Λ : Labels}

local notation "𝕄" => MT nD τ sig Ix (Elt F) ℕ U Lvl

/-- The buffers once the first point's own work is done. -/
def start (M : Mem F) (wv : SW.Idx → Elt F .bf16) : Mem F
  | .w => wv
  | .gp => broadcast (sh .gp) (Scalar.ofBits .bf16 0x0000#16)
  | .dla => broadcast (sh .dla) (Scalar.ofBits .f32 0x00000000#32)
  | .dlb => broadcast (sh .dlb) (Scalar.ofBits .f32 0x00000000#32)
  | .dy => M .dy | .x => M .x | .ap => M .ap | .at => M .at | .b => M .b | .dx => M .dx | .g => M .g | .xa => M .xa
  | .gt => M .gt | .xt => M .xt

/-- The ten buffers the first point's own work leaves alone. -/
def quiet (c : Dev nD) (A : Args sig) (M : Mem F) : sProp 𝕄 :=
  bigSep ((((Finset.univ.erase B.w).erase B.gp).erase B.dlb).erase B.dla) fun b => owns (c : Thread nD τ) (A.m b) fullShare (M b)

theorem mems_four (c : Dev nD) (A : Args sig) (M : Mem F) :
    (mems c A M : sProp 𝕄) = iprop(owns (c : Thread nD τ) (A.m .w) fullShare (M .w) ∗ owns (c : Thread nD τ) (A.m .gp) fullShare (M .gp)
      ∗ owns (c : Thread nD τ) (A.m .dlb) fullShare (M .dlb) ∗ owns (c : Thread nD τ) (A.m .dla) fullShare (M .dla) ∗ quiet c A M) := by
  unfold mems quiet
  rw [BI.bigSep_univ_split B.w, BI.bigSep_erase (i := B.gp) (by decide), BI.bigSep_erase (i := B.dlb) (by decide),
    BI.bigSep_erase (i := B.dla) (by decide)]
  rfl

theorem quiet_start (c : Dev nD) (A : Args sig) (M : Mem F) (wv : SW.Idx → Elt F .bf16) :
    (quiet c A (start M wv) : sProp 𝕄) = quiet c A M := by
  unfold quiet
  refine bigSep_congr fun b hb => ?_
  cases b <;> first | rfl | simp at hb

section Wp

variable {defs : Defs nD τ sig (Elt F) Λ} (𝒱 : Variants) (c : Dev nD) (Em : Set ℕ)
variable (A : Args sig) {α : Type}

/-- A load of a buffer held alone. -/
theorem wp_ld1 {Q : α → sProp 𝕄} (b : B) (v : (sh b).Idx → Elt F (el b)) (r : Rect (sh b)) (h : 0 < r.shape.numel)
    {k : Vec F r.shape (el b) → P nD τ sig F Λ α} :
    (owns (c : Thread nD τ) (A.m b) fullShare v : sProp 𝕄)
      ⊢ iprop((owns (c : Thread nD τ) (A.m b) fullShare v -∗ wp (M := 𝕄) frame (wpE defs 𝒱 (c : Thread nD τ) none) Set.univ (k (get v r)) Q)
        -∗ wp (M := 𝕄) frame (wpE defs 𝒱 (c : Thread nD τ) none) Set.univ ((ld A b r h : P nD τ sig F Λ _) >>= k) Q) := by
  unfold owns
  iintro ⟨%f, %hf, Hb⟩ HR
  simp only [ld, Prog.lift, Prog.bind_op, Prog.bind_ret]
  iapply (wp_load_rect (defs := defs) 𝒱 (c : Thread nD τ) none Set.univ (m := A.m b) (r := r) (S := (A.m b).view.set) ((A.m b).view.set_slice_subset r)) $$ [Hb]
  · iexact Hb
  iintro Hb
  have e : ((A.m b).access r).read (Elt F) f = get v r := by
    rw [← hf]; rfl
  rw [e]
  iapply HR
  iexists f; isplitr; · ipureintro; exact hf
  iexact Hb

/-- A store into a buffer held alone. -/
theorem wp_st1 {Q : α → sProp 𝕄} (b : B) (u : (sh b).Idx → Elt F (el b)) (r : Rect (sh b)) {v : Vec F r.shape (el b)} {hx : ((A.m b).access r).Stores Finset.univ}
    {hm : (Finset.univ : Finset r.shape.Idx) = Finset.univ ∨ ∀ a, r.stride a = 1} {k : PUnit → P nD τ sig F Λ α} :
    (owns (c : Thread nD τ) (A.m b) fullShare u : sProp 𝕄)
      ⊢ iprop((owns (c : Thread nD τ) (A.m b) fullShare (r.overlay u v) -∗ wp (M := 𝕄) frame (wpE defs 𝒱 (c : Thread nD τ) none) Set.univ (k ⟨⟩) Q)
        -∗ wp (M := 𝕄) frame (wpE defs 𝒱 (c : Thread nD τ) none) Set.univ
          ((Prog.lift (.store (A.m b) r v Finset.univ hx hm) : P nD τ sig F Λ _) >>= k) Q) := by
  unfold owns
  iintro ⟨%f, %hf, Hb⟩ HR
  simp only [Prog.lift, Prog.bind_op, Prog.bind_ret]
  iapply (wp_store (defs := defs) 𝒱 (c : Thread nD τ) none Set.univ (m := A.m b) (r := r) (S := (A.m b).view.set) ((A.m b).view.set_slice_subset r)) $$ [Hb]
  · iexact Hb
  iintro Hb
  iapply HR
  iexists _; isplitr
  swap; · iexact Hb
  ipureintro
  rw [← hf]; exact read_store _ _ _ _

/-- A store over a whole buffer of one value everywhere. -/
theorem overlay_all {s0 s1 : ℕ} {β : Type} (h0 : 0 + s0 ≤ s0) (h1 : 0 + s1 ≤ s1) (u : (⟨2, ![s0, s1]⟩ : Shape).Idx → β) (z : β) :
    (rect (s0 := s0) (s1 := s1) 0 0 s0 s1 h0 h1).overlay u (fun _ => z) = fun _ => z := by
  funext y
  have hy : y ∈ (rect (s0 := s0) (s1 := s1) 0 0 s0 s1 h0 h1).set :=
    mem_rect h0 h1 y (Nat.zero_le _) (by have : (y 0).val < s0 := (y 0).isLt; omega) (Nat.zero_le _)
      (by have : (y 1).val < s1 := (y 1).isLt; omega)
  rw [← Rect.map_emb_univ] at hy
  obtain ⟨i, -, rfl⟩ := Finset.mem_map.1 hy
  exact Rect.overlay_emb _ _ _ i

/-- The first point's own work, from any contents `M` and the weight `wv` in its array. -/
theorem prologue_sound {R : sProp 𝕄} {Q : α → sProp 𝕄} (ι : Ix) (M : Mem F) (w : Memref sig .tc .hbm SW .bf16) (hw : w.IsWhole) (d : DmaSem sig)
    (fw : Buf (Elt F) (w.view.loc (c : Thread nD τ))) {k : PUnit → P nD τ sig F Λ α} (g : BitVec 1) (hg : g = 1#1)
    (H : iprop(mems c A (start M (w.view.read (Elt F) fw)) ∗ (w.view.loc (c : Thread nD τ) ↦[w.view.set]{fullShare} fw)
      ∗ semVal ((c : Thread nD τ), .dma d) 0 ∗ (∃ W, owes (c : Thread nD τ) 0 W) ∗ R)
      ⊢ wp (M := 𝕄) frame (wpE defs 𝒱 (c : Thread nD τ) none) Set.univ (k ⟨⟩) Q) :
    iprop(mems c A M ∗ (w.view.loc (c : Thread nD τ) ↦[w.view.set]{fullShare} fw) ∗ semVal ((c : Thread nD τ), .dma d) 0
      ∗ (∃ W, owes (c : Thread nD τ) 0 W) ∗ R)
      ⊢ wp (M := 𝕄) frame (wpE defs 𝒱 (c : Thread nD τ) none) Set.univ (prologue A g w hw d >>= k) Q := by
  have hN : 0 < (A.m .w).view.amount (.dma d) :=
    Nat.pos_of_ne_zero fun h => absurd ((View.amount_eq_zero_iff _ _).1 h) (numel_pos (by decide) (by decide)).ne'
  rw [mems_four, quiet_start] at H
  rw [mems_four]
  rw [show (start M (w.view.read (Elt F) fw) .gp) = rGpAll.overlay (M .gp) (shapeCast ⟨2, ![512, 256]⟩ (broadcast ⟨2, ![512, 256]⟩ (Scalar.ofBits .bf16 0x0000#16)) casts_gp)
      from (overlay_all _ _ (M .gp) _).symm,
    show (start M (w.view.read (Elt F) fw) .dlb) = rDlbAll.overlay (M .dlb) (broadcast ⟨2, ![16, 6912]⟩ (Scalar.ofBits .f32 0x00000000#32))
      from (overlay_all _ _ (M .dlb) _).symm,
    show (start M (w.view.read (Elt F) fw) .dla) = rDlaAll.overlay (M .dla) (broadcast ⟨2, ![16, 2560]⟩ (Scalar.ofBits .f32 0x00000000#32))
      from (overlay_all _ _ (M .dla) _).symm,
    show (start M (w.view.read (Elt F) fw) .w) = w.view.read (Elt F) fw from rfl] at H
  unfold prologue
  rw [if_pos hg]
  simp only [bind_assoc]
  rw [show (owns (c : Thread nD τ) (A.m .w) fullShare (M .w) : sProp 𝕄) = iprop(∃ f, ⌜(A.m .w).view.read (Elt F) f = M .w⌝
    ∗ ((A.m .w).view.loc (c : Thread nD τ) ↦[(A.m .w).view.set]{fullShare} f)) from rfl]
  iintro ⟨⟨⟨%f, %hf, Hw⟩, Hgp, Hdlb, Hdla, Hq⟩, Hs, Hv, ⟨%W, HO⟩, HR⟩
  iapply (Transfers.wp_dmaLocal (countersEmb (U := U)) 𝒱 (c : Thread nD τ) none (fs := fw) (fd := f) ι _ rfl hN (Finset.Subset.refl _)) $$ [Hs Hw Hv]
  · isplitl [Hs]; · iexact Hs
    isplitl [Hw]; · iexact Hw
    iexact Hv
  iintro Hf
  simp only [Prog.bind_ret]
  iapply (wp_ld1 (F := F) 𝒱 c A .gp (M .gp) rGpAll (numel_pos (by decide) (by decide))) $$ [Hgp]
  · iexact Hgp
  iintro Hgp
  iapply (wp_st1 (F := F) 𝒱 c A .gp (M .gp) rGpAll) $$ [Hgp]
  · iexact Hgp
  iintro Hgp
  iapply (wp_ld1 (F := F) 𝒱 c A .dlb (M .dlb) rDlbAll (numel_pos (by decide) (by decide))) $$ [Hdlb]
  · iexact Hdlb
  iintro Hdlb
  iapply (wp_st1 (F := F) 𝒱 c A .dlb (M .dlb) rDlbAll) $$ [Hdlb]
  · iexact Hdlb
  iintro Hdlb
  iapply (wp_ld1 (F := F) 𝒱 c A .dla (M .dla) rDlaAll (numel_pos (by decide) (by decide))) $$ [Hdla]
  · iexact Hdla
  iintro Hdla
  iapply (wp_st1 (F := F) 𝒱 c A .dla (M .dla) rDlaAll) $$ [Hdla]
  · iexact Hdla
  iintro Hdla
  iapply (Transfers.wp_waitLocal (countersEmb (U := U)) 𝒱 (c : Thread nD τ) none ι rfl) $$ [Hf HO]
  · isplitl [Hf]; · iexact Hf
    iexact HO
  iintro ⟨⟨Hw, Hs⟩, Hv, HO⟩
  simp only [Prog.bind_ret]
  iapply H
  isplitr [Hs Hv HO HR]
  · isplitl [Hw]
    · unfold owns
      iexists _; isplitr
      swap; · iexact Hw
      ipureintro
      exact View.read_write_univ _ _
    isplitl [Hgp]; · iexact Hgp
    isplitl [Hdlb]; · iexact Hdlb
    isplitl [Hdla]; · iexact Hdla
    iexact Hq
  isplitl [Hs]; · iexact Hs
  isplitl [Hv]; · iexact Hv
  isplitl [HO]; · iexists _; iexact HO
  iexact HR

end Wp

end Cert.Qlora

end
-- ==== Proof.CodeOk.lean ====
/- The body's steps pass the symbolic run: every product goes where it is expected, every tile is stored. -/
module

public import proofs.«01_k».proof.Proof.Code
public import proofs.«01_k».proof.Proof.Chk

@[expose] public section

namespace Cert.Qlora

theorem code_ok : chkFin code = true := by decide +kernel

end Cert.Qlora

end
-- ==== Proof.MainIdeal.lean ====
/- The main call: what each grid point finds and leaves, and its body obligation, for any contents of the arrays on entry. -/
module

public import proofs.«01_k».proof.Proof.BodyIdealEq
public import proofs.«01_k».proof.Proof.PrologueSound
public import proofs.«01_k».proof.Proof.CodeOk
public import proofs.«01_k».proof.Proof.Gen.KernelIdeal.Launch
public import proofs.«01_k».proof.Proof.Gen.KernelIdeal.Points
public import Idealize.ShloMosaic.Lib.Pipeline.FrameBody
public import Idealize.ShloMosaic.Lib.Pipeline.TalkSched
public import Idealize.ShloMosaic.Lib.Pipeline.RegionArraysD

@[expose] public section

noncomputable section

namespace Cert.KernelIdeal.Main

open Cert.KernelIdeal Cert.KernelIdeal.Gen Cert.Qlora
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {Ix : Type} [DecidableEq Ix] {U : Type} [URA U] [CountersIn U] {Lvl : Type} [Preorder Lvl]

local notation "𝕄" => MT nD τ sig Ix (Elt F) ℕ U Lvl

/-! ## The body on any buffers -/

section Body

variable (𝒱₀ : Variants) (c : Dev nD) (A : Args sig) (i : grid1.Coords)

/-- The body past the first point. -/
theorem run_later {R : sProp 𝕄} {Q : PUnit → sProp 𝕄} {I M : Mem F} (w : Memref sig .tc .hbm S2560x6912 .bf16) (hw : w.IsWhole) (d : DmaSems sig S_)
    (hi : isFirst i ≠ 1#1) (hS : Starts I M) (H : iprop(mems c A (fin I) ∗ R) ⊢ Q ⟨⟩) :
    iprop(mems c A M ∗ R) ⊢ wp (M := 𝕄) frame (wpE (defs₀ (F := F)) 𝒱₀ (c : Thread nD τ) none) Set.univ
      (app A i w hw d (cc1_qlora_backward (F := F))) Q := by
  rw [body_eq]
  have hc := code_ok
  generalize code = l at hc ⊢
  unfold prologue
  rw [if_neg hi]
  refine body_sound 𝒱₀ c Set.univ A (fin_final hS) l hc St.init rfl fun z' hz' => ?_
  refine BIBase.Entails.trans ?_ (Mxu.wp_exit (hd := hz') (𝒱 := 𝒱₀) (c := (c : Thread nD τ)) (bd := none) (E := Set.univ))
  rw [wp_pure]
  exact H.trans fupd_intro

/-- The body at the first point. -/
theorem run_first {R : sProp 𝕄} {Q : PUnit → sProp 𝕄} (ι : Ix) {I M : Mem F} (w : Memref sig .tc .hbm S2560x6912 .bf16) (hw : w.IsWhole) (d : DmaSems sig S_)
    (fw : Buf (Elt F) (w.view.loc (c : Thread nD τ)))
    (hi : isFirst i = 1#1) (hS : Starts I (start M (w.view.read (Elt F) fw)))
    (H : iprop(mems c A (fin I) ∗ (w.view.loc (c : Thread nD τ) ↦[w.view.set]{fullShare} fw) ∗ semVal ((c : Thread nD τ), .dma d.sem) 0
      ∗ (∃ W, owes (c : Thread nD τ) 0 W) ∗ R) ⊢ Q ⟨⟩) :
    iprop(mems c A M ∗ (w.view.loc (c : Thread nD τ) ↦[w.view.set]{fullShare} fw) ∗ semVal ((c : Thread nD τ), .dma d.sem) 0
      ∗ (∃ W, owes (c : Thread nD τ) 0 W) ∗ R) ⊢ wp (M := 𝕄) frame (wpE (defs₀ (F := F)) 𝒱₀ (c : Thread nD τ) none) Set.univ
      (app A i w hw d (cc1_qlora_backward (F := F))) Q := by
  rw [body_eq]
  have hc := code_ok
  generalize code = l at hc ⊢
  refine prologue_sound 𝒱₀ c A ι M w hw d.sem fw (isFirst i) hi ?_
  refine body_sound 𝒱₀ c Set.univ A (fin_final hS) l hc St.init rfl fun z' hz' => ?_
  refine BIBase.Entails.trans ?_ (Mxu.wp_exit (hd := hz') (𝒱 := 𝒱₀) (c := (c : Thread nD τ)) (bd := none) (E := Set.univ))
  rw [wp_pure]
  exact H.trans fupd_intro

/-- The buffers one by one. -/
theorem mems_all (M : Mem F) : (mems c A M : sProp 𝕄) =
    iprop(owns (c : Thread nD τ) (A.m .dy) fullShare (M .dy) ∗ owns (c : Thread nD τ) (A.m .x) fullShare (M .x)
      ∗ owns (c : Thread nD τ) (A.m .ap) fullShare (M .ap) ∗ owns (c : Thread nD τ) (A.m .at) fullShare (M .at)
      ∗ owns (c : Thread nD τ) (A.m .b) fullShare (M .b) ∗ owns (c : Thread nD τ) (A.m .dx) fullShare (M .dx)
      ∗ owns (c : Thread nD τ) (A.m .g) fullShare (M .g) ∗ owns (c : Thread nD τ) (A.m .xa) fullShare (M .xa)
      ∗ owns (c : Thread nD τ) (A.m .dla) fullShare (M .dla) ∗ owns (c : Thread nD τ) (A.m .dlb) fullShare (M .dlb)
      ∗ owns (c : Thread nD τ) (A.m .w) fullShare (M .w) ∗ owns (c : Thread nD τ) (A.m .gp) fullShare (M .gp)
      ∗ owns (c : Thread nD τ) (A.m .gt) fullShare (M .gt) ∗ bigSep {B.xt} fun b => owns (c : Thread nD τ) (A.m b) fullShare (M b)) := by
  unfold mems
  rw [BI.bigSep_univ_split B.dy, BI.bigSep_erase (i := B.x) (by decide), BI.bigSep_erase (i := B.ap) (by decide), BI.bigSep_erase (i := B.at) (by decide),
    BI.bigSep_erase (i := B.b) (by decide), BI.bigSep_erase (i := B.dx) (by decide), BI.bigSep_erase (i := B.g) (by decide),
    BI.bigSep_erase (i := B.xa) (by decide), BI.bigSep_erase (i := B.dla) (by decide), BI.bigSep_erase (i := B.dlb) (by decide),
    BI.bigSep_erase (i := B.w) (by decide), BI.bigSep_erase (i := B.gp) (by decide), BI.bigSep_erase (i := B.gt) (by decide)]
  rfl

end Body

/-- Is this the first point, as a word. -/
theorem isFirst_iff (t : Fin cfg1.N) : isFirst (grid1.coords t) = 1#1 ↔ t.val = 0 := by
  have h : ∀ t : Fin grid1.N, isFirst (grid1.coords t) = 1#1 ↔ t.val = 0 := by decide
  exact h t

end Cert.KernelIdeal.Main

end
-- ==== Proof.MainDataIdeal.lean ====
/- The proof data of the main call: what each grid point finds and leaves, for any contents of the arrays on entry. -/
module

public import proofs.«01_k».proof.Proof.MainIdeal

@[expose] public section

noncomputable section

namespace Cert.KernelIdeal.Main

open Cert.KernelIdeal Cert.KernelIdeal.Gen Cert.Qlora
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {Ix : Type} [DecidableEq Ix] {U : Type} [URA U] [CountersIn U] {Lvl : Type} [Preorder Lvl]

local notation "𝕄" => MT nD τ sig Ix (Elt F) ℕ U Lvl

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole memref of the dequantised weight. -/
abbrev mw : Memref sig .tc .hbm S2560x6912 .bf16 := Memref.whole main_v0

/-- Fourteen buffers' contents. -/
def pack (dy : (sh .dy).Idx → Elt F (el .dy)) (x : (sh .x).Idx → Elt F (el .x)) (ap : (sh .ap).Idx → Elt F (el .ap)) (at' : (sh .at).Idx → Elt F (el .at))
    (b : (sh .b).Idx → Elt F (el .b)) (dx : (sh .dx).Idx → Elt F (el .dx)) (g : (sh .g).Idx → Elt F (el .g)) (xa : (sh .xa).Idx → Elt F (el .xa))
    (dla : (sh .dla).Idx → Elt F (el .dla)) (dlb : (sh .dlb).Idx → Elt F (el .dlb)) (w : (sh .w).Idx → Elt F (el .w)) (gp : (sh .gp).Idx → Elt F (el .gp))
    (gt : (sh .gt).Idx → Elt F (el .gt)) (xt : (sh .xt).Idx → Elt F (el .xt)) : Mem F
  | .dy => dy | .x => x | .ap => ap | .at => at' | .b => b | .dx => dx | .g => g | .xa => xa | .dla => dla | .dlb => dlb | .w => w | .gp => gp | .gt => gt | .xt => xt

/-- What point `t` works on: the five inputs' blocks, the weight, and the two running sums `a`, `b`. -/
def input (c : Dev nD) (t : Fin cfg1.N) (a : (sh .dla).Idx → Elt F (el .dla)) (b : (sh .dlb).Idx → Elt F (el .dlb)) : Mem F :=
  pack (iblk V c 0 t) (iblk V c 1 t) (iblk V c 2 t) (iblk V c 3 t) (iblk V c 4 t)
    (fun _ => Scalar.ofBits .bf16 0x0000#16) (fun _ => Scalar.ofBits .bf16 0x0000#16) (fun _ => Scalar.ofBits .bf16 0x0000#16) a b
    ((mw).view.read (Elt F) (V c main_v0))
    (fun _ => Scalar.ofBits .bf16 0x0000#16) (fun _ => Scalar.ofBits .bf16 0x0000#16) (fun _ => Scalar.ofBits .bf16 0x0000#16)

/-- Point `n` of the grid. -/
def pt (n : ℕ) : Fin cfg1.N := ⟨n % 48, Nat.mod_lt _ (by decide)⟩

theorem pt_val (t : Fin cfg1.N) : pt t.val = t := Fin.ext (Nat.mod_eq_of_lt t.isLt)

/-- What each point works on, the running sums included: zero at the first point, then what the point before left. -/
def ins (c : Dev nD) : ℕ → Mem F
  | 0 => input V c (pt 0) (broadcast (sh .dla) (Scalar.ofBits .f32 0x00000000#32)) (broadcast (sh .dlb) (Scalar.ofBits .f32 0x00000000#32))
  | n + 1 => input V c (pt (n + 1)) (fin (ins c n) .dla) (fin (ins c n) .dlb)

/-! ## The pipeline's proof data -/

/-- The six staging buffers of the dequantisation call, which this call leaves alone. -/
def six (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The weight as the call finds it. -/
def wv (c : Dev nD) : SW.Idx → Elt F .bf16 := (mw).view.read (Elt F) (V c main_v0)

/-- What the scratch buffers hold before point `n`: from the second point on the weight is in its copy, and the padded copy
    of `g` is zero past column 128. -/
def Kept (c : Dev nD) (n : ℕ) (w : (sh .w).Idx → Elt F (el .w)) (gp : (sh .gp).Idx → Elt F (el .gp)) : Prop :=
  n ≠ 0 → w = wv V c ∧ ∀ y : (sh .gp).Idx, 128 ≤ (y 1).val → gp y = Scalar.ofBits .bf16 0x0000#16

/-- The scratch buffers. -/
def scratch (c : Dev nD) (n : ℕ) : sProp 𝕄 :=
  iprop(∃ w gp gt xt, ⌜Kept V c n w gp⌝ ∗ owns (c : Thread nD τ) (Memref.whole cc1_scratch0) fullShare w ∗ owns (c : Thread nD τ) (Memref.whole cc1_scratch1) fullShare gp
    ∗ owns (c : Thread nD τ) (Memref.whole cc1_scratch2) fullShare gt ∗ owns (c : Thread nD τ) (Memref.whole cc1_scratch3) fullShare xt)

/-- The weight's array, the transfer's semaphore, and what the call leaves alone. -/
def around (c : Dev nD) : sProp 𝕄 := iprop(six (F := F) (Ix := Ix) (U := U) (Lvl := Lvl) c ∗ ∃ r, prngReg c r)

/-- The invariant between points. -/
def Φ (c : Dev nD) (n : ℕ) : sProp 𝕄 :=
  iprop(scratch (Ix := Ix) (U := U) (Lvl := Lvl) V c n ∗ ((mw).view.loc (c : Thread nD τ) ↦[(mw).view.set]{fullShare} V c main_v0)
    ∗ semVal ((c : Thread nD τ), .dma cc1_scratch4.sem) 0 ∗ around (F := F) (Ix := Ix) (U := U) (Lvl := Lvl) c)

/-- The proof data of the main call on core `c`. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => fin (ins V c t.val) .dx
    | ⟨6, _⟩ => fin (ins V c t.val) .g
    | ⟨7, _⟩ => fin (ins V c t.val) .xa
    | ⟨8, _⟩ => fin (ins V c t.val) .dla
    | ⟨9, _⟩ => fin (ins V c t.val) .dlb
  Φ t := Φ V c t.val
  q _ := fullShare
  owed _ := 0

theorem A_eq (c : Dev nD) (w : Fin cfg1.W) : ((dat (Ix := Ix) (U := U) (Lvl := Lvl) V) c).A w = V c (Pipeline.arrRef spec1 w) := by
  dsimp only [dat]

theorem after1_0 (c : Dev nD) (t : Fin cfg1.N) : ((dat (Ix := Ix) (U := U) (Lvl := Lvl) V) c).after 0 t = iblk V c 0 t := by dsimp only [dat]
theorem after1_1 (c : Dev nD) (t : Fin cfg1.N) : ((dat (Ix := Ix) (U := U) (Lvl := Lvl) V) c).after 1 t = iblk V c 1 t := by dsimp only [dat]
theorem after1_2 (c : Dev nD) (t : Fin cfg1.N) : ((dat (Ix := Ix) (U := U) (Lvl := Lvl) V) c).after 2 t = iblk V c 2 t := by dsimp only [dat]
theorem after1_3 (c : Dev nD) (t : Fin cfg1.N) : ((dat (Ix := Ix) (U := U) (Lvl := Lvl) V) c).after 3 t = iblk V c 3 t := by dsimp only [dat]
theorem after1_4 (c : Dev nD) (t : Fin cfg1.N) : ((dat (Ix := Ix) (U := U) (Lvl := Lvl) V) c).after 4 t = iblk V c 4 t := by dsimp only [dat]
theorem after1_5 (c : Dev nD) (t : Fin cfg1.N) : ((dat (Ix := Ix) (U := U) (Lvl := Lvl) V) c).after 5 t = fin (ins V c t.val) .dx := by dsimp only [dat]
theorem after1_6 (c : Dev nD) (t : Fin cfg1.N) : ((dat (Ix := Ix) (U := U) (Lvl := Lvl) V) c).after 6 t = fin (ins V c t.val) .g := by dsimp only [dat]
theorem after1_7 (c : Dev nD) (t : Fin cfg1.N) : ((dat (Ix := Ix) (U := U) (Lvl := Lvl) V) c).after 7 t = fin (ins V c t.val) .xa := by dsimp only [dat]
theorem after1_8 (c : Dev nD) (t : Fin cfg1.N) : ((dat (Ix := Ix) (U := U) (Lvl := Lvl) V) c).after 8 t = fin (ins V c t.val) .dla := by dsimp only [dat]
theorem after1_9 (c : Dev nD) (t : Fin cfg1.N) : ((dat (Ix := Ix) (U := U) (Lvl := Lvl) V) c).after 9 t = fin (ins V c t.val) .dlb := by dsimp only [dat]

theorem before1_0 (c : Dev nD) (t : Fin cfg1.N) (d) : ((dat (Ix := Ix) (U := U) (Lvl := Lvl) V) c).before 0 t d = iblk V c 0 t :=
  (((dat (Ix := Ix) (U := U) (Lvl := Lvl) V) c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : ((dat (Ix := Ix) (U := U) (Lvl := Lvl) V) c).before 1 t d = iblk V c 1 t :=
  (((dat (Ix := Ix) (U := U) (Lvl := Lvl) V) c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : ((dat (Ix := Ix) (U := U) (Lvl := Lvl) V) c).before 2 t d = iblk V c 2 t :=
  (((dat (Ix := Ix) (U := U) (Lvl := Lvl) V) c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : ((dat (Ix := Ix) (U := U) (Lvl := Lvl) V) c).before 3 t d = iblk V c 3 t :=
  (((dat (Ix := Ix) (U := U) (Lvl := Lvl) V) c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : ((dat (Ix := Ix) (U := U) (Lvl := Lvl) V) c).before 4 t d = iblk V c 4 t :=
  (((dat (Ix := Ix) (U := U) (Lvl := Lvl) V) c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem before1_8 (c : Dev nD) (t : Fin cfg1.N) (ht : t.val ≠ 0) (d) : ((dat (Ix := Ix) (U := U) (Lvl := Lvl) V) c).before 8 t d = fin (ins V c (t.val - 1)) .dla :=
  (((dat (Ix := Ix) (U := U) (Lvl := Lvl) V) c).before_out_kept 8 rfl t ht (Bool.eq_false_iff.mpr fun h => by
    have h' := (flush1_8 _).1 h
    have : t.val < 48 := t.isLt
    simp only at h'; omega) (fun _ => rfl) (fun _ _ => rfl) d).trans (after1_8 V c _)
theorem before1_9 (c : Dev nD) (t : Fin cfg1.N) (ht : t.val ≠ 0) (d) : ((dat (Ix := Ix) (U := U) (Lvl := Lvl) V) c).before 9 t d = fin (ins V c (t.val - 1)) .dlb :=
  (((dat (Ix := Ix) (U := U) (Lvl := Lvl) V) c).before_out_kept 9 rfl t ht (Bool.eq_false_iff.mpr fun h => by
    have h' := (flush1_9 _).1 h
    have : t.val < 48 := t.isLt
    simp only at h'; omega) (fun _ => rfl) (fun _ _ => rfl) d).trans (after1_9 V c _)

end Cert.KernelIdeal.Main

end
-- ==== Proof.MainBodyIdeal.lean ====
/- The body obligation of the main call. -/
module

public import proofs.«01_k».proof.Proof.MainDataIdeal

@[expose] public section

noncomputable section

namespace Cert.KernelIdeal.Main

open Cert.KernelIdeal Cert.KernelIdeal.Gen Cert.Qlora
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {Ix : Type} [DecidableEq Ix] {U : Type} [URA U] [CountersIn U] {Lvl : Type} [Preorder Lvl]

local notation "𝕄" => MT nD τ sig Ix (Elt F) ℕ U Lvl

variable (V : (c : Dev nD) → (b : Ref sig .tc) → Buf (Elt F) ((c : Thread nD τ).loc b))

/-! ## The body obligation -/

abbrev ms0 (t : Fin cfg1.N) : Memref sig .tc .vmem (sh .dy) (el .dy) := win1_0.stage (cfg1.slots t 0)
abbrev ms1 (t : Fin cfg1.N) : Memref sig .tc .vmem (sh .x) (el .x) := win1_1.stage (cfg1.slots t 1)
abbrev ms2 (t : Fin cfg1.N) : Memref sig .tc .vmem (sh .ap) (el .ap) := win1_2.stage (cfg1.slots t 2)
abbrev ms3 (t : Fin cfg1.N) : Memref sig .tc .vmem (sh .at) (el .at) := win1_3.stage (cfg1.slots t 3)
abbrev ms4 (t : Fin cfg1.N) : Memref sig .tc .vmem (sh .b) (el .b) := win1_4.stage (cfg1.slots t 4)
abbrev ms5 (t : Fin cfg1.N) : Memref sig .tc .vmem (sh .dx) (el .dx) := win1_5.stage (cfg1.slots t 5)
abbrev ms6 (t : Fin cfg1.N) : Memref sig .tc .vmem (sh .g) (el .g) := win1_6.stage (cfg1.slots t 6)
abbrev ms7 (t : Fin cfg1.N) : Memref sig .tc .vmem (sh .xa) (el .xa) := win1_7.stage (cfg1.slots t 7)
abbrev ms8 (t : Fin cfg1.N) : Memref sig .tc .vmem (sh .dla) (el .dla) := win1_8.stage (cfg1.slots t 8)
abbrev ms9 (t : Fin cfg1.N) : Memref sig .tc .vmem (sh .dlb) (el .dlb) := win1_9.stage (cfg1.slots t 9)

/-- The body's buffers at point `t`. -/
def args (t : Fin cfg1.N) : Args sig where
  m b := match b with
    | .dy => ms0 t
    | .x => ms1 t
    | .ap => ms2 t
    | .at => ms3 t
    | .b => ms4 t
    | .dx => ms5 t
    | .g => ms6 t
    | .xa => ms7 t
    | .dla => ms8 t
    | .dlb => ms9 t
    | .w => Memref.whole cc1_scratch0
    | .gp => Memref.whole cc1_scratch1
    | .gt => Memref.whole cc1_scratch2
    | .xt => Memref.whole cc1_scratch3
  h b := match b with
    | .dy => hstage1_0 ((cfg1.slots t 0).cast nbuf1_0)
    | .x => hstage1_1 ((cfg1.slots t 1).cast nbuf1_1)
    | .ap => hstage1_2 ((cfg1.slots t 2).cast nbuf1_2)
    | .at => hstage1_3 ((cfg1.slots t 3).cast nbuf1_3)
    | .b => hstage1_4 ((cfg1.slots t 4).cast nbuf1_4)
    | .dx => hstage1_5 ((cfg1.slots t 5).cast nbuf1_5)
    | .g => hstage1_6 ((cfg1.slots t 6).cast nbuf1_6)
    | .xa => hstage1_7 ((cfg1.slots t 7).cast nbuf1_7)
    | .dla => hstage1_8 ((cfg1.slots t 8).cast nbuf1_8)
    | .dlb => hstage1_9 ((cfg1.slots t 9).cast nbuf1_9)
    | .w => Memref.isWhole_whole _
    | .gp => Memref.isWhole_whole _
    | .gt => Memref.isWhole_whole _
    | .xt => Memref.isWhole_whole _

theorem body_app (t : Fin cfg1.N) : bodyAt1 (F := F) t = app (args t) (grid1.coords t) mw (Memref.isWhole_whole _) cc1_scratch4 (cc1_qlora_backward (F := F)) := rfl

variable (𝒱₀ : Variants) (ι : Ix)

/-- What the body is called with at point `t`, -/
def bodyPre (c : Dev nD) (t : Fin cfg1.N) : sProp 𝕄 :=
  iprop(((dat (Ix := Ix) (U := U) (Lvl := Lvl) V) c).Φ t.castSucc ∗ ((dat (Ix := Ix) (U := U) (Lvl := Lvl) V) c).owesAt ι t.castSucc
    ∗ (∃ d, owns (c : Thread nD τ) (ms0 t) fullShare (((dat (Ix := Ix) (U := U) (Lvl := Lvl) V) c).before 0 t d))
    ∗ (∃ d, owns (c : Thread nD τ) (ms1 t) fullShare (((dat (Ix := Ix) (U := U) (Lvl := Lvl) V) c).before 1 t d))
    ∗ (∃ d, owns (c : Thread nD τ) (ms2 t) fullShare (((dat (Ix := Ix) (U := U) (Lvl := Lvl) V) c).before 2 t d))
    ∗ (∃ d, owns (c : Thread nD τ) (ms3 t) fullShare (((dat (Ix := Ix) (U := U) (Lvl := Lvl) V) c).before 3 t d))
    ∗ (∃ d, owns (c : Thread nD τ) (ms4 t) fullShare (((dat (Ix := Ix) (U := U) (Lvl := Lvl) V) c).before 4 t d))
    ∗ (∃ d, owns (c : Thread nD τ) (ms5 t) fullShare (((dat (Ix := Ix) (U := U) (Lvl := Lvl) V) c).before 5 t d))
    ∗ (∃ d, owns (c : Thread nD τ) (ms6 t) fullShare (((dat (Ix := Ix) (U := U) (Lvl := Lvl) V) c).before 6 t d))
    ∗ (∃ d, owns (c : Thread nD τ) (ms7 t) fullShare (((dat (Ix := Ix) (U := U) (Lvl := Lvl) V) c).before 7 t d))
    ∗ (∃ d, owns (c : Thread nD τ) (ms8 t) fullShare (((dat (Ix := Ix) (U := U) (Lvl := Lvl) V) c).before 8 t d))
    ∗ (∃ d, owns (c : Thread nD τ) (ms9 t) fullShare (((dat (Ix := Ix) (U := U) (Lvl := Lvl) V) c).before 9 t d)))

/-- and what it returns. -/
def bodyPost (c : Dev nD) (t : Fin cfg1.N) : sProp 𝕄 :=
  iprop(((dat (Ix := Ix) (U := U) (Lvl := Lvl) V) c).Φ t.succ ∗ ((dat (Ix := Ix) (U := U) (Lvl := Lvl) V) c).owesAt ι t.succ
    ∗ owns (c : Thread nD τ) (ms0 t) fullShare (((dat (Ix := Ix) (U := U) (Lvl := Lvl) V) c).after 0 t)
    ∗ owns (c : Thread nD τ) (ms1 t) fullShare (((dat (Ix := Ix) (U := U) (Lvl := Lvl) V) c).after 1 t)
    ∗ owns (c : Thread nD τ) (ms2 t) fullShare (((dat (Ix := Ix) (U := U) (Lvl := Lvl) V) c).after 2 t)
    ∗ owns (c : Thread nD τ) (ms3 t) fullShare (((dat (Ix := Ix) (U := U) (Lvl := Lvl) V) c).after 3 t)
    ∗ owns (c : Thread nD τ) (ms4 t) fullShare (((dat (Ix := Ix) (U := U) (Lvl := Lvl) V) c).after 4 t)
    ∗ owns (c : Thread nD τ) (ms5 t) fullShare (((dat (Ix := Ix) (U := U) (Lvl := Lvl) V) c).after 5 t)
    ∗ owns (c : Thread nD τ) (ms6 t) fullShare (((dat (Ix := Ix) (U := U) (Lvl := Lvl) V) c).after 6 t)
    ∗ owns (c : Thread nD τ) (ms7 t) fullShare (((dat (Ix := Ix) (U := U) (Lvl := Lvl) V) c).after 7 t)
    ∗ owns (c : Thread nD τ) (ms8 t) fullShare (((dat (Ix := Ix) (U := U) (Lvl := Lvl) V) c).after 8 t)
    ∗ owns (c : Thread nD τ) (ms9 t) fullShare (((dat (Ix := Ix) (U := U) (Lvl := Lvl) V) c).after 9 t))

/-- What the points after the first work on. -/
theorem ins_pos (c : Dev nD) (t : Fin cfg1.N) (ht : t.val ≠ 0) :
    ins V c t.val = input V c t (fin (ins V c (t.val - 1)) .dla) (fin (ins V c (t.val - 1)) .dlb) := by
  obtain ⟨n, hn⟩ := t
  cases n with
  | zero => exact absurd rfl ht
  | succ n => exact congrArg (fun s => input V c s (fin (ins V c n) .dla) (fin (ins V c n) .dlb)) (pt_val ⟨n + 1, hn⟩)

theorem ins_zero (c : Dev nD) (t : Fin cfg1.N) (ht : t.val = 0) : ins V c t.val = input V c t
    (broadcast (sh .dla) (Scalar.ofBits .f32 0x00000000#32)) (broadcast (sh .dlb) (Scalar.ofBits .f32 0x00000000#32)) := by
  obtain ⟨n, hn⟩ := t
  cases n with
  | zero => exact congrArg (fun s => input V c s _ _) (pt_val ⟨0, hn⟩)
  | succ n => exact absurd ht (Nat.succ_ne_zero n)

/-- The contents that a point leaves in scratch meet the next point's condition. -/
theorem kept_fin (c : Dev nD) (t : Fin cfg1.N) : Kept V c (t.val + 1) (fin (ins V c t.val) .w) (fin (ins V c t.val) .gp) := fun _ => by
  refine ⟨?_, fin_gp _⟩
  by_cases ht : t.val = 0
  · rw [ins_zero V c t ht]; rfl
  · rw [ins_pos V c t ht]; rfl

theorem body_later (c : Dev nD) (t : Fin cfg1.N) (ht : t.val ≠ 0) :
    bodyPre (U := U) (Lvl := Lvl) V ι c t ⊢ wp frame (wpE (defs₀ (F := F)) 𝒱₀ c none) Set.univ (bodyAt1 t) (fun _ => bodyPost (U := U) (Lvl := Lvl) V ι c t) := by
  unfold bodyPre bodyPost
  rw [body_app]
  simp only [before1_0, before1_1, before1_2, before1_3, before1_4, before1_8 V c t ht, before1_9 V c t ht,
    after1_0, after1_1, after1_2, after1_3, after1_4, after1_5, after1_6, after1_7, after1_8, after1_9]
  rw [show ((dat (Ix := Ix) (U := U) (Lvl := Lvl) V) c).Φ t.castSucc = Φ V c t.val from rfl, show ((dat (Ix := Ix) (U := U) (Lvl := Lvl) V) c).Φ t.succ = Φ V c (t.val + 1) from rfl,
    show ((dat (Ix := Ix) (U := U) (Lvl := Lvl) V) c).owesAt ι t.succ = ((dat (Ix := Ix) (U := U) (Lvl := Lvl) V) c).owesAt ι t.castSucc from rfl]
  unfold Φ scratch
  iintro ⟨⟨⟨%w, %gp, %gt, %xt, %hk, Hw, Hgp, Hgt, Hxt⟩, Hv, Hs, Ha⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨hw, hgp⟩ := hk ht
  have hS : Starts (ins V c t.val) (pack (iblk V c 0 t) (iblk V c 1 t) (iblk V c 2 t) (iblk V c 3 t) (iblk V c 4 t)
      (((dat (Ix := Ix) (U := U) (Lvl := Lvl) V) c).before 5 t d5) (((dat (Ix := Ix) (U := U) (Lvl := Lvl) V) c).before 6 t d6) (((dat (Ix := Ix) (U := U) (Lvl := Lvl) V) c).before 7 t d7) (fin (ins V c (t.val - 1)) .dla) (fin (ins V c (t.val - 1)) .dlb) w gp gt xt) := by
    rw [ins_pos V c t ht]
    exact ⟨rfl, rfl, hw, rfl, rfl, rfl, rfl, rfl, hgp⟩
  iapply (run_later (F := F) (Ix := Ix) (U := U) (Lvl := Lvl) 𝒱₀ c (args t) (grid1.coords t) mw (Memref.isWhole_whole _) cc1_scratch4 (mt (isFirst_iff t).1 ht) hS
    (R := iprop(((mw).view.loc (c : Thread nD τ) ↦[(mw).view.set]{fullShare} V c main_v0) ∗ semVal ((c : Thread nD τ), .dma cc1_scratch4.sem) 0
      ∗ around (F := F) (Ix := Ix) (U := U) (Lvl := Lvl) c ∗ ((dat (Ix := Ix) (U := U) (Lvl := Lvl) V) c).owesAt ι t.castSucc)) ?_)
  · rw [mems_all, BI.bigSep_singleton]
    iintro ⟨⟨H0, H1, H2, H3, H4, H5, H6, H7, H8, H9, Hw, Hgp, Hgt, Hxt⟩, Hv, Hs, Ha, Ho⟩
    have e0 : fin (ins V c t.val) .dy = iblk V c 0 t := by rw [ins_pos V c t ht]; rfl
    have e1 : fin (ins V c t.val) .x = iblk V c 1 t := by rw [ins_pos V c t ht]; rfl
    have e2 : fin (ins V c t.val) .ap = iblk V c 2 t := by rw [ins_pos V c t ht]; rfl
    have e3 : fin (ins V c t.val) .at = iblk V c 3 t := by rw [ins_pos V c t ht]; rfl
    have e4 : fin (ins V c t.val) .b = iblk V c 4 t := by rw [ins_pos V c t ht]; rfl
    rw [e0, e1, e2, e3, e4]
    isplitr [Ho H0 H1 H2 H3 H4 H5 H6 H7 H8 H9]
    · isplitl [Hw Hgp Hgt Hxt]
      · iexists _, _, _, _
        isplitr; · ipureintro; exact kept_fin V c t
        isplitl [Hw]; · iexact Hw
        isplitl [Hgp]; · iexact Hgp
        isplitl [Hgt]; · iexact Hgt
        iexact Hxt
      isplitl [Hv]; · iexact Hv
      isplitl [Hs]; · iexact Hs
      iexact Ha
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitr [Hv Hs Ha Ho]
  · rw [mems_all, BI.bigSep_singleton]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hw]; · iexact Hw
    isplitl [Hgp]; · iexact Hgp
    isplitl [Hgt]; · iexact Hgt
    iexact Hxt
  isplitl [Hv]; · iexact Hv
  isplitl [Hs]; · iexact Hs
  isplitl [Ha]; · iexact Ha
  iexact Ho

theorem body_first (c : Dev nD) (t : Fin cfg1.N) (ht : t.val = 0) :
    bodyPre (U := U) (Lvl := Lvl) V ι c t ⊢ wp frame (wpE (defs₀ (F := F)) 𝒱₀ c none) Set.univ (bodyAt1 t) (fun _ => bodyPost (U := U) (Lvl := Lvl) V ι c t) := by
  unfold bodyPre bodyPost
  rw [body_app]
  simp only [before1_0, before1_1, before1_2, before1_3, before1_4,
    after1_0, after1_1, after1_2, after1_3, after1_4, after1_5, after1_6, after1_7, after1_8, after1_9]
  rw [show ((dat (Ix := Ix) (U := U) (Lvl := Lvl) V) c).Φ t.castSucc = Φ V c t.val from rfl, show ((dat (Ix := Ix) (U := U) (Lvl := Lvl) V) c).Φ t.succ = Φ V c (t.val + 1) from rfl]
  unfold Φ scratch
  iintro ⟨⟨⟨%w, %gp, %gt, %xt, -, Hw, Hgp, Hgt, Hxt⟩, Hv, Hs, Ha⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HO := (TalkSites.owesAt_elim ((dat (Ix := Ix) (U := U) (Lvl := Lvl) V) c) ι t.castSucc 0 rfl) $$ Ho
  have hS : Starts (ins V c t.val) (start (pack (iblk V c 0 t) (iblk V c 1 t) (iblk V c 2 t) (iblk V c 3 t) (iblk V c 4 t)
      (((dat (Ix := Ix) (U := U) (Lvl := Lvl) V) c).before 5 t d5) (((dat (Ix := Ix) (U := U) (Lvl := Lvl) V) c).before 6 t d6) (((dat (Ix := Ix) (U := U) (Lvl := Lvl) V) c).before 7 t d7) (((dat (Ix := Ix) (U := U) (Lvl := Lvl) V) c).before 8 t d8) (((dat (Ix := Ix) (U := U) (Lvl := Lvl) V) c).before 9 t d9) w gp gt xt)
      ((mw).view.read (Elt F) (V c main_v0))) := by
    rw [ins_zero V c t ht]
    exact ⟨rfl, rfl, rfl, rfl, rfl, rfl, rfl, rfl, fun _ _ => rfl⟩
  iapply (run_first (F := F) (Ix := Ix) (U := U) (Lvl := Lvl) 𝒱₀ c (args t) (grid1.coords t) ι mw (Memref.isWhole_whole _) cc1_scratch4 (V c main_v0) ((isFirst_iff t).2 ht) hS
    (R := around (F := F) (Ix := Ix) (U := U) (Lvl := Lvl) c) ?_)
  · rw [mems_all, BI.bigSep_singleton]
    iintro ⟨⟨H0, H1, H2, H3, H4, H5, H6, H7, H8, H9, Hw, Hgp, Hgt, Hxt⟩, Hv, Hs, ⟨%W, Ho⟩, Ha⟩
    have e0 : fin (ins V c t.val) .dy = iblk V c 0 t := by rw [ins_zero V c t ht]; rfl
    have e1 : fin (ins V c t.val) .x = iblk V c 1 t := by rw [ins_zero V c t ht]; rfl
    have e2 : fin (ins V c t.val) .ap = iblk V c 2 t := by rw [ins_zero V c t ht]; rfl
    have e3 : fin (ins V c t.val) .at = iblk V c 3 t := by rw [ins_zero V c t ht]; rfl
    have e4 : fin (ins V c t.val) .b = iblk V c 4 t := by rw [ins_zero V c t ht]; rfl
    rw [e0, e1, e2, e3, e4]
    isplitr [Ho H0 H1 H2 H3 H4 H5 H6 H7 H8 H9]
    · isplitl [Hw Hgp Hgt Hxt]
      · iexists _, _, _, _
        isplitr; · ipureintro; exact kept_fin V c t
        isplitl [Hw]; · iexact Hw
        isplitl [Hgp]; · iexact Hgp
        isplitl [Hgt]; · iexact Hgt
        iexact Hxt
      isplitl [Hv]; · iexact Hv
      isplitl [Hs]; · iexact Hs
      iexact Ha
    isplitl [Ho]; · iapply (TalkSites.owesAt_intro ((dat (Ix := Ix) (U := U) (Lvl := Lvl) V) c) ι t.succ 0 rfl rfl W); iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitr [Hv Hs Ha HO]
  · rw [mems_all, BI.bigSep_singleton]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hw]; · iexact Hw
    isplitl [Hgp]; · iexact Hgp
    isplitl [Hgt]; · iexact Hgt
    iexact Hxt
  isplitl [Hv]; · iexact Hv
  isplitl [Hs]; · iexact Hs
  isplitl [HO]; · iexact HO
  iexact Ha

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation ((dat (Ix := Ix) (U := U) (Lvl := Lvl) V) c) (defs₀ (F := F)) 𝒱₀ ι Set.univ := fun t => by
  rw [bigSep_W1, bigSep_W1, defs₀_row]
  by_cases ht : t.val = 0
  · exact triple_restated (body_first (U := U) (Lvl := Lvl) V 𝒱₀ ι c t ht) rfl .rfl fun _ => .rfl
  · exact triple_restated (body_later (U := U) (Lvl := Lvl) V 𝒱₀ ι c t ht) rfl .rfl fun _ => .rfl

end Cert.KernelIdeal.Main

end
-- ==== Proof.DequantIdeal.lean ====
/- The dequantisation call: its run on one block, the data of its pipeline and its body obligation, for any contents of the
   arrays on entry. Each block of packed codes and scales becomes a block of the weight. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Deq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`), by
    `Dat.before_in_eq_fetched` (unfetched, the index has not moved), the window uncut and never idle. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S512x768 .bf16 := (Memref.whole cc0_stg2_0 : Memref sig .tc .vmem S512x768 .bf16).view
/-- Each window's current staging memref at point `t`, spelled as the pipeline passes it (`bodyAt0`), and its wholeness. -/
abbrev ms0_0 (t : Fin cfg0.N) : Memref sig .tc .vmem S256x768 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x768 .bf16 := win0_2.stage (cfg0.slots t 2)
abbrev hs0_2 (t : Fin cfg0.N) : (ms0_2 t).IsWhole := hstage0_2 ((cfg0.slots t 2).cast nbuf0_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs ; the pieces are
    the witness that run finds (assigned when `iexact` hands the buffer to the continuation). -/
noncomputable def kernelRun0_A (c : Dev nD) (i : grid0.Coords) (arg2 : Memref sig .tc .vmem S256x768 .i8) (harg2 : arg2.IsWhole) (arg3 : Memref sig .tc .vmem S8x768 .bf16) (harg3 : arg3.IsWhole) (arg4 : Memref sig .tc .vmem S512x768 .bf16) (harg4 : arg4.IsWhole)
    (x0 : Vec F S256x768 .i8) (x1 : Vec F S8x768 .bf16) :
    { L2 : List (View.Piece (Elt F) S512x768 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) 𝒱₀ c none) E (cc0_nf4_dequant i arg2 harg2 arg3 harg3 arg4 harg4) K } := by
  refine ⟨?_, fun E K => ?run⟩
  case run =>
    simp only [cc0_nf4_dequant_eq_skeleton]; unfold cc0_nf4_dequant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- The run's pieces for output 2 tile its block (8 stores of `S64x768`, checked by evaluation), so they cover it. -/
theorem cover0_A_2 (c : Dev nD) (i : grid0.Coords) (arg2 : Memref sig .tc .vmem S256x768 .i8) (harg2 : arg2.IsWhole) (arg3 : Memref sig .tc .vmem S8x768 .bf16) (harg3 : arg3.IsWhole) (arg4 : Memref sig .tc .vmem S512x768 .bf16) (harg4 : arg4.IsWhole)
    (x0 : Vec F S256x768 .i8) (x1 : Vec F S8x768 .bf16) (y : S512x768.Idx) :
    ∃ pc ∈ (kernelRun0_A (Ix := Ix) (U := U) (Lvl := Lvl) 𝒱₀ c i arg2 harg2 arg3 harg3 arg4 harg4 x0 x1).1, y ∈ pc.1.set :=
  View.cover_of_tiledL (kernelRun0_A (Ix := Ix) (U := U) (Lvl := Lvl) 𝒱₀ c i arg2 harg2 arg3 harg3 arg4 harg4 x0 x1).1 S64x768.size (by sl_kernel_rfl) y

/-- What the run leaves in output 2's staging buffer: its pieces read back over junk. -/
def out0_A_2 (c : Dev nD) (i : grid0.Coords) (arg2 : Memref sig .tc .vmem S256x768 .i8) (harg2 : arg2.IsWhole) (arg3 : Memref sig .tc .vmem S8x768 .bf16) (harg3 : arg3.IsWhole) (arg4 : Memref sig .tc .vmem S512x768 .bf16) (harg4 : arg4.IsWhole)
    (x0 : Vec F S256x768 .i8) (x1 : Vec F S8x768 .bf16) : Vec F S512x768 .bf16 :=
  VO0_2.read (Elt F) (VO0_2.writes (Elt F) VO0_2.junk (kernelRun0_A (Ix := Ix) (U := U) (Lvl := Lvl) 𝒱₀ c i arg2 harg2 arg3 harg3 arg4 harg4 x0 x1).1)

/-! ## What the outputs hold after each point -/

/-- What the outputs' staging buffers hold after the body at point `t`: the run's contents at
    the point's memrefs and input blocks. -/
def outsAt0 (c : Dev nD) (t : Fin cfg0.N) : Vec F S512x768 .bf16 :=
  out0_A_2 (Ix := Ix) (U := U) (Lvl := Lvl) 𝒱₀ c (grid0.coords t) (ms0_0 t) (hs0_0 t) (ms0_1 t) (hs0_1 t) (ms0_2 t) (hs0_2 t) (iblk V c 0 t) (iblk V c 1 t)

/-! ## The pipeline's proof data -/

/-- The proof data of pipeline 0 on core `c`: the arrays as the region finds them (`V`); after the body at
    point `t` each input's buffer at its block and the outputs' at `outsAt0`; the invariant `ΦK`;
    the core owing `D c` throughout; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => (outsAt0 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg0.W) : ((dat (Ix := Ix) (U := U) (Lvl := Lvl) 𝒱₀ V D) c).A w = V c (Pipeline.arrRef spec0 w) := by
  dsimp only [dat]

/-- What the body leaves, window by window (the proof data's `match` reduced by `dsimp`). -/
theorem after0_0 (c : Dev nD) (t : Fin cfg0.N) : ((dat (Ix := Ix) (U := U) (Lvl := Lvl) 𝒱₀ V D) c).after 0 t = iblk V c 0 t := by dsimp only [dat]
theorem after0_1 (c : Dev nD) (t : Fin cfg0.N) : ((dat (Ix := Ix) (U := U) (Lvl := Lvl) 𝒱₀ V D) c).after 1 t = iblk V c 1 t := by dsimp only [dat]
theorem after0_2 (c : Dev nD) (t : Fin cfg0.N) : ((dat (Ix := Ix) (U := U) (Lvl := Lvl) 𝒱₀ V D) c).after 2 t = (outsAt0 (Ix := Ix) (U := U) (Lvl := Lvl) 𝒱₀ V c t) := by dsimp only [dat]

/-- Each input's current staging buffer holds its block at every point, fetched there or not (`beforeK_W_of`). -/
theorem before0_0 (c : Dev nD) (t : Fin cfg0.N) (d) : ((dat (Ix := Ix) (U := U) (Lvl := Lvl) 𝒱₀ V D) c).before 0 t d = iblk V c 0 t :=
  before0_0_of V ((dat (Ix := Ix) (U := U) (Lvl := Lvl) 𝒱₀ V D) c) (A_eq 𝒱₀ V D c 0) (after0_0 𝒱₀ V D c) t d
theorem before0_1 (c : Dev nD) (t : Fin cfg0.N) (d) : ((dat (Ix := Ix) (U := U) (Lvl := Lvl) 𝒱₀ V D) c).before 1 t d = iblk V c 1 t :=
  before0_1_of V ((dat (Ix := Ix) (U := U) (Lvl := Lvl) 𝒱₀ V D) c) (A_eq 𝒱₀ V D c 1) (after0_1 𝒱₀ V D c) t d

/-! ## The body obligation, at a generic point -/

/-- What the body is called with at point `t` , -/
def bodyPre (c : Dev nD) (t : Fin cfg0.N) : sProp 𝕄 :=
  iprop(((dat (Ix := Ix) (U := U) (Lvl := Lvl) 𝒱₀ V D) c).Φ t.castSucc ∗ ((dat (Ix := Ix) (U := U) (Lvl := Lvl) 𝒱₀ V D) c).owesAt ι t.castSucc
    ∗ (∃ d, owns (c : Thread nD τ) (ms0_0 t) fullShare (((dat (Ix := Ix) (U := U) (Lvl := Lvl) 𝒱₀ V D) c).before 0 t d))
    ∗ (∃ d, owns (c : Thread nD τ) (ms0_1 t) fullShare (((dat (Ix := Ix) (U := U) (Lvl := Lvl) 𝒱₀ V D) c).before 1 t d))
    ∗ (∃ d, owns (c : Thread nD τ) (ms0_2 t) fullShare (((dat (Ix := Ix) (U := U) (Lvl := Lvl) 𝒱₀ V D) c).before 2 t d)))

/-- and what it returns. -/
def bodyPost (c : Dev nD) (t : Fin cfg0.N) : sProp 𝕄 :=
  iprop(((dat (Ix := Ix) (U := U) (Lvl := Lvl) 𝒱₀ V D) c).Φ t.succ ∗ ((dat (Ix := Ix) (U := U) (Lvl := Lvl) 𝒱₀ V D) c).owesAt ι t.succ
    ∗ owns (c : Thread nD τ) (ms0_0 t) fullShare (((dat (Ix := Ix) (U := U) (Lvl := Lvl) 𝒱₀ V D) c).after 0 t)
    ∗ owns (c : Thread nD τ) (ms0_1 t) fullShare (((dat (Ix := Ix) (U := U) (Lvl := Lvl) 𝒱₀ V D) c).after 1 t)
    ∗ owns (c : Thread nD τ) (ms0_2 t) fullShare (((dat (Ix := Ix) (U := U) (Lvl := Lvl) 𝒱₀ V D) c).after 2 t))

/-- The body at any point: the inputs' memrefs hold their blocks (`before0_W`); so the
    run applies; the invariant passes through unread; the core owes `D c` throughout. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1]
  rw [show ((dat (Ix := Ix) (U := U) (Lvl := Lvl) 𝒱₀ V D) c).Φ t.succ = ((dat (Ix := Ix) (U := U) (Lvl := Lvl) 𝒱₀ V D) c).Φ t.castSucc from rfl,
    show ((dat (Ix := Ix) (U := U) (Lvl := Lvl) 𝒱₀ V D) c).owesAt ι t.succ = ((dat (Ix := Ix) (U := U) (Lvl := Lvl) 𝒱₀ V D) c).owesAt ι t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A (Ix := Ix) (U := U) (Lvl := Lvl) 𝒱₀ c (grid0.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 (Ix := Ix) (U := U) (Lvl := Lvl) 𝒱₀ c _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation ((dat (Ix := Ix) (U := U) (Lvl := Lvl) 𝒱₀ V D) c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.KernelIdeal.Deq

end
-- ==== Proof.StateIdeal.lean ====
/- The program's states between its calls: what each call leaves in its results' arrays, and the proof data of both calls. -/
module

public import proofs.«01_k».proof.Proof.MainBodyIdeal
public import proofs.«01_k».proof.Proof.DequantIdeal
public import proofs.«01_k».proof.Proof.Gen.KernelIdeal.Regions
public import Idealize.ShloMosaic.Lib.Pipeline.RegionArrays

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The resource algebra: the pipelines' beside the transfers' counters. -/
abbrev UU : Type := UR sig nD τ × Counters

local notation "𝕄" => MT nD τ sig Unit (Elt F) ℕ UU ℕ

abbrev 𝒱₀ : Variants := Variants.none
abbrev L : GSem nD τ sig → Finset Unit := fun g => if g.1.2 = .tc then {()} else ∅
abbrev lv : GSem nD τ sig → Unit → ℕ := fun _ _ => 0

variable (m : (ℓ : Loc nD τ sig) → Buf (Elt F) ℓ)

/-- The arrays as the dequantisation call finds them. -/
abbrev Ve0 (c : Dev nD) (b : Ref sig .tc) : Buf (Elt F) ((c : Thread nD τ).loc b) := V0 m c (Proc.devRef .tc b)

/-- The dequantised weight. -/
def weight (c : Dev nD) : Buf (Elt F) ((c : Thread nD τ).loc main_v0) :=
  (Deq.dat (Ix := Unit) (U := UU) (Lvl := ℕ) 𝒱₀ (Ve0 m) (fun _ => 0) c).arrAt 2 cfg0.N

/-- What the first call leaves. -/
def outs1 : Outs (F := F) := fun _ r c => Function.update (V0 m c) (Proc.devRef .tc main_v0) (weight m c) (Proc.devRef .tc r)

/-- The arrays as the main call finds them. -/
abbrev Ve4 (c : Dev nD) (b : Ref sig .tc) : Buf (Elt F) ((c : Thread nD τ).loc b) := V4 m (outs1 m) c (Proc.devRef .tc b)

/-- The main call's proof data. -/
abbrev dat1 (c : Dev nD) := Main.dat (Ix := Unit) (U := UU) (Lvl := ℕ) (Ve4 m) c

/-- The arrays as the main call leaves them. -/
def W5 (c : Dev nD) : Valuation τ sig (Elt F) :=
  Function.update (Function.update (Function.update (Function.update (Function.update (V4 m (outs1 m) c)
      (Proc.devRef .tc main_v7_0) ((dat1 m c).arrAt 5 cfg1.N)) (Proc.devRef .tc main_v7_1) ((dat1 m c).arrAt 6 cfg1.N))
      (Proc.devRef .tc main_v7_2) ((dat1 m c).arrAt 7 cfg1.N)) (Proc.devRef .tc main_v7_3) ((dat1 m c).arrAt 8 cfg1.N))
      (Proc.devRef .tc main_v7_4) ((dat1 m c).arrAt 9 cfg1.N)

/-- What the two calls leave. -/
def outs : Outs (F := F)
  | 5, r, c => W5 m c (Proc.devRef .tc r)
  | n, r, c => outs1 m n r c

theorem outs5 (c : Dev nD) (r : Ref sig .tc) : outs m 5 r c = W5 m c (Proc.devRef .tc r) := rfl

theorem V4_eq (c : Dev nD) : V4 m (outs m) c = V4 m (outs1 m) c := rfl

theorem V1_v0 (c : Dev nD) : V1 m (outs m) c (Proc.devRef .tc main_v0) = weight m c := by
  simp only [V1, Function.update_self]
  show outs1 m 1 main_v0 c = _
  unfold outs1
  rw [Function.update_self]

theorem ne' {a b : Ref sig .tc} (h : a ≠ b) : (Proc.devRef .tc a : DevRef τ sig) ≠ Proc.devRef .tc b := StableHlo.devRef_ne_of_ne h

theorem V5_v0 (c : Dev nD) : V5 m (outs m) c (Proc.devRef .tc main_v0) = V4 m (outs m) c (Proc.devRef .tc main_v0) := by
  simp only [V5, Function.update_self]
  rw [outs5]
  unfold W5
  rw [Function.update_of_ne (ne' (by decide)), Function.update_of_ne (ne' (by decide)), Function.update_of_ne (ne' (by decide)),
    Function.update_of_ne (ne' (by decide)), Function.update_of_ne (ne' (by decide))]
  rfl

theorem V5_0 (c : Dev nD) : V5 m (outs m) c (Proc.devRef .tc main_v7_0) = (dat1 m c).arrAt 5 cfg1.N := by
  simp only [V5]
  rw [Function.update_of_ne (ne' (by decide)), Function.update_of_ne (ne' (by decide)), Function.update_of_ne (ne' (by decide)),
    Function.update_of_ne (ne' (by decide)), Function.update_of_ne (ne' (by decide)), Function.update_self]
  rw [outs5]
  unfold W5
  rw [Function.update_of_ne (ne' (by decide)), Function.update_of_ne (ne' (by decide)), Function.update_of_ne (ne' (by decide)),
    Function.update_of_ne (ne' (by decide)), Function.update_self]

theorem V5_1 (c : Dev nD) : V5 m (outs m) c (Proc.devRef .tc main_v7_1) = (dat1 m c).arrAt 6 cfg1.N := by
  simp only [V5]
  rw [Function.update_of_ne (ne' (by decide)), Function.update_of_ne (ne' (by decide)), Function.update_of_ne (ne' (by decide)),
    Function.update_of_ne (ne' (by decide)), Function.update_self]
  rw [outs5]
  unfold W5
  rw [Function.update_of_ne (ne' (by decide)), Function.update_of_ne (ne' (by decide)), Function.update_of_ne (ne' (by decide)), Function.update_self]

theorem V5_2 (c : Dev nD) : V5 m (outs m) c (Proc.devRef .tc main_v7_2) = (dat1 m c).arrAt 7 cfg1.N := by
  simp only [V5]
  rw [Function.update_of_ne (ne' (by decide)), Function.update_of_ne (ne' (by decide)), Function.update_of_ne (ne' (by decide)), Function.update_self]
  rw [outs5]
  unfold W5
  rw [Function.update_of_ne (ne' (by decide)), Function.update_of_ne (ne' (by decide)), Function.update_self]

theorem V5_3 (c : Dev nD) : V5 m (outs m) c (Proc.devRef .tc main_v7_3) = (dat1 m c).arrAt 8 cfg1.N := by
  simp only [V5]
  rw [Function.update_of_ne (ne' (by decide)), Function.update_of_ne (ne' (by decide)), Function.update_self]
  rw [outs5]
  unfold W5
  rw [Function.update_of_ne (ne' (by decide)), Function.update_self]

theorem V5_4 (c : Dev nD) : V5 m (outs m) c (Proc.devRef .tc main_v7_4) = (dat1 m c).arrAt 9 cfg1.N := by
  simp only [V5]
  rw [Function.update_of_ne (ne' (by decide)), Function.update_self]
  rw [outs5]
  unfold W5
  rw [Function.update_self]

/-- Both calls' proof data. -/
def pdats : (p : Fin 2) → (c : Dev nD) → Dat τ (Elt F) Unit ℕ UU ℕ (cfgs p) c
  | ⟨0, _⟩ => fun c => Deq.dat 𝒱₀ (Ve0 m) (fun _ => 0) c
  | ⟨1, _⟩ => fun c => dat1 m c

/-- No core owes another anything. -/
theorem cut (p : Fin 2) : Pipeline.LevelCut (pcfgs (F := F)) adm () L lv p (fun _ => 0) (fun _ => 0) where
  hι c w s := by show () ∈ (if _ then _ else _); rw [if_pos rfl]; exact Finset.mem_singleton.2 rfl
  hιb c w s := Nat.le_refl _
  hD c g i h := absurd h (lt_irrefl _)

end Cert.KernelIdeal.Whole

end
-- ==== Proof.RunIdeal.lean ====
/- The whole program's run: both calls as segments, and the frame. -/
module

public import proofs.«01_k».proof.Proof.StateIdeal

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ)

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem arr0_S : Pipeline.arrRefs (τ := τ) spec0 ⊆ Pipeline.ucRefs τ sig :=
  Pipeline.arrRefs_sub_ucRefs spec0 (by decide)
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig :=
  Pipeline.arrRefs_sub_ucRefs spec1 (by decide)

/-- The first call changes its result's array alone. -/
theorem rest0 (c : Dev nD) : ∀ b ∈ (Pipeline.ucRefs τ sig) \ Pipeline.arrRefs (τ := τ) spec0, V1 m (outs m) c b = V0 m c b := fun b hb => by
  have hn : b ∉ Pipeline.arrRefs (τ := τ) spec0 := (Finset.mem_sdiff.mp hb).2
  have h : b ≠ Proc.devRef .tc main_v0 := by rintro rfl; exact hn (arr0_mem 2)
  simp only [V1, Function.update_of_ne h]

/-- The main call changes its results' arrays alone. -/
theorem rest1 (c : Dev nD) : ∀ b ∈ (Pipeline.ucRefs τ sig) \ Pipeline.arrRefs (τ := τ) spec1, V5 m (outs m) c b = V4 m (outs m) c b := fun b hb => by
  have hn : b ∉ Pipeline.arrRefs (τ := τ) spec1 := (Finset.mem_sdiff.mp hb).2
  by_cases h : b = Proc.devRef .tc main_v0
  · subst h; exact V5_v0 m c
  have h0 : b ≠ Proc.devRef .tc main_v7_0 := by rintro rfl; exact hn (arr1_mem 5)
  have h1 : b ≠ Proc.devRef .tc main_v7_1 := by rintro rfl; exact hn (arr1_mem 6)
  have h2 : b ≠ Proc.devRef .tc main_v7_2 := by rintro rfl; exact hn (arr1_mem 7)
  have h3 : b ≠ Proc.devRef .tc main_v7_3 := by rintro rfl; exact hn (arr1_mem 8)
  have h4 : b ≠ Proc.devRef .tc main_v7_4 := by rintro rfl; exact hn (arr1_mem 9)
  simp only [V5, Function.update_of_ne h, Function.update_of_ne h0, Function.update_of_ne h1, Function.update_of_ne h2, Function.update_of_ne h3, Function.update_of_ne h4]

set_option backward.isDefEq.respectTransparency.types false in
/-- The dequantisation call. -/
def R0 : RegionSeg (pcfgs (F := F)) adm (pdats m) () defs₀ 𝒱₀ L lv 0 :=
  Pipeline.RegionSeg.ofHeld (pcfgs (F := F)) adm (pdats m) () defs₀ 𝒱₀ L lv 0 (fun _ => 0)
    (fun c => iprop(∃ r, prngReg c r)) (fun c => iprop(∃ r, prngReg c r))
    launch0.toP rfl
    (fun c => (Deq.body_obligation (U := UU) (Lvl := ℕ) 𝒱₀ (Ve0 m) (fun _ => 0) () c).loose) (fun _ _ => rfl) (fun _ => rfl)
    (fun c => (pdats m 0 c).share_full fun _ => rfl) (fun _ => .rfl) (fun _ => .rfl) (fun _ => 0) (cut 0)
    (fun c => StableHlo.held (c : Thread nD τ) ((Pipeline.ucRefs τ sig) \ Pipeline.arrRefs (τ := τ) spec0) (V0 m c))
    (V0 m) (V1 m (outs m)) (fun _ _ => rfl)
    (fun c => fun
      | 0 => ((pdats m 0 c).arrAt_in 0 rfl _).trans ((Deq.A_eq (U := UU) (Lvl := ℕ) 𝒱₀ (Ve0 m) (fun _ => 0) c 0).trans (V1_of m (outs m) c (Pipeline.arrRef spec0 0) (by decide)).symm)
      | 1 => ((pdats m 0 c).arrAt_in 1 rfl _).trans ((Deq.A_eq (U := UU) (Lvl := ℕ) 𝒱₀ (Ve0 m) (fun _ => 0) c 1).trans (V1_of m (outs m) c (Pipeline.arrRef spec0 1) (by decide)).symm)
      | 2 => (V1_v0 m c).symm
      | ⟨_ + 3, h⟩ => absurd h (Nat.not_lt.2 (Nat.le_add_left _ _)))

/-- The rest of a core's state beside its arrays. -/
def E : Fin 3 → Dev nD → sProp 𝕄
  | ⟨2, _⟩, c => iprop(∃ W, owes (c : Thread nD τ) (0 : CellTallies nD τ sig Unit) W)
  | _, c => iprop((∃ r, prngReg c r) ∗ ∃ W, owes (c : Thread nD τ) (0 : CellTallies nD τ sig Unit) W)

theorem hpre0 (c : Dev nD) : iprop(StableHlo.held (c : Thread nD τ) (Pipeline.ucRefs τ sig) (V0 m c) ∗ E 0 c) ⊢ (R0 m).pre c := by
  show iprop(_ ∗ (∃ r, prngReg c r) ∗ ∃ W, owes (c : Thread nD τ) (0 : CellTallies nD τ sig Unit) W) ⊢ iprop(StableHlo.held (c : Thread nD τ) (Pipeline.arrRefs (τ := τ) spec0) (V0 m c) ∗ (∃ r, prngReg c r)
    ∗ StableHlo.held (c : Thread nD τ) ((Pipeline.ucRefs τ sig) \ Pipeline.arrRefs (τ := τ) spec0) (V0 m c) ∗ ∃ W, owes (c : Thread nD τ) (0 : CellTallies nD τ sig Unit) W)
  rw [StableHlo.held_sub_split (c : Thread nD τ) arr0_S (V0 m c)]
  iintro ⟨⟨Ha, Hr⟩, Hp, HO⟩
  isplitl [Ha]; · iexact Ha
  isplitl [Hp]; · iexact Hp
  isplitl [Hr]; · iexact Hr
  iexact HO

theorem hpost0 (c : Dev nD) : (R0 m).post c ⊢ iprop(StableHlo.held (c : Thread nD τ) (Pipeline.ucRefs τ sig) (V1 m (outs m) c) ∗ E 1 c) := by
  show iprop(StableHlo.held (c : Thread nD τ) (Pipeline.arrRefs (τ := τ) spec0) (V1 m (outs m) c) ∗ (∃ r, prngReg c r)
    ∗ StableHlo.held (c : Thread nD τ) ((Pipeline.ucRefs τ sig) \ Pipeline.arrRefs (τ := τ) spec0) (V0 m c) ∗ ∃ W, owes (c : Thread nD τ) (0 : CellTallies nD τ sig Unit) W) ⊢
    iprop(_ ∗ (∃ r, prngReg c r) ∗ ∃ W, owes (c : Thread nD τ) (0 : CellTallies nD τ sig Unit) W)
  rw [StableHlo.held_sub_split (c : Thread nD τ) arr0_S (V1 m (outs m) c),
    StableHlo.held_congr (c : Thread nD τ) (S := (Pipeline.ucRefs τ sig) \ Pipeline.arrRefs (τ := τ) spec0) (rest0 m c)]
  iintro ⟨Ha, Hp, Hr, HO⟩
  isplitl [Ha Hr]
  · isplitl [Ha]; · iexact Ha
    iexact Hr
  isplitl [Hp]; · iexact Hp
  iexact HO

/-- The main call's own semaphore. -/
abbrev osem : Unit → SemLoc sig := fun _ => .dma cc1_scratch4.sem

theorem ownSems (c : Dev nD) : (Pipeline.ownSems0 osem c : sProp 𝕄) = semVal ((c : Thread nD τ), .dma cc1_scratch4.sem) 0 := by
  unfold Pipeline.ownSems0
  rw [show (Finset.univ : Finset Unit) = {()} from rfl, BI.bigSep_singleton]

theorem own1 : Pipeline.OwnSemFacts spec1 osem := by decide

theorem weight_set : (Main.mw).view.set = Finset.univ := by
  exact View.set_whole _

theorem in1 (V : (c : Dev nD) → (b : Ref sig .tc) → Buf (Elt F) ((c : Thread nD τ).loc b)) (c : Dev nD) : iprop(Pipeline.scopedRest spec1 c ∗ (∃ r, prngReg c r) ∗ Pipeline.ownSems0 osem c
      ∗ (bigSep {main_v0} fun b => ((c.tc : Thread nD τ).loc b) ↦{fullShare} V c b) ∗ Transfers.MayWaits (c : Thread nD τ) () 0)
    ⊢ (Main.Φ (Ix := Unit) (U := UU) (Lvl := ℕ) V c 0 : sProp 𝕄) := by
  rw [scopedRest1_eq, ownSems, BI.bigSep_singleton]
  unfold Main.Φ Main.scratch Main.around Main.six
  simp only [owns_whole_eq, Memref.view_whole, View.set_whole]
  iintro ⟨⟨H0, H1, H2, H3, H4, H5, ⟨%f0, S0⟩, ⟨%f1, S1⟩, ⟨%f2, S2⟩, ⟨%f3, S3⟩⟩, Hp, Hs, Hw, -⟩
  isplitl [S0 S1 S2 S3]
  · iexists f0, f1, f2, f3
    isplitr; · ipureintro; exact fun h => absurd rfl h
    isplitl [S0]; · iexists f0; isplitr; · ipureintro; rfl
                    iexact S0
    isplitl [S1]; · iexists f1; isplitr; · ipureintro; rfl
                    iexact S1
    isplitl [S2]; · iexists f2; isplitr; · ipureintro; rfl
                    iexact S2
    iexists f3; isplitr; · ipureintro; rfl
    iexact S3
  isplitl [Hw]; · iexact Hw
  isplitl [Hs]; · iexact Hs
  isplitr [Hp]
  · isplitl [H0]; · iexact H0
    isplitl [H1]; · iexact H1
    isplitl [H2]; · iexact H2
    isplitl [H3]; · iexact H3
    isplitl [H4]; · iexact H4
    iexact H5
  iexact Hp

theorem out1 (V : (c : Dev nD) → (b : Ref sig .tc) → Buf (Elt F) ((c : Thread nD τ).loc b)) (c : Dev nD) : (Main.Φ (Ix := Unit) (U := UU) (Lvl := ℕ) V c 48 : sProp 𝕄) ⊢ iprop(Pipeline.scopedRest spec1 c ∗ (∃ r, prngReg c r) ∗ Pipeline.ownSems0 osem c
      ∗ (bigSep {main_v0} fun b => ((c.tc : Thread nD τ).loc b) ↦{fullShare} V c b)) := by
  rw [scopedRest1_eq, ownSems, BI.bigSep_singleton]
  unfold Main.Φ Main.scratch Main.around Main.six
  simp only [owns_whole_eq, Memref.view_whole, View.set_whole]
  iintro ⟨⟨%f0, %f1, %f2, %f3, -, ⟨%g0, -, S0⟩, ⟨%g1, -, S1⟩, ⟨%g2, -, S2⟩, ⟨%g3, -, S3⟩⟩, Hw, Hs, ⟨H0, H1, H2, H3, H4, H5⟩, Hp⟩
  isplitr [Hp Hs Hw]
  · isplitl [H0]; · iexact H0
    isplitl [H1]; · iexact H1
    isplitl [H2]; · iexact H2
    isplitl [H3]; · iexact H3
    isplitl [H4]; · iexact H4
    isplitl [H5]; · iexact H5
    isplitl [S0]; · iexists g0; iexact S0
    isplitl [S1]; · iexists g1; iexact S1
    isplitl [S2]; · iexists g2; iexact S2
    iexists g3; iexact S3
  isplitl [Hp]; · iexact Hp
  isplitl [Hs]; · iexact Hs
  iexact Hw

set_option backward.isDefEq.respectTransparency.types false in
/-- The main call. -/
def R1 : RegionSeg (pcfgs (F := F)) adm (pdats m) () defs₀ 𝒱₀ L lv 1 :=
  Pipeline.RegionSeg.ofHeldDH (pcfgs (F := F)) adm (pdats m) () defs₀ 𝒱₀ L lv 1 (fun _ => 0) () osem own1
    {main_v0} ((Pipeline.ucRefs τ sig) \ Pipeline.arrRefs (τ := τ) spec1) (by decide) launch1.toP rfl
    (fun c => (Main.body_obligation (U := UU) (Lvl := ℕ) (Ve4 m) 𝒱₀ () c).loose) (fun _ _ => rfl) (fun _ => rfl)
    (fun c => (pdats m 1 c).share_full fun _ => rfl)
    (fun c => Transfers.MayWaits.intro fun sm => by rw [MayWait_zero]; iintro -; iempintro)
    (V4 m (outs1 m)) (V5 m (outs m)) (in1 (Ve4 m)) (out1 (Ve4 m)) (fun _ => 0) (cut 1) (fun _ => BI.emp) (fun _ _ => rfl)
    (fun c => fun
      | 0 => ((pdats m 1 c).arrAt_in 0 rfl _).trans (V5_of m (outs m) c (Pipeline.arrRef spec1 0) (by decide)).symm
      | 1 => ((pdats m 1 c).arrAt_in 1 rfl _).trans (V5_of m (outs m) c (Pipeline.arrRef spec1 1) (by decide)).symm
      | 2 => ((pdats m 1 c).arrAt_in 2 rfl _).trans (V5_of m (outs m) c (Pipeline.arrRef spec1 2) (by decide)).symm
      | 3 => ((pdats m 1 c).arrAt_in 3 rfl _).trans (V5_of m (outs m) c (Pipeline.arrRef spec1 3) (by decide)).symm
      | 4 => ((pdats m 1 c).arrAt_in 4 rfl _).trans (V5_of m (outs m) c (Pipeline.arrRef spec1 4) (by decide)).symm
      | 5 => (V5_0 m c).symm
      | 6 => (V5_1 m c).symm
      | 7 => (V5_2 m c).symm
      | 8 => (V5_3 m c).symm
      | 9 => (V5_4 m c).symm
      | ⟨_ + 10, h⟩ => absurd h (Nat.not_lt.2 (Nat.le_add_left _ _)))

theorem hpre1 (c : Dev nD) : iprop(StableHlo.held (c : Thread nD τ) (Pipeline.ucRefs τ sig) (V4 m (outs m) c) ∗ E 1 c) ⊢ (R1 m).pre c := by
  show iprop(_ ∗ (∃ r, prngReg c r) ∗ ∃ W, owes (c : Thread nD τ) (0 : CellTallies nD τ sig Unit) W) ⊢ iprop(StableHlo.held (c : Thread nD τ) (Pipeline.arrRefs (τ := τ) spec1) (V4 m (outs1 m) c) ∗ (∃ r, prngReg c r)
    ∗ (StableHlo.held (c : Thread nD τ) ((Pipeline.ucRefs τ sig) \ Pipeline.arrRefs (τ := τ) spec1) (V4 m (outs1 m) c) ∗ BI.emp) ∗ ∃ W, owes (c : Thread nD τ) (0 : CellTallies nD τ sig Unit) W)
  rw [V4_eq, StableHlo.held_sub_split (c : Thread nD τ) arr1_S (V4 m (outs1 m) c)]
  iintro ⟨⟨Ha, Hr⟩, Hp, HO⟩
  isplitl [Ha]; · iexact Ha
  isplitl [Hp]; · iexact Hp
  isplitl [Hr]
  · isplitl [Hr]; · iexact Hr
    iempintro
  iexact HO

theorem hpost1 (c : Dev nD) : (R1 m).post c ⊢ iprop(StableHlo.held (c : Thread nD τ) (Pipeline.ucRefs τ sig) (V5 m (outs m) c) ∗ E 2 c) := by
  show iprop(StableHlo.held (c : Thread nD τ) (Pipeline.arrRefs (τ := τ) spec1) (V5 m (outs m) c) ∗ (∃ r, prngReg c r)
    ∗ (StableHlo.held (c : Thread nD τ) ((Pipeline.ucRefs τ sig) \ Pipeline.arrRefs (τ := τ) spec1) (V4 m (outs1 m) c) ∗ BI.emp) ∗ ∃ W, owes (c : Thread nD τ) (0 : CellTallies nD τ sig Unit) W) ⊢
    iprop(_ ∗ ∃ W, owes (c : Thread nD τ) (0 : CellTallies nD τ sig Unit) W)
  rw [StableHlo.held_sub_split (c : Thread nD τ) arr1_S (V5 m (outs m) c),
    StableHlo.held_congr (c : Thread nD τ) (S := (Pipeline.ucRefs τ sig) \ Pipeline.arrRefs (τ := τ) spec1) (V := V5 m (outs m) c) (V' := V4 m (outs1 m) c) (fun b hb => (rest1 m c b hb).trans (congrFun (V4_eq m c) b))]
  iintro ⟨Ha, -, ⟨Hr, -⟩, HO⟩
  isplitl [Ha Hr]
  · isplitl [Ha]; · iexact Ha
    iexact Hr
  iexact HO

/-! ## The launch -/

/-- The pipelines' embedding. -/
abbrev EP : Emb (UR sig nD τ) 𝕄 := embL

def u₀ : UU := (initOf (Pipeline.cells cfgs cellOf_inj) (Pipeline.launchToks cfgs cellOf_inj), 1)

theorem hu₀ : (ownU u₀ : sProp 𝕄) ⊢ |={Set.univ}=> iprop(BI.own ((EP (F := F)) (initOf (Pipeline.cells cfgs cellOf_inj) (Pipeline.launchToks cfgs cellOf_inj)))
    ∗ bigSep Finset.univ fun _ : Dev nD => (BI.emp : sProp 𝕄)) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem hE0 (ρ : Dev nD → PrngReg) : iprop((bigSep Finset.univ fun c : Dev nD => iprop(unscopedSems0 c ∗ owes (c : Thread nD τ) 0 ∅ ∗ Pipeline.launchCred 0 c ∗ prngReg c (ρ c) ∗ BI.emp)) ∗ levAts L lv)
    ⊢ (|={Set.univ}=> bigSep Finset.univ (E 0) : sProp 𝕄) := by
  iintro ⟨H, -⟩
  imodintro
  iapply (show (bigSep Finset.univ fun c : Dev nD => iprop(unscopedSems0 c ∗ owes (c : Thread nD τ) 0 ∅ ∗ Pipeline.launchCred 0 c ∗ prngReg c (ρ c) ∗ BI.emp) : sProp 𝕄) ⊢ bigSep Finset.univ (E 0) from
    bigSep_mono fun c _ => by
      show _ ⊢ iprop((∃ r, prngReg c r) ∗ ∃ W, owes (c : Thread nD τ) (0 : CellTallies nD τ sig Unit) W)
      iintro ⟨-, HO, -, Hp, -⟩
      isplitl [Hp]; · iexists _; iexact Hp
      iexists _; iexact HO)
  iexact H

end Cert.KernelIdeal.Whole

end
-- ==== Proof.WholeIdeal.lean ====
/- The whole program's run, with the results it leaves. -/
module

public import proofs.«01_k».proof.Proof.RunIdeal

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ)

theorem hL : ∀ g : GSem nD τ sig, g.1.2 ≠ .tc → (L : GSem nD τ sig → Finset Unit) g = ∅ := fun g h => if_neg h

set_option backward.isDefEq.respectTransparency.types false in
/-- The whole program runs; its results are what the last valuation holds, its arguments are unchanged and every
    semaphore ends at zero. -/
theorem run (ρ : Dev nD → PrngReg) : θ_run defs (onTc (τ := τ) (main (F := F))) ⟨m, fun _ => 0, ρ⟩ (fun r => (∀ c : Dev nD,
      r.2.mem ((c.tc : Thread nD τ).loc main_v8) = V6 m (outs m) c (Proc.devRef .tc main_v8)
      ∧ r.2.mem ((c.tc : Thread nD τ).loc main_v9) = V6 m (outs m) c (Proc.devRef .tc main_v9)
      ∧ r.2.mem ((c.tc : Thread nD τ).loc main_v7_4) = V6 m (outs m) c (Proc.devRef .tc main_v7_4)
      ∧ r.2.mem ((c.tc : Thread nD τ).loc main_v10) = V6 m (outs m) c (Proc.devRef .tc main_v10)
      ∧ r.2.mem ((c.tc : Thread nD τ).loc main_v11) = V6 m (outs m) c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) adm (pdats m) () cellOf_inj EP defs₀ 𝒱₀ L lv m ρ main
    (segs m (outs m) 𝒱₀ L lv E () (pdats m) (R0 m) (R1 m))
    (fun c Q => by
      rewrite [main_chain c, Seg.run_eq_chain,
        show (segs m (outs m) 𝒱₀ L lv E () (pdats m) (R0 m) (R1 m) c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) hL (fun _ => BI.emp) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m (outs m) c))
    (hch := fun c => ⟨hpre0 m c, hpost0 m c, .rfl, .rfl, hpre1 m c, hpost1 m c, .rfl⟩)
    (hinit := ?_) (QY := fun c s => s.mem ((c.tc : Thread nD τ).loc main_v8) = V6 m (outs m) c (Proc.devRef .tc main_v8)
      ∧ s.mem ((c.tc : Thread nD τ).loc main_v9) = V6 m (outs m) c (Proc.devRef .tc main_v9)
      ∧ s.mem ((c.tc : Thread nD τ).loc main_v7_4) = V6 m (outs m) c (Proc.devRef .tc main_v7_4)
      ∧ s.mem ((c.tc : Thread nD τ).loc main_v10) = V6 m (outs m) c (Proc.devRef .tc main_v10)
      ∧ s.mem ((c.tc : Thread nD τ).loc main_v11) = V6 m (outs m) c (Proc.devRef .tc main_v11)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) 0 ∅ ∗ Pipeline.launchCred (fun _ => 0) c ∗ prngReg c (ρ c) ∗ BI.emp))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨(h (Proc.devRef .tc main_v8) (Finset.mem_filter.mpr ⟨StableHlo.devRef_mem_tcRefs main_v8, by decide⟩)),
        (h (Proc.devRef .tc main_v9) (Finset.mem_filter.mpr ⟨StableHlo.devRef_mem_tcRefs main_v9, by decide⟩)),
        (h (Proc.devRef .tc main_v7_4) (Finset.mem_filter.mpr ⟨StableHlo.devRef_mem_tcRefs main_v7_4, by decide⟩)),
        (h (Proc.devRef .tc main_v10) (Finset.mem_filter.mpr ⟨StableHlo.devRef_mem_tcRefs main_v10, by decide⟩)),
        (h (Proc.devRef .tc main_v11) (Finset.mem_filter.mpr ⟨StableHlo.devRef_mem_tcRefs main_v11, by decide⟩)),
        (h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c),
        (h (Proc.devRef .tc main_arg3) (Finset.mem_filter.mpr ⟨StableHlo.devRef_mem_tcRefs main_arg3, by decide⟩)).trans (V6_main_arg3 m (outs m) c),
        (h (Proc.devRef .tc main_arg4) (Finset.mem_filter.mpr ⟨StableHlo.devRef_mem_tcRefs main_arg4, by decide⟩)).trans (V6_main_arg4 m (outs m) c),
        (h (Proc.devRef .tc main_arg5) (Finset.mem_filter.mpr ⟨StableHlo.devRef_mem_tcRefs main_arg5, by decide⟩)).trans (V6_main_arg5 m (outs m) c)⟩
    · iexact HSI

end Cert.KernelIdeal.Whole

end
-- ==== Proof.BodyBits.lean ====
/- The printed body is its list of steps: each part by computation, the parts chained. -/
module

public import proofs.«01_k».proof.Kernel
public import proofs.«01_k».proof.Proof.Code

@[expose] public section

set_option maxRecDepth 100000

open Idealize.ShloMosaic in
attribute [local irreducible] Mxu.accLhs Mxu.pushed Mxu.accBy Mxu.read Mxu.pop Mxu.PushOk shapeCast truncf mulf addf concatenate transpose extractStridedSlice broadcast

noncomputable section

namespace Cert.Kernel

open Idealize.ShloMosaic Idealize.SL.Sem Cert.Qlora

variable {F : FTy → Type} [FloatOps F] [Facts]
variable (A : Args sig) (i : grid1.Coords) (w : Memref sig .tc .hbm S2560x6912 .bf16) (hw : w.IsWhole) (d : DmaSems sig S_)

/-- What a part takes before its registers. -/
abbrev Part (α : Type 1) : Type 1 := grid1.Coords →
  (m1 : Memref sig .tc .vmem (sh .dy) (el .dy)) → m1.IsWhole →
  (m2 : Memref sig .tc .vmem (sh .x) (el .x)) → m2.IsWhole →
  (w : Memref sig .tc .hbm S2560x6912 .bf16) → w.IsWhole →
  (m4 : Memref sig .tc .vmem (sh .ap) (el .ap)) → m4.IsWhole →
  (m5 : Memref sig .tc .vmem (sh .at) (el .at)) → m5.IsWhole →
  (m6 : Memref sig .tc .vmem (sh .b) (el .b)) → m6.IsWhole →
  (m7 : Memref sig .tc .vmem (sh .dx) (el .dx)) → m7.IsWhole →
  (m8 : Memref sig .tc .vmem (sh .g) (el .g)) → m8.IsWhole →
  (m9 : Memref sig .tc .vmem (sh .xa) (el .xa)) → m9.IsWhole →
  (m10 : Memref sig .tc .vmem (sh .dla) (el .dla)) → m10.IsWhole →
  (m11 : Memref sig .tc .vmem (sh .dlb) (el .dlb)) → m11.IsWhole →
  (m12 : Memref sig .tc .vmem (sh .w) (el .w)) → m12.IsWhole →
  (m13 : Memref sig .tc .vmem (sh .gp) (el .gp)) → m13.IsWhole →
  (m14 : Memref sig .tc .vmem (sh .gt) (el .gt)) → m14.IsWhole →
  (m15 : Memref sig .tc .vmem (sh .xt) (el .xt)) → m15.IsWhole →
  DmaSems sig S_ → α

/-- A part called with the buffers. -/
abbrev app {α : Type 1} (f : Part α) : α :=
  f i (A.m .dy) (A.h .dy) (A.m .x) (A.h .x) w hw (A.m .ap) (A.h .ap) (A.m .at) (A.h .at) (A.m .b) (A.h .b) (A.m .dx) (A.h .dx) (A.m .g) (A.h .g) (A.m .xa) (A.h .xa) (A.m .dla) (A.h .dla) (A.m .dlb) (A.h .dlb) (A.m .w) (A.h .w) (A.m .gp) (A.h .gp) (A.m .gt) (A.h .gt) (A.m .xt) (A.h .xt) d

/-- The programs of the body. -/
abbrev PB (α : Type) : Type 1 := Prog (TpuEff nD τ sig (Elt F) Λ₀ .tc) α

/-- A part followed by the rest. -/
theorem chain {β γ : Type} {p : PB (F := F) β} {f : St F → β} {l l' : List Op} {s : St F} {k : β → PB (F := F) γ} {g : St F → γ}
    (h : p = (run A l s >>= fun s => pure (f s))) (hk : ∀ s, k (f s) = (run A l' s >>= fun s => pure (g s))) :
    (p >>= k) = (run A (l ++ l') s >>= fun s => pure (g s)) := by
  rw [h, run_append]
  simp only [bind_assoc, pure_bind, hk]

variable (s : St F)

theorem p2 : app A i w hw d (k1_part2 (F := F)) s.mxu s.l = (run A c2 s >>= fun s => pure ⟨s.mxu, s.l⟩) := rfl
theorem p3 : app A i w hw d (k1_part3 (F := F)) s.mxu s.l = (run A c3 s >>= fun s => pure s.mxu) := rfl
theorem p4 : app A i w hw d (k1_part4 (F := F)) s.mxu = (run A c4 s >>= fun s => pure s.mxu) := rfl
theorem p5 : app A i w hw d (k1_part5 (F := F)) s.mxu = (run A c5 s >>= fun s => pure s.mxu) := rfl
theorem p6 : app A i w hw d (k1_part6 (F := F)) s.mxu = (run A c6 s >>= fun s => pure ⟨s.mxu, s.l⟩) := rfl
theorem p7 : app A i w hw d (k1_part7 (F := F)) s.mxu s.l = (run A c7 s >>= fun s => pure ⟨s.mxu, s.t⟩) := rfl
theorem p8 : app A i w hw d (k1_part8 (F := F)) s.mxu s.t = (run A c8 s >>= fun s => pure s.mxu) := rfl
theorem p9 : app A i w hw d (k1_part9 (F := F)) s.mxu = (run A c9 s >>= fun s => pure s.mxu) := rfl
theorem p10 : app A i w hw d (k1_part10 (F := F)) s.mxu = (run A c10 s >>= fun s => pure s.mxu) := rfl
theorem p11 : app A i w hw d (k1_part11 (F := F)) s.mxu = (run A c11 s >>= fun s => pure s.mxu) := rfl
theorem p12 : app A i w hw d (k1_part12 (F := F)) s.mxu = (run A c12 s >>= fun s => pure ⟨s.mxu, s.l⟩) := rfl
theorem p13 : app A i w hw d (k1_part13 (F := F)) s.mxu s.l = (run A c13 s >>= fun s => pure ⟨s.mxu, s.l⟩) := rfl
theorem p14 : app A i w hw d (k1_part14 (F := F)) s.mxu s.l = (run A c14 s >>= fun s => pure s.mxu) := rfl
theorem p15 : app A i w hw d (k1_part15 (F := F)) s.mxu = (run A c15 s >>= fun s => pure s.mxu) := rfl
theorem p16 : app A i w hw d (k1_part16 (F := F)) s.mxu = (run A c16 s >>= fun s => pure s.mxu) := rfl
theorem p17 : app A i w hw d (k1_part17 (F := F)) s.mxu = (run A c17 s >>= fun s => pure ⟨s.mxu, s.l⟩) := rfl
theorem p18 : app A i w hw d (k1_part18 (F := F)) s.mxu s.l = (run A c18 s >>= fun s => pure ⟨s.mxu, s.t⟩) := rfl
theorem p19 : app A i w hw d (k1_part19 (F := F)) s.mxu s.t = (run A c19 s >>= fun s => pure s.mxu) := rfl
theorem p20 : app A i w hw d (k1_part20 (F := F)) s.mxu = (run A c20 s >>= fun s => pure s.mxu) := rfl
theorem p21 : app A i w hw d (k1_part21 (F := F)) s.mxu = (run A c21 s >>= fun s => pure s.mxu) := rfl
theorem p22 : app A i w hw d (k1_part22 (F := F)) s.mxu = (run A c22 s >>= fun s => pure s.mxu) := rfl
theorem p23 : app A i w hw d (k1_part23 (F := F)) s.mxu = (run A c23 s >>= fun s => pure ⟨s.mxu, s.l⟩) := rfl
theorem p24 : app A i w hw d (k1_part24 (F := F)) s.mxu s.l = (run A c24 s >>= fun s => pure ⟨s.mxu, s.l⟩) := rfl
theorem p25 : app A i w hw d (k1_part25 (F := F)) s.mxu s.l = (run A c25 s >>= fun s => pure s.mxu) := rfl
theorem p26 : app A i w hw d (k1_part26 (F := F)) s.mxu = (run A c26 s >>= fun s => pure s.mxu) := rfl
theorem p27 : app A i w hw d (k1_part27 (F := F)) s.mxu = (run A c27 s >>= fun s => pure s.mxu) := rfl
theorem p28 : app A i w hw d (k1_part28 (F := F)) s.mxu = (run A c28 s >>= fun s => pure ⟨s.mxu, s.l⟩) := rfl
theorem p29 : app A i w hw d (k1_part29 (F := F)) s.mxu s.l = (run A c29 s >>= fun s => pure ⟨s.mxu, s.t⟩) := rfl
theorem p30 : app A i w hw d (k1_part30 (F := F)) s.mxu s.t = (run A c30 s >>= fun s => pure s.mxu) := rfl
theorem p31 : app A i w hw d (k1_part31 (F := F)) s.mxu = (run A c31 s >>= fun s => pure s.mxu) := rfl
theorem p32 : app A i w hw d (k1_part32 (F := F)) s.mxu = (run A c32 s >>= fun s => pure ⟨s.mxu, s.l⟩) := rfl
theorem p33 : app A i w hw d (k1_part33 (F := F)) s.mxu s.l = (run A c33 s >>= fun s => pure ⟨s.mxu, s.l⟩) := rfl
theorem p34 : app A i w hw d (k1_part34 (F := F)) s.mxu s.l = (run A c34 s >>= fun s => pure s.mxu) := rfl
theorem p35 : app A i w hw d (k1_part35 (F := F)) s.mxu = (run A c35 s >>= fun s => pure ⟨s.mxu, s.l⟩) := rfl
theorem p36 : app A i w hw d (k1_part36 (F := F)) s.mxu s.l = (run A c36 s >>= fun s => pure s.mxu) := rfl
theorem p37 : app A i w hw d (k1_part37 (F := F)) s.mxu = (run A c37 s >>= fun s => pure s.mxu) := rfl
theorem p38 : app A i w hw d (k1_part38 (F := F)) s.mxu = (run A c38 s >>= fun s => pure ⟨s.mxu, s.t⟩) := rfl
theorem p39 : app A i w hw d (k1_part39 (F := F)) s.mxu s.t = (run A c39 s >>= fun s => pure s.mxu) := rfl
theorem p40 : app A i w hw d (k1_part40 (F := F)) s.mxu = (run A c40 s >>= fun s => pure s.mxu) := rfl
theorem p41 : app A i w hw d (k1_part41 (F := F)) s.mxu = (run A c41 s >>= fun s => pure ⟨s.mxu, s.l⟩) := rfl
theorem p42 : app A i w hw d (k1_part42 (F := F)) s.mxu s.l = (run A c42 s >>= fun s => pure s.mxu) := rfl
theorem p43 : app A i w hw d (k1_part43 (F := F)) s.mxu = (run A c43 s >>= fun s => pure s.mxu) := rfl
theorem p44 : app A i w hw d (k1_part44 (F := F)) s.mxu = (run A c44 s >>= fun s => pure ⟨s.mxu, s.l⟩) := rfl
theorem p45 : app A i w hw d (k1_part45 (F := F)) s.mxu s.l = (run A c45 s >>= fun s => pure s.mxu) := rfl
theorem p46 : app A i w hw d (k1_part46 (F := F)) s.mxu = (run A c46 s >>= fun s => pure ⟨s.mxu, s.l⟩) := rfl
theorem p47 : app A i w hw d (k1_part47 (F := F)) s.mxu s.l = (run A c47 s >>= fun s => pure s.mxu) := rfl
theorem p48 : app A i w hw d (k1_part48 (F := F)) s.mxu = (run A c48 s >>= fun s => pure ⟨s.mxu, s.l⟩) := rfl
theorem p49 : app A i w hw d (k1_part49 (F := F)) s.mxu s.l = (run A c49 s >>= fun s => pure s.mxu) := rfl
theorem p50 : app A i w hw d (k1_part50 (F := F)) s.mxu = (run A c50 s >>= fun s => pure ⟨s.mxu, s.l⟩) := rfl
theorem p51 : app A i w hw d (k1_part51 (F := F)) s.mxu s.l = (run A c51 s >>= fun s => pure s.mxu) := rfl
theorem p52 : app A i w hw d (k1_part52 (F := F)) s.mxu = (run A c52 s >>= fun s => pure ⟨s.mxu, s.l⟩) := rfl
theorem p53 : app A i w hw d (k1_part53 (F := F)) s.mxu s.l = (run A c53 s >>= fun s => pure s.mxu) := rfl
theorem p54 : app A i w hw d (k1_part54 (F := F)) s.mxu = (run A c54 s >>= fun s => pure ⟨s.mxu, s.l⟩) := rfl
theorem p55 : app A i w hw d (k1_part55 (F := F)) s.mxu s.l = (run A c55 s >>= fun s => pure s.mxu) := rfl
theorem p56 : app A i w hw d (k1_part56 (F := F)) s.mxu = (run A c56 s >>= fun s => pure ⟨s.mxu, s.l⟩) := rfl
theorem p57 : app A i w hw d (k1_part57 (F := F)) s.mxu s.l = (run A c57 s >>= fun s => pure s.mxu) := rfl
theorem p58 : app A i w hw d (k1_part58 (F := F)) s.mxu = (run A c58 s >>= fun s => pure ⟨s.mxu, s.e⟩) := rfl
theorem p59 : app A i w hw d (k1_part59 (F := F)) s.mxu s.e = (run A c59 s >>= fun s => pure ⟨s.mxu, s.l⟩) := rfl
theorem p60 : app A i w hw d (k1_part60 (F := F)) s.mxu s.l = (run A c60 s >>= fun s => pure s.mxu) := rfl
theorem p61 : app A i w hw d (k1_part61 (F := F)) s.mxu = (run A c61 s >>= fun s => pure s.mxu) := rfl
theorem p62 : app A i w hw d (k1_part62 (F := F)) s.mxu = (run A c62 s >>= fun s => pure s.mxu) := rfl
theorem p63 : app A i w hw d (k1_part63 (F := F)) s.mxu = (run A c63 s >>= fun s => pure ⟨s.mxu, s.t⟩) := rfl
theorem p64 : app A i w hw d (k1_part64 (F := F)) s.mxu s.t = (run A c64 s >>= fun s => pure s.mxu) := rfl
theorem p65 : app A i w hw d (k1_part65 (F := F)) s.mxu = (run A c65 s >>= fun s => pure s.mxu) := rfl
theorem p66 : app A i w hw d (k1_part66 (F := F)) s.mxu = (run A c66 s >>= fun s => pure s.mxu) := rfl
theorem p67 : app A i w hw d (k1_part67 (F := F)) s.mxu = (run A c67 s >>= fun s => pure s.mxu) := rfl
theorem p68 : app A i w hw d (k1_part68 (F := F)) s.mxu = (run A c68 s >>= fun s => pure s.mxu) := rfl
theorem p69 : app A i w hw d (k1_part69 (F := F)) s.mxu = (run A c69 s >>= fun s => pure ⟨s.mxu, s.l⟩) := rfl
theorem p70 : app A i w hw d (k1_part70 (F := F)) s.mxu s.l = (run A c70 s >>= fun s => pure ⟨s.mxu, s.l⟩) := rfl
theorem p71 : app A i w hw d (k1_part71 (F := F)) s.mxu s.l = (run A c71 s >>= fun s => pure s.mxu) := rfl
theorem p72 : app A i w hw d (k1_part72 (F := F)) s.mxu = (run A c72 s >>= fun s => pure s.mxu) := rfl
theorem p73 : app A i w hw d (k1_part73 (F := F)) s.mxu = (run A c73 s >>= fun s => pure s.mxu) := rfl
theorem p74 : app A i w hw d (k1_part74 (F := F)) s.mxu = (run A c74 s >>= fun s => pure ⟨s.mxu, s.t⟩) := rfl
theorem p75 : app A i w hw d (k1_part75 (F := F)) s.mxu s.t = (run A c75 s >>= fun s => pure s.mxu) := rfl
theorem p76 : app A i w hw d (k1_part76 (F := F)) s.mxu = (run A c76 s >>= fun s => pure s.mxu) := rfl
theorem p77 : app A i w hw d (k1_part77 (F := F)) s.mxu = (run A c77 s >>= fun s => pure s.mxu) := rfl
theorem p78 : app A i w hw d (k1_part78 (F := F)) s.mxu = (run A c78 s >>= fun s => pure s.mxu) := rfl
theorem p79 : app A i w hw d (k1_part79 (F := F)) s.mxu = (run A c79 s >>= fun s => pure s.mxu) := rfl
theorem p80 : app A i w hw d (k1_part80 (F := F)) s.mxu = (run A c80 s >>= fun s => pure ⟨s.mxu, s.l⟩) := rfl
theorem p81 : app A i w hw d (k1_part81 (F := F)) s.mxu s.l = (run A c81 s >>= fun s => pure ⟨s.mxu, s.l⟩) := rfl
theorem p82 : app A i w hw d (k1_part82 (F := F)) s.mxu s.l = (run A c82 s >>= fun s => pure s.mxu) := rfl
theorem p83 : app A i w hw d (k1_part83 (F := F)) s.mxu = (run A c83 s >>= fun s => pure s.mxu) := rfl
theorem p84 : app A i w hw d (k1_part84 (F := F)) s.mxu = (run A c84 s >>= fun s => pure s.mxu) := rfl
theorem p85 : app A i w hw d (k1_part85 (F := F)) s.mxu = (run A c85 s >>= fun s => pure ⟨s.mxu, s.t⟩) := rfl
theorem p86 : app A i w hw d (k1_part86 (F := F)) s.mxu s.t = (run A c86 s >>= fun s => pure s.mxu) := rfl
theorem p87 : app A i w hw d (k1_part87 (F := F)) s.mxu = (run A c87 s >>= fun s => pure s.mxu) := rfl
theorem p88 : app A i w hw d (k1_part88 (F := F)) s.mxu = (run A c88 s >>= fun s => pure s.mxu) := rfl
theorem p89 : app A i w hw d (k1_part89 (F := F)) s.mxu = (run A c89 s >>= fun s => pure s.mxu) := rfl
theorem p90 : app A i w hw d (k1_part90 (F := F)) s.mxu = (run A c90 s >>= fun s => pure ⟨s.mxu, s.f⟩) := rfl
theorem p91 : app A i w hw d (k1_part91 (F := F)) s.mxu s.f = (run A c91 s >>= fun s => pure s.mxu) := rfl
theorem p92 : app A i w hw d (k1_part92 (F := F)) s.mxu = (run A c92 s >>= fun s => pure s.mxu) := rfl
theorem p93 : app A i w hw d (k1_part93 (F := F)) s.mxu = (run A c93 s >>= fun s => pure ⟨s.mxu, s.s⟩) := rfl
theorem p94 : app A i w hw d (k1_part94 (F := F)) s.mxu s.s = (run A c94 s >>= fun s => pure s.mxu) := rfl
theorem p95 : app A i w hw d (k1_part95 (F := F)) s.mxu = (run A c95 s >>= fun s => pure ⟨s.mxu, s.t⟩) := rfl
theorem p96 : app A i w hw d (k1_part96 (F := F)) s.mxu s.t = (run A c96 s >>= fun s => pure s.mxu) := rfl
theorem p97 : app A i w hw d (k1_part97 (F := F)) s.mxu = (run A c97 s >>= fun s => pure s.mxu) := rfl
theorem p98 : app A i w hw d (k1_part98 (F := F)) s.mxu = (run A c98 s >>= fun s => pure s.mxu) := rfl
theorem p99 : app A i w hw d (k1_part99 (F := F)) s.mxu = (run A c99 s >>= fun s => pure ⟨s.mxu, s.l⟩) := rfl
theorem p100 : app A i w hw d (k1_part100 (F := F)) s.mxu s.l = (run A c100 s >>= fun s => pure ⟨s.mxu, s.l⟩) := rfl
theorem p101 : app A i w hw d (k1_part101 (F := F)) s.mxu s.l = (run A c101 s >>= fun s => pure s.mxu) := rfl
theorem p102 : app A i w hw d (k1_part102 (F := F)) s.mxu = (run A c102 s >>= fun s => pure s.mxu) := rfl
theorem p103 : app A i w hw d (k1_part103 (F := F)) s.mxu = (run A c103 s >>= fun s => pure ⟨s.mxu, s.l⟩) := rfl
theorem p104 : app A i w hw d (k1_part104 (F := F)) s.mxu s.l = (run A c104 s >>= fun s => pure s.mxu) := rfl
theorem p105 : app A i w hw d (k1_part105 (F := F)) s.mxu = (run A c105 s >>= fun s => pure ⟨s.mxu, s.l⟩) := rfl
theorem p106 : app A i w hw d (k1_part106 (F := F)) s.mxu s.l = (run A c106 s >>= fun s => pure s.mxu) := rfl
theorem p107 : app A i w hw d (k1_part107 (F := F)) s.mxu = (run A c107 s >>= fun s => pure ⟨s.mxu, s.l⟩) := rfl
theorem p108 : app A i w hw d (k1_part108 (F := F)) s.mxu s.l = (run A c108 s >>= fun s => pure s.mxu) := rfl
theorem p109 : app A i w hw d (k1_part109 (F := F)) s.mxu = (run A c109 s >>= fun s => pure ⟨s.mxu, s.l⟩) := rfl
theorem p110 : app A i w hw d (k1_part110 (F := F)) s.mxu s.l = (run A c110 s >>= fun s => pure s.mxu) := rfl
theorem p111 : app A i w hw d (k1_part111 (F := F)) s.mxu = (run A c111 s >>= fun s => pure ⟨s.mxu, s.l⟩) := rfl
theorem p112 : app A i w hw d (k1_part112 (F := F)) s.mxu s.l = (run A c112 s >>= fun s => pure s.mxu) := rfl
theorem p113 : app A i w hw d (k1_part113 (F := F)) s.mxu = (run A c113 s >>= fun s => pure ⟨s.mxu, s.l⟩) := rfl
theorem p114 : app A i w hw d (k1_part114 (F := F)) s.mxu s.l = (run A c114 s >>= fun s => pure s.mxu) := rfl
theorem p115 : app A i w hw d (k1_part115 (F := F)) s.mxu = (run A c115 s >>= fun s => pure ⟨s.mxu, s.l⟩) := rfl
theorem p116 : app A i w hw d (k1_part116 (F := F)) s.mxu s.l = (run A c116 s >>= fun s => pure s.mxu) := rfl
theorem p117 : app A i w hw d (k1_part117 (F := F)) s.mxu = (run A c117 s >>= fun s => pure ⟨s.mxu, s.l⟩) := rfl
theorem p118 : app A i w hw d (k1_part118 (F := F)) s.mxu s.l = (run A c118 s >>= fun s => pure s.mxu) := rfl
theorem p119 : app A i w hw d (k1_part119 (F := F)) s.mxu = (run A c119 s >>= fun s => pure s.mxu) := rfl
theorem p120 : app A i w hw d (k1_part120 (F := F)) s.mxu = (run A c120 s >>= fun s => pure ⟨s.mxu, s.l⟩) := rfl
theorem p121 : app A i w hw d (k1_part121 (F := F)) s.mxu s.l = (run A c121 s >>= fun s => pure s.mxu) := rfl
theorem p122 : app A i w hw d (k1_part122 (F := F)) s.mxu = (run A c122 s >>= fun s => pure s.mxu) := rfl
theorem p123 : app A i w hw d (k1_part123 (F := F)) s.mxu = (run A c123 s >>= fun s => pure s.mxu) := rfl
theorem p124 : app A i w hw d (k1_part124 (F := F)) s.mxu = (run A c124 s >>= fun s => pure ⟨s.mxu, s.l⟩) := rfl
theorem p125 : app A i w hw d (k1_part125 (F := F)) s.mxu s.l = (run A c125 s >>= fun s => pure s.mxu) := rfl
theorem p126 : app A i w hw d (k1_part126 (F := F)) s.mxu = (run A c126 s >>= fun s => pure s.mxu) := rfl
theorem p127 : app A i w hw d (k1_part127 (F := F)) s.mxu = (run A c127 s >>= fun s => pure s.mxu) := rfl
theorem p128 : app A i w hw d (k1_part128 (F := F)) s.mxu = (run A c128 s >>= fun s => pure ⟨s.mxu, s.l⟩) := rfl
theorem p129 : app A i w hw d (k1_part129 (F := F)) s.mxu s.l = (run A c129 s >>= fun s => pure s.mxu) := rfl
theorem p130 : app A i w hw d (k1_part130 (F := F)) s.mxu = (run A c130 s >>= fun s => pure s.mxu) := rfl
theorem p131 : app A i w hw d (k1_part131 (F := F)) s.mxu = (run A c131 s >>= fun s => pure s.mxu) := rfl
theorem p132 : app A i w hw d (k1_part132 (F := F)) s.mxu = (run A c132 s >>= fun s => pure ⟨s.mxu, s.l⟩) := rfl
theorem p133 : app A i w hw d (k1_part133 (F := F)) s.mxu s.l = (run A c133 s >>= fun s => pure s.mxu) := rfl
theorem p134 : app A i w hw d (k1_part134 (F := F)) s.mxu = (run A c134 s >>= fun s => pure s.mxu) := rfl
theorem p135 : app A i w hw d (k1_part135 (F := F)) s.mxu = (run A c135 s >>= fun s => pure s.mxu) := rfl
theorem p136 : app A i w hw d (k1_part136 (F := F)) s.mxu = (run A c136 s >>= fun s => pure ⟨s.mxu, s.l⟩) := rfl
theorem p137 : app A i w hw d (k1_part137 (F := F)) s.mxu s.l = (run A c137 s >>= fun s => pure s.mxu) := rfl
theorem p138 : app A i w hw d (k1_part138 (F := F)) s.mxu = (run A c138 s >>= fun s => pure s.mxu) := rfl
theorem p139 : app A i w hw d (k1_part139 (F := F)) s.mxu = (run A c139 s >>= fun s => pure s.mxu) := rfl
theorem p140 : app A i w hw d (k1_part140 (F := F)) s.mxu = (run A c140 s >>= fun s => pure ⟨s.mxu, s.l⟩) := rfl
theorem p141 : app A i w hw d (k1_part141 (F := F)) s.mxu s.l = (run A c141 s >>= fun s => pure s.mxu) := rfl
theorem p142 : app A i w hw d (k1_part142 (F := F)) s.mxu = (run A c142 s >>= fun s => pure ⟨s.mxu, s.o⟩) := rfl
theorem p143 : app A i w hw d (k1_part143 (F := F)) s.mxu s.o = (run A c143 s >>= fun s => pure ⟨s.o, s.p, s.mxu, s.c⟩) := rfl
theorem p144 : app A i w hw d (k1_part144 (F := F)) s.o s.p s.mxu s.c = (run A c144 s >>= fun s => pure ⟨s.mxu, s.p⟩) := rfl
theorem p145 : app A i w hw d (k1_part145 (F := F)) s.mxu s.p = (run A c145 s >>= fun s => pure s.mxu) := rfl
theorem p146 : app A i w hw d (k1_part146 (F := F)) s.mxu = (run A c146 s >>= fun s => pure ⟨s.o, s.p, s.mxu⟩) := rfl
theorem p147 : app A i w hw d (k1_part147 (F := F)) s.o s.p s.mxu = (run A c147 s >>= fun s => pure ⟨s.mxu, s.p⟩) := rfl
theorem p148 : app A i w hw d (k1_part148 (F := F)) s.mxu s.p = (run A c148 s >>= fun s => pure s.mxu) := rfl
theorem p150 : app A i w hw d (k1_part150 (F := F)) s.mxu = (run A [c61, c62, c63, c64, c65, c66, c67, c68, c69, c70, c71, c72, c73, c74, c75, c76, c77, c78, c79, c80, c81, c82, c83, c84, c85, c86, c87, c88, c89, c90, c91, c92, c93, c94, c95, c96, c97, c98, c99, c100, c101, c102, c103, c104, c105, c106, c107, c108, c109, c110, c111, c112, c113, c114, c115, c116, c117, c118, c119, c120].flatten s >>= fun s => pure ⟨s.mxu, s.l⟩) :=
  chain A (p61 A i w hw d s) fun s =>
  chain A (p62 A i w hw d s) fun s =>
  chain A (p63 A i w hw d s) fun s =>
  chain A (p64 A i w hw d s) fun s =>
  chain A (p65 A i w hw d s) fun s =>
  chain A (p66 A i w hw d s) fun s =>
  chain A (p67 A i w hw d s) fun s =>
  chain A (p68 A i w hw d s) fun s =>
  chain A (p69 A i w hw d s) fun s =>
  chain A (p70 A i w hw d s) fun s =>
  chain A (p71 A i w hw d s) fun s =>
  chain A (p72 A i w hw d s) fun s =>
  chain A (p73 A i w hw d s) fun s =>
  chain A (p74 A i w hw d s) fun s =>
  chain A (p75 A i w hw d s) fun s =>
  chain A (p76 A i w hw d s) fun s =>
  chain A (p77 A i w hw d s) fun s =>
  chain A (p78 A i w hw d s) fun s =>
  chain A (p79 A i w hw d s) fun s =>
  chain A (p80 A i w hw d s) fun s =>
  chain A (p81 A i w hw d s) fun s =>
  chain A (p82 A i w hw d s) fun s =>
  chain A (p83 A i w hw d s) fun s =>
  chain A (p84 A i w hw d s) fun s =>
  chain A (p85 A i w hw d s) fun s =>
  chain A (p86 A i w hw d s) fun s =>
  chain A (p87 A i w hw d s) fun s =>
  chain A (p88 A i w hw d s) fun s =>
  chain A (p89 A i w hw d s) fun s =>
  chain A (p90 A i w hw d s) fun s =>
  chain A (p91 A i w hw d s) fun s =>
  chain A (p92 A i w hw d s) fun s =>
  chain A (p93 A i w hw d s) fun s =>
  chain A (p94 A i w hw d s) fun s =>
  chain A (p95 A i w hw d s) fun s =>
  chain A (p96 A i w hw d s) fun s =>
  chain A (p97 A i w hw d s) fun s =>
  chain A (p98 A i w hw d s) fun s =>
  chain A (p99 A i w hw d s) fun s =>
  chain A (p100 A i w hw d s) fun s =>
  chain A (p101 A i w hw d s) fun s =>
  chain A (p102 A i w hw d s) fun s =>
  chain A (p103 A i w hw d s) fun s =>
  chain A (p104 A i w hw d s) fun s =>
  chain A (p105 A i w hw d s) fun s =>
  chain A (p106 A i w hw d s) fun s =>
  chain A (p107 A i w hw d s) fun s =>
  chain A (p108 A i w hw d s) fun s =>
  chain A (p109 A i w hw d s) fun s =>
  chain A (p110 A i w hw d s) fun s =>
  chain A (p111 A i w hw d s) fun s =>
  chain A (p112 A i w hw d s) fun s =>
  chain A (p113 A i w hw d s) fun s =>
  chain A (p114 A i w hw d s) fun s =>
  chain A (p115 A i w hw d s) fun s =>
  chain A (p116 A i w hw d s) fun s =>
  chain A (p117 A i w hw d s) fun s =>
  chain A (p118 A i w hw d s) fun s =>
  chain A (p119 A i w hw d s) fun s =>
  chain A (p120 A i w hw d s) fun s =>
  rfl

theorem p151 : app A i w hw d (k1_part151 (F := F)) s.mxu s.l = (run A [c121, c122, c123, c124, c125, c126, c127, c128, c129, c130, c131, c132, c133, c134, c135, c136, c137, c138, c139, c140, c141, c142, c143, c144, c145, c146, c147, c148, c149].flatten s >>= fun s => pure ⟨s.p, s.mxu, s.c⟩) :=
  chain A (p121 A i w hw d s) fun s =>
  chain A (p122 A i w hw d s) fun s =>
  chain A (p123 A i w hw d s) fun s =>
  chain A (p124 A i w hw d s) fun s =>
  chain A (p125 A i w hw d s) fun s =>
  chain A (p126 A i w hw d s) fun s =>
  chain A (p127 A i w hw d s) fun s =>
  chain A (p128 A i w hw d s) fun s =>
  chain A (p129 A i w hw d s) fun s =>
  chain A (p130 A i w hw d s) fun s =>
  chain A (p131 A i w hw d s) fun s =>
  chain A (p132 A i w hw d s) fun s =>
  chain A (p133 A i w hw d s) fun s =>
  chain A (p134 A i w hw d s) fun s =>
  chain A (p135 A i w hw d s) fun s =>
  chain A (p136 A i w hw d s) fun s =>
  chain A (p137 A i w hw d s) fun s =>
  chain A (p138 A i w hw d s) fun s =>
  chain A (p139 A i w hw d s) fun s =>
  chain A (p140 A i w hw d s) fun s =>
  chain A (p141 A i w hw d s) fun s =>
  chain A (p142 A i w hw d s) fun s =>
  chain A (p143 A i w hw d s) fun s =>
  chain A (p144 A i w hw d s) fun s =>
  chain A (p145 A i w hw d s) fun s =>
  chain A (p146 A i w hw d s) fun s =>
  chain A (p147 A i w hw d s) fun s =>
  chain A (p148 A i w hw d s) fun s =>
  rfl

end Cert.Kernel

end
-- ==== Proof.BodyBitsEq.lean ====
/- The printed body is the first point's work, its list of steps, and the return. -/
module

public import proofs.«01_k».proof.Proof.BodyBits
public import proofs.«01_k».proof.Proof.Prologue

@[expose] public section

set_option maxRecDepth 100000

open Idealize.ShloMosaic in
attribute [local irreducible] Mxu.accLhs Mxu.pushed Mxu.accBy Mxu.read Mxu.pop Mxu.PushOk shapeCast truncf mulf addf concatenate transpose extractStridedSlice broadcast

noncomputable section

namespace Cert.Kernel

open Idealize.ShloMosaic Idealize.SL.Sem Cert.Qlora

variable {F : FTy → Type} [FloatOps F] [Facts]
variable (A : Args sig) (i : grid1.Coords) (w : Memref sig .tc .hbm S2560x6912 .bf16) (hw : w.IsWhole) (d : DmaSems sig S_)
variable (s : St F)

/-- Is this the first point? -/
abbrev isFirst (i : grid1.Coords) : BitVec 1 :=
  Scalar.cmpi .ne ((Scalar.extui (Scalar.cmpi .eq (BitVec.ofNat 32 (i 0).val) 0#32)) : BitVec 32) 0#32

theorem p1 : app A i w hw d (k1_part1 (F := F)) =
    (prologue A (isFirst i) w hw d.sem >>= fun _ => run A c1 St.init >>= fun s => pure ⟨s.mxu, s.l⟩) := by
  unfold prologue
  split
  case isTrue h =>
    exact (dif_pos h).trans rfl
  case isFalse h => exact (dif_neg h).trans rfl

theorem p149 : app A i w hw d (k1_part149 (F := F)) =
    (prologue A (isFirst i) w hw d.sem >>= fun _ => run A [c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60].flatten St.init >>= fun s => pure s.mxu) := by
  refine (congrArg (· >>= _) (p1 A i w hw d)).trans ?_
  refine (bind_assoc _ _ _).trans (congrArg _ (funext fun _ => ?_))
  exact chain A rfl fun s =>
  chain A (p2 A i w hw d s) fun s =>
  chain A (p3 A i w hw d s) fun s =>
  chain A (p4 A i w hw d s) fun s =>
  chain A (p5 A i w hw d s) fun s =>
  chain A (p6 A i w hw d s) fun s =>
  chain A (p7 A i w hw d s) fun s =>
  chain A (p8 A i w hw d s) fun s =>
  chain A (p9 A i w hw d s) fun s =>
  chain A (p10 A i w hw d s) fun s =>
  chain A (p11 A i w hw d s) fun s =>
  chain A (p12 A i w hw d s) fun s =>
  chain A (p13 A i w hw d s) fun s =>
  chain A (p14 A i w hw d s) fun s =>
  chain A (p15 A i w hw d s) fun s =>
  chain A (p16 A i w hw d s) fun s =>
  chain A (p17 A i w hw d s) fun s =>
  chain A (p18 A i w hw d s) fun s =>
  chain A (p19 A i w hw d s) fun s =>
  chain A (p20 A i w hw d s) fun s =>
  chain A (p21 A i w hw d s) fun s =>
  chain A (p22 A i w hw d s) fun s =>
  chain A (p23 A i w hw d s) fun s =>
  chain A (p24 A i w hw d s) fun s =>
  chain A (p25 A i w hw d s) fun s =>
  chain A (p26 A i w hw d s) fun s =>
  chain A (p27 A i w hw d s) fun s =>
  chain A (p28 A i w hw d s) fun s =>
  chain A (p29 A i w hw d s) fun s =>
  chain A (p30 A i w hw d s) fun s =>
  chain A (p31 A i w hw d s) fun s =>
  chain A (p32 A i w hw d s) fun s =>
  chain A (p33 A i w hw d s) fun s =>
  chain A (p34 A i w hw d s) fun s =>
  chain A (p35 A i w hw d s) fun s =>
  chain A (p36 A i w hw d s) fun s =>
  chain A (p37 A i w hw d s) fun s =>
  chain A (p38 A i w hw d s) fun s =>
  chain A (p39 A i w hw d s) fun s =>
  chain A (p40 A i w hw d s) fun s =>
  chain A (p41 A i w hw d s) fun s =>
  chain A (p42 A i w hw d s) fun s =>
  chain A (p43 A i w hw d s) fun s =>
  chain A (p44 A i w hw d s) fun s =>
  chain A (p45 A i w hw d s) fun s =>
  chain A (p46 A i w hw d s) fun s =>
  chain A (p47 A i w hw d s) fun s =>
  chain A (p48 A i w hw d s) fun s =>
  chain A (p49 A i w hw d s) fun s =>
  chain A (p50 A i w hw d s) fun s =>
  chain A (p51 A i w hw d s) fun s =>
  chain A (p52 A i w hw d s) fun s =>
  chain A (p53 A i w hw d s) fun s =>
  chain A (p54 A i w hw d s) fun s =>
  chain A (p55 A i w hw d s) fun s =>
  chain A (p56 A i w hw d s) fun s =>
  chain A (p57 A i w hw d s) fun s =>
  chain A (p58 A i w hw d s) fun s =>
  chain A (p59 A i w hw d s) fun s =>
  (p60 A i w hw d s).trans (by simp only [List.flatten_cons, List.flatten_nil, List.append_nil])

theorem body_eq : app A i w hw d (cc1_qlora_backward (F := F)) =
    (prologue A (isFirst i) w hw d.sem >>= fun _ => run A code St.init >>= fun s => s.mxu.exit >>= fun _ => pure ⟨⟩) := by
  have h : code = [c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60].flatten ++
      ([c61, c62, c63, c64, c65, c66, c67, c68, c69, c70, c71, c72, c73, c74, c75, c76, c77, c78, c79, c80, c81, c82, c83, c84, c85, c86, c87, c88, c89, c90, c91, c92, c93, c94, c95, c96, c97, c98, c99, c100, c101, c102, c103, c104, c105, c106, c107, c108, c109, c110, c111, c112, c113, c114, c115, c116, c117, c118, c119, c120].flatten ++
      ([c121, c122, c123, c124, c125, c126, c127, c128, c129, c130, c131, c132, c133, c134, c135, c136, c137, c138, c139, c140, c141, c142, c143, c144, c145, c146, c147, c148, c149].flatten ++ c150)) := by
    simp only [code, List.flatten_cons, List.flatten_nil, List.append_assoc, List.append_nil]
  rw [h]
  refine (congrArg (· >>= _) (p149 A i w hw d)).trans ?_
  refine (bind_assoc _ _ _).trans (congrArg _ (funext fun _ => ?_))
  rw [run_append]
  refine (bind_assoc _ _ _).trans ((congrArg _ (funext fun s => ?_)).trans (bind_assoc _ _ _).symm)
  refine (pure_bind _ _).trans ?_
  refine (congrArg (· >>= _) (p150 A i w hw d s)).trans ?_
  rw [run_append]
  refine (bind_assoc _ _ _).trans ((congrArg _ (funext fun s => ?_)).trans (bind_assoc _ _ _).symm)
  refine (pure_bind _ _).trans ?_
  refine (congrArg (· >>= _) (p151 A i w hw d s)).trans ?_
  rw [run_append]
  refine (bind_assoc _ _ _).trans ((congrArg _ (funext fun s => ?_)).trans (bind_assoc _ _ _).symm)
  refine (pure_bind _ _).trans ?_
  rfl

end Cert.Kernel

end
-- ==== Proof.MainBits.lean ====
/- The main call: what each grid point finds and leaves, and its body obligation, for any contents of the arrays on entry. -/
module

public import proofs.«01_k».proof.Proof.BodyBitsEq
public import proofs.«01_k».proof.Proof.PrologueSound
public import proofs.«01_k».proof.Proof.CodeOk
public import proofs.«01_k».proof.Proof.Gen.Kernel.Launch
public import proofs.«01_k».proof.Proof.Gen.Kernel.Points
public import Idealize.ShloMosaic.Lib.Pipeline.FrameBody
public import Idealize.ShloMosaic.Lib.Pipeline.TalkSched
public import Idealize.ShloMosaic.Lib.Pipeline.RegionArraysD

@[expose] public section

noncomputable section

namespace Cert.Kernel.Main

open Cert.Kernel Cert.Kernel.Gen Cert.Qlora
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {Ix : Type} [DecidableEq Ix] {U : Type} [URA U] [CountersIn U] {Lvl : Type} [Preorder Lvl]

local notation "𝕄" => MT nD τ sig Ix (Elt F) ℕ U Lvl

/-! ## The body on any buffers -/

section Body

variable (𝒱₀ : Variants) (c : Dev nD) (A : Args sig) (i : grid1.Coords)

/-- The body past the first point. -/
theorem run_later {R : sProp 𝕄} {Q : PUnit → sProp 𝕄} {I M : Mem F} (w : Memref sig .tc .hbm S2560x6912 .bf16) (hw : w.IsWhole) (d : DmaSems sig S_)
    (hi : isFirst i ≠ 1#1) (hS : Starts I M) (H : iprop(mems c A (fin I) ∗ R) ⊢ Q ⟨⟩) :
    iprop(mems c A M ∗ R) ⊢ wp (M := 𝕄) frame (wpE (defs₀ (F := F)) 𝒱₀ (c : Thread nD τ) none) Set.univ
      (app A i w hw d (cc1_qlora_backward (F := F))) Q := by
  rw [body_eq]
  have hc := code_ok
  generalize code = l at hc ⊢
  unfold prologue
  rw [if_neg hi]
  refine body_sound 𝒱₀ c Set.univ A (fin_final hS) l hc St.init rfl fun z' hz' => ?_
  refine BIBase.Entails.trans ?_ (Mxu.wp_exit (hd := hz') (𝒱 := 𝒱₀) (c := (c : Thread nD τ)) (bd := none) (E := Set.univ))
  rw [wp_pure]
  exact H.trans fupd_intro

/-- The body at the first point. -/
theorem run_first {R : sProp 𝕄} {Q : PUnit → sProp 𝕄} (ι : Ix) {I M : Mem F} (w : Memref sig .tc .hbm S2560x6912 .bf16) (hw : w.IsWhole) (d : DmaSems sig S_)
    (fw : Buf (Elt F) (w.view.loc (c : Thread nD τ)))
    (hi : isFirst i = 1#1) (hS : Starts I (start M (w.view.read (Elt F) fw)))
    (H : iprop(mems c A (fin I) ∗ (w.view.loc (c : Thread nD τ) ↦[w.view.set]{fullShare} fw) ∗ semVal ((c : Thread nD τ), .dma d.sem) 0
      ∗ (∃ W, owes (c : Thread nD τ) 0 W) ∗ R) ⊢ Q ⟨⟩) :
    iprop(mems c A M ∗ (w.view.loc (c : Thread nD τ) ↦[w.view.set]{fullShare} fw) ∗ semVal ((c : Thread nD τ), .dma d.sem) 0
      ∗ (∃ W, owes (c : Thread nD τ) 0 W) ∗ R) ⊢ wp (M := 𝕄) frame (wpE (defs₀ (F := F)) 𝒱₀ (c : Thread nD τ) none) Set.univ
      (app A i w hw d (cc1_qlora_backward (F := F))) Q := by
  rw [body_eq]
  have hc := code_ok
  generalize code = l at hc ⊢
  refine prologue_sound 𝒱₀ c A ι M w hw d.sem fw (isFirst i) hi ?_
  refine body_sound 𝒱₀ c Set.univ A (fin_final hS) l hc St.init rfl fun z' hz' => ?_
  refine BIBase.Entails.trans ?_ (Mxu.wp_exit (hd := hz') (𝒱 := 𝒱₀) (c := (c : Thread nD τ)) (bd := none) (E := Set.univ))
  rw [wp_pure]
  exact H.trans fupd_intro

/-- The buffers one by one. -/
theorem mems_all (M : Mem F) : (mems c A M : sProp 𝕄) =
    iprop(owns (c : Thread nD τ) (A.m .dy) fullShare (M .dy) ∗ owns (c : Thread nD τ) (A.m .x) fullShare (M .x)
      ∗ owns (c : Thread nD τ) (A.m .ap) fullShare (M .ap) ∗ owns (c : Thread nD τ) (A.m .at) fullShare (M .at)
      ∗ owns (c : Thread nD τ) (A.m .b) fullShare (M .b) ∗ owns (c : Thread nD τ) (A.m .dx) fullShare (M .dx)
      ∗ owns (c : Thread nD τ) (A.m .g) fullShare (M .g) ∗ owns (c : Thread nD τ) (A.m .xa) fullShare (M .xa)
      ∗ owns (c : Thread nD τ) (A.m .dla) fullShare (M .dla) ∗ owns (c : Thread nD τ) (A.m .dlb) fullShare (M .dlb)
      ∗ owns (c : Thread nD τ) (A.m .w) fullShare (M .w) ∗ owns (c : Thread nD τ) (A.m .gp) fullShare (M .gp)
      ∗ owns (c : Thread nD τ) (A.m .gt) fullShare (M .gt) ∗ bigSep {B.xt} fun b => owns (c : Thread nD τ) (A.m b) fullShare (M b)) := by
  unfold mems
  rw [BI.bigSep_univ_split B.dy, BI.bigSep_erase (i := B.x) (by decide), BI.bigSep_erase (i := B.ap) (by decide), BI.bigSep_erase (i := B.at) (by decide),
    BI.bigSep_erase (i := B.b) (by decide), BI.bigSep_erase (i := B.dx) (by decide), BI.bigSep_erase (i := B.g) (by decide),
    BI.bigSep_erase (i := B.xa) (by decide), BI.bigSep_erase (i := B.dla) (by decide), BI.bigSep_erase (i := B.dlb) (by decide),
    BI.bigSep_erase (i := B.w) (by decide), BI.bigSep_erase (i := B.gp) (by decide), BI.bigSep_erase (i := B.gt) (by decide)]
  rfl

end Body

/-- Is this the first point, as a word. -/
theorem isFirst_iff (t : Fin cfg1.N) : isFirst (grid1.coords t) = 1#1 ↔ t.val = 0 := by
  have h : ∀ t : Fin grid1.N, isFirst (grid1.coords t) = 1#1 ↔ t.val = 0 := by decide
  exact h t

end Cert.Kernel.Main

end
-- ==== Proof.MainDataBits.lean ====
/- The proof data of the main call: what each grid point finds and leaves, for any contents of the arrays on entry. -/
module

public import proofs.«01_k».proof.Proof.MainBits

@[expose] public section

noncomputable section

namespace Cert.Kernel.Main

open Cert.Kernel Cert.Kernel.Gen Cert.Qlora
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {Ix : Type} [DecidableEq Ix] {U : Type} [URA U] [CountersIn U] {Lvl : Type} [Preorder Lvl]

local notation "𝕄" => MT nD τ sig Ix (Elt F) ℕ U Lvl

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole memref of the dequantised weight. -/
abbrev mw : Memref sig .tc .hbm S2560x6912 .bf16 := Memref.whole main_v0

/-- Fourteen buffers' contents. -/
def pack (dy : (sh .dy).Idx → Elt F (el .dy)) (x : (sh .x).Idx → Elt F (el .x)) (ap : (sh .ap).Idx → Elt F (el .ap)) (at' : (sh .at).Idx → Elt F (el .at))
    (b : (sh .b).Idx → Elt F (el .b)) (dx : (sh .dx).Idx → Elt F (el .dx)) (g : (sh .g).Idx → Elt F (el .g)) (xa : (sh .xa).Idx → Elt F (el .xa))
    (dla : (sh .dla).Idx → Elt F (el .dla)) (dlb : (sh .dlb).Idx → Elt F (el .dlb)) (w : (sh .w).Idx → Elt F (el .w)) (gp : (sh .gp).Idx → Elt F (el .gp))
    (gt : (sh .gt).Idx → Elt F (el .gt)) (xt : (sh .xt).Idx → Elt F (el .xt)) : Mem F
  | .dy => dy | .x => x | .ap => ap | .at => at' | .b => b | .dx => dx | .g => g | .xa => xa | .dla => dla | .dlb => dlb | .w => w | .gp => gp | .gt => gt | .xt => xt

/-- What point `t` works on: the five inputs' blocks, the weight, and the two running sums `a`, `b`. -/
def input (c : Dev nD) (t : Fin cfg1.N) (a : (sh .dla).Idx → Elt F (el .dla)) (b : (sh .dlb).Idx → Elt F (el .dlb)) : Mem F :=
  pack (iblk V c 0 t) (iblk V c 1 t) (iblk V c 2 t) (iblk V c 3 t) (iblk V c 4 t)
    (fun _ => Scalar.ofBits .bf16 0x0000#16) (fun _ => Scalar.ofBits .bf16 0x0000#16) (fun _ => Scalar.ofBits .bf16 0x0000#16) a b
    ((mw).view.read (Elt F) (V c main_v0))
    (fun _ => Scalar.ofBits .bf16 0x0000#16) (fun _ => Scalar.ofBits .bf16 0x0000#16) (fun _ => Scalar.ofBits .bf16 0x0000#16)

/-- Point `n` of the grid. -/
def pt (n : ℕ) : Fin cfg1.N := ⟨n % 48, Nat.mod_lt _ (by decide)⟩

theorem pt_val (t : Fin cfg1.N) : pt t.val = t := Fin.ext (Nat.mod_eq_of_lt t.isLt)

/-- What each point works on, the running sums included: zero at the first point, then what the point before left. -/
def ins (c : Dev nD) : ℕ → Mem F
  | 0 => input V c (pt 0) (broadcast (sh .dla) (Scalar.ofBits .f32 0x00000000#32)) (broadcast (sh .dlb) (Scalar.ofBits .f32 0x00000000#32))
  | n + 1 => input V c (pt (n + 1)) (fin (ins c n) .dla) (fin (ins c n) .dlb)

/-! ## The pipeline's proof data -/

/-- The six staging buffers of the dequantisation call, which this call leaves alone. -/
def six (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The weight as the call finds it. -/
def wv (c : Dev nD) : SW.Idx → Elt F .bf16 := (mw).view.read (Elt F) (V c main_v0)

/-- What the scratch buffers hold before point `n`: from the second point on the weight is in its copy, and the padded copy
    of `g` is zero past column 128. -/
def Kept (c : Dev nD) (n : ℕ) (w : (sh .w).Idx → Elt F (el .w)) (gp : (sh .gp).Idx → Elt F (el .gp)) : Prop :=
  n ≠ 0 → w = wv V c ∧ ∀ y : (sh .gp).Idx, 128 ≤ (y 1).val → gp y = Scalar.ofBits .bf16 0x0000#16

/-- The scratch buffers. -/
def scratch (c : Dev nD) (n : ℕ) : sProp 𝕄 :=
  iprop(∃ w gp gt xt, ⌜Kept V c n w gp⌝ ∗ owns (c : Thread nD τ) (Memref.whole cc1_scratch0) fullShare w ∗ owns (c : Thread nD τ) (Memref.whole cc1_scratch1) fullShare gp
    ∗ owns (c : Thread nD τ) (Memref.whole cc1_scratch2) fullShare gt ∗ owns (c : Thread nD τ) (Memref.whole cc1_scratch3) fullShare xt)

/-- The weight's array, the transfer's semaphore, and what the call leaves alone. -/
def around (c : Dev nD) : sProp 𝕄 := iprop(six (F := F) (Ix := Ix) (U := U) (Lvl := Lvl) c ∗ ∃ r, prngReg c r)

/-- The invariant between points. -/
def Φ (c : Dev nD) (n : ℕ) : sProp 𝕄 :=
  iprop(scratch (Ix := Ix) (U := U) (Lvl := Lvl) V c n ∗ ((mw).view.loc (c : Thread nD τ) ↦[(mw).view.set]{fullShare} V c main_v0)
    ∗ semVal ((c : Thread nD τ), .dma cc1_scratch4.sem) 0 ∗ around (F := F) (Ix := Ix) (U := U) (Lvl := Lvl) c)

/-- The proof data of the main call on core `c`. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => fin (ins V c t.val) .dx
    | ⟨6, _⟩ => fin (ins V c t.val) .g
    | ⟨7, _⟩ => fin (ins V c t.val) .xa
    | ⟨8, _⟩ => fin (ins V c t.val) .dla
    | ⟨9, _⟩ => fin (ins V c t.val) .dlb
  Φ t := Φ V c t.val
  q _ := fullShare
  owed _ := 0

theorem A_eq (c : Dev nD) (w : Fin cfg1.W) : ((dat (Ix := Ix) (U := U) (Lvl := Lvl) V) c).A w = V c (Pipeline.arrRef spec1 w) := by
  dsimp only [dat]

theorem after1_0 (c : Dev nD) (t : Fin cfg1.N) : ((dat (Ix := Ix) (U := U) (Lvl := Lvl) V) c).after 0 t = iblk V c 0 t := by dsimp only [dat]
theorem after1_1 (c : Dev nD) (t : Fin cfg1.N) : ((dat (Ix := Ix) (U := U) (Lvl := Lvl) V) c).after 1 t = iblk V c 1 t := by dsimp only [dat]
theorem after1_2 (c : Dev nD) (t : Fin cfg1.N) : ((dat (Ix := Ix) (U := U) (Lvl := Lvl) V) c).after 2 t = iblk V c 2 t := by dsimp only [dat]
theorem after1_3 (c : Dev nD) (t : Fin cfg1.N) : ((dat (Ix := Ix) (U := U) (Lvl := Lvl) V) c).after 3 t = iblk V c 3 t := by dsimp only [dat]
theorem after1_4 (c : Dev nD) (t : Fin cfg1.N) : ((dat (Ix := Ix) (U := U) (Lvl := Lvl) V) c).after 4 t = iblk V c 4 t := by dsimp only [dat]
theorem after1_5 (c : Dev nD) (t : Fin cfg1.N) : ((dat (Ix := Ix) (U := U) (Lvl := Lvl) V) c).after 5 t = fin (ins V c t.val) .dx := by dsimp only [dat]
theorem after1_6 (c : Dev nD) (t : Fin cfg1.N) : ((dat (Ix := Ix) (U := U) (Lvl := Lvl) V) c).after 6 t = fin (ins V c t.val) .g := by dsimp only [dat]
theorem after1_7 (c : Dev nD) (t : Fin cfg1.N) : ((dat (Ix := Ix) (U := U) (Lvl := Lvl) V) c).after 7 t = fin (ins V c t.val) .xa := by dsimp only [dat]
theorem after1_8 (c : Dev nD) (t : Fin cfg1.N) : ((dat (Ix := Ix) (U := U) (Lvl := Lvl) V) c).after 8 t = fin (ins V c t.val) .dla := by dsimp only [dat]
theorem after1_9 (c : Dev nD) (t : Fin cfg1.N) : ((dat (Ix := Ix) (U := U) (Lvl := Lvl) V) c).after 9 t = fin (ins V c t.val) .dlb := by dsimp only [dat]

theorem before1_0 (c : Dev nD) (t : Fin cfg1.N) (d) : ((dat (Ix := Ix) (U := U) (Lvl := Lvl) V) c).before 0 t d = iblk V c 0 t :=
  (((dat (Ix := Ix) (U := U) (Lvl := Lvl) V) c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : ((dat (Ix := Ix) (U := U) (Lvl := Lvl) V) c).before 1 t d = iblk V c 1 t :=
  (((dat (Ix := Ix) (U := U) (Lvl := Lvl) V) c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : ((dat (Ix := Ix) (U := U) (Lvl := Lvl) V) c).before 2 t d = iblk V c 2 t :=
  (((dat (Ix := Ix) (U := U) (Lvl := Lvl) V) c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : ((dat (Ix := Ix) (U := U) (Lvl := Lvl) V) c).before 3 t d = iblk V c 3 t :=
  (((dat (Ix := Ix) (U := U) (Lvl := Lvl) V) c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : ((dat (Ix := Ix) (U := U) (Lvl := Lvl) V) c).before 4 t d = iblk V c 4 t :=
  (((dat (Ix := Ix) (U := U) (Lvl := Lvl) V) c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem before1_8 (c : Dev nD) (t : Fin cfg1.N) (ht : t.val ≠ 0) (d) : ((dat (Ix := Ix) (U := U) (Lvl := Lvl) V) c).before 8 t d = fin (ins V c (t.val - 1)) .dla :=
  (((dat (Ix := Ix) (U := U) (Lvl := Lvl) V) c).before_out_kept 8 rfl t ht (Bool.eq_false_iff.mpr fun h => by
    have h' := (flush1_8 _).1 h
    have : t.val < 48 := t.isLt
    simp only at h'; omega) (fun _ => rfl) (fun _ _ => rfl) d).trans (after1_8 V c _)
theorem before1_9 (c : Dev nD) (t : Fin cfg1.N) (ht : t.val ≠ 0) (d) : ((dat (Ix := Ix) (U := U) (Lvl := Lvl) V) c).before 9 t d = fin (ins V c (t.val - 1)) .dlb :=
  (((dat (Ix := Ix) (U := U) (Lvl := Lvl) V) c).before_out_kept 9 rfl t ht (Bool.eq_false_iff.mpr fun h => by
    have h' := (flush1_9 _).1 h
    have : t.val < 48 := t.isLt
    simp only at h'; omega) (fun _ => rfl) (fun _ _ => rfl) d).trans (after1_9 V c _)

end Cert.Kernel.Main

end
-- ==== Proof.MainBodyBits.lean ====
/- The body obligation of the main call. -/
module

public import proofs.«01_k».proof.Proof.MainDataBits

@[expose] public section

noncomputable section

namespace Cert.Kernel.Main

open Cert.Kernel Cert.Kernel.Gen Cert.Qlora
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {Ix : Type} [DecidableEq Ix] {U : Type} [URA U] [CountersIn U] {Lvl : Type} [Preorder Lvl]

local notation "𝕄" => MT nD τ sig Ix (Elt F) ℕ U Lvl

variable (V : (c : Dev nD) → (b : Ref sig .tc) → Buf (Elt F) ((c : Thread nD τ).loc b))

/-! ## The body obligation -/

abbrev ms0 (t : Fin cfg1.N) : Memref sig .tc .vmem (sh .dy) (el .dy) := win1_0.stage (cfg1.slots t 0)
abbrev ms1 (t : Fin cfg1.N) : Memref sig .tc .vmem (sh .x) (el .x) := win1_1.stage (cfg1.slots t 1)
abbrev ms2 (t : Fin cfg1.N) : Memref sig .tc .vmem (sh .ap) (el .ap) := win1_2.stage (cfg1.slots t 2)
abbrev ms3 (t : Fin cfg1.N) : Memref sig .tc .vmem (sh .at) (el .at) := win1_3.stage (cfg1.slots t 3)
abbrev ms4 (t : Fin cfg1.N) : Memref sig .tc .vmem (sh .b) (el .b) := win1_4.stage (cfg1.slots t 4)
abbrev ms5 (t : Fin cfg1.N) : Memref sig .tc .vmem (sh .dx) (el .dx) := win1_5.stage (cfg1.slots t 5)
abbrev ms6 (t : Fin cfg1.N) : Memref sig .tc .vmem (sh .g) (el .g) := win1_6.stage (cfg1.slots t 6)
abbrev ms7 (t : Fin cfg1.N) : Memref sig .tc .vmem (sh .xa) (el .xa) := win1_7.stage (cfg1.slots t 7)
abbrev ms8 (t : Fin cfg1.N) : Memref sig .tc .vmem (sh .dla) (el .dla) := win1_8.stage (cfg1.slots t 8)
abbrev ms9 (t : Fin cfg1.N) : Memref sig .tc .vmem (sh .dlb) (el .dlb) := win1_9.stage (cfg1.slots t 9)

/-- The body's buffers at point `t`. -/
def args (t : Fin cfg1.N) : Args sig where
  m b := match b with
    | .dy => ms0 t
    | .x => ms1 t
    | .ap => ms2 t
    | .at => ms3 t
    | .b => ms4 t
    | .dx => ms5 t
    | .g => ms6 t
    | .xa => ms7 t
    | .dla => ms8 t
    | .dlb => ms9 t
    | .w => Memref.whole cc1_scratch0
    | .gp => Memref.whole cc1_scratch1
    | .gt => Memref.whole cc1_scratch2
    | .xt => Memref.whole cc1_scratch3
  h b := match b with
    | .dy => hstage1_0 ((cfg1.slots t 0).cast nbuf1_0)
    | .x => hstage1_1 ((cfg1.slots t 1).cast nbuf1_1)
    | .ap => hstage1_2 ((cfg1.slots t 2).cast nbuf1_2)
    | .at => hstage1_3 ((cfg1.slots t 3).cast nbuf1_3)
    | .b => hstage1_4 ((cfg1.slots t 4).cast nbuf1_4)
    | .dx => hstage1_5 ((cfg1.slots t 5).cast nbuf1_5)
    | .g => hstage1_6 ((cfg1.slots t 6).cast nbuf1_6)
    | .xa => hstage1_7 ((cfg1.slots t 7).cast nbuf1_7)
    | .dla => hstage1_8 ((cfg1.slots t 8).cast nbuf1_8)
    | .dlb => hstage1_9 ((cfg1.slots t 9).cast nbuf1_9)
    | .w => Memref.isWhole_whole _
    | .gp => Memref.isWhole_whole _
    | .gt => Memref.isWhole_whole _
    | .xt => Memref.isWhole_whole _

theorem body_app (t : Fin cfg1.N) : bodyAt1 (F := F) t = app (args t) (grid1.coords t) mw (Memref.isWhole_whole _) cc1_scratch4 (cc1_qlora_backward (F := F)) := rfl

variable (𝒱₀ : Variants) (ι : Ix)

/-- What the body is called with at point `t`, -/
def bodyPre (c : Dev nD) (t : Fin cfg1.N) : sProp 𝕄 :=
  iprop(((dat (Ix := Ix) (U := U) (Lvl := Lvl) V) c).Φ t.castSucc ∗ ((dat (Ix := Ix) (U := U) (Lvl := Lvl) V) c).owesAt ι t.castSucc
    ∗ (∃ d, owns (c : Thread nD τ) (ms0 t) fullShare (((dat (Ix := Ix) (U := U) (Lvl := Lvl) V) c).before 0 t d))
    ∗ (∃ d, owns (c : Thread nD τ) (ms1 t) fullShare (((dat (Ix := Ix) (U := U) (Lvl := Lvl) V) c).before 1 t d))
    ∗ (∃ d, owns (c : Thread nD τ) (ms2 t) fullShare (((dat (Ix := Ix) (U := U) (Lvl := Lvl) V) c).before 2 t d))
    ∗ (∃ d, owns (c : Thread nD τ) (ms3 t) fullShare (((dat (Ix := Ix) (U := U) (Lvl := Lvl) V) c).before 3 t d))
    ∗ (∃ d, owns (c : Thread nD τ) (ms4 t) fullShare (((dat (Ix := Ix) (U := U) (Lvl := Lvl) V) c).before 4 t d))
    ∗ (∃ d, owns (c : Thread nD τ) (ms5 t) fullShare (((dat (Ix := Ix) (U := U) (Lvl := Lvl) V) c).before 5 t d))
    ∗ (∃ d, owns (c : Thread nD τ) (ms6 t) fullShare (((dat (Ix := Ix) (U := U) (Lvl := Lvl) V) c).before 6 t d))
    ∗ (∃ d, owns (c : Thread nD τ) (ms7 t) fullShare (((dat (Ix := Ix) (U := U) (Lvl := Lvl) V) c).before 7 t d))
    ∗ (∃ d, owns (c : Thread nD τ) (ms8 t) fullShare (((dat (Ix := Ix) (U := U) (Lvl := Lvl) V) c).before 8 t d))
    ∗ (∃ d, owns (c : Thread nD τ) (ms9 t) fullShare (((dat (Ix := Ix) (U := U) (Lvl := Lvl) V) c).before 9 t d)))

/-- and what it returns. -/
def bodyPost (c : Dev nD) (t : Fin cfg1.N) : sProp 𝕄 :=
  iprop(((dat (Ix := Ix) (U := U) (Lvl := Lvl) V) c).Φ t.succ ∗ ((dat (Ix := Ix) (U := U) (Lvl := Lvl) V) c).owesAt ι t.succ
    ∗ owns (c : Thread nD τ) (ms0 t) fullShare (((dat (Ix := Ix) (U := U) (Lvl := Lvl) V) c).after 0 t)
    ∗ owns (c : Thread nD τ) (ms1 t) fullShare (((dat (Ix := Ix) (U := U) (Lvl := Lvl) V) c).after 1 t)
    ∗ owns (c : Thread nD τ) (ms2 t) fullShare (((dat (Ix := Ix) (U := U) (Lvl := Lvl) V) c).after 2 t)
    ∗ owns (c : Thread nD τ) (ms3 t) fullShare (((dat (Ix := Ix) (U := U) (Lvl := Lvl) V) c).after 3 t)
    ∗ owns (c : Thread nD τ) (ms4 t) fullShare (((dat (Ix := Ix) (U := U) (Lvl := Lvl) V) c).after 4 t)
    ∗ owns (c : Thread nD τ) (ms5 t) fullShare (((dat (Ix := Ix) (U := U) (Lvl := Lvl) V) c).after 5 t)
    ∗ owns (c : Thread nD τ) (ms6 t) fullShare (((dat (Ix := Ix) (U := U) (Lvl := Lvl) V) c).after 6 t)
    ∗ owns (c : Thread nD τ) (ms7 t) fullShare (((dat (Ix := Ix) (U := U) (Lvl := Lvl) V) c).after 7 t)
    ∗ owns (c : Thread nD τ) (ms8 t) fullShare (((dat (Ix := Ix) (U := U) (Lvl := Lvl) V) c).after 8 t)
    ∗ owns (c : Thread nD τ) (ms9 t) fullShare (((dat (Ix := Ix) (U := U) (Lvl := Lvl) V) c).after 9 t))

/-- What the points after the first work on. -/
theorem ins_pos (c : Dev nD) (t : Fin cfg1.N) (ht : t.val ≠ 0) :
    ins V c t.val = input V c t (fin (ins V c (t.val - 1)) .dla) (fin (ins V c (t.val - 1)) .dlb) := by
  obtain ⟨n, hn⟩ := t
  cases n with
  | zero => exact absurd rfl ht
  | succ n => exact congrArg (fun s => input V c s (fin (ins V c n) .dla) (fin (ins V c n) .dlb)) (pt_val ⟨n + 1, hn⟩)

theorem ins_zero (c : Dev nD) (t : Fin cfg1.N) (ht : t.val = 0) : ins V c t.val = input V c t
    (broadcast (sh .dla) (Scalar.ofBits .f32 0x00000000#32)) (broadcast (sh .dlb) (Scalar.ofBits .f32 0x00000000#32)) := by
  obtain ⟨n, hn⟩ := t
  cases n with
  | zero => exact congrArg (fun s => input V c s _ _) (pt_val ⟨0, hn⟩)
  | succ n => exact absurd ht (Nat.succ_ne_zero n)

/-- The contents that a point leaves in scratch meet the next point's condition. -/
theorem kept_fin (c : Dev nD) (t : Fin cfg1.N) : Kept V c (t.val + 1) (fin (ins V c t.val) .w) (fin (ins V c t.val) .gp) := fun _ => by
  refine ⟨?_, fin_gp _⟩
  by_cases ht : t.val = 0
  · rw [ins_zero V c t ht]; rfl
  · rw [ins_pos V c t ht]; rfl

theorem body_later (c : Dev nD) (t : Fin cfg1.N) (ht : t.val ≠ 0) :
    bodyPre (U := U) (Lvl := Lvl) V ι c t ⊢ wp frame (wpE (defs₀ (F := F)) 𝒱₀ c none) Set.univ (bodyAt1 t) (fun _ => bodyPost (U := U) (Lvl := Lvl) V ι c t) := by
  unfold bodyPre bodyPost
  rw [body_app]
  simp only [before1_0, before1_1, before1_2, before1_3, before1_4, before1_8 V c t ht, before1_9 V c t ht,
    after1_0, after1_1, after1_2, after1_3, after1_4, after1_5, after1_6, after1_7, after1_8, after1_9]
  rw [show ((dat (Ix := Ix) (U := U) (Lvl := Lvl) V) c).Φ t.castSucc = Φ V c t.val from rfl, show ((dat (Ix := Ix) (U := U) (Lvl := Lvl) V) c).Φ t.succ = Φ V c (t.val + 1) from rfl,
    show ((dat (Ix := Ix) (U := U) (Lvl := Lvl) V) c).owesAt ι t.succ = ((dat (Ix := Ix) (U := U) (Lvl := Lvl) V) c).owesAt ι t.castSucc from rfl]
  unfold Φ scratch
  iintro ⟨⟨⟨%w, %gp, %gt, %xt, %hk, Hw, Hgp, Hgt, Hxt⟩, Hv, Hs, Ha⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨hw, hgp⟩ := hk ht
  have hS : Starts (ins V c t.val) (pack (iblk V c 0 t) (iblk V c 1 t) (iblk V c 2 t) (iblk V c 3 t) (iblk V c 4 t)
      (((dat (Ix := Ix) (U := U) (Lvl := Lvl) V) c).before 5 t d5) (((dat (Ix := Ix) (U := U) (Lvl := Lvl) V) c).before 6 t d6) (((dat (Ix := Ix) (U := U) (Lvl := Lvl) V) c).before 7 t d7) (fin (ins V c (t.val - 1)) .dla) (fin (ins V c (t.val - 1)) .dlb) w gp gt xt) := by
    rw [ins_pos V c t ht]
    exact ⟨rfl, rfl, hw, rfl, rfl, rfl, rfl, rfl, hgp⟩
  iapply (run_later (F := F) (Ix := Ix) (U := U) (Lvl := Lvl) 𝒱₀ c (args t) (grid1.coords t) mw (Memref.isWhole_whole _) cc1_scratch4 (mt (isFirst_iff t).1 ht) hS
    (R := iprop(((mw).view.loc (c : Thread nD τ) ↦[(mw).view.set]{fullShare} V c main_v0) ∗ semVal ((c : Thread nD τ), .dma cc1_scratch4.sem) 0
      ∗ around (F := F) (Ix := Ix) (U := U) (Lvl := Lvl) c ∗ ((dat (Ix := Ix) (U := U) (Lvl := Lvl) V) c).owesAt ι t.castSucc)) ?_)
  · rw [mems_all, BI.bigSep_singleton]
    iintro ⟨⟨H0, H1, H2, H3, H4, H5, H6, H7, H8, H9, Hw, Hgp, Hgt, Hxt⟩, Hv, Hs, Ha, Ho⟩
    have e0 : fin (ins V c t.val) .dy = iblk V c 0 t := by rw [ins_pos V c t ht]; rfl
    have e1 : fin (ins V c t.val) .x = iblk V c 1 t := by rw [ins_pos V c t ht]; rfl
    have e2 : fin (ins V c t.val) .ap = iblk V c 2 t := by rw [ins_pos V c t ht]; rfl
    have e3 : fin (ins V c t.val) .at = iblk V c 3 t := by rw [ins_pos V c t ht]; rfl
    have e4 : fin (ins V c t.val) .b = iblk V c 4 t := by rw [ins_pos V c t ht]; rfl
    rw [e0, e1, e2, e3, e4]
    isplitr [Ho H0 H1 H2 H3 H4 H5 H6 H7 H8 H9]
    · isplitl [Hw Hgp Hgt Hxt]
      · iexists _, _, _, _
        isplitr; · ipureintro; exact kept_fin V c t
        isplitl [Hw]; · iexact Hw
        isplitl [Hgp]; · iexact Hgp
        isplitl [Hgt]; · iexact Hgt
        iexact Hxt
      isplitl [Hv]; · iexact Hv
      isplitl [Hs]; · iexact Hs
      iexact Ha
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitr [Hv Hs Ha Ho]
  · rw [mems_all, BI.bigSep_singleton]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hw]; · iexact Hw
    isplitl [Hgp]; · iexact Hgp
    isplitl [Hgt]; · iexact Hgt
    iexact Hxt
  isplitl [Hv]; · iexact Hv
  isplitl [Hs]; · iexact Hs
  isplitl [Ha]; · iexact Ha
  iexact Ho

theorem body_first (c : Dev nD) (t : Fin cfg1.N) (ht : t.val = 0) :
    bodyPre (U := U) (Lvl := Lvl) V ι c t ⊢ wp frame (wpE (defs₀ (F := F)) 𝒱₀ c none) Set.univ (bodyAt1 t) (fun _ => bodyPost (U := U) (Lvl := Lvl) V ι c t) := by
  unfold bodyPre bodyPost
  rw [body_app]
  simp only [before1_0, before1_1, before1_2, before1_3, before1_4,
    after1_0, after1_1, after1_2, after1_3, after1_4, after1_5, after1_6, after1_7, after1_8, after1_9]
  rw [show ((dat (Ix := Ix) (U := U) (Lvl := Lvl) V) c).Φ t.castSucc = Φ V c t.val from rfl, show ((dat (Ix := Ix) (U := U) (Lvl := Lvl) V) c).Φ t.succ = Φ V c (t.val + 1) from rfl]
  unfold Φ scratch
  iintro ⟨⟨⟨%w, %gp, %gt, %xt, -, Hw, Hgp, Hgt, Hxt⟩, Hv, Hs, Ha⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HO := (TalkSites.owesAt_elim ((dat (Ix := Ix) (U := U) (Lvl := Lvl) V) c) ι t.castSucc 0 rfl) $$ Ho
  have hS : Starts (ins V c t.val) (start (pack (iblk V c 0 t) (iblk V c 1 t) (iblk V c 2 t) (iblk V c 3 t) (iblk V c 4 t)
      (((dat (Ix := Ix) (U := U) (Lvl := Lvl) V) c).before 5 t d5) (((dat (Ix := Ix) (U := U) (Lvl := Lvl) V) c).before 6 t d6) (((dat (Ix := Ix) (U := U) (Lvl := Lvl) V) c).before 7 t d7) (((dat (Ix := Ix) (U := U) (Lvl := Lvl) V) c).before 8 t d8) (((dat (Ix := Ix) (U := U) (Lvl := Lvl) V) c).before 9 t d9) w gp gt xt)
      ((mw).view.read (Elt F) (V c main_v0))) := by
    rw [ins_zero V c t ht]
    exact ⟨rfl, rfl, rfl, rfl, rfl, rfl, rfl, rfl, fun _ _ => rfl⟩
  iapply (run_first (F := F) (Ix := Ix) (U := U) (Lvl := Lvl) 𝒱₀ c (args t) (grid1.coords t) ι mw (Memref.isWhole_whole _) cc1_scratch4 (V c main_v0) ((isFirst_iff t).2 ht) hS
    (R := around (F := F) (Ix := Ix) (U := U) (Lvl := Lvl) c) ?_)
  · rw [mems_all, BI.bigSep_singleton]
    iintro ⟨⟨H0, H1, H2, H3, H4, H5, H6, H7, H8, H9, Hw, Hgp, Hgt, Hxt⟩, Hv, Hs, ⟨%W, Ho⟩, Ha⟩
    have e0 : fin (ins V c t.val) .dy = iblk V c 0 t := by rw [ins_zero V c t ht]; rfl
    have e1 : fin (ins V c t.val) .x = iblk V c 1 t := by rw [ins_zero V c t ht]; rfl
    have e2 : fin (ins V c t.val) .ap = iblk V c 2 t := by rw [ins_zero V c t ht]; rfl
    have e3 : fin (ins V c t.val) .at = iblk V c 3 t := by rw [ins_zero V c t ht]; rfl
    have e4 : fin (ins V c t.val) .b = iblk V c 4 t := by rw [ins_zero V c t ht]; rfl
    rw [e0, e1, e2, e3, e4]
    isplitr [Ho H0 H1 H2 H3 H4 H5 H6 H7 H8 H9]
    · isplitl [Hw Hgp Hgt Hxt]
      · iexists _, _, _, _
        isplitr; · ipureintro; exact kept_fin V c t
        isplitl [Hw]; · iexact Hw
        isplitl [Hgp]; · iexact Hgp
        isplitl [Hgt]; · iexact Hgt
        iexact Hxt
      isplitl [Hv]; · iexact Hv
      isplitl [Hs]; · iexact Hs
      iexact Ha
    isplitl [Ho]; · iapply (TalkSites.owesAt_intro ((dat (Ix := Ix) (U := U) (Lvl := Lvl) V) c) ι t.succ 0 rfl rfl W); iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitr [Hv Hs Ha HO]
  · rw [mems_all, BI.bigSep_singleton]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hw]; · iexact Hw
    isplitl [Hgp]; · iexact Hgp
    isplitl [Hgt]; · iexact Hgt
    iexact Hxt
  isplitl [Hv]; · iexact Hv
  isplitl [Hs]; · iexact Hs
  isplitl [HO]; · iexact HO
  iexact Ha

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation ((dat (Ix := Ix) (U := U) (Lvl := Lvl) V) c) (defs₀ (F := F)) 𝒱₀ ι Set.univ := fun t => by
  rw [bigSep_W1, bigSep_W1, defs₀_row]
  by_cases ht : t.val = 0
  · exact triple_restated (body_first (U := U) (Lvl := Lvl) V 𝒱₀ ι c t ht) rfl .rfl fun _ => .rfl
  · exact triple_restated (body_later (U := U) (Lvl := Lvl) V 𝒱₀ ι c t ht) rfl .rfl fun _ => .rfl

end Cert.Kernel.Main

end
-- ==== Proof.DequantBits.lean ====
/- The dequantisation call: its run on one block, the data of its pipeline and its body obligation, for any contents of the
   arrays on entry. Each block of packed codes and scales becomes a block of the weight. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Deq

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`), by
    `Dat.before_in_eq_fetched` (unfetched, the index has not moved), the window uncut and never idle. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S512x768 .bf16 := (Memref.whole cc0_stg2_0 : Memref sig .tc .vmem S512x768 .bf16).view
/-- Each window's current staging memref at point `t`, spelled as the pipeline passes it (`bodyAt0`), and its wholeness. -/
abbrev ms0_0 (t : Fin cfg0.N) : Memref sig .tc .vmem S256x768 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x768 .bf16 := win0_2.stage (cfg0.slots t 2)
abbrev hs0_2 (t : Fin cfg0.N) : (ms0_2 t).IsWhole := hstage0_2 ((cfg0.slots t 2).cast nbuf0_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs ; the pieces are
    the witness that run finds (assigned when `iexact` hands the buffer to the continuation). -/
noncomputable def kernelRun0_A (c : Dev nD) (i : grid0.Coords) (arg2 : Memref sig .tc .vmem S256x768 .i8) (harg2 : arg2.IsWhole) (arg3 : Memref sig .tc .vmem S8x768 .bf16) (harg3 : arg3.IsWhole) (arg4 : Memref sig .tc .vmem S512x768 .bf16) (harg4 : arg4.IsWhole)
    (x0 : Vec F S256x768 .i8) (x1 : Vec F S8x768 .bf16) :
    { L2 : List (View.Piece (Elt F) S512x768 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) 𝒱₀ c none) E (cc0_nf4_dequant i arg2 harg2 arg3 harg3 arg4 harg4) K } := by
  refine ⟨?_, fun E K => ?run⟩
  case run =>
    simp only [cc0_nf4_dequant_eq_skeleton]; unfold cc0_nf4_dequant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- The run's pieces for output 2 tile its block (8 stores of `S64x768`, checked by evaluation), so they cover it. -/
theorem cover0_A_2 (c : Dev nD) (i : grid0.Coords) (arg2 : Memref sig .tc .vmem S256x768 .i8) (harg2 : arg2.IsWhole) (arg3 : Memref sig .tc .vmem S8x768 .bf16) (harg3 : arg3.IsWhole) (arg4 : Memref sig .tc .vmem S512x768 .bf16) (harg4 : arg4.IsWhole)
    (x0 : Vec F S256x768 .i8) (x1 : Vec F S8x768 .bf16) (y : S512x768.Idx) :
    ∃ pc ∈ (kernelRun0_A (Ix := Ix) (U := U) (Lvl := Lvl) 𝒱₀ c i arg2 harg2 arg3 harg3 arg4 harg4 x0 x1).1, y ∈ pc.1.set :=
  View.cover_of_tiledL (kernelRun0_A (Ix := Ix) (U := U) (Lvl := Lvl) 𝒱₀ c i arg2 harg2 arg3 harg3 arg4 harg4 x0 x1).1 S64x768.size (by sl_kernel_rfl) y

/-- What the run leaves in output 2's staging buffer: its pieces read back over junk. -/
def out0_A_2 (c : Dev nD) (i : grid0.Coords) (arg2 : Memref sig .tc .vmem S256x768 .i8) (harg2 : arg2.IsWhole) (arg3 : Memref sig .tc .vmem S8x768 .bf16) (harg3 : arg3.IsWhole) (arg4 : Memref sig .tc .vmem S512x768 .bf16) (harg4 : arg4.IsWhole)
    (x0 : Vec F S256x768 .i8) (x1 : Vec F S8x768 .bf16) : Vec F S512x768 .bf16 :=
  VO0_2.read (Elt F) (VO0_2.writes (Elt F) VO0_2.junk (kernelRun0_A (Ix := Ix) (U := U) (Lvl := Lvl) 𝒱₀ c i arg2 harg2 arg3 harg3 arg4 harg4 x0 x1).1)

/-! ## What the outputs hold after each point -/

/-- What the outputs' staging buffers hold after the body at point `t`: the run's contents at
    the point's memrefs and input blocks. -/
def outsAt0 (c : Dev nD) (t : Fin cfg0.N) : Vec F S512x768 .bf16 :=
  out0_A_2 (Ix := Ix) (U := U) (Lvl := Lvl) 𝒱₀ c (grid0.coords t) (ms0_0 t) (hs0_0 t) (ms0_1 t) (hs0_1 t) (ms0_2 t) (hs0_2 t) (iblk V c 0 t) (iblk V c 1 t)

/-! ## The pipeline's proof data -/

/-- The proof data of pipeline 0 on core `c`: the arrays as the region finds them (`V`); after the body at
    point `t` each input's buffer at its block and the outputs' at `outsAt0`; the invariant `ΦK`;
    the core owing `D c` throughout; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => (outsAt0 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg0.W) : ((dat (Ix := Ix) (U := U) (Lvl := Lvl) 𝒱₀ V D) c).A w = V c (Pipeline.arrRef spec0 w) := by
  dsimp only [dat]

/-- What the body leaves, window by window (the proof data's `match` reduced by `dsimp`). -/
theorem after0_0 (c : Dev nD) (t : Fin cfg0.N) : ((dat (Ix := Ix) (U := U) (Lvl := Lvl) 𝒱₀ V D) c).after 0 t = iblk V c 0 t := by dsimp only [dat]
theorem after0_1 (c : Dev nD) (t : Fin cfg0.N) : ((dat (Ix := Ix) (U := U) (Lvl := Lvl) 𝒱₀ V D) c).after 1 t = iblk V c 1 t := by dsimp only [dat]
theorem after0_2 (c : Dev nD) (t : Fin cfg0.N) : ((dat (Ix := Ix) (U := U) (Lvl := Lvl) 𝒱₀ V D) c).after 2 t = (outsAt0 (Ix := Ix) (U := U) (Lvl := Lvl) 𝒱₀ V c t) := by dsimp only [dat]

/-- Each input's current staging buffer holds its block at every point, fetched there or not (`beforeK_W_of`). -/
theorem before0_0 (c : Dev nD) (t : Fin cfg0.N) (d) : ((dat (Ix := Ix) (U := U) (Lvl := Lvl) 𝒱₀ V D) c).before 0 t d = iblk V c 0 t :=
  before0_0_of V ((dat (Ix := Ix) (U := U) (Lvl := Lvl) 𝒱₀ V D) c) (A_eq 𝒱₀ V D c 0) (after0_0 𝒱₀ V D c) t d
theorem before0_1 (c : Dev nD) (t : Fin cfg0.N) (d) : ((dat (Ix := Ix) (U := U) (Lvl := Lvl) 𝒱₀ V D) c).before 1 t d = iblk V c 1 t :=
  before0_1_of V ((dat (Ix := Ix) (U := U) (Lvl := Lvl) 𝒱₀ V D) c) (A_eq 𝒱₀ V D c 1) (after0_1 𝒱₀ V D c) t d

/-! ## The body obligation, at a generic point -/

/-- What the body is called with at point `t` , -/
def bodyPre (c : Dev nD) (t : Fin cfg0.N) : sProp 𝕄 :=
  iprop(((dat (Ix := Ix) (U := U) (Lvl := Lvl) 𝒱₀ V D) c).Φ t.castSucc ∗ ((dat (Ix := Ix) (U := U) (Lvl := Lvl) 𝒱₀ V D) c).owesAt ι t.castSucc
    ∗ (∃ d, owns (c : Thread nD τ) (ms0_0 t) fullShare (((dat (Ix := Ix) (U := U) (Lvl := Lvl) 𝒱₀ V D) c).before 0 t d))
    ∗ (∃ d, owns (c : Thread nD τ) (ms0_1 t) fullShare (((dat (Ix := Ix) (U := U) (Lvl := Lvl) 𝒱₀ V D) c).before 1 t d))
    ∗ (∃ d, owns (c : Thread nD τ) (ms0_2 t) fullShare (((dat (Ix := Ix) (U := U) (Lvl := Lvl) 𝒱₀ V D) c).before 2 t d)))

/-- and what it returns. -/
def bodyPost (c : Dev nD) (t : Fin cfg0.N) : sProp 𝕄 :=
  iprop(((dat (Ix := Ix) (U := U) (Lvl := Lvl) 𝒱₀ V D) c).Φ t.succ ∗ ((dat (Ix := Ix) (U := U) (Lvl := Lvl) 𝒱₀ V D) c).owesAt ι t.succ
    ∗ owns (c : Thread nD τ) (ms0_0 t) fullShare (((dat (Ix := Ix) (U := U) (Lvl := Lvl) 𝒱₀ V D) c).after 0 t)
    ∗ owns (c : Thread nD τ) (ms0_1 t) fullShare (((dat (Ix := Ix) (U := U) (Lvl := Lvl) 𝒱₀ V D) c).after 1 t)
    ∗ owns (c : Thread nD τ) (ms0_2 t) fullShare (((dat (Ix := Ix) (U := U) (Lvl := Lvl) 𝒱₀ V D) c).after 2 t))

/-- The body at any point: the inputs' memrefs hold their blocks (`before0_W`); so the
    run applies; the invariant passes through unread; the core owes `D c` throughout. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1]
  rw [show ((dat (Ix := Ix) (U := U) (Lvl := Lvl) 𝒱₀ V D) c).Φ t.succ = ((dat (Ix := Ix) (U := U) (Lvl := Lvl) 𝒱₀ V D) c).Φ t.castSucc from rfl,
    show ((dat (Ix := Ix) (U := U) (Lvl := Lvl) 𝒱₀ V D) c).owesAt ι t.succ = ((dat (Ix := Ix) (U := U) (Lvl := Lvl) 𝒱₀ V D) c).owesAt ι t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A (Ix := Ix) (U := U) (Lvl := Lvl) 𝒱₀ c (grid0.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 (Ix := Ix) (U := U) (Lvl := Lvl) 𝒱₀ c _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation ((dat (Ix := Ix) (U := U) (Lvl := Lvl) 𝒱₀ V D) c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.Kernel.Deq

end
-- ==== Proof.StateBits.lean ====
/- The program's states between its calls: what each call leaves in its results' arrays, and the proof data of both calls. -/
module

public import proofs.«01_k».proof.Proof.MainBodyBits
public import proofs.«01_k».proof.Proof.DequantBits
public import proofs.«01_k».proof.Proof.Gen.Kernel.Regions
public import Idealize.ShloMosaic.Lib.Pipeline.RegionArrays

@[expose] public section

noncomputable section

namespace Cert.Kernel.Whole

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The resource algebra: the pipelines' beside the transfers' counters. -/
abbrev UU : Type := UR sig nD τ × Counters

local notation "𝕄" => MT nD τ sig Unit (Elt F) ℕ UU ℕ

abbrev 𝒱₀ : Variants := Variants.none
abbrev L : GSem nD τ sig → Finset Unit := fun g => if g.1.2 = .tc then {()} else ∅
abbrev lv : GSem nD τ sig → Unit → ℕ := fun _ _ => 0

variable (m : (ℓ : Loc nD τ sig) → Buf (Elt F) ℓ)

/-- The arrays as the dequantisation call finds them. -/
abbrev Ve0 (c : Dev nD) (b : Ref sig .tc) : Buf (Elt F) ((c : Thread nD τ).loc b) := V0 m c (Proc.devRef .tc b)

/-- The dequantised weight. -/
def weight (c : Dev nD) : Buf (Elt F) ((c : Thread nD τ).loc main_v0) :=
  (Deq.dat (Ix := Unit) (U := UU) (Lvl := ℕ) 𝒱₀ (Ve0 m) (fun _ => 0) c).arrAt 2 cfg0.N

/-- What the first call leaves. -/
def outs1 : Outs (F := F) := fun _ r c => Function.update (V0 m c) (Proc.devRef .tc main_v0) (weight m c) (Proc.devRef .tc r)

/-- The arrays as the main call finds them. -/
abbrev Ve4 (c : Dev nD) (b : Ref sig .tc) : Buf (Elt F) ((c : Thread nD τ).loc b) := V4 m (outs1 m) c (Proc.devRef .tc b)

/-- The main call's proof data. -/
abbrev dat1 (c : Dev nD) := Main.dat (Ix := Unit) (U := UU) (Lvl := ℕ) (Ve4 m) c

/-- The arrays as the main call leaves them. -/
def W5 (c : Dev nD) : Valuation τ sig (Elt F) :=
  Function.update (Function.update (Function.update (Function.update (Function.update (V4 m (outs1 m) c)
      (Proc.devRef .tc main_v7_0) ((dat1 m c).arrAt 5 cfg1.N)) (Proc.devRef .tc main_v7_1) ((dat1 m c).arrAt 6 cfg1.N))
      (Proc.devRef .tc main_v7_2) ((dat1 m c).arrAt 7 cfg1.N)) (Proc.devRef .tc main_v7_3) ((dat1 m c).arrAt 8 cfg1.N))
      (Proc.devRef .tc main_v7_4) ((dat1 m c).arrAt 9 cfg1.N)

/-- What the two calls leave. -/
def outs : Outs (F := F)
  | 5, r, c => W5 m c (Proc.devRef .tc r)
  | n, r, c => outs1 m n r c

theorem outs5 (c : Dev nD) (r : Ref sig .tc) : outs m 5 r c = W5 m c (Proc.devRef .tc r) := rfl

theorem V4_eq (c : Dev nD) : V4 m (outs m) c = V4 m (outs1 m) c := rfl

theorem V1_v0 (c : Dev nD) : V1 m (outs m) c (Proc.devRef .tc main_v0) = weight m c := by
  simp only [V1, Function.update_self]
  show outs1 m 1 main_v0 c = _
  unfold outs1
  rw [Function.update_self]

theorem ne' {a b : Ref sig .tc} (h : a ≠ b) : (Proc.devRef .tc a : DevRef τ sig) ≠ Proc.devRef .tc b := StableHlo.devRef_ne_of_ne h

theorem V5_v0 (c : Dev nD) : V5 m (outs m) c (Proc.devRef .tc main_v0) = V4 m (outs m) c (Proc.devRef .tc main_v0) := by
  simp only [V5, Function.update_self]
  rw [outs5]
  unfold W5
  rw [Function.update_of_ne (ne' (by decide)), Function.update_of_ne (ne' (by decide)), Function.update_of_ne (ne' (by decide)),
    Function.update_of_ne (ne' (by decide)), Function.update_of_ne (ne' (by decide))]
  rfl

theorem V5_0 (c : Dev nD) : V5 m (outs m) c (Proc.devRef .tc main_v7_0) = (dat1 m c).arrAt 5 cfg1.N := by
  simp only [V5]
  rw [Function.update_of_ne (ne' (by decide)), Function.update_of_ne (ne' (by decide)), Function.update_of_ne (ne' (by decide)),
    Function.update_of_ne (ne' (by decide)), Function.update_of_ne (ne' (by decide)), Function.update_self]
  rw [outs5]
  unfold W5
  rw [Function.update_of_ne (ne' (by decide)), Function.update_of_ne (ne' (by decide)), Function.update_of_ne (ne' (by decide)),
    Function.update_of_ne (ne' (by decide)), Function.update_self]

theorem V5_1 (c : Dev nD) : V5 m (outs m) c (Proc.devRef .tc main_v7_1) = (dat1 m c).arrAt 6 cfg1.N := by
  simp only [V5]
  rw [Function.update_of_ne (ne' (by decide)), Function.update_of_ne (ne' (by decide)), Function.update_of_ne (ne' (by decide)),
    Function.update_of_ne (ne' (by decide)), Function.update_self]
  rw [outs5]
  unfold W5
  rw [Function.update_of_ne (ne' (by decide)), Function.update_of_ne (ne' (by decide)), Function.update_of_ne (ne' (by decide)), Function.update_self]

theorem V5_2 (c : Dev nD) : V5 m (outs m) c (Proc.devRef .tc main_v7_2) = (dat1 m c).arrAt 7 cfg1.N := by
  simp only [V5]
  rw [Function.update_of_ne (ne' (by decide)), Function.update_of_ne (ne' (by decide)), Function.update_of_ne (ne' (by decide)), Function.update_self]
  rw [outs5]
  unfold W5
  rw [Function.update_of_ne (ne' (by decide)), Function.update_of_ne (ne' (by decide)), Function.update_self]

theorem V5_3 (c : Dev nD) : V5 m (outs m) c (Proc.devRef .tc main_v7_3) = (dat1 m c).arrAt 8 cfg1.N := by
  simp only [V5]
  rw [Function.update_of_ne (ne' (by decide)), Function.update_of_ne (ne' (by decide)), Function.update_self]
  rw [outs5]
  unfold W5
  rw [Function.update_of_ne (ne' (by decide)), Function.update_self]

theorem V5_4 (c : Dev nD) : V5 m (outs m) c (Proc.devRef .tc main_v7_4) = (dat1 m c).arrAt 9 cfg1.N := by
  simp only [V5]
  rw [Function.update_of_ne (ne' (by decide)), Function.update_self]
  rw [outs5]
  unfold W5
  rw [Function.update_self]

/-- Both calls' proof data. -/
def pdats : (p : Fin 2) → (c : Dev nD) → Dat τ (Elt F) Unit ℕ UU ℕ (cfgs p) c
  | ⟨0, _⟩ => fun c => Deq.dat 𝒱₀ (Ve0 m) (fun _ => 0) c
  | ⟨1, _⟩ => fun c => dat1 m c

/-- No core owes another anything. -/
theorem cut (p : Fin 2) : Pipeline.LevelCut (pcfgs (F := F)) adm () L lv p (fun _ => 0) (fun _ => 0) where
  hι c w s := by show () ∈ (if _ then _ else _); rw [if_pos rfl]; exact Finset.mem_singleton.2 rfl
  hιb c w s := Nat.le_refl _
  hD c g i h := absurd h (lt_irrefl _)

end Cert.Kernel.Whole

end
-- ==== Proof.RunBits.lean ====
/- The whole program's run: both calls as segments, and the frame. -/
module

public import proofs.«01_k».proof.Proof.StateBits

@[expose] public section

noncomputable section

namespace Cert.Kernel.Whole

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ)

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem arr0_S : Pipeline.arrRefs (τ := τ) spec0 ⊆ Pipeline.ucRefs τ sig :=
  Pipeline.arrRefs_sub_ucRefs spec0 (by decide)
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig :=
  Pipeline.arrRefs_sub_ucRefs spec1 (by decide)

/-- The first call changes its result's array alone. -/
theorem rest0 (c : Dev nD) : ∀ b ∈ (Pipeline.ucRefs τ sig) \ Pipeline.arrRefs (τ := τ) spec0, V1 m (outs m) c b = V0 m c b := fun b hb => by
  have hn : b ∉ Pipeline.arrRefs (τ := τ) spec0 := (Finset.mem_sdiff.mp hb).2
  have h : b ≠ Proc.devRef .tc main_v0 := by rintro rfl; exact hn (arr0_mem 2)
  simp only [V1, Function.update_of_ne h]

/-- The main call changes its results' arrays alone. -/
theorem rest1 (c : Dev nD) : ∀ b ∈ (Pipeline.ucRefs τ sig) \ Pipeline.arrRefs (τ := τ) spec1, V5 m (outs m) c b = V4 m (outs m) c b := fun b hb => by
  have hn : b ∉ Pipeline.arrRefs (τ := τ) spec1 := (Finset.mem_sdiff.mp hb).2
  by_cases h : b = Proc.devRef .tc main_v0
  · subst h; exact V5_v0 m c
  have h0 : b ≠ Proc.devRef .tc main_v7_0 := by rintro rfl; exact hn (arr1_mem 5)
  have h1 : b ≠ Proc.devRef .tc main_v7_1 := by rintro rfl; exact hn (arr1_mem 6)
  have h2 : b ≠ Proc.devRef .tc main_v7_2 := by rintro rfl; exact hn (arr1_mem 7)
  have h3 : b ≠ Proc.devRef .tc main_v7_3 := by rintro rfl; exact hn (arr1_mem 8)
  have h4 : b ≠ Proc.devRef .tc main_v7_4 := by rintro rfl; exact hn (arr1_mem 9)
  simp only [V5, Function.update_of_ne h, Function.update_of_ne h0, Function.update_of_ne h1, Function.update_of_ne h2, Function.update_of_ne h3, Function.update_of_ne h4]

set_option backward.isDefEq.respectTransparency.types false in
/-- The dequantisation call. -/
def R0 : RegionSeg (pcfgs (F := F)) adm (pdats m) () defs₀ 𝒱₀ L lv 0 :=
  Pipeline.RegionSeg.ofHeld (pcfgs (F := F)) adm (pdats m) () defs₀ 𝒱₀ L lv 0 (fun _ => 0)
    (fun c => iprop(∃ r, prngReg c r)) (fun c => iprop(∃ r, prngReg c r))
    launch0.toP rfl
    (fun c => (Deq.body_obligation (U := UU) (Lvl := ℕ) 𝒱₀ (Ve0 m) (fun _ => 0) () c).loose) (fun _ _ => rfl) (fun _ => rfl)
    (fun c => (pdats m 0 c).share_full fun _ => rfl) (fun _ => .rfl) (fun _ => .rfl) (fun _ => 0) (cut 0)
    (fun c => StableHlo.held (c : Thread nD τ) ((Pipeline.ucRefs τ sig) \ Pipeline.arrRefs (τ := τ) spec0) (V0 m c))
    (V0 m) (V1 m (outs m)) (fun _ _ => rfl)
    (fun c => fun
      | 0 => ((pdats m 0 c).arrAt_in 0 rfl _).trans ((Deq.A_eq (U := UU) (Lvl := ℕ) 𝒱₀ (Ve0 m) (fun _ => 0) c 0).trans (V1_of m (outs m) c (Pipeline.arrRef spec0 0) (by decide)).symm)
      | 1 => ((pdats m 0 c).arrAt_in 1 rfl _).trans ((Deq.A_eq (U := UU) (Lvl := ℕ) 𝒱₀ (Ve0 m) (fun _ => 0) c 1).trans (V1_of m (outs m) c (Pipeline.arrRef spec0 1) (by decide)).symm)
      | 2 => (V1_v0 m c).symm
      | ⟨_ + 3, h⟩ => absurd h (Nat.not_lt.2 (Nat.le_add_left _ _)))

/-- The rest of a core's state beside its arrays. -/
def E : Fin 3 → Dev nD → sProp 𝕄
  | ⟨2, _⟩, c => iprop(∃ W, owes (c : Thread nD τ) (0 : CellTallies nD τ sig Unit) W)
  | _, c => iprop((∃ r, prngReg c r) ∗ ∃ W, owes (c : Thread nD τ) (0 : CellTallies nD τ sig Unit) W)

theorem hpre0 (c : Dev nD) : iprop(StableHlo.held (c : Thread nD τ) (Pipeline.ucRefs τ sig) (V0 m c) ∗ E 0 c) ⊢ (R0 m).pre c := by
  show iprop(_ ∗ (∃ r, prngReg c r) ∗ ∃ W, owes (c : Thread nD τ) (0 : CellTallies nD τ sig Unit) W) ⊢ iprop(StableHlo.held (c : Thread nD τ) (Pipeline.arrRefs (τ := τ) spec0) (V0 m c) ∗ (∃ r, prngReg c r)
    ∗ StableHlo.held (c : Thread nD τ) ((Pipeline.ucRefs τ sig) \ Pipeline.arrRefs (τ := τ) spec0) (V0 m c) ∗ ∃ W, owes (c : Thread nD τ) (0 : CellTallies nD τ sig Unit) W)
  rw [StableHlo.held_sub_split (c : Thread nD τ) arr0_S (V0 m c)]
  iintro ⟨⟨Ha, Hr⟩, Hp, HO⟩
  isplitl [Ha]; · iexact Ha
  isplitl [Hp]; · iexact Hp
  isplitl [Hr]; · iexact Hr
  iexact HO

theorem hpost0 (c : Dev nD) : (R0 m).post c ⊢ iprop(StableHlo.held (c : Thread nD τ) (Pipeline.ucRefs τ sig) (V1 m (outs m) c) ∗ E 1 c) := by
  show iprop(StableHlo.held (c : Thread nD τ) (Pipeline.arrRefs (τ := τ) spec0) (V1 m (outs m) c) ∗ (∃ r, prngReg c r)
    ∗ StableHlo.held (c : Thread nD τ) ((Pipeline.ucRefs τ sig) \ Pipeline.arrRefs (τ := τ) spec0) (V0 m c) ∗ ∃ W, owes (c : Thread nD τ) (0 : CellTallies nD τ sig Unit) W) ⊢
    iprop(_ ∗ (∃ r, prngReg c r) ∗ ∃ W, owes (c : Thread nD τ) (0 : CellTallies nD τ sig Unit) W)
  rw [StableHlo.held_sub_split (c : Thread nD τ) arr0_S (V1 m (outs m) c),
    StableHlo.held_congr (c : Thread nD τ) (S := (Pipeline.ucRefs τ sig) \ Pipeline.arrRefs (τ := τ) spec0) (rest0 m c)]
  iintro ⟨Ha, Hp, Hr, HO⟩
  isplitl [Ha Hr]
  · isplitl [Ha]; · iexact Ha
    iexact Hr
  isplitl [Hp]; · iexact Hp
  iexact HO

/-- The main call's own semaphore. -/
abbrev osem : Unit → SemLoc sig := fun _ => .dma cc1_scratch4.sem

theorem ownSems (c : Dev nD) : (Pipeline.ownSems0 osem c : sProp 𝕄) = semVal ((c : Thread nD τ), .dma cc1_scratch4.sem) 0 := by
  unfold Pipeline.ownSems0
  rw [show (Finset.univ : Finset Unit) = {()} from rfl, BI.bigSep_singleton]

theorem own1 : Pipeline.OwnSemFacts spec1 osem := by decide

theorem weight_set : (Main.mw).view.set = Finset.univ := by
  exact View.set_whole _

theorem in1 (V : (c : Dev nD) → (b : Ref sig .tc) → Buf (Elt F) ((c : Thread nD τ).loc b)) (c : Dev nD) : iprop(Pipeline.scopedRest spec1 c ∗ (∃ r, prngReg c r) ∗ Pipeline.ownSems0 osem c
      ∗ (bigSep {main_v0} fun b => ((c.tc : Thread nD τ).loc b) ↦{fullShare} V c b) ∗ Transfers.MayWaits (c : Thread nD τ) () 0)
    ⊢ (Main.Φ (Ix := Unit) (U := UU) (Lvl := ℕ) V c 0 : sProp 𝕄) := by
  rw [scopedRest1_eq, ownSems, BI.bigSep_singleton]
  unfold Main.Φ Main.scratch Main.around Main.six
  simp only [owns_whole_eq, Memref.view_whole, View.set_whole]
  iintro ⟨⟨H0, H1, H2, H3, H4, H5, ⟨%f0, S0⟩, ⟨%f1, S1⟩, ⟨%f2, S2⟩, ⟨%f3, S3⟩⟩, Hp, Hs, Hw, -⟩
  isplitl [S0 S1 S2 S3]
  · iexists f0, f1, f2, f3
    isplitr; · ipureintro; exact fun h => absurd rfl h
    isplitl [S0]; · iexists f0; isplitr; · ipureintro; rfl
                    iexact S0
    isplitl [S1]; · iexists f1; isplitr; · ipureintro; rfl
                    iexact S1
    isplitl [S2]; · iexists f2; isplitr; · ipureintro; rfl
                    iexact S2
    iexists f3; isplitr; · ipureintro; rfl
    iexact S3
  isplitl [Hw]; · iexact Hw
  isplitl [Hs]; · iexact Hs
  isplitr [Hp]
  · isplitl [H0]; · iexact H0
    isplitl [H1]; · iexact H1
    isplitl [H2]; · iexact H2
    isplitl [H3]; · iexact H3
    isplitl [H4]; · iexact H4
    iexact H5
  iexact Hp

theorem out1 (V : (c : Dev nD) → (b : Ref sig .tc) → Buf (Elt F) ((c : Thread nD τ).loc b)) (c : Dev nD) : (Main.Φ (Ix := Unit) (U := UU) (Lvl := ℕ) V c 48 : sProp 𝕄) ⊢ iprop(Pipeline.scopedRest spec1 c ∗ (∃ r, prngReg c r) ∗ Pipeline.ownSems0 osem c
      ∗ (bigSep {main_v0} fun b => ((c.tc : Thread nD τ).loc b) ↦{fullShare} V c b)) := by
  rw [scopedRest1_eq, ownSems, BI.bigSep_singleton]
  unfold Main.Φ Main.scratch Main.around Main.six
  simp only [owns_whole_eq, Memref.view_whole, View.set_whole]
  iintro ⟨⟨%f0, %f1, %f2, %f3, -, ⟨%g0, -, S0⟩, ⟨%g1, -, S1⟩, ⟨%g2, -, S2⟩, ⟨%g3, -, S3⟩⟩, Hw, Hs, ⟨H0, H1, H2, H3, H4, H5⟩, Hp⟩
  isplitr [Hp Hs Hw]
  · isplitl [H0]; · iexact H0
    isplitl [H1]; · iexact H1
    isplitl [H2]; · iexact H2
    isplitl [H3]; · iexact H3
    isplitl [H4]; · iexact H4
    isplitl [H5]; · iexact H5
    isplitl [S0]; · iexists g0; iexact S0
    isplitl [S1]; · iexists g1; iexact S1
    isplitl [S2]; · iexists g2; iexact S2
    iexists g3; iexact S3
  isplitl [Hp]; · iexact Hp
  isplitl [Hs]; · iexact Hs
  iexact Hw

set_option backward.isDefEq.respectTransparency.types false in
/-- The main call. -/
def R1 : RegionSeg (pcfgs (F := F)) adm (pdats m) () defs₀ 𝒱₀ L lv 1 :=
  Pipeline.RegionSeg.ofHeldDH (pcfgs (F := F)) adm (pdats m) () defs₀ 𝒱₀ L lv 1 (fun _ => 0) () osem own1
    {main_v0} ((Pipeline.ucRefs τ sig) \ Pipeline.arrRefs (τ := τ) spec1) (by decide) launch1.toP rfl
    (fun c => (Main.body_obligation (U := UU) (Lvl := ℕ) (Ve4 m) 𝒱₀ () c).loose) (fun _ _ => rfl) (fun _ => rfl)
    (fun c => (pdats m 1 c).share_full fun _ => rfl)
    (fun c => Transfers.MayWaits.intro fun sm => by rw [MayWait_zero]; iintro -; iempintro)
    (V4 m (outs1 m)) (V5 m (outs m)) (in1 (Ve4 m)) (out1 (Ve4 m)) (fun _ => 0) (cut 1) (fun _ => BI.emp) (fun _ _ => rfl)
    (fun c => fun
      | 0 => ((pdats m 1 c).arrAt_in 0 rfl _).trans (V5_of m (outs m) c (Pipeline.arrRef spec1 0) (by decide)).symm
      | 1 => ((pdats m 1 c).arrAt_in 1 rfl _).trans (V5_of m (outs m) c (Pipeline.arrRef spec1 1) (by decide)).symm
      | 2 => ((pdats m 1 c).arrAt_in 2 rfl _).trans (V5_of m (outs m) c (Pipeline.arrRef spec1 2) (by decide)).symm
      | 3 => ((pdats m 1 c).arrAt_in 3 rfl _).trans (V5_of m (outs m) c (Pipeline.arrRef spec1 3) (by decide)).symm
      | 4 => ((pdats m 1 c).arrAt_in 4 rfl _).trans (V5_of m (outs m) c (Pipeline.arrRef spec1 4) (by decide)).symm
      | 5 => (V5_0 m c).symm
      | 6 => (V5_1 m c).symm
      | 7 => (V5_2 m c).symm
      | 8 => (V5_3 m c).symm
      | 9 => (V5_4 m c).symm
      | ⟨_ + 10, h⟩ => absurd h (Nat.not_lt.2 (Nat.le_add_left _ _)))

theorem hpre1 (c : Dev nD) : iprop(StableHlo.held (c : Thread nD τ) (Pipeline.ucRefs τ sig) (V4 m (outs m) c) ∗ E 1 c) ⊢ (R1 m).pre c := by
  show iprop(_ ∗ (∃ r, prngReg c r) ∗ ∃ W, owes (c : Thread nD τ) (0 : CellTallies nD τ sig Unit) W) ⊢ iprop(StableHlo.held (c : Thread nD τ) (Pipeline.arrRefs (τ := τ) spec1) (V4 m (outs1 m) c) ∗ (∃ r, prngReg c r)
    ∗ (StableHlo.held (c : Thread nD τ) ((Pipeline.ucRefs τ sig) \ Pipeline.arrRefs (τ := τ) spec1) (V4 m (outs1 m) c) ∗ BI.emp) ∗ ∃ W, owes (c : Thread nD τ) (0 : CellTallies nD τ sig Unit) W)
  rw [V4_eq, StableHlo.held_sub_split (c : Thread nD τ) arr1_S (V4 m (outs1 m) c)]
  iintro ⟨⟨Ha, Hr⟩, Hp, HO⟩
  isplitl [Ha]; · iexact Ha
  isplitl [Hp]; · iexact Hp
  isplitl [Hr]
  · isplitl [Hr]; · iexact Hr
    iempintro
  iexact HO

theorem hpost1 (c : Dev nD) : (R1 m).post c ⊢ iprop(StableHlo.held (c : Thread nD τ) (Pipeline.ucRefs τ sig) (V5 m (outs m) c) ∗ E 2 c) := by
  show iprop(StableHlo.held (c : Thread nD τ) (Pipeline.arrRefs (τ := τ) spec1) (V5 m (outs m) c) ∗ (∃ r, prngReg c r)
    ∗ (StableHlo.held (c : Thread nD τ) ((Pipeline.ucRefs τ sig) \ Pipeline.arrRefs (τ := τ) spec1) (V4 m (outs1 m) c) ∗ BI.emp) ∗ ∃ W, owes (c : Thread nD τ) (0 : CellTallies nD τ sig Unit) W) ⊢
    iprop(_ ∗ ∃ W, owes (c : Thread nD τ) (0 : CellTallies nD τ sig Unit) W)
  rw [StableHlo.held_sub_split (c : Thread nD τ) arr1_S (V5 m (outs m) c),
    StableHlo.held_congr (c : Thread nD τ) (S := (Pipeline.ucRefs τ sig) \ Pipeline.arrRefs (τ := τ) spec1) (V := V5 m (outs m) c) (V' := V4 m (outs1 m) c) (fun b hb => (rest1 m c b hb).trans (congrFun (V4_eq m c) b))]
  iintro ⟨Ha, -, ⟨Hr, -⟩, HO⟩
  isplitl [Ha Hr]
  · isplitl [Ha]; · iexact Ha
    iexact Hr
  iexact HO

/-! ## The launch -/

/-- The pipelines' embedding. -/
abbrev EP : Emb (UR sig nD τ) 𝕄 := embL

def u₀ : UU := (initOf (Pipeline.cells cfgs cellOf_inj) (Pipeline.launchToks cfgs cellOf_inj), 1)

theorem hu₀ : (ownU u₀ : sProp 𝕄) ⊢ |={Set.univ}=> iprop(BI.own ((EP (F := F)) (initOf (Pipeline.cells cfgs cellOf_inj) (Pipeline.launchToks cfgs cellOf_inj)))
    ∗ bigSep Finset.univ fun _ : Dev nD => (BI.emp : sProp 𝕄)) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem hE0 (ρ : Dev nD → PrngReg) : iprop((bigSep Finset.univ fun c : Dev nD => iprop(unscopedSems0 c ∗ owes (c : Thread nD τ) 0 ∅ ∗ Pipeline.launchCred 0 c ∗ prngReg c (ρ c) ∗ BI.emp)) ∗ levAts L lv)
    ⊢ (|={Set.univ}=> bigSep Finset.univ (E 0) : sProp 𝕄) := by
  iintro ⟨H, -⟩
  imodintro
  iapply (show (bigSep Finset.univ fun c : Dev nD => iprop(unscopedSems0 c ∗ owes (c : Thread nD τ) 0 ∅ ∗ Pipeline.launchCred 0 c ∗ prngReg c (ρ c) ∗ BI.emp) : sProp 𝕄) ⊢ bigSep Finset.univ (E 0) from
    bigSep_mono fun c _ => by
      show _ ⊢ iprop((∃ r, prngReg c r) ∗ ∃ W, owes (c : Thread nD τ) (0 : CellTallies nD τ sig Unit) W)
      iintro ⟨-, HO, -, Hp, -⟩
      isplitl [Hp]; · iexists _; iexact Hp
      iexists _; iexact HO)
  iexact H

end Cert.Kernel.Whole

end
-- ==== Proof.WholeBits.lean ====
/- The whole program's run, with the results it leaves. -/
module

public import proofs.«01_k».proof.Proof.RunBits

@[expose] public section

noncomputable section

namespace Cert.Kernel.Whole

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ)

theorem hL : ∀ g : GSem nD τ sig, g.1.2 ≠ .tc → (L : GSem nD τ sig → Finset Unit) g = ∅ := fun g h => if_neg h

set_option backward.isDefEq.respectTransparency.types false in
/-- The whole program runs; its results are what the last valuation holds, its arguments are unchanged and every
    semaphore ends at zero. -/
theorem run (ρ : Dev nD → PrngReg) : θ_run defs (onTc (τ := τ) (main (F := F))) ⟨m, fun _ => 0, ρ⟩ (fun r => (∀ c : Dev nD,
      r.2.mem ((c.tc : Thread nD τ).loc main_v8) = V6 m (outs m) c (Proc.devRef .tc main_v8)
      ∧ r.2.mem ((c.tc : Thread nD τ).loc main_v9) = V6 m (outs m) c (Proc.devRef .tc main_v9)
      ∧ r.2.mem ((c.tc : Thread nD τ).loc main_v7_4) = V6 m (outs m) c (Proc.devRef .tc main_v7_4)
      ∧ r.2.mem ((c.tc : Thread nD τ).loc main_v10) = V6 m (outs m) c (Proc.devRef .tc main_v10)
      ∧ r.2.mem ((c.tc : Thread nD τ).loc main_v11) = V6 m (outs m) c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) adm (pdats m) () cellOf_inj EP defs₀ 𝒱₀ L lv m ρ main
    (segs m (outs m) 𝒱₀ L lv E () (pdats m) (R0 m) (R1 m))
    (fun c Q => by
      rewrite [main_chain c, Seg.run_eq_chain,
        show (segs m (outs m) 𝒱₀ L lv E () (pdats m) (R0 m) (R1 m) c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) hL (fun _ => BI.emp) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m (outs m) c))
    (hch := fun c => ⟨hpre0 m c, hpost0 m c, .rfl, .rfl, hpre1 m c, hpost1 m c, .rfl⟩)
    (hinit := ?_) (QY := fun c s => s.mem ((c.tc : Thread nD τ).loc main_v8) = V6 m (outs m) c (Proc.devRef .tc main_v8)
      ∧ s.mem ((c.tc : Thread nD τ).loc main_v9) = V6 m (outs m) c (Proc.devRef .tc main_v9)
      ∧ s.mem ((c.tc : Thread nD τ).loc main_v7_4) = V6 m (outs m) c (Proc.devRef .tc main_v7_4)
      ∧ s.mem ((c.tc : Thread nD τ).loc main_v10) = V6 m (outs m) c (Proc.devRef .tc main_v10)
      ∧ s.mem ((c.tc : Thread nD τ).loc main_v11) = V6 m (outs m) c (Proc.devRef .tc main_v11)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) 0 ∅ ∗ Pipeline.launchCred (fun _ => 0) c ∗ prngReg c (ρ c) ∗ BI.emp))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨(h (Proc.devRef .tc main_v8) (Finset.mem_filter.mpr ⟨StableHlo.devRef_mem_tcRefs main_v8, by decide⟩)),
        (h (Proc.devRef .tc main_v9) (Finset.mem_filter.mpr ⟨StableHlo.devRef_mem_tcRefs main_v9, by decide⟩)),
        (h (Proc.devRef .tc main_v7_4) (Finset.mem_filter.mpr ⟨StableHlo.devRef_mem_tcRefs main_v7_4, by decide⟩)),
        (h (Proc.devRef .tc main_v10) (Finset.mem_filter.mpr ⟨StableHlo.devRef_mem_tcRefs main_v10, by decide⟩)),
        (h (Proc.devRef .tc main_v11) (Finset.mem_filter.mpr ⟨StableHlo.devRef_mem_tcRefs main_v11, by decide⟩)),
        (h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c),
        (h (Proc.devRef .tc main_arg3) (Finset.mem_filter.mpr ⟨StableHlo.devRef_mem_tcRefs main_arg3, by decide⟩)).trans (V6_main_arg3 m (outs m) c),
        (h (Proc.devRef .tc main_arg4) (Finset.mem_filter.mpr ⟨StableHlo.devRef_mem_tcRefs main_arg4, by decide⟩)).trans (V6_main_arg4 m (outs m) c),
        (h (Proc.devRef .tc main_arg5) (Finset.mem_filter.mpr ⟨StableHlo.devRef_mem_tcRefs main_arg5, by decide⟩)).trans (V6_main_arg5 m (outs m) c)⟩
    · iexact HSI

end Cert.Kernel.Whole

end
-- ==== Proof.Frames.lean ====
/- The frames: each program runs, leaves its arguments as they were and every semaphore at zero. -/
module

public import proofs.«01_k».proof.Defs
public import proofs.«01_k».proof.Proof.WholeIdeal
public import proofs.«01_k».proof.Proof.WholeBits
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := fun m ρ _ =>
  (θ_run Cert.Kernel.defs _ _).mono (fun r h => ⟨fun c => (h.1 c).2.2.2.2.2, h.2⟩) (Cert.Kernel.Whole.run (F := Bits) m ρ)

theorem frame_ideal : Cert.quiescent_KernelIdeal (hKernelIdeal := Cert.KernelIdeal.Gen.facts) := fun m ρ _ =>
  (θ_run Cert.KernelIdeal.defs _ _).mono (fun r h => ⟨fun c => (h.1 c).2.2.2.2.2, h.2⟩) (Cert.KernelIdeal.Whole.run (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

end Cert.Proof

end
-- ==== Proof.Sums.lean ====
/- Sums over the exact numbers: matrices read at natural-number places, and sums cut into tiles. -/
module

public import proofs.«01_k».proof.Proof.Fin
public import Idealize.ShloMosaic.PureOps.Ideal.Laws
public import Idealize.ShloMosaic.Lib.MatmulPlain

@[expose] public section

noncomputable section

namespace Cert.Qlora

open Idealize.ShloMosaic
open scoped BigOperators

/-- A matrix read at a place, zero outside it. -/
def rd {m n : ℕ} (f : (⟨2, ![m, n]⟩ : Shape).Idx → EReal) (i j : ℕ) : EReal :=
  if h : i < m ∧ j < n then f (ix2 ⟨i, h.1⟩ ⟨j, h.2⟩) else 0

theorem rd_mk {m n : ℕ} (f : (⟨2, ![m, n]⟩ : Shape).Idx → EReal) {i j : ℕ} (hi : i < m) (hj : j < n) : rd f i j = f (ix2 ⟨i, hi⟩ ⟨j, hj⟩) := by
  unfold rd; exact dif_pos ⟨hi, hj⟩

theorem rd_at {m n : ℕ} (f : (⟨2, ![m, n]⟩ : Shape).Idx → EReal) (y : (⟨2, ![m, n]⟩ : Shape).Idx) : f y = rd f (y 0).val (y 1).val := by
  rw [rd_mk f (y 0).isLt (y 1).isLt]
  exact congrArg f (eq_ix2 y)

theorem rd_val {m n : ℕ} (f : (⟨2, ![m, n]⟩ : Shape).Idx → EReal) (y : (⟨2, ![m, n]⟩ : Shape).Idx) {i j : ℕ} (hi : (y 0).val = i) (hj : (y 1).val = j) :
    f y = rd f i j := by subst hi hj; exact rd_at f y

theorem ext_rd {m n : ℕ} (f g : (⟨2, ![m, n]⟩ : Shape).Idx → EReal) (h : ∀ i j, i < m → j < n → rd f i j = rd g i j) : f = g := by
  funext y
  rw [rd_at f y, rd_at g y]
  exact h _ _ (y 0).isLt (y 1).isLt

/-- A rectangle of a matrix, read at a place. -/
theorem rd_get {s0 s1 o0 o1 t0 t1 : ℕ} (f : (⟨2, ![s0, s1]⟩ : Shape).Idx → EReal) (h0 : o0 + t0 ≤ s0) (h1 : o1 + t1 ≤ s1) {i j : ℕ} (hi : i < t0) (hj : j < t1) :
    rd (m := t0) (n := t1) (get f (rect o0 o1 t0 t1 h0 h1)) i j = rd f (o0 + i) (o1 + j) := by
  rw [rd_mk _ hi hj]
  have := emb_val h0 h1 (ix2 ⟨i, hi⟩ ⟨j, hj⟩)
  exact rd_val f _ this.1 this.2

/-- A matrix of blocks, read at a place. -/
theorem rd_blocks (p q P Q : ℕ) {m n : ℕ} (hm : m = p * P) (hn : n = q * Q) (f : Fin P → Fin Q → (⟨2, ![p, q]⟩ : Shape).Idx → EReal)
    {i j : ℕ} (a : Fin P) (b : Fin Q) {k l : ℕ} (hi : i = p * a + k) (hj : j = q * b + l) (hk : k < p) (hl : l < q) :
    rd (blocks p q P Q hm hn f) i j = rd (f a b) k l := by
  have him : i < m := by
    rw [hi, hm]; calc p * a.val + k < p * a.val + p := by omega
      _ = p * (a.val + 1) := by ring
      _ ≤ p * P := Nat.mul_le_mul_left _ a.isLt
  have hjn : j < n := by
    rw [hj, hn]; calc q * b.val + l < q * b.val + q := by omega
      _ = q * (b.val + 1) := by ring
      _ ≤ q * Q := Nat.mul_le_mul_left _ b.isLt
  rw [rd_mk _ him hjn, rd_mk _ hk hl]
  exact blocks_at hm hn f _ a b _ hi hj

/-- A sum over `p * n` places, tile by tile. -/
theorem sum_tiles {M : Type} [AddCommMonoid M] (p n : ℕ) (f : ℕ → M) : ∑ k ∈ Finset.range (p * n), f k = ∑ j ∈ Finset.range n, ∑ k ∈ Finset.range p, f (p * j + k) := by
  induction n with
  | zero => simp
  | succ n ih => rw [Nat.mul_succ, Finset.sum_range_add, ih, Finset.sum_range_succ]

theorem sum_tiles_eq {M : Type} [AddCommMonoid M] {N : ℕ} (p n : ℕ) (hN : N = p * n) (f : ℕ → M) : ∑ k ∈ Finset.range N, f k = ∑ j ∈ Finset.range n, ∑ k ∈ Finset.range p, f (p * j + k) := by
  subst hN; exact sum_tiles p n f

theorem sum_down {M : Type} [AddCommMonoid M] {n : ℕ} (l : List (Fin n)) (hl : l = (List.finRange n).reverse) (f : Fin n → M) (g : ℕ → M) (h : ∀ j : Fin n, f j = g j.val) :
    (l.map f).sum = ∑ j ∈ Finset.range n, g j := by
  rw [hl, List.map_reverse, List.sum_reverse, ← Fin.sum_univ_def, Finset.sum_range]
  exact Finset.sum_congr rfl fun j _ => h j

/-! ## The matrix unit's products -/

theorem pass_true {M : ℕ} (v : FVec Ideal T256 .bf16) (lhs : FVec Ideal ⟨2, ![M, 256]⟩ .bf16) {i j : ℕ} (hi : i < M) (hj : j < 256) :
    rd (m := M) (n := 256) ((⟨.bf16, true, v⟩ : Mxu.Staged Ideal).pass (M := M) lhs) i j = ∑ k ∈ Finset.range 256, rd (m := M) (n := 256) lhs i k * rd (m := 256) (n := 256) v j k := by
  rw [rd_mk _ hi hj, Finset.sum_range]
  have := Ideal.matmul_transposedRhs_apply (M := M) (K := 256) (N := 256) none lhs v (fun _ => 0) ⟨i, hi⟩ ⟨j, hj⟩
  rw [zero_add] at this
  refine Eq.trans ?_ (this.trans (Finset.sum_congr rfl fun k _ => ?_))
  · rw [Ideal.matmul_def]; exact (zero_add _).symm
  · rw [rd_mk lhs hi k.isLt, rd_mk v hj k.isLt]; rfl

theorem pass_false {M : ℕ} (v : FVec Ideal T256 .bf16) (lhs : FVec Ideal ⟨2, ![M, 256]⟩ .bf16) {i j : ℕ} (hi : i < M) (hj : j < 256) :
    rd (m := M) (n := 256) ((⟨.bf16, false, v⟩ : Mxu.Staged Ideal).pass (M := M) lhs) i j = ∑ k ∈ Finset.range 256, rd (m := M) (n := 256) lhs i k * rd (m := 256) (n := 256) v k j := by
  rw [rd_mk _ hi hj, Finset.sum_range]
  have := Ideal.matmul_plain_apply (M := M) (K := 256) (N := 256) none lhs v (fun _ => 0) ⟨i, hi⟩ ⟨j, hj⟩
  rw [zero_add] at this
  refine Eq.trans ?_ (this.trans (Finset.sum_congr rfl fun k _ => ?_))
  · rw [Ideal.matmul_def]; exact (zero_add _).symm
  · rw [rd_mk lhs hi k.isLt, rd_mk v k.isLt hj]; rfl

theorem rd_addf {m n : ℕ} {φ : FTy} (f g : FVec Ideal ⟨2, ![m, n]⟩ φ) (i j : ℕ) : rd (addf f g) i j = rd f i j + rd g i j := by
  unfold rd; split
  · rfl
  · exact (add_zero 0).symm

theorem sumS_eq (E : Mem Ideal) {i j : ℕ} : ∀ l : LogS, l ≠ [] →
    rd (sumS E l) i j = (l.map fun e => rd (m := 16) (n := 256) ((stg E (e.1, e.2.1)).pass (thinV E e.2.2)) i j).sum
  | [], h => absurd rfl h
  | [(x, tr, y)], _ => by simp only [sumS, List.map_cons, List.map_nil, List.sum_cons, List.sum_nil, add_zero]
  | (x, tr, y) :: e :: l, _ => by
    rw [List.map_cons, List.sum_cons, ← sumS_eq E (e :: l) (by simp)]
    simp only [sumS]
    rw [rd_addf, add_comm]

theorem sumL_eq (E : Mem Ideal) {i j : ℕ} : ∀ l : LogL, l ≠ [] →
    rd (sumL E l) i j = (l.map fun e => rd (m := 128) (n := 256) ((stg E (e.1, e.2.1)).pass (stripV E e.2.2)) i j).sum
  | [], h => absurd rfl h
  | [(x, tr, y)], _ => by simp only [sumL, List.map_cons, List.map_nil, List.sum_cons, List.sum_nil, add_zero]
  | (x, tr, y) :: e :: l, _ => by
    rw [List.map_cons, List.sum_cons, ← sumL_eq E (e :: l) (by simp)]
    simp only [sumL]
    rw [rd_addf, add_comm]

/-! ## The sums of a grid point -/

/-- `g` transposed: `B` by `dy`. -/
theorem rd_gt (I : Mem Ideal) (h : Fin 2) {r t : ℕ} (hr : r < 16) (ht : t < 256) :
    rd (sumS I (gtLog h)) r t = ∑ k ∈ Finset.range 6912, rd (I .b) r k * rd (I .dy) (256 * h + t) k := by
  rw [sumS_eq I _ (by unfold gtLog down27; simp), sum_tiles_eq 256 27 rfl]
  unfold gtLog
  rw [List.map_map]
  refine sum_down down27 (by decide) _ _ fun j => ?_
  refine (pass_true _ _ hr ht).trans (Finset.sum_congr rfl fun k hk => ?_)
  have hk := Finset.mem_range.1 hk
  refine congr (congrArg _ ?_) ?_
  · exact (rd_get (I .b) (by decide) (lt_mul 256 j) hr hk).trans (by rw [Nat.zero_add])
  · exact rd_get (I .dy) (lt_mul 256 h) (lt_mul 256 j) ht hk

/-- `xa` transposed: `A` transposed by `x`. -/
theorem rd_xt (I : Mem Ideal) (h : Fin 2) {r t : ℕ} (hr : r < 16) (ht : t < 256) :
    rd (sumS I (xtLog h)) r t = ∑ k ∈ Finset.range 2560, rd (I .at) r k * rd (I .x) (256 * h + t) k := by
  rw [sumS_eq I _ (by unfold xtLog down10; simp), sum_tiles_eq 256 10 rfl]
  unfold xtLog
  rw [List.map_map]
  refine sum_down down10 (by decide) _ _ fun j => ?_
  refine (pass_true _ _ hr ht).trans (Finset.sum_congr rfl fun k hk => ?_)
  have hk := Finset.mem_range.1 hk
  refine congr (congrArg _ ?_) ?_
  · exact (rd_get (I .at) (by decide) (lt_mul 256 j) hr hk).trans (by rw [Nat.zero_add])
  · exact rd_get (I .x) (lt_mul 256 h) (lt_mul 256 j) ht hk

theorem rd_truncf {m n : ℕ} (f : FVec Ideal ⟨2, ![m, n]⟩ .f32) (i j : ℕ) : rd (truncf .bf16 f ltBits) i j = rd f i j := rfl

theorem half (t : ℕ) (ht : t < 512) : ∃ h : Fin 2, ∃ k < 256, t = 256 * h + k :=
  ⟨⟨t / 256, by omega⟩, t % 256, by omega, by show t = 256 * (t / 256) + t % 256; omega⟩

/-- The transposed copy of `g`. -/
theorem rd_fin_gt (I : Mem Ideal) {r t : ℕ} (hr : r < 16) (ht : t < 512) :
    rd (fin1 I .gt) r t = ∑ k ∈ Finset.range 6912, rd (I .b) r k * rd (I .dy) t k := by
  obtain ⟨h, k, hk, rfl⟩ := half t ht
  rw [← rd_gt I h hr hk]
  exact rd_blocks 16 256 1 2 (m := 16) (n := 512) rfl rfl (fun _ h => truncf .bf16 (sumS I (gtLog h)) ltBits) 0 h (k := r) (by show r = 16 * 0 + r; omega) rfl hr hk

/-- The transposed copy of `xa`. -/
theorem rd_fin_xt (I : Mem Ideal) {r t : ℕ} (hr : r < 16) (ht : t < 512) :
    rd (fin1 I .xt) r t = ∑ k ∈ Finset.range 2560, rd (I .at) r k * rd (I .x) t k := by
  obtain ⟨h, k, hk, rfl⟩ := half t ht
  rw [← rd_xt I h hr hk]
  exact rd_blocks 16 256 1 2 (m := 16) (n := 512) rfl rfl (fun _ h => truncf .bf16 (sumS I (xtLog h)) ltBits) 0 h (k := r) (by show r = 16 * 0 + r; omega) rfl hr hk

/-- A sum padded with zero rows. -/
theorem rd_pad (v : FVec Ideal T16 .f32) {i j : ℕ} (hi : i < 128) (hj : j < 256) : rd (padV v) i j = if i < 16 then rd (m := 16) (n := 256) v i j else 0 := by
  rw [rd_mk _ hi hj]
  unfold padV
  by_cases h : i < 16
  · rw [if_pos h, rd_mk _ h hj]
    exact concatenate_pair_apply_left (t := T128) (s₁ := T16) (s₂ := T112) 0 v (broadcast T112 (Scalar.ofBits (F := Ideal) .f32 0x00000000#32)) concats (ix2 ⟨i, hi⟩ ⟨j, hj⟩) rfl (ix2 ⟨i, h⟩ ⟨j, hj⟩) fun b => by
      match b with
      | ⟨0, _⟩ => rfl
      | ⟨1, _⟩ => rfl
  · rw [if_neg h]
    refine (concatenate_pair_apply_right (t := T128) (s₁ := T16) (s₂ := T112) 0 v (broadcast T112 (Scalar.ofBits (F := Ideal) .f32 0x00000000#32)) concats (ix2 ⟨i, hi⟩ ⟨j, hj⟩) rfl rfl (ix2 (n0 := 112) (n1 := 256) ⟨i - 16, by omega⟩ ⟨j, hj⟩) (fun b hb => ?_) ?_).trans ?_
    · match b with
      | ⟨0, _⟩ => exact absurd rfl hb
      | ⟨1, _⟩ => rfl
    · show i - 16 + 16 = i; omega
    · exact Ideal.ofBits_zero_f32

/-- A transposed copy, read at a place. -/
theorem rd_tr (v : FVec Ideal T16 .f32) {i j : ℕ} (hi : i < 256) (hj : j < 128) : rd (trV v) i j = rd (padV v) j i := by
  rw [rd_mk _ hi hj, rd_mk _ hj hi]
  unfold trV
  exact transpose_apply _ _ _ _ _ fun b => by
    match b with
    | ⟨0, _⟩ => rfl
    | ⟨1, _⟩ => rfl

theorem rd_ext (v : FVec Ideal T16 .f32) {i j : ℕ} (hi : i < 256) (hj : j < 16) : rd (extV v) i j = rd (m := 16) (n := 256) v j i := by
  have : rd (extV v) i j = rd (rndV v) i j := by
    rw [rd_mk _ hi hj, rd_mk _ hi (by omega)]
    unfold extV
    exact extractStridedSlice_apply _ _ _ _ _ fun b => by
      match b with
      | ⟨0, _⟩ => exact (Nat.zero_add _).symm
      | ⟨1, _⟩ => exact (Nat.zero_add _).symm
  rw [this]
  show rd (trV v) i j = _
  rw [rd_tr v hi (by omega), rd_pad v (by omega) hi, if_pos hj]

/-- `g`. -/
theorem rd_fin_g (I : Mem Ideal) {t r : ℕ} (ht : t < 512) (hr : r < 16) :
    rd (fin I .g) t r = ∑ k ∈ Finset.range 6912, rd (I .b) r k * rd (I .dy) t k := by
  obtain ⟨h, k, hk, rfl⟩ := half t ht
  rw [← rd_gt I h hr hk, ← rd_ext _ hk hr]
  exact rd_blocks 256 16 2 1 (m := 512) (n := 16) rfl rfl (fun h _ => extV (sumS I (gtLog h))) h 0 (l := r) rfl (by show r = 16 * 0 + r; omega) hk hr

/-- `xa`. -/
theorem rd_fin_xa (I : Mem Ideal) {t r : ℕ} (ht : t < 512) (hr : r < 16) :
    rd (fin I .xa) t r = ∑ k ∈ Finset.range 2560, rd (I .at) r k * rd (I .x) t k := by
  obtain ⟨h, k, hk, rfl⟩ := half t ht
  rw [← rd_xt I h hr hk, ← rd_ext _ hk hr]
  exact rd_blocks 256 16 2 1 (m := 512) (n := 16) rfl rfl (fun h _ => extV (sumS I (xtLog h))) h 0 (l := r) rfl (by show r = 16 * 0 + r; omega) hk hr

theorem ofBits_one : Ideal.ofBits .f32 0x3F800000#32 = 1 := by
  simp [Ideal.ofBits, Ideal.ieee]
  rw [← EReal.coe_mul]
  norm_num

theorem rd_one (v : FVec Ideal T16 .f32) (i j : ℕ) : rd (m := 16) (n := 256) (oneV v) i j = rd (m := 16) (n := 256) v i j := by
  unfold rd; split
  · show Ideal.ofBits .f32 0x3F800000#32 * _ = _
    rw [ofBits_one, one_mul]
  · rfl

/-- The gradient of `A`, transposed. -/
theorem rd_fin_dla (I : Mem Ideal) {r d : ℕ} (hr : r < 16) (hd : d < 2560) :
    rd (fin I .dla) r d = rd (I .dla) r d + ∑ t ∈ Finset.range 512, rd (fin1 I .gt) r t * rd (I .x) t d := by
  have e : d = 256 * (d / 256) + d % 256 := by omega
  have hl : d % 256 < 256 := by omega
  have hb := rd_blocks 16 256 1 10 (m := 16) (n := 2560) rfl rfl (fun _ i => addf (accV I (.dla i)) (oneV (sumS (fin1 I) (accLog (.dla i))))) (i := r) (j := d) 0 ⟨d / 256, by omega⟩ (by simp) e hr hl
  refine hb.trans ?_
  rw [rd_addf, rd_one]
  refine congr (congrArg _ ?_) ?_
  · refine (rd_get (I .dla) (by decide) (lt_mul 256 _) hr hl).trans ?_
    rw [Nat.zero_add]; exact congrArg _ e.symm
  · rw [sumS_eq _ _ (by simp [accLog]), sum_tiles_eq 256 2 rfl]
    simp only [accLog, List.map_cons, List.map_nil, List.sum_cons, List.sum_nil, add_zero, Finset.sum_range_succ _ 1, Finset.sum_range_one]
    rw [add_comm]
    have key : ∀ h : Fin 2, rd (m := 16) (n := 256) ((stg (fin1 I) (.x h ⟨d / 256, by omega⟩, false)).pass (thinV (fin1 I) (.gt h))) r (d % 256)
        = ∑ k ∈ Finset.range 256, rd (fin1 I .gt) r (256 * h + k) * rd (I .x) (256 * h + k) d := fun h => by
      refine (pass_false _ _ hr hl).trans (Finset.sum_congr rfl fun k hk => ?_)
      have hk := Finset.mem_range.1 hk
      refine congr (congrArg _ ?_) ?_
      · exact (rd_get (fin1 I .gt) (by decide) (lt_mul 256 h) hr hk).trans (by rw [Nat.zero_add])
      · exact (rd_get (I .x) (lt_mul 256 h) (lt_mul 256 _) hk hl).trans (congrArg _ e.symm)
    exact congr (congrArg _ (key 0)) (key 1)

/-- The gradient of `B`. -/
theorem rd_fin_dlb (I : Mem Ideal) {r d : ℕ} (hr : r < 16) (hd : d < 6912) :
    rd (fin I .dlb) r d = rd (I .dlb) r d + ∑ t ∈ Finset.range 512, rd (fin1 I .xt) r t * rd (I .dy) t d := by
  have e : d = 256 * (d / 256) + d % 256 := by omega
  have hl : d % 256 < 256 := by omega
  have hb := rd_blocks 16 256 1 27 (m := 16) (n := 6912) rfl rfl (fun _ i => addf (accV I (.dlb i)) (oneV (sumS (fin1 I) (accLog (.dlb i))))) (i := r) (j := d) 0 ⟨d / 256, by omega⟩ (by simp) e hr hl
  refine hb.trans ?_
  rw [rd_addf, rd_one]
  refine congr (congrArg _ ?_) ?_
  · refine (rd_get (I .dlb) (by decide) (lt_mul 256 _) hr hl).trans ?_
    rw [Nat.zero_add]; exact congrArg _ e.symm
  · rw [sumS_eq _ _ (by simp [accLog]), sum_tiles_eq 256 2 rfl]
    simp only [accLog, List.map_cons, List.map_nil, List.sum_cons, List.sum_nil, add_zero, Finset.sum_range_succ _ 1, Finset.sum_range_one]
    rw [add_comm]
    have key : ∀ h : Fin 2, rd (m := 16) (n := 256) ((stg (fin1 I) (.dy h ⟨d / 256, by omega⟩, false)).pass (thinV (fin1 I) (.xt h))) r (d % 256)
        = ∑ k ∈ Finset.range 256, rd (fin1 I .xt) r (256 * h + k) * rd (I .dy) (256 * h + k) d := fun h => by
      refine (pass_false _ _ hr hl).trans (Finset.sum_congr rfl fun k hk => ?_)
      have hk := Finset.mem_range.1 hk
      refine congr (congrArg _ ?_) ?_
      · exact (rd_get (fin1 I .xt) (by decide) (lt_mul 256 h) hr hk).trans (by rw [Nat.zero_add])
      · exact (rd_get (I .dy) (lt_mul 256 h) (lt_mul 256 _) hk hl).trans (congrArg _ e.symm)
    exact congr (congrArg _ (key 0)) (key 1)

/-- The padded copy of `g`. -/
theorem rd_fin_gp (I : Mem Ideal) {t r : ℕ} (ht : t < 512) (hr : r < 256) :
    rd (fin2 I .gp) t r = if r < 16 then ∑ k ∈ Finset.range 6912, rd (I .b) r k * rd (I .dy) t k else 0 := by
  obtain ⟨h, k, hk, rfl⟩ := half t ht
  by_cases h1 : r < 128
  · refine (rd_blocks 256 128 2 2 (m := 512) (n := 256) rfl rfl (fun h k => if k.val = 0 then rndV (sumS I (gtLog h)) else broadcast U128 (Scalar.ofBits (F := Ideal) .bf16 0x0000#16)) h 0 rfl (l := r) (by show r = 128 * 0 + r; omega) hk h1).trans ?_
    show rd (trV (sumS I (gtLog h))) k r = _
    rw [rd_tr _ hk h1, rd_pad _ h1 hk]
    split
    · next h2 => exact rd_gt I h h2 hk
    · rfl
  · rw [if_neg (by omega)]
    have hl : r - 128 < 128 := by omega
    refine (rd_blocks 256 128 2 2 (m := 512) (n := 256) rfl rfl (fun h k => if k.val = 0 then rndV (sumS I (gtLog h)) else broadcast U128 (Scalar.ofBits (F := Ideal) .bf16 0x0000#16)) h 1 (i := 256 * h + k) (j := r) (k := k) (l := r - 128) rfl (by show r = 128 * 1 + (r - 128); omega) hk hl).trans ?_
    rw [rd_mk _ hk hl]
    show Ideal.ofBits .bf16 0x0000#16 = 0
    simp [Ideal.ofBits, Ideal.ieee]

/-- `dx`. -/
theorem rd_fin_dx (I : Mem Ideal) {t n : ℕ} (ht : t < 512) (hn : n < 2560) :
    rd (fin I .dx) t n = ∑ r ∈ Finset.range 256, rd (fin2 I .gp) t r * rd (I .ap) n r
      + ∑ k ∈ Finset.range 6912, rd (I .dy) t k * rd (I .w) n k := by
  have e0 : t = 128 * (t / 128) + t % 128 := by omega
  have e1 : n = 256 * (n / 256) + n % 256 := by omega
  have l0 : t % 128 < 128 := by omega
  have l1 : n % 256 < 256 := by omega
  have hb := rd_blocks 128 256 4 10 (m := 512) (n := 2560) rfl rfl (fun c n => truncf .bf16 (sumL (fin2 I) (dxLog c n)) ltBits) (i := t) (j := n) ⟨t / 128, by omega⟩ ⟨n / 256, by omega⟩ e0 e1 l0 l1
  refine hb.trans ?_
  rw [rd_truncf, sumL_eq _ _ (by simp [dxLog])]
  unfold dxLog
  rw [List.map_cons, List.sum_cons, List.map_map]
  refine congr (congrArg _ ?_) ?_
  · refine (pass_true _ _ l0 l1).trans (Finset.sum_congr rfl fun k hk => ?_)
    have hk := Finset.mem_range.1 hk
    refine congr (congrArg _ ?_) ?_
    · refine (rd_get (fin2 I .gp) (lt_mul 128 _) (by decide) l0 hk).trans ?_
      rw [Nat.zero_add]; exact congrArg (fun t => rd (fin2 I .gp) t k) e0.symm
    · refine (rd_get (I .ap) (lt_mul 256 _) (by decide) l1 hk).trans ?_
      rw [Nat.zero_add]; exact congrArg (fun t => rd (I .ap) t k) e1.symm
  · rw [sum_tiles_eq 256 27 rfl]
    refine sum_down down27 (by decide) _ _ fun j => ?_
    refine (pass_true _ _ l0 l1).trans (Finset.sum_congr rfl fun k hk => ?_)
    have hk := Finset.mem_range.1 hk
    refine congr (congrArg _ ?_) ?_
    · exact (rd_get (I .dy) (lt_mul 128 _) (lt_mul 256 j) l0 hk).trans (congrArg (fun t => rd (I .dy) t (256 * j + k)) e0.symm)
    · exact (rd_get (I .w) (lt_mul 256 _) (lt_mul 256 j) l1 hk).trans (congrArg (fun t => rd (I .w) t (256 * j + k)) e1.symm)

end Cert.Qlora

end
-- ==== Proof.Arrays.lean ====
/- The main call's five result arrays as sums over its input arrays, for any contents of these on entry. -/
module

public import proofs.«01_k».proof.Proof.StateIdeal
public import proofs.«01_k».proof.Proof.Sums
public import Idealize.ShloMosaic.Lib.Pipeline.ValueKit

@[expose] public section

noncomputable section

namespace Cert.KernelIdeal.Value

open Cert.KernelIdeal Cert.KernelIdeal.Gen Cert.Qlora
open Idealize.ShloMosaic Idealize.ShloMosaic.TcCoe
open Idealize.ShloMosaic.Pipeline (Dat Cfg Window)
open scoped BigOperators

variable (V : (c : Dev nD) → (b : Ref sig .tc) → Buf (Elt Ideal) ((c : Thread nD τ).loc b))

/-- The main call's proof data. -/
abbrev md (c : Dev nD) := Main.dat (Ix := Unit) (U := Whole.UU) (Lvl := ℕ) V c

/-- `dy`. -/
abbrev rDY (c : Dev nD) (t o : ℕ) : EReal := rd (m := 24576) (n := 6912) (V c main_v5) t o
/-- `x`. -/
abbrev rX (c : Dev nD) (t k : ℕ) : EReal := rd (m := 24576) (n := 2560) (V c main_v6) t k
/-- `A` padded. -/
abbrev rAP (c : Dev nD) (k r : ℕ) : EReal := rd (m := 2560) (n := 256) (V c main_v3) k r
/-- `A` transposed. -/
abbrev rAT (c : Dev nD) (r k : ℕ) : EReal := rd (m := 16) (n := 2560) (V c main_v4) r k
/-- `B`. -/
abbrev rB (c : Dev nD) (r o : ℕ) : EReal := rd (m := 16) (n := 6912) (V c main_arg5) r o
/-- The weight. -/
abbrev rW (c : Dev nD) (k o : ℕ) : EReal := rd (m := 2560) (n := 6912) (V c main_v0) k o

/-- `g` transposed. -/
def gS (c : Dev nD) (r t : ℕ) : EReal := ∑ k ∈ Finset.range 6912, rB V c r k * rDY V c t k
/-- `xa` transposed. -/
def xS (c : Dev nD) (r t : ℕ) : EReal := ∑ k ∈ Finset.range 2560, rAT V c r k * rX V c t k

theorem ix0 : ∀ t : Fin cfg1.N, win1_0.index t = ![t.val, 0] := by decide +kernel
theorem ix1 : ∀ t : Fin cfg1.N, win1_1.index t = ![t.val, 0] := by decide +kernel
theorem ix2' : ∀ t : Fin cfg1.N, win1_2.index t = ![0, 0] := by decide +kernel
theorem ix3 : ∀ t : Fin cfg1.N, win1_3.index t = ![0, 0] := by decide +kernel
theorem ix4 : ∀ t : Fin cfg1.N, win1_4.index t = ![0, 0] := by decide +kernel
theorem ix5 : ∀ t : Fin cfg1.N, win1_5.index t = ![t.val, 0] := by decide +kernel
theorem ix6 : ∀ t : Fin cfg1.N, win1_6.index t = ![t.val, 0] := by decide +kernel
theorem ix7 : ∀ t : Fin cfg1.N, win1_7.index t = ![t.val, 0] := by decide +kernel

theorem blk0 (c : Dev nD) (t : Fin cfg1.N) {i j : ℕ} (hi : i < 512) (hj : j < 6912) :
    rd (m := 512) (n := 6912) (Main.iblk V c 0 t) i j = rDY V c (512 * t.val + i) j := by
  rw [rd_mk _ hi hj]
  unfold Main.iblk
  blk_simp
  refine rd_val (m := 24576) (n := 6912) (V c main_v5) _ ?_ ?_
  · blk_simp [ix0]; exact congrArg (· + i) (Nat.mul_comm _ _)
  · blk_simp [ix0]

theorem blk1 (c : Dev nD) (t : Fin cfg1.N) {i j : ℕ} (hi : i < 512) (hj : j < 2560) :
    rd (m := 512) (n := 2560) (Main.iblk V c 1 t) i j = rX V c (512 * t.val + i) j := by
  rw [rd_mk _ hi hj]
  unfold Main.iblk
  blk_simp
  refine rd_val (m := 24576) (n := 2560) (V c main_v6) _ ?_ ?_
  · blk_simp [ix1]; exact congrArg (· + i) (Nat.mul_comm _ _)
  · blk_simp [ix1]

theorem blk2 (c : Dev nD) (t : Fin cfg1.N) {i j : ℕ} (hi : i < 2560) (hj : j < 256) :
    rd (m := 2560) (n := 256) (Main.iblk V c 2 t) i j = rAP V c i j := by
  rw [rd_mk _ hi hj]
  unfold Main.iblk
  blk_simp
  refine rd_val (m := 2560) (n := 256) (V c main_v3) _ ?_ ?_
  · blk_simp [ix2']
  · blk_simp [ix2']

theorem blk3 (c : Dev nD) (t : Fin cfg1.N) {i j : ℕ} (hi : i < 16) (hj : j < 2560) :
    rd (m := 16) (n := 2560) (Main.iblk V c 3 t) i j = rAT V c i j := by
  rw [rd_mk _ hi hj]
  unfold Main.iblk
  blk_simp
  refine rd_val (m := 16) (n := 2560) (V c main_v4) _ ?_ ?_
  · blk_simp [ix3]
  · blk_simp [ix3]

theorem blk4 (c : Dev nD) (t : Fin cfg1.N) {i j : ℕ} (hi : i < 16) (hj : j < 6912) :
    rd (m := 16) (n := 6912) (Main.iblk V c 4 t) i j = rB V c i j := by
  rw [rd_mk _ hi hj]
  unfold Main.iblk
  blk_simp
  refine rd_val (m := 16) (n := 6912) (V c main_arg5) _ ?_ ?_
  · blk_simp [ix4]
  · blk_simp [ix4]

/-- The inputs of point `n`, whatever the running sums. -/
theorem ins_eq (c : Dev nD) (n : ℕ) : ∃ a b, Main.ins V c n = Main.input V c (Main.pt n) a b := by
  cases n with
  | zero => exact ⟨_, _, rfl⟩
  | succ n => exact ⟨_, _, rfl⟩

theorem ins_dy (c : Dev nD) {n : ℕ} (hn : n < 48) {i j : ℕ} (hi : i < 512) (hj : j < 6912) :
    rd (Main.ins V c n .dy) i j = rDY V c (512 * n + i) j := by
  obtain ⟨a, b, e⟩ := ins_eq V c n
  rw [e]
  refine (blk0 V c (Main.pt n) hi hj).trans ?_
  rw [show (Main.pt n).val = n from Nat.mod_eq_of_lt hn]

theorem ins_x (c : Dev nD) {n : ℕ} (hn : n < 48) {i j : ℕ} (hi : i < 512) (hj : j < 2560) :
    rd (Main.ins V c n .x) i j = rX V c (512 * n + i) j := by
  obtain ⟨a, b, e⟩ := ins_eq V c n
  rw [e]
  refine (blk1 V c (Main.pt n) hi hj).trans ?_
  rw [show (Main.pt n).val = n from Nat.mod_eq_of_lt hn]

theorem ins_ap (c : Dev nD) (n : ℕ) {i j : ℕ} (hi : i < 2560) (hj : j < 256) : rd (Main.ins V c n .ap) i j = rAP V c i j := by
  obtain ⟨a, b, e⟩ := ins_eq V c n
  rw [e]; exact blk2 V c (Main.pt n) hi hj

theorem ins_at (c : Dev nD) (n : ℕ) {i j : ℕ} (hi : i < 16) (hj : j < 2560) : rd (Main.ins V c n .at) i j = rAT V c i j := by
  obtain ⟨a, b, e⟩ := ins_eq V c n
  rw [e]; exact blk3 V c (Main.pt n) hi hj

theorem ins_b (c : Dev nD) (n : ℕ) {i j : ℕ} (hi : i < 16) (hj : j < 6912) : rd (Main.ins V c n .b) i j = rB V c i j := by
  obtain ⟨a, b, e⟩ := ins_eq V c n
  rw [e]; exact blk4 V c (Main.pt n) hi hj

theorem ins_w (c : Dev nD) (n : ℕ) (i j : ℕ) : rd (Main.ins V c n .w) i j = rW V c i j := by
  obtain ⟨a, b, e⟩ := ins_eq V c n
  rw [e]; rfl

theorem gt_at (c : Dev nD) {n : ℕ} (hn : n < 48) {r t : ℕ} (hr : r < 16) (ht : t < 512) : rd (fin1 (Main.ins V c n) .gt) r t = gS V c r (512 * n + t) := by
  rw [rd_fin_gt _ hr ht]
  refine Finset.sum_congr rfl fun k hk => ?_
  rw [ins_b V c n hr (Finset.mem_range.1 hk), ins_dy V c hn ht (Finset.mem_range.1 hk)]

theorem xt_at (c : Dev nD) {n : ℕ} (hn : n < 48) {r t : ℕ} (hr : r < 16) (ht : t < 512) : rd (fin1 (Main.ins V c n) .xt) r t = xS V c r (512 * n + t) := by
  rw [rd_fin_xt _ hr ht]
  refine Finset.sum_congr rfl fun k hk => ?_
  rw [ins_at V c n hr (Finset.mem_range.1 hk), ins_x V c hn ht (Finset.mem_range.1 hk)]

theorem g_at (c : Dev nD) {n : ℕ} (hn : n < 48) {r t : ℕ} (hr : r < 16) (ht : t < 512) : rd (fin (Main.ins V c n) .g) t r = gS V c r (512 * n + t) := by
  rw [rd_fin_g _ ht hr, ← rd_fin_gt _ hr ht, gt_at V c hn hr ht]

theorem xa_at (c : Dev nD) {n : ℕ} (hn : n < 48) {r t : ℕ} (hr : r < 16) (ht : t < 512) : rd (fin (Main.ins V c n) .xa) t r = xS V c r (512 * n + t) := by
  rw [rd_fin_xa _ ht hr, ← rd_fin_xt _ hr ht, xt_at V c hn hr ht]

theorem gp_at (c : Dev nD) {n : ℕ} (hn : n < 48) {r t : ℕ} (hr : r < 256) (ht : t < 512) :
    rd (fin2 (Main.ins V c n) .gp) t r = if r < 16 then gS V c r (512 * n + t) else 0 := by
  rw [rd_fin_gp _ ht hr]
  split
  · next h => rw [← rd_fin_gt _ h ht, gt_at V c hn h ht]
  · rfl

theorem dx_at (c : Dev nD) {n : ℕ} (hn : n < 48) {t k : ℕ} (ht : t < 512) (hk : k < 2560) :
    rd (fin (Main.ins V c n) .dx) t k = ∑ r ∈ Finset.range 256, (if r < 16 then gS V c r (512 * n + t) else 0) * rAP V c k r
      + ∑ o ∈ Finset.range 6912, rDY V c (512 * n + t) o * rW V c k o := by
  rw [rd_fin_dx _ ht hk]
  refine congr (congrArg _ (Finset.sum_congr rfl fun r hr => ?_)) (Finset.sum_congr rfl fun o ho => ?_)
  · rw [gp_at V c hn (Finset.mem_range.1 hr) ht, ins_ap V c n hk (Finset.mem_range.1 hr)]
  · rw [ins_dy V c hn ht (Finset.mem_range.1 ho), ins_w]

theorem rd_zero {m n : ℕ} (i j : ℕ) : rd (m := m) (n := n) (broadcast ⟨2, ![m, n]⟩ (Scalar.ofBits (F := Ideal) .f32 0x00000000#32)) i j = 0 := by
  unfold rd; split
  · exact Ideal.ofBits_zero_f32
  · rfl

/-- The running gradient of `A` after point `n`. -/
theorem dla_at (c : Dev nD) {r d : ℕ} (hr : r < 16) (hd : d < 2560) : ∀ n, n < 48 →
    rd (fin (Main.ins V c n) .dla) r d = ∑ t ∈ Finset.range (512 * (n + 1)), gS V c r t * rX V c t d := by
  have step : ∀ n, n < 48 → ∑ t ∈ Finset.range 512, rd (fin1 (Main.ins V c n) .gt) r t * rd (Main.ins V c n .x) t d
      = ∑ t ∈ Finset.range 512, gS V c r (512 * n + t) * rX V c (512 * n + t) d := fun n hn => Finset.sum_congr rfl fun t ht => by
    rw [gt_at V c hn hr (Finset.mem_range.1 ht), ins_x V c hn (Finset.mem_range.1 ht) hd]
  intro n
  induction n with
  | zero =>
    intro hn
    rw [rd_fin_dla _ hr hd, step 0 hn, show rd (Main.ins V c 0 .dla) r d = 0 from rd_zero r d, zero_add]
    simp only [Nat.mul_zero, Nat.zero_add, Nat.mul_one]
  | succ n ih =>
    intro hn
    rw [rd_fin_dla _ hr hd, step (n + 1) hn, show Main.ins V c (n + 1) .dla = fin (Main.ins V c n) .dla from rfl, ih (by omega),
      Nat.mul_succ 512 (n + 1), Finset.sum_range_add]

/-- The running gradient of `B` after point `n`. -/
theorem dlb_at (c : Dev nD) {r d : ℕ} (hr : r < 16) (hd : d < 6912) : ∀ n, n < 48 →
    rd (fin (Main.ins V c n) .dlb) r d = ∑ t ∈ Finset.range (512 * (n + 1)), xS V c r t * rDY V c t d := by
  have step : ∀ n, n < 48 → ∑ t ∈ Finset.range 512, rd (fin1 (Main.ins V c n) .xt) r t * rd (Main.ins V c n .dy) t d
      = ∑ t ∈ Finset.range 512, xS V c r (512 * n + t) * rDY V c (512 * n + t) d := fun n hn => Finset.sum_congr rfl fun t ht => by
    rw [xt_at V c hn hr (Finset.mem_range.1 ht), ins_dy V c hn (Finset.mem_range.1 ht) hd]
  intro n
  induction n with
  | zero =>
    intro hn
    rw [rd_fin_dlb _ hr hd, step 0 hn, show rd (Main.ins V c 0 .dlb) r d = 0 from rd_zero r d, zero_add]
    simp only [Nat.mul_zero, Nat.zero_add, Nat.mul_one]
  | succ n ih =>
    intro hn
    rw [rd_fin_dlb _ hr hd, step (n + 1) hn, show Main.ins V c (n + 1) .dlb = fin (Main.ins V c n) .dlb from rfl, ih (by omega),
      Nat.mul_succ 512 (n + 1), Finset.sum_range_add]

/-! ## The arrays -/

theorem arr_g (c : Dev nD) : (md V c).arrAt 6 cfg1.N = fun y : S24576x16.Idx => gS V c (y 1).val (y 0).val := by
  refine (md V c).arrAt_eq_of_covers 6 _ (by decide +kernel) fun t hf y => ?_
  blk_simp [ix6]
  rw [Main.after1_6]
  refine (rd_at (m := 512) (n := 16) _ y).trans ?_
  exact (g_at V c t.isLt (y 1).isLt (y 0).isLt).trans (congrArg _ (by omega))

theorem arr_xa (c : Dev nD) : (md V c).arrAt 7 cfg1.N = fun y : S24576x16.Idx => xS V c (y 1).val (y 0).val := by
  refine (md V c).arrAt_eq_of_covers 7 _ (by decide +kernel) fun t hf y => ?_
  blk_simp [ix7]
  rw [Main.after1_7]
  refine (rd_at (m := 512) (n := 16) _ y).trans ?_
  exact (xa_at V c t.isLt (y 1).isLt (y 0).isLt).trans (congrArg _ (by omega))

theorem arr_dx (c : Dev nD) : (md V c).arrAt 5 cfg1.N = fun y : S24576x2560.Idx =>
    ∑ r ∈ Finset.range 256, (if r < 16 then gS V c r (y 0).val else 0) * rAP V c (y 1).val r
      + ∑ o ∈ Finset.range 6912, rDY V c (y 0).val o * rW V c (y 1).val o := by
  refine (md V c).arrAt_eq_of_covers 5 _ (by decide +kernel) fun t hf y => ?_
  blk_simp [ix5]
  rw [Main.after1_5]
  refine (rd_at (m := 512) (n := 2560) _ y).trans ?_
  refine (dx_at V c t.isLt (y 0).isLt (y 1).isLt).trans ?_
  rw [Nat.mul_comm 512 t.val]

theorem arr_dla (c : Dev nD) : (md V c).arrAt 8 cfg1.N = fun y : S16x2560.Idx =>
    ∑ t ∈ Finset.range 24576, gS V c (y 0).val t * rX V c t (y 1).val := by
  refine (md V c).arrAt_eq_of_after_last 8 (Main.pt 47) (by decide +kernel) _ fun j => ?_
  blk_simp
  rw [Main.after1_8]
  refine (rd_at (m := 16) (n := 2560) _ j).trans ?_
  exact dla_at V c (j 0).isLt (j 1).isLt 47 (by decide)

theorem arr_dlb (c : Dev nD) : (md V c).arrAt 9 cfg1.N = fun y : S16x6912.Idx =>
    ∑ t ∈ Finset.range 24576, xS V c (y 0).val t * rDY V c t (y 1).val := by
  refine (md V c).arrAt_eq_of_after_last 9 (Main.pt 47) (by decide +kernel) _ fun j => ?_
  blk_simp
  rw [Main.after1_9]
  refine (rd_at (m := 16) (n := 6912) _ j).trans ?_
  exact dlb_at V c (j 0).isLt (j 1).isLt 47 (by decide)

end Cert.KernelIdeal.Value

end
-- ==== Proof.HostValues.lean ====
/- What the host operations around the two calls leave: the main call's arrays on entry, and the results. -/
module

public import proofs.«01_k».proof.Proof.StateIdeal
public import Idealize.ShloMosaic.PureOps.Ideal.Laws

@[expose] public section

noncomputable section

namespace Cert.KernelIdeal.Value

open Cert.KernelIdeal Cert.KernelIdeal.Gen
open Idealize.ShloMosaic Idealize.ShloMosaic.TcCoe
open Idealize.ShloMosaic.StableHlo

variable {F : FTy → Type} [FloatOps F]
variable (m : (ℓ : Loc nD τ sig) → Buf (Elt F) ℓ) (o : Outs (F := F))

theorem host_v5 (c : Dev nD) : V4 m o c (Proc.devRef .tc main_v5) = shapeCast _ (V0 m c (Proc.devRef .tc main_arg1)) shapeCasts_S24x1024x6912_S24576x6912 := by
  simp only [V4, V3, V2, V1, hostOps1, hostOps1_1, hostOps1_2, TRef.unary, TRef.binary, TRef.toBuf, TRef.ofBuf, cast_eq]
  after_results_simp
  rw [Function.update_of_ne (Whole.ne' (by decide))]
  rfl

theorem host_v6 (c : Dev nD) : V4 m o c (Proc.devRef .tc main_v6) = shapeCast _ (V0 m c (Proc.devRef .tc main_arg0)) shapeCasts_S24x1024x2560_S24576x2560 := by
  simp only [V4, V3, V2, V1, hostOps1, hostOps1_1, hostOps1_2, TRef.unary, TRef.binary, TRef.toBuf, TRef.ofBuf, cast_eq]
  after_results_simp
  rw [Function.update_of_ne (Whole.ne' (by decide))]
  rfl

theorem host_v4 (c : Dev nD) : V4 m o c (Proc.devRef .tc main_v4) = transpose S16x2560 [1, 0] (V0 m c (Proc.devRef .tc main_arg4)) transposes_S2560x16_S16x2560_1_0 := by
  simp only [V4, V3, V2, V1, hostOps1, hostOps1_1, hostOps1_2, TRef.unary, TRef.binary, TRef.toBuf, TRef.ofBuf, cast_eq]
  after_results_simp
  rw [Function.update_of_ne (Whole.ne' (by decide))]

theorem host_v3 (c : Dev nD) : V4 m o c (Proc.devRef .tc main_v3) = pad S2560x256 ![0, 0] ![0, 240] ![0, 0]
    (mulf (V0 m c (Proc.devRef .tc main_arg4)) (broadcastInDim S2560x16 ![] bcast_S_S2560x16 (constant S_ .bf16 0x3F80#16)))
    (sitofp .bf16 (constantI S_ 32 0#32)) pads_S2560x16_S2560x256_000_02400 h_S_ := by
  simp only [V4, V3, V2, V1, hostOps1, hostOps1_1, hostOps1_2, TRef.unary, TRef.binary, TRef.toBuf, TRef.ofBuf, cast_eq]
  after_results_simp
  rw [Function.update_of_ne (Whole.ne' (by decide))]

theorem host_b (c : Dev nD) : V4 m o c (Proc.devRef .tc main_arg5) = V0 m c (Proc.devRef .tc main_arg5) := by
  simp only [V4, V3, V2, V1, hostOps1, hostOps1_1, hostOps1_2, TRef.unary, TRef.binary, TRef.toBuf, TRef.ofBuf, cast_eq]
  after_results_simp
  rw [Function.update_of_ne (Whole.ne' (by decide))]

theorem host_w (c : Dev nD) : V4 m o c (Proc.devRef .tc main_v0) = o 1 main_v0 c := by
  simp only [V4, V3, V2, V1, hostOps1, hostOps1_1, hostOps1_2, TRef.unary, TRef.binary, TRef.toBuf, TRef.ofBuf, cast_eq]
  after_results_simp
  rw [Function.update_self]

theorem host_v8 (c : Dev nD) : V6 m o c (Proc.devRef .tc main_v8) = shapeCast _ (V5 m o c (Proc.devRef .tc main_v7_0)) shapeCasts_S24576x2560_S24x1024x2560 := by
  simp only [V6, hostOps2]
  after_results_simp
  rfl

theorem host_v9 (c : Dev nD) : V6 m o c (Proc.devRef .tc main_v9) = transpose S2560x16 [1, 0] (V5 m o c (Proc.devRef .tc main_v7_3)) transposes_S16x2560_S2560x16_1_0 := by
  simp only [V6, hostOps2]
  after_results_simp

theorem host_v10 (c : Dev nD) : V6 m o c (Proc.devRef .tc main_v10) = shapeCast _ (V5 m o c (Proc.devRef .tc main_v7_1)) shapeCasts_S24576x16_S24x1024x16 := by
  simp only [V6, hostOps2]
  after_results_simp
  rfl

theorem host_v11 (c : Dev nD) : V6 m o c (Proc.devRef .tc main_v11) = shapeCast _ (V5 m o c (Proc.devRef .tc main_v7_2)) shapeCasts_S24576x16_S24x1024x16 := by
  simp only [V6, hostOps2]
  after_results_simp
  rfl

theorem host_v7_4 (c : Dev nD) : V6 m o c (Proc.devRef .tc main_v7_4) = V5 m o c (Proc.devRef .tc main_v7_4) := by
  simp only [V6, hostOps2]
  after_results_simp

end Cert.KernelIdeal.Value

end
-- ==== Proof.Nf4.lean ====
/- The four-bit code: its sixteen values, chosen by the four bits, and the two ways its bits are read out of a packed byte. -/
module

public import proofs.«01_k».proof.Proof.Sums
public import Idealize.ShloMosaic.PureOps.Vector
public import Idealize.ShloMosaic.PureOps.Ideal.Laws

@[expose] public section

noncomputable section

namespace Cert.Qlora

open Idealize.ShloMosaic

/-- The value of the code with the bits `d c b a`, highest first. -/
def pick (d c b a : BitVec 1) : Ideal .bf16 :=
  Scalar.select d
    (Scalar.select c
      (Scalar.select b (Scalar.select a (Scalar.ofBits .bf16 0x3F80#16) (Scalar.ofBits .bf16 0x3F39#16))
        (Scalar.select a (Scalar.ofBits .bf16 0x3F10#16) (Scalar.ofBits .bf16 0x3EE2#16)))
      (Scalar.select b (Scalar.select a (Scalar.ofBits .bf16 0x3EAD#16) (Scalar.ofBits .bf16 0x3E7C#16))
        (Scalar.select a (Scalar.ofBits .bf16 0x3E25#16) (Scalar.ofBits .bf16 0x3DA3#16))))
    (Scalar.select c
      (Scalar.select b (Scalar.select a (Scalar.ofBits .bf16 0x0000#16) (Scalar.ofBits .bf16 0xBDBA#16))
        (Scalar.select a (Scalar.ofBits .bf16 0xBE3D#16) (Scalar.ofBits .bf16 0xBE92#16)))
      (Scalar.select b (Scalar.select a (Scalar.ofBits .bf16 0xBECA#16) (Scalar.ofBits .bf16 0xBF06#16))
        (Scalar.select a (Scalar.ofBits .bf16 0xBF32#16) (Scalar.ofBits .bf16 0xBF80#16))))

/-- The value of the code in the low four bits of a word. -/
def pickOf {n : ℕ} (w : BitVec n) : Ideal .bf16 :=
  pick (IntOp.cmpi .ne (IntOp.andi w 8#n) 0#n) (IntOp.cmpi .ne (IntOp.andi w 4#n) 0#n)
    (IntOp.cmpi .ne (IntOp.andi w 2#n) 0#n) (IntOp.cmpi .ne (IntOp.andi w 1#n) 0#n)

/-- Both codes of a byte spread over a word's two halves. -/
def spread (b : BitVec 8) : BitVec 32 :=
  IntOp.andi (IntOp.ori (b.setWidth 32) (IntOp.shli .vector (b.setWidth 32) 12#32)) 983055#32

/-- The low code of a byte. -/
def low (b : BitVec 8) : BitVec 32 := IntOp.andi (b.setWidth 32) 15#32

/-- The high code of a byte. -/
def high (b : BitVec 8) : BitVec 32 := IntOp.shrsi .host (b.setWidth 32) 4#32

/-- The value of a byte's code: the low one at an even place, the high one at an odd place. -/
def nf4 (b : BitVec 8) (p : ℕ) : Ideal .bf16 := pickOf ((spread b).extractLsb' (16 * (p % 2)) 16)

theorem low_bits : ∀ b : BitVec 8, ∀ k ∈ [0, 1, 2, 3],
    IntOp.cmpi .ne (IntOp.andi ((spread b).extractLsb' 0 16) (BitVec.ofNat 16 (2 ^ k))) 0#16
      = IntOp.cmpi .ne (IntOp.andi (low b) (BitVec.ofNat 32 (2 ^ k))) 0#32 := by
  decide +kernel

theorem high_bits : ∀ b : BitVec 8, ∀ k ∈ [0, 1, 2, 3],
    IntOp.cmpi .ne (IntOp.andi ((spread b).extractLsb' 16 16) (BitVec.ofNat 16 (2 ^ k))) 0#16
      = IntOp.cmpi .ne (IntOp.andi (high b) (BitVec.ofNat 32 (2 ^ k))) 0#32 := by
  decide +kernel

theorem nf4_low (b : BitVec 8) {p : ℕ} (hp : p % 2 = 0) : nf4 b p = pickOf (low b) := by
  unfold nf4 pickOf
  rw [hp]
  rw [show IntOp.cmpi .ne (IntOp.andi ((spread b).extractLsb' (16 * 0) 16) 8#16) 0#16 = _ from low_bits b 3 (by decide),
    show IntOp.cmpi .ne (IntOp.andi ((spread b).extractLsb' (16 * 0) 16) 4#16) 0#16 = _ from low_bits b 2 (by decide),
    show IntOp.cmpi .ne (IntOp.andi ((spread b).extractLsb' (16 * 0) 16) 2#16) 0#16 = _ from low_bits b 1 (by decide),
    show IntOp.cmpi .ne (IntOp.andi ((spread b).extractLsb' (16 * 0) 16) 1#16) 0#16 = _ from low_bits b 0 (by decide)]
  rfl

theorem nf4_high (b : BitVec 8) {p : ℕ} (hp : p % 2 = 1) : nf4 b p = pickOf (high b) := by
  unfold nf4 pickOf
  rw [hp]
  rw [show IntOp.cmpi .ne (IntOp.andi ((spread b).extractLsb' (16 * 1) 16) 8#16) 0#16 = _ from high_bits b 3 (by decide),
    show IntOp.cmpi .ne (IntOp.andi ((spread b).extractLsb' (16 * 1) 16) 4#16) 0#16 = _ from high_bits b 2 (by decide),
    show IntOp.cmpi .ne (IntOp.andi ((spread b).extractLsb' (16 * 1) 16) 2#16) 0#16 = _ from high_bits b 1 (by decide),
    show IntOp.cmpi .ne (IntOp.andi ((spread b).extractLsb' (16 * 1) 16) 1#16) 0#16 = _ from high_bits b 0 (by decide)]
  rfl

/-- The weight, from the bytes and the scales. -/
def wOf (f : (⟨2, ![1280, 6912]⟩ : Shape).Idx → BitVec 8) (g : (⟨2, ![40, 6912]⟩ : Shape).Idx → Ideal .bf16) (y : (⟨2, ![2560, 6912]⟩ : Shape).Idx) : Ideal .bf16 :=
  FloatOps.mulf (nf4 (f (ix2 ⟨(y 0).val / 2, by have : (y 0).val < 2560 := (y 0).isLt; omega⟩ (y 1))) (y 0).val)
    (g (ix2 ⟨(y 0).val / 64, by have : (y 0).val < 2560 := (y 0).isLt; omega⟩ (y 1)))

end Cert.Qlora

end
-- ==== Proof.WeightKernel.lean ====
/- The dequantisation call's result array: every entry is its code's value times its scale. -/
module

public import proofs.«01_k».proof.Proof.StateIdeal
public import proofs.«01_k».proof.Proof.Nf4
public import Idealize.ShloMosaic.Lib.BitcastPair
public import Idealize.ShloMosaic.Lib.Writes
public import Idealize.ShloMosaic.Lib.Pipeline.ValueKit

@[expose] public section

noncomputable section

namespace Cert.KernelIdeal.Value

open Cert.KernelIdeal Cert.KernelIdeal.Gen Cert.Qlora
open Idealize.ShloMosaic Idealize.ShloMosaic.TcCoe
open Idealize.ShloMosaic.Pipeline (Dat Cfg Window)

variable (V : (c : Dev nD) → (b : Ref sig .tc) → Buf (Elt Ideal) ((c : Thread nD τ).loc b))

/-- One store's payload: 32 rows of bytes and one row of scales make 64 rows of the weight. -/
def rows (v : Vec Ideal S32x768 .i8) (a : Vec Ideal S1x768 .bf16) : FVec Ideal S64x768 .bf16 :=
  k0_pay9 (k0_pay3 v) (k0_pay4 v) (k0_pay5 v) (k0_pay6 v) (k0_pay7 v) (k0_pay8 v) a

theorem rows_pick (v : Vec Ideal S32x768 .i8) (a : Vec Ideal S1x768 .bf16) (y : S64x768.Idx) :
    rows v a y = FloatOps.mulf (pickOf (k0_pay2 v y)) (broadcastTo S64x768 a broadcasts_S1x768_S64x768 y) := rfl

theorem word (v : Vec Ideal S32x768 .i8) (y : S64x768.Idx) (k : S32x768.Idx) (h0 : (k 0).val = (y 0).val / 2) (h1 : (k 1).val = (y 1).val) :
    k0_pay2 v y = (spread (v k)).extractLsb' (16 * ((y 0).val % 2)) 16 := by
  refine (bitcast_32_16 _ bitcasts_S32x768_w32_S64x768_w16 y).trans ?_
  have hrow : S64x768.row y = (y 0).val := rfl
  have hk : (bitcasts_S32x768_w32_S64x768_w16 : S32x768.Bitcasts 32 S64x768 16).srcIdx y (S64x768.row y / 2) (fun a ha => by
        have := (bitcasts_S32x768_w32_S64x768_w16 : S32x768.Bitcasts 32 S64x768 16).pos_lt y 0 (by decide) a ha; omega) = k := by
    funext a
    refine Fin.ext ?_
    fin_cases a
    · exact (Shape.Bitcasts.srcIdx_row _ _ _ _ _ rfl).trans h0.symm
    · exact (Shape.Bitcasts.srcIdx_other _ _ _ _ _ (by decide)).trans h1.symm
  rw [hk, hrow]
  rfl

theorem rows_at (v : Vec Ideal S32x768 .i8) (a : Vec Ideal S1x768 .bf16) (y : S64x768.Idx) (k : S32x768.Idx) (h0 : (k 0).val = (y 0).val / 2)
    (h1 : (k 1).val = (y 1).val) (l : S1x768.Idx) (hl : (l 1).val = (y 1).val) :
    rows v a y = FloatOps.mulf (nf4 (v k) (y 0).val) (a l) := by
  rw [rows_pick, word v y k h0 h1, broadcastTo_apply a broadcasts_S1x768_S64x768 y l (by
    intro b
    fin_cases b
    · have := (l 0).isLt
      show (l 0).val = if (1 : ℕ) = 1 then 0 else _
      rw [if_pos rfl]
      exact Nat.lt_one_iff.1 this
    · exact hl.trans (if_neg (by decide)).symm)]
  rfl

/-- A block of the weight, from its blocks of bytes and scales. -/
def wBlock (f : S256x768.Idx → BitVec 8) (g : S8x768.Idx → Ideal .bf16) (y : S512x768.Idx) : Ideal .bf16 :=
  FloatOps.mulf (nf4 (f (ix2 ⟨(y 0).val / 2, by have : (y 0).val < 512 := (y 0).isLt; omega⟩ (y 1))) (y 0).val)
    (g (ix2 ⟨(y 0).val / 64, by have : (y 0).val < 512 := (y 0).isLt; omega⟩ (y 1)))

theorem piece (f : S256x768.Idx → BitVec 8) (g : S8x768.Idx → Ideal .bf16) (b : ℕ) (hb : b < 8)
    (v : Vec Ideal S32x768 .i8) (a : Vec Ideal S1x768 .bf16)
    (hv : ∀ k : S32x768.Idx, ∀ k' : S256x768.Idx, (k' 0).val = 32 * b + (k 0).val → (k' 1).val = (k 1).val → v k = f k')
    (ha : ∀ l : S1x768.Idx, ∀ l' : S8x768.Idx, (l' 0).val = b → (l' 1).val = (l 1).val → a l = g l')
    (x : S64x768.Idx) (y : S512x768.Idx) (h0 : (y 0).val = 64 * b + (x 0).val) (h1 : (y 1).val = (x 1).val) :
    rows v a x = wBlock f g y := by
  have hx : (x 0).val < 64 := (x 0).isLt
  rw [rows_at v a x (ix2 ⟨(x 0).val / 2, by omega⟩ (x 1)) rfl rfl (ix2 ⟨0, by decide⟩ (x 1)) rfl]
  unfold wBlock
  have hy : (y 0).val < 512 := (y 0).isLt
  rw [hv (ix2 ⟨(x 0).val / 2, by omega⟩ (x 1)) (ix2 ⟨(y 0).val / 2, by omega⟩ (y 1)) (by show (y 0).val / 2 = 32 * b + (x 0).val / 2; omega) h1,
    ha (ix2 ⟨0, by decide⟩ (x 1)) (ix2 ⟨(y 0).val / 64, by omega⟩ (y 1)) (by show (y 0).val / 64 = b; omega) h1]
  have : (y 0).val % 2 = (x 0).val % 2 := by omega
  unfold nf4
  rw [this]

/-- The call's proof data. -/
abbrev dd (c : Dev nD) := Deq.dat (Ix := Unit) (U := Whole.UU) (Lvl := ℕ) Whole.𝒱₀ V (fun _ => 0) c

/-- The rows of bytes one store reads. -/
abbrev rB8 (o : ℕ) (inb : ∀ a, (![o, 0] : Fin S256x768.rank → ℕ) a + (![32, 768] : Fin S256x768.rank → ℕ) a ≤ S256x768.size a) : Rect S256x768 :=
  Rect.unit (s := S256x768) (![o, 0] : Fin S256x768.rank → ℕ) (![32, 768] : Fin S256x768.rank → ℕ) inb
/-- The row of scales one store reads. -/
abbrev rS8 (o : ℕ) (inb : ∀ a, (![o, 0] : Fin S8x768.rank → ℕ) a + (![1, 768] : Fin S8x768.rank → ℕ) a ≤ S8x768.size a) : Rect S8x768 :=
  Rect.unit (s := S8x768) (![o, 0] : Fin S8x768.rank → ℕ) (![1, 768] : Fin S8x768.rank → ℕ) inb
/-- The rows of the weight one store writes. -/
abbrev rW8 (o : ℕ) (inb : ∀ a, (![o, 0] : Fin S512x768.rank → ℕ) a + (![64, 768] : Fin S512x768.rank → ℕ) a ≤ S512x768.size a) : Rect S512x768 :=
  Rect.unit (s := S512x768) (![o, 0] : Fin S512x768.rank → ℕ) (![64, 768] : Fin S512x768.rank → ℕ) inb

/-- The bytes one store reads. -/
abbrev ldB (t : Fin cfg0.N) (f : Vec Ideal S256x768 .i8) (o : ℕ) (inb : ∀ a, (![o, 0] : Fin S256x768.rank → ℕ) a + (![32, 768] : Fin S256x768.rank → ℕ) a ≤ S256x768.size a) : Vec Ideal S32x768 .i8 :=
  View.readAt (Elt Ideal) (Deq.ms0_0 t).view (rB8 o inb).toLoadRect ((Deq.hs0_0 t).unread f)
/-- The scales one store reads. -/
abbrev ldS (t : Fin cfg0.N) (g : Vec Ideal S8x768 .bf16) (o : ℕ) (inb : ∀ a, (![o, 0] : Fin S8x768.rank → ℕ) a + (![1, 768] : Fin S8x768.rank → ℕ) a ≤ S8x768.size a) : Vec Ideal S1x768 .bf16 :=
  View.readAt (Elt Ideal) (Deq.ms0_1 t).view (rS8 o inb).toLoadRect ((Deq.hs0_1 t).unread g)

theorem bytes_at (t : Fin cfg0.N) (f : Vec Ideal S256x768 .i8) (o : ℕ) (inb)
    (k : S32x768.Idx) (k' : S256x768.Idx) (h0 : (k' 0).val = o + (k 0).val) (h1 : (k' 1).val = (k 1).val) :
    ldB t f o inb k = f k' := by
  unfold ldB
  rw [View.readAt_eq_ld, Memref.IsWhole.read_unread]
  refine View.ld_unit_apply_of f ![o, 0] ![32, 768] inb k k' fun a => ?_
  fin_cases a
  · exact h0
  · exact h1.trans (Nat.zero_add _).symm

theorem scale_at (t : Fin cfg0.N) (g : Vec Ideal S8x768 .bf16) (o : ℕ) (inb)
    (l : S1x768.Idx) (l' : S8x768.Idx) (h0 : (l' 0).val = o) (h1 : (l' 1).val = (l 1).val) :
    ldS t g o inb l = g l' := by
  unfold ldS
  rw [View.readAt_eq_ld, Memref.IsWhole.read_unread]
  refine View.ld_unit_apply_of g ![o, 0] ![1, 768] inb l l' fun a => ?_
  fin_cases a
  · have : (l 0).val < 1 := (l 0).isLt
    show (l' 0).val = o + (l 0).val
    omega
  · exact h1.trans (Nat.zero_add _).symm

theorem piece_at (t : Fin cfg0.N) (f : Vec Ideal S256x768 .i8) (g : Vec Ideal S8x768 .bf16) (b o r : ℕ) (hb : b < 8) (ho : o = 32 * b) (hr : r = 64 * b)
    (inb inb' inb'') (x : S64x768.Idx) :
    rows (ldB t f o inb) (ldS t g b inb') x = wBlock f g ((rW8 r inb'').emb x) := by
  subst ho hr
  refine piece f g b hb _ _ (fun k k' h0 h1 => bytes_at t f (32 * b) inb k k' h0 h1) (fun l l' h0 h1 => scale_at t g b inb' l l' h0 h1) x _ ?_ ?_
  · exact Rect.idx_unit_val (s := S512x768) (![64 * b, 0] : Fin S512x768.rank → ℕ) (![64, 768] : Fin S512x768.rank → ℕ) inb'' x 0
  · exact (Rect.idx_unit_val (s := S512x768) (![64 * b, 0] : Fin S512x768.rank → ℕ) (![64, 768] : Fin S512x768.rank → ℕ) inb'' x 1).trans (Nat.zero_add _)

theorem out_at (c : Dev nD) (t : Fin cfg0.N) (y : S512x768.Idx) :
    Deq.outsAt0 (Ix := Unit) (U := Whole.UU) (Lvl := ℕ) Whole.𝒱₀ V c t y = wBlock (Deq.iblk V c 0 t) (Deq.iblk V c 1 t) y := by
  unfold Deq.outsAt0 Deq.out0_A_2
  refine View.read_writes_apply_of_pieces (Val := Elt Ideal) Deq.VO0_2 _ (wBlock (Deq.iblk V c 0 t) (Deq.iblk V c 1 t)) _ ?_ y (Deq.cover0_A_2 (Ix := Unit) (U := Whole.UU) (Lvl := ℕ) _ _ _ _ _ _ _ _ _ _ _ y)
  unfold Deq.kernelRun0_A
  dsimp only
  simp only [List.forall_mem_cons, List.not_mem_nil, false_imp_iff, implies_true, and_true]
  refine ⟨?_, ?_, ?_, ?_, ?_, ?_, ?_, ?_⟩ <;> intro x
  · exact piece_at t (Deq.iblk V c 0 t) (Deq.iblk V c 1 t) 7 224 448 (by decide) rfl rfl inb_S256x768_S32x768_224_0 inb_S8x768_S1x768_7_0 inb_S512x768_S64x768_448_0 x
  · exact piece_at t (Deq.iblk V c 0 t) (Deq.iblk V c 1 t) 6 192 384 (by decide) rfl rfl inb_S256x768_S32x768_192_0 inb_S8x768_S1x768_6_0 inb_S512x768_S64x768_384_0 x
  · exact piece_at t (Deq.iblk V c 0 t) (Deq.iblk V c 1 t) 5 160 320 (by decide) rfl rfl inb_S256x768_S32x768_160_0 inb_S8x768_S1x768_5_0 inb_S512x768_S64x768_320_0 x
  · exact piece_at t (Deq.iblk V c 0 t) (Deq.iblk V c 1 t) 4 128 256 (by decide) rfl rfl inb_S256x768_S32x768_128_0 inb_S8x768_S1x768_4_0 inb_S512x768_S64x768_256_0 x
  · exact piece_at t (Deq.iblk V c 0 t) (Deq.iblk V c 1 t) 3 96 192 (by decide) rfl rfl inb_S256x768_S32x768_96_0 inb_S8x768_S1x768_3_0 inb_S512x768_S64x768_192_0 x
  · exact piece_at t (Deq.iblk V c 0 t) (Deq.iblk V c 1 t) 2 64 128 (by decide) rfl rfl inb_S256x768_S32x768_64_0 inb_S8x768_S1x768_2_0 inb_S512x768_S64x768_128_0 x
  · exact piece_at t (Deq.iblk V c 0 t) (Deq.iblk V c 1 t) 1 32 64 (by decide) rfl rfl inb_S256x768_S32x768_32_0 inb_S8x768_S1x768_1_0 inb_S512x768_S64x768_64_0 x
  · exact piece_at t (Deq.iblk V c 0 t) (Deq.iblk V c 1 t) 0 0 0 (by decide) rfl rfl inb_S256x768_S32x768_0_0 inb_S8x768_S1x768_0_0 inb_S512x768_S64x768_0_0 x

theorem wix0 : ∀ t : Fin cfg0.N, win0_0.index t = ![t.val / 9, t.val % 9] := by decide +kernel
theorem wix1 : ∀ t : Fin cfg0.N, win0_1.index t = ![t.val / 9, t.val % 9] := by decide +kernel
theorem wix2 : ∀ t : Fin cfg0.N, win0_2.index t = ![t.val / 9, t.val % 9] := by decide +kernel

theorem wblk0 (c : Dev nD) (t : Fin cfg0.N) (k : S256x768.Idx) (k' : S1280x6912.Idx) (h0 : (k' 0).val = t.val / 9 * 256 + (k 0).val)
    (h1 : (k' 1).val = t.val % 9 * 768 + (k 1).val) : Deq.iblk V c 0 t k = V c main_arg2 k' := by
  unfold Deq.iblk
  blk_simp
  refine congrArg (V c main_arg2 : S1280x6912.Idx → BitVec 8) (funext fun a => Fin.ext ?_)
  fin_cases a
  · blk_simp [wix0]; exact h0.symm
  · blk_simp [wix0]; exact h1.symm

theorem wblk1 (c : Dev nD) (t : Fin cfg0.N) (k : S8x768.Idx) (k' : S40x6912.Idx) (h0 : (k' 0).val = t.val / 9 * 8 + (k 0).val)
    (h1 : (k' 1).val = t.val % 9 * 768 + (k 1).val) : Deq.iblk V c 1 t k = V c main_arg3 k' := by
  unfold Deq.iblk
  blk_simp
  refine congrArg (V c main_arg3 : S40x6912.Idx → Ideal .bf16) (funext fun a => Fin.ext ?_)
  fin_cases a
  · blk_simp [wix1]; exact h0.symm
  · blk_simp [wix1]; exact h1.symm

/-- The bytes as the call finds them. -/
abbrev vBytes (c : Dev nD) : S1280x6912.Idx → BitVec 8 := V c main_arg2
/-- The scales as the call finds them. -/
abbrev vScales (c : Dev nD) : S40x6912.Idx → Ideal .bf16 := V c main_arg3

theorem tile_w (c : Dev nD) (t : Fin cfg0.N) (y : S512x768.Idx) (z : S2560x6912.Idx) (e0 : (z 0).val = t.val / 9 * 512 + (y 0).val)
    (e1 : (z 1).val = t.val % 9 * 768 + (y 1).val) :
    wBlock (Deq.iblk V c 0 t) (Deq.iblk V c 1 t) y = wOf (vBytes V c) (vScales V c) z := by
  have hy : (y 0).val < 512 := (y 0).isLt
  have hz : (z 0).val < 2560 := (z 0).isLt
  unfold wBlock wOf
  rw [wblk0 V c t (ix2 ⟨(y 0).val / 2, by omega⟩ (y 1)) (ix2 ⟨(z 0).val / 2, by omega⟩ (z 1)) (by show (z 0).val / 2 = t.val / 9 * 256 + (y 0).val / 2; omega) e1,
    wblk1 V c t (ix2 ⟨(y 0).val / 64, by omega⟩ (y 1)) (ix2 ⟨(z 0).val / 64, by omega⟩ (z 1)) (by show (z 0).val / 64 = t.val / 9 * 8 + (y 0).val / 64; omega) e1]
  have : (z 0).val % 2 = (y 0).val % 2 := by omega
  unfold nf4
  rw [this]

theorem emb0 (t : Fin cfg0.N) (y : S512x768.Idx) : (((win0_2.blk t).view.emb y : S2560x6912.Idx) 0).val = t.val / 9 * 512 + (y 0).val := by
  blk_simp [wix2]
theorem emb1 (t : Fin cfg0.N) (y : S512x768.Idx) : (((win0_2.blk t).view.emb y : S2560x6912.Idx) 1).val = t.val % 9 * 768 + (y 1).val := by
  blk_simp [wix2]

theorem tile_of (c : Dev nD) (t : Fin cfg0.N) (y : S512x768.Idx) :
    Deq.outsAt0 (Ix := Unit) (U := Whole.UU) (Lvl := ℕ) Whole.𝒱₀ V c t y = wOf (vBytes V c) (vScales V c) ((win0_2.blk t).view.emb y) := by
  have e0 := emb0 t y
  have e1 := emb1 t y
  generalize ((win0_2.blk t).view.emb y : S2560x6912.Idx) = z at e0 e1 ⊢
  exact (out_at V c t y).trans (tile_w V c t y z e0 e1)

theorem arr_w (c : Dev nD) : (dd V c).arrAt 2 cfg0.N = fun y : S2560x6912.Idx => wOf (vBytes V c) (vScales V c) y := by
  refine (dd V c).arrAt_eq_of_covers 2 _ (by decide +kernel) fun t hf y => ?_
  rw [Deq.after0_2]
  have key := tile_of V c t
  generalize Deq.outsAt0 (Ix := Unit) (U := Whole.UU) (Lvl := ℕ) Whole.𝒱₀ V c t = O at key ⊢
  exact key y

end Cert.KernelIdeal.Value

end
-- ==== Proof.Dots.lean ====
/- The host's matrix products at the exact numbers, read at natural-number places. -/
module

public import proofs.«01_k».proof.Proof.Sums
public import Idealize.ShloMosaic.Lib.StackMember

@[expose] public section

noncomputable section

namespace Cert.Qlora

open Idealize.ShloMosaic Idealize.ShloMosaic.ValueIdx
open scoped BigOperators

/-- Rows by rows. -/
theorem rd_dot11 {M K N : ℕ} {φ₁ φ₂ : FTy} (w : DotDims.WF ⟨2, ![M, K]⟩ ⟨2, ![N, K]⟩ ⟨2, ![M, N]⟩ [1] [1] [0] [0] [] [])
    (a : FVec Ideal ⟨2, ![M, K]⟩ φ₁) (b : FVec Ideal ⟨2, ![N, K]⟩ φ₂) {i j : ℕ} (hi : i < M) (hj : j < N) :
    rd (Host.dotGeneral (⟨[1], [1], [0], [0], [], [], w⟩ : DotDims _ _ _) none a b) i j = ∑ k ∈ Finset.range K, rd a i k * rd b j k := by
  rw [rd_mk _ hi hj, Finset.sum_range]
  show FloatOps.dotGeneral _ _ _ a b _ = _
  rw [Ideal.dotGeneral_apply, ← Equiv.sum_comp (contrEquiv1 (⟨[1], [1], [0], [0], [], [], w⟩ : DotDims _ _ _) K rfl rfl).symm]
  refine Finset.sum_congr rfl fun c _ => ?_
  have hk := contrEquiv1_symm_val (⟨[1], [1], [0], [0], [], [], w⟩ : DotDims _ _ _) K rfl rfl c
  rw [rd_mk a hi c.isLt, rd_mk b hj c.isLt]
  refine congr (congrArg _ (congrArg a ?_)) (congrArg b ?_)
  · funext x; apply Fin.ext
    match x with
    | ⟨0, _⟩ => rfl
    | ⟨1, _⟩ => exact hk
  · funext x; apply Fin.ext
    match x with
    | ⟨0, _⟩ => rfl
    | ⟨1, _⟩ => exact hk

/-- Rows by columns. -/
theorem rd_dot10 {M K N : ℕ} {φ₁ φ₂ : FTy} (w : DotDims.WF ⟨2, ![M, K]⟩ ⟨2, ![K, N]⟩ ⟨2, ![M, N]⟩ [1] [0] [0] [1] [] [])
    (a : FVec Ideal ⟨2, ![M, K]⟩ φ₁) (b : FVec Ideal ⟨2, ![K, N]⟩ φ₂) {i j : ℕ} (hi : i < M) (hj : j < N) :
    rd (Host.dotGeneral (⟨[1], [0], [0], [1], [], [], w⟩ : DotDims _ _ _) none a b) i j = ∑ k ∈ Finset.range K, rd a i k * rd b k j := by
  rw [rd_mk _ hi hj, Finset.sum_range]
  show FloatOps.dotGeneral _ _ _ a b _ = _
  rw [Ideal.dotGeneral_apply, ← Equiv.sum_comp (contrEquiv1 (⟨[1], [0], [0], [1], [], [], w⟩ : DotDims _ _ _) K rfl rfl).symm]
  refine Finset.sum_congr rfl fun c _ => ?_
  have hk := contrEquiv1_symm_val (⟨[1], [0], [0], [1], [], [], w⟩ : DotDims _ _ _) K rfl rfl c
  rw [rd_mk a hi c.isLt, rd_mk b c.isLt hj]
  refine congr (congrArg _ (congrArg a ?_)) (congrArg b ?_)
  · funext x; apply Fin.ext
    match x with
    | ⟨0, _⟩ => rfl
    | ⟨1, _⟩ => exact hk
  · funext x; apply Fin.ext
    match x with
    | ⟨0, _⟩ => exact hk
    | ⟨1, _⟩ => rfl

/-- Columns by columns. -/
theorem rd_dot00 {M K N : ℕ} {φ₁ φ₂ : FTy} (w : DotDims.WF ⟨2, ![K, M]⟩ ⟨2, ![K, N]⟩ ⟨2, ![M, N]⟩ [0] [0] [1] [1] [] [])
    (a : FVec Ideal ⟨2, ![K, M]⟩ φ₁) (b : FVec Ideal ⟨2, ![K, N]⟩ φ₂) {i j : ℕ} (hi : i < M) (hj : j < N) :
    rd (Host.dotGeneral (⟨[0], [0], [1], [1], [], [], w⟩ : DotDims _ _ _) none a b) i j = ∑ k ∈ Finset.range K, rd a k i * rd b k j := by
  rw [rd_mk _ hi hj, Finset.sum_range]
  show FloatOps.dotGeneral _ _ _ a b _ = _
  rw [Ideal.dotGeneral_apply, ← Equiv.sum_comp (contrEquiv1 (⟨[0], [0], [1], [1], [], [], w⟩ : DotDims _ _ _) K rfl rfl).symm]
  refine Finset.sum_congr rfl fun c _ => ?_
  have hk := contrEquiv1_symm_val (⟨[0], [0], [1], [1], [], [], w⟩ : DotDims _ _ _) K rfl rfl c
  rw [rd_mk a c.isLt hi, rd_mk b c.isLt hj]
  refine congr (congrArg _ (congrArg a ?_)) (congrArg b ?_)
  · funext x; apply Fin.ext
    match x with
    | ⟨0, _⟩ => exact hk
    | ⟨1, _⟩ => rfl
  · funext x; apply Fin.ext
    match x with
    | ⟨0, _⟩ => exact hk
    | ⟨1, _⟩ => rfl

end Cert.Qlora

end
-- ==== Proof.RefSums.lean ====
/- The reference's products as sums over its arguments. -/
module

public import proofs.«01_k».proof.Proof.Dots
public import proofs.«01_k».proof.Proof.Gen.ReferenceIdeal.Run
public import Idealize.ShloMosaic.Lib.IdealHost

@[expose] public section

noncomputable section

namespace Cert.ReferenceIdeal.Value

open Cert.ReferenceIdeal Cert.ReferenceIdeal.Gen Cert.Qlora
open Idealize.ShloMosaic Idealize.ShloMosaic.TcCoe
open scoped BigOperators

variable (V : Valuation τ sig (Elt Ideal))

/-- `x`, two-dimensional. -/
abbrev vX : FVec Ideal S24576x2560 .bf16 := res_main_v0 V
/-- `dy`, two-dimensional. -/
abbrev vDY : FVec Ideal S24576x6912 .bf16 := res_main_v1 V
/-- `A`. -/
abbrev vA : FVec Ideal S2560x16 .bf16 := V (Proc.devRef .tc main_arg4)
/-- `B`. -/
abbrev vB : FVec Ideal S16x6912 .bf16 := V (Proc.devRef .tc main_arg5)
/-- `g`. -/
abbrev vG : FVec Ideal S24576x16 .bf16 := res_main_v183 V
/-- `xa`. -/
abbrev vXA : FVec Ideal S24576x16 .bf16 := res_main_v185 V
/-- The scale. -/
abbrev vS : FVec Ideal S_ .f32 := res_main_v2 V

theorem ofBits_sixteen : Ideal.ofBits .f32 0x41800000#32 = ((16 : ℝ) : EReal) := by
  simp [Ideal.ofBits, Ideal.ieee]
  rw [← EReal.coe_mul]
  norm_num

/-- The scale is one. -/
theorem scale (j : S_.Idx) : vS V j = 1 := by
  show Ideal.div (Ideal.ofBits .f32 0x41800000#32) (Ideal.ofBits .f32 0x41800000#32) = 1
  rw [ofBits_sixteen, Ideal.div_coe (by norm_num), ← EReal.coe_mul]
  norm_num

theorem ref_g {t r : ℕ} (ht : t < 24576) (hr : r < 16) : rd (vG V) t r = ∑ o ∈ Finset.range 6912, rd (vDY V) t o * rd (vB V) r o :=
  rd_dot11 (M := 24576) (K := 6912) (N := 16) _ (vDY V) (vB V) ht hr

theorem ref_xa {t r : ℕ} (ht : t < 24576) (hr : r < 16) : rd (vXA V) t r = ∑ k ∈ Finset.range 2560, rd (vX V) t k * rd (vA V) k r :=
  rd_dot10 (M := 24576) (K := 2560) (N := 16) _ (vX V) (vA V) ht hr

/-- Scaling by the scale does nothing. -/
theorem scaled {s : Shape} (h : S_.BroadcastsInDim s ![]) (x : FVec Ideal s .f32) : mulf (broadcastInDim s ![] h (vS V)) x = x := by
  funext j
  show (broadcastInDim s ![] h (vS V) j : EReal) * x j = x j
  rw [show broadcastInDim s ![] h (vS V) j = 1 from scale V _]
  exact one_mul _

/-- The gradient of `A`. -/
def dA : FVec Ideal S2560x16 .f32 := mulf (broadcastInDim S2560x16 ![] bcast_S_S2560x16 (vS V)) (Host.dotGeneral dot_S24576x2560_S24576x16_S2560x16_0_0_1_1_n_n none (vX V) (vG V))

/-- The gradient of `B`. -/
def dB : FVec Ideal S16x6912 .f32 := mulf (broadcastInDim S16x6912 ![] bcast_S_S16x6912 (vS V)) (Host.dotGeneral dot_S24576x16_S24576x6912_S16x6912_0_0_1_1_n_n none (vXA V) (vDY V))

/-- The low-rank part of `dx`. -/
def dL : FVec Ideal S24576x2560 .f32 := mulf (broadcastInDim S24576x2560 ![] bcast_S_S24576x2560 (vS V)) (Host.dotGeneral dot_S24576x16_S2560x16_S24576x2560_1_1_0_0_n_n none (vG V) (vA V))

theorem ref_dA {k r : ℕ} (hk : k < 2560) (hr : r < 16) : rd (dA V) k r = ∑ t ∈ Finset.range 24576, rd (vX V) t k * rd (vG V) t r := by
  unfold dA
  rw [scaled]
  exact rd_dot00 (M := 2560) (K := 24576) (N := 16) _ (vX V) (vG V) hk hr

theorem ref_dB {r o : ℕ} (hr : r < 16) (ho : o < 6912) : rd (dB V) r o = ∑ t ∈ Finset.range 24576, rd (vXA V) t r * rd (vDY V) t o := by
  unfold dB
  rw [scaled]
  exact rd_dot00 (M := 16) (K := 24576) (N := 6912) _ (vXA V) (vDY V) hr ho

theorem ref_dL {t k : ℕ} (ht : t < 24576) (hk : k < 2560) : rd (dL V) t k = ∑ r ∈ Finset.range 16, rd (vG V) t r * rd (vA V) k r := by
  unfold dL
  rw [scaled]
  exact rd_dot11 (M := 24576) (K := 16) (N := 2560) _ (vG V) (vA V) ht hk

end Cert.ReferenceIdeal.Value

end
-- ==== Proof.WeightRef.lean ====
/- The reference's weight: its even and its odd rows, entry by entry, and the product of `dy` with it. -/
module

public import proofs.«01_k».proof.Proof.RefSums
public import proofs.«01_k».proof.Proof.Nf4

@[expose] public section

noncomputable section

namespace Cert.ReferenceIdeal.Value

open Cert.ReferenceIdeal Cert.ReferenceIdeal.Gen Cert.Qlora
open Idealize.ShloMosaic Idealize.ShloMosaic.TcCoe
open scoped BigOperators

variable (V : Valuation τ sig (Elt Ideal))

/-- A word in every place. -/
abbrev bw (k : BitVec 32) : IVec S1280x6912 32 := broadcastInDim S1280x6912 ![] bcast_S_S1280x6912 (constantI S_ 32 k)

/-- A bit of every code. -/
abbrev bt (w : IVec S1280x6912 32) (k : BitVec 32) : IVec S1280x6912 1 := cmpi .ne (andi w (bw k)) (bw 0#32)

/-- An entry of the table in every place. -/
def en (tb : FVec Ideal S16 .bf16) (i : ℕ) (h : S16.Slices ![i] S1) : FVec Ideal S1280x6912 .bf16 :=
  broadcastInDim S1280x6912 ![] bcast_S_S1280x6912 (shapeCast S_ (extractStridedSlice S1 ![i] tb h) shapeCasts_S1_S_)

/-- The values of all codes. -/
def vals (w : IVec S1280x6912 32) (tb : FVec Ideal S16 .bf16) : FVec Ideal S1280x6912 .bf16 :=
  select (bt w 8#32)
    (select (bt w 4#32)
      (select (bt w 2#32) (select (bt w 1#32) (en tb 15 slices_S16_S1_15) (en tb 14 slices_S16_S1_14)) (select (bt w 1#32) (en tb 13 slices_S16_S1_13) (en tb 12 slices_S16_S1_12)))
      (select (bt w 2#32) (select (bt w 1#32) (en tb 11 slices_S16_S1_11) (en tb 10 slices_S16_S1_10)) (select (bt w 1#32) (en tb 9 slices_S16_S1_9) (en tb 8 slices_S16_S1_8))))
    (select (bt w 4#32)
      (select (bt w 2#32) (select (bt w 1#32) (en tb 7 slices_S16_S1_7) (en tb 6 slices_S16_S1_6)) (select (bt w 1#32) (en tb 5 slices_S16_S1_5) (en tb 4 slices_S16_S1_4)))
      (select (bt w 2#32) (select (bt w 1#32) (en tb 3 slices_S16_S1_3) (en tb 2 slices_S16_S1_2)) (select (bt w 1#32) (en tb 1 slices_S16_S1_1) (en tb 0 slices_S16_S1_0))))

/-- Half of the weight's rows: the values of its codes times the scales. -/
def half (w : IVec S1280x6912 32) (tb : FVec Ideal S16 .bf16) : FVec Ideal S1280x6912 .bf16 :=
  shapeCast S1280x6912 (mulf (shapeCast S40x32x6912 (vals w tb) shapeCasts_S1280x6912_S40x32x6912)
    (broadcastInDim S40x32x6912 ![0, 1, 2] bcast_S40x1x6912_S40x32x6912_0_1_2
      (broadcastInDim S40x1x6912 ![0, 2] bcast_S40x6912_S40x1x6912_0_2 (V (Proc.devRef .tc main_arg3))))) shapeCasts_S40x32x6912_S1280x6912

/-- The product of `dy` with half of the weight's rows. -/
abbrev prod (w : FVec Ideal S1280x6912 .bf16) : FVec Ideal S24576x1280 .f32 :=
  Host.dotGeneral dot_S24576x6912_S1280x6912_S24576x1280_1_1_0_0_n_n none (vDY V) w

theorem v180 : res_main_v180 V = concatenate S24576x1280x2 2
    [⟨S24576x1280x1, broadcastInDim S24576x1280x1 ![0, 1] bcast_S24576x1280_S24576x1280x1_0_1 (prod V (half V (res_main_v5 V) (res_main_cst V)))⟩,
     ⟨S24576x1280x1, broadcastInDim S24576x1280x1 ![0, 1] bcast_S24576x1280_S24576x1280x1_0_1 (prod V (half V (res_main_v91 V) (res_main_cst_0 V)))⟩]
    concatenates_S24576x1280x1_S24576x1280x1_S24576x1280x2_d2 := rfl

/-- A table of sixteen values. -/
abbrev table (tb : Fin 16 → BitVec 16) : FVec Ideal S16 .bf16 := fun k => FloatOps.ofBits .bf16 (tb (S16.rowMajor k))

theorem place (i : ℕ) (h : S16.Slices ![i] S1) (tb : Fin 16 → BitVec 16) (hi : i < 16) (j : S1280x6912.Idx) :
    en (table tb) i h j = (Scalar.ofBits .bf16 (tb ⟨i, hi⟩) : Ideal .bf16) := by
  unfold en
  show shapeCast S_ (extractStridedSlice S1 ![i] (table tb) h) shapeCasts_S1_S_ _ = _
  generalize (fun a : Fin S_.rank => _ : S_.Idx) = k
  refine (shapeCast_apply _ _ k (ValueIdx.ix1 (0 : Fin 1)) ?_).trans ?_
  · rfl
  refine (extractStridedSlice_apply ![i] _ h _ (ValueIdx.ix1 (⟨i, hi⟩ : Fin 16)) (fun a => ?_)).trans ?_
  · fin_cases a; rfl
  · show Ideal.ofBits .bf16 (tb (S16.rowMajor _)) = Ideal.ofBits .bf16 (tb _)
    exact congrArg (fun k => Ideal.ofBits .bf16 (tb k)) (Fin.ext (Shape.rowMajor_val_one (d := ![16]) _))

theorem vals_at (w : IVec S1280x6912 32) (tb : Fin 16 → BitVec 16) (htb : tb = lit0) (j : S1280x6912.Idx) : vals w (table tb) j = pickOf (w j) := by
  have e := fun i h hi => place i h tb hi j
  unfold vals
  simp only [select, e _ _ (show 15 < 16 by decide), e _ _ (show 14 < 16 by decide), e _ _ (show 13 < 16 by decide), e _ _ (show 12 < 16 by decide),
    e _ _ (show 11 < 16 by decide), e _ _ (show 10 < 16 by decide), e _ _ (show 9 < 16 by decide), e _ _ (show 8 < 16 by decide),
    e _ _ (show 7 < 16 by decide), e _ _ (show 6 < 16 by decide), e _ _ (show 5 < 16 by decide), e _ _ (show 4 < 16 by decide),
    e _ _ (show 3 < 16 by decide), e _ _ (show 2 < 16 by decide), e _ _ (show 1 < 16 by decide), e _ _ (show 0 < 16 by decide)]
  subst htb
  rfl

/-- The scales. -/
abbrev vScale : FVec Ideal S40x6912 .bf16 := V (Proc.devRef .tc main_arg3)
/-- The bytes. -/
abbrev vByte : IVec S1280x6912 8 := V (Proc.devRef .tc main_arg2)

theorem half_at (w : IVec S1280x6912 32) (tb : Fin 16 → BitVec 16) (htb : tb = lit0) {k o : ℕ} (hk : k < 1280) (ho : o < 6912) :
    half V w (table tb) (ix2 ⟨k, hk⟩ ⟨o, ho⟩) = FloatOps.mulf (pickOf (w (ix2 ⟨k, hk⟩ ⟨o, ho⟩))) (vScale V (ix2 ⟨k / 32, by omega⟩ ⟨o, ho⟩)) := by
  unfold half
  have hrow : (S40x32x6912.rowMajor (ValueIdx.ix3 (⟨k / 32, by omega⟩ : Fin 40) (⟨k % 32, by omega⟩ : Fin 32) (⟨o, ho⟩ : Fin 6912))).val
      = (S1280x6912.rowMajor (ix2 ⟨k, hk⟩ ⟨o, ho⟩)).val := by
    refine (Shape.rowMajor_val_three (d := ![40, 32, 6912]) _).trans (Eq.trans ?_ (Shape.rowMajor_val_two (d := ![1280, 6912]) _).symm)
    show (k / 32 * 32 + k % 32) * 6912 + o = k * 6912 + o
    omega
  rw [shapeCast_apply _ _ (ix2 ⟨k, hk⟩ ⟨o, ho⟩) _ hrow]
  show FloatOps.mulf (shapeCast S40x32x6912 (vals w (table tb)) shapeCasts_S1280x6912_S40x32x6912 _) (broadcastInDim S40x32x6912 _ _ _ _) = _
  rw [shapeCast_apply _ _ _ (ix2 ⟨k, hk⟩ ⟨o, ho⟩) hrow.symm, vals_at w tb htb]
  refine congrArg (FloatOps.mulf (pickOf (w (ix2 ⟨k, hk⟩ ⟨o, ho⟩)))) ?_
  refine (broadcastInDim_apply _ _ _ _ (ValueIdx.ix3 (⟨k / 32, by omega⟩ : Fin 40) (0 : Fin 1) (⟨o, ho⟩ : Fin 6912)) (fun a => ?_)).trans ?_
  · fin_cases a <;> rfl
  refine (broadcastInDim_apply _ _ _ _ (ix2 (⟨k / 32, by omega⟩ : Fin 40) (⟨o, ho⟩ : Fin 6912)) (fun a => ?_)).trans ?_
  · fin_cases a <;> rfl
  · rfl

/-- The reference's weight. -/
abbrev wRef : (⟨2, ![2560, 6912]⟩ : Shape).Idx → EReal := wOf (vByte V) (vScale V)

theorem even_rows {k o : ℕ} (hk : k < 2560) (ho : o < 6912) (hp : k % 2 = 0) :
    rd (m := 1280) (n := 6912) (half V (res_main_v5 V) (res_main_cst V)) (k / 2) o = rd (wRef V) k o := by
  rw [rd_mk _ (by omega : k / 2 < 1280) ho, rd_mk _ hk ho]
  refine (half_at V (res_main_v5 V) lit0 rfl (by omega : k / 2 < 1280) ho).trans ?_
  show _ = FloatOps.mulf (nf4 (vByte V (ix2 ⟨k / 2, _⟩ ⟨o, ho⟩)) k) (vScale V (ix2 ⟨k / 64, _⟩ ⟨o, ho⟩))
  rw [nf4_low _ hp]
  exact congrArg (fun z => FloatOps.mulf _ (vScale V (ix2 z ⟨o, ho⟩))) (Fin.ext (show k / 2 / 32 = k / 64 by omega))

theorem odd_rows {k o : ℕ} (hk : k < 2560) (ho : o < 6912) (hp : k % 2 = 1) :
    rd (m := 1280) (n := 6912) (half V (res_main_v91 V) (res_main_cst_0 V)) (k / 2) o = rd (wRef V) k o := by
  rw [rd_mk _ (by omega : k / 2 < 1280) ho, rd_mk _ hk ho]
  refine (half_at V (res_main_v91 V) lit1 rfl (by omega : k / 2 < 1280) ho).trans ?_
  show _ = FloatOps.mulf (nf4 (vByte V (ix2 ⟨k / 2, _⟩ ⟨o, ho⟩)) k) (vScale V (ix2 ⟨k / 64, _⟩ ⟨o, ho⟩))
  rw [nf4_high _ hp]
  exact congrArg (fun z => FloatOps.mulf _ (vScale V (ix2 z ⟨o, ho⟩))) (Fin.ext (show k / 2 / 32 = k / 64 by omega))

theorem prod_at (w : FVec Ideal S1280x6912 .bf16) {t k : ℕ} (ht : t < 24576) (hk : k < 1280) :
    prod V w (ix2 ⟨t, ht⟩ ⟨k, hk⟩) = ∑ o ∈ Finset.range 6912, rd (vDY V) t o * rd w k o :=
  (rd_mk _ ht hk).symm.trans (rd_dot11 (M := 24576) (K := 6912) (N := 1280) _ (vDY V) w ht hk)

/-- The weight's part of `dx`. -/
def dW : FVec Ideal S24576x2560 .f32 := shapeCast S24576x2560 (res_main_v180 V) shapeCasts_S24576x1280x2_S24576x2560

theorem ref_dW {t k : ℕ} (ht : t < 24576) (hk : k < 2560) : rd (dW V) t k = ∑ o ∈ Finset.range 6912, rd (vDY V) t o * rd (wRef V) k o := by
  rw [rd_mk _ ht hk]
  unfold dW
  rw [shapeCast_apply _ _ (ix2 ⟨t, ht⟩ ⟨k, hk⟩) (ValueIdx.ix3 (⟨t, ht⟩ : Fin 24576) (⟨k / 2, by omega⟩ : Fin 1280) (⟨k % 2, by omega⟩ : Fin 2)) (by
    refine (Shape.rowMajor_val_three (d := ![24576, 1280, 2]) _).trans (Eq.trans ?_ (Shape.rowMajor_val_two (d := ![24576, 2560]) _).symm)
    show (t * 1280 + k / 2) * 2 + k % 2 = t * 2560 + k
    omega)]
  rw [v180]
  rcases Nat.mod_two_eq_zero_or_one k with hp | hp
  · refine (concatenate_pair_apply_left (t := S24576x1280x2) (s₁ := S24576x1280x1) (s₂ := S24576x1280x1) 2 _ _ _ _ rfl
      (ValueIdx.ix3 (⟨t, ht⟩ : Fin 24576) (⟨k / 2, by omega⟩ : Fin 1280) (0 : Fin 1)) (fun a => by fin_cases a; rfl; rfl; exact hp.symm)).trans ?_
    refine (broadcastInDim_apply _ _ _ _ (ix2 (⟨t, ht⟩ : Fin 24576) (⟨k / 2, by omega⟩ : Fin 1280)) (fun a => by fin_cases a <;> rfl)).trans ?_
    refine (prod_at V _ ht (by omega : k / 2 < 1280)).trans (Finset.sum_congr rfl fun o ho => ?_)
    rw [even_rows V hk (Finset.mem_range.1 ho) hp]
  · refine (concatenate_pair_apply_right (t := S24576x1280x2) (s₁ := S24576x1280x1) (s₂ := S24576x1280x1) 2 _ _ _ _ rfl rfl
      (ValueIdx.ix3 (⟨t, ht⟩ : Fin 24576) (⟨k / 2, by omega⟩ : Fin 1280) (0 : Fin 1)) (fun b hb => by fin_cases b; rfl; rfl; exact absurd rfl hb) (by show 0 + 1 = k % 2; omega)).trans ?_
    refine (broadcastInDim_apply _ _ _ _ (ix2 (⟨t, ht⟩ : Fin 24576) (⟨k / 2, by omega⟩ : Fin 1280)) (fun a => by fin_cases a <;> rfl)).trans ?_
    refine (prod_at V _ ht (by omega : k / 2 < 1280)).trans (Finset.sum_congr rfl fun o ho => ?_)
    rw [odd_rows V hk (Finset.mem_range.1 ho) hp]

end Cert.ReferenceIdeal.Value

end
-- ==== Proof.Equation.lean ====
/- The five results of the kernel are the five results of the reference, when both start from the same arguments. -/
module

public import proofs.«01_k».proof.Proof.Arrays
public import proofs.«01_k».proof.Proof.HostValues
public import proofs.«01_k».proof.Proof.WeightKernel
public import proofs.«01_k».proof.Proof.WeightRef
public import Idealize.ShloMosaic.Lib.KernelVsHost

@[expose] public section

noncomputable section

namespace Cert.Equation

open Cert.Qlora
open Idealize.ShloMosaic Idealize.ShloMosaic.TcCoe
open Cert.KernelIdeal (S24576x2560 S24576x6912 S24576x16 S2560x16 S16x2560 S16x6912 S24x1024x2560 S24x1024x6912 S1280x6912 S40x6912 S2560x256 S2560x6912 S24x1024x16)
open Cert.KernelIdeal.Value Cert.KernelIdeal.Whole
open Cert.ReferenceIdeal.Value (vX vDY vA vB vG vXA dA dB dL dW vByte vScale wRef ref_g ref_xa ref_dA ref_dB ref_dL ref_dW)
open scoped BigOperators

variable (m : (ℓ : Loc Cert.KernelIdeal.nD Cert.KernelIdeal.τ Cert.KernelIdeal.sig) → Buf (Elt Ideal) ℓ) (c : Dev Cert.KernelIdeal.nD)
variable (V : Valuation Cert.ReferenceIdeal.τ Cert.ReferenceIdeal.sig (Elt Ideal))

/-- `x` as the kernel is given it. -/
abbrev kX : FVec Ideal S24x1024x2560 .bf16 := Cert.KernelIdeal.Gen.V0 m c (Proc.devRef .tc Cert.KernelIdeal.main_arg0)
/-- `dy` as the kernel is given it. -/
abbrev kDY : FVec Ideal S24x1024x6912 .bf16 := Cert.KernelIdeal.Gen.V0 m c (Proc.devRef .tc Cert.KernelIdeal.main_arg1)
/-- The bytes as the kernel is given them. -/
abbrev kW : IVec S1280x6912 8 := Cert.KernelIdeal.Gen.V0 m c (Proc.devRef .tc Cert.KernelIdeal.main_arg2)
/-- The scales as the kernel is given them. -/
abbrev kS : FVec Ideal S40x6912 .bf16 := Cert.KernelIdeal.Gen.V0 m c (Proc.devRef .tc Cert.KernelIdeal.main_arg3)
/-- `A` as the kernel is given it. -/
abbrev kA : FVec Ideal S2560x16 .bf16 := Cert.KernelIdeal.Gen.V0 m c (Proc.devRef .tc Cert.KernelIdeal.main_arg4)
/-- `B` as the kernel is given it. -/
abbrev kB : FVec Ideal S16x6912 .bf16 := Cert.KernelIdeal.Gen.V0 m c (Proc.devRef .tc Cert.KernelIdeal.main_arg5)

/-- The reference is given what the kernel is given. -/
structure Agree : Prop where
  x : (V (Proc.devRef .tc Cert.ReferenceIdeal.main_arg0) : FVec Ideal S24x1024x2560 .bf16) = kX m c
  dy : (V (Proc.devRef .tc Cert.ReferenceIdeal.main_arg1) : FVec Ideal S24x1024x6912 .bf16) = kDY m c
  w : vByte V = kW m c
  s : vScale V = kS m c
  a : vA V = kA m c
  b : vB V = kB m c

variable {m c V}

theorem e_dy (h : Agree m c V) : (Ve4 m c Cert.KernelIdeal.main_v5 : FVec Ideal S24576x6912 .bf16) = vDY V := by
  refine (host_v5 m (outs1 m) c).trans ?_
  unfold vDY Cert.ReferenceIdeal.Value.res_main_v1
  exact congrArg (fun z : FVec Ideal S24x1024x6912 .bf16 => shapeCast S24576x6912 z Cert.KernelIdeal.Gen.shapeCasts_S24x1024x6912_S24576x6912) h.dy.symm

theorem e_x (h : Agree m c V) : (Ve4 m c Cert.KernelIdeal.main_v6 : FVec Ideal S24576x2560 .bf16) = vX V := by
  refine (host_v6 m (outs1 m) c).trans ?_
  unfold vX Cert.ReferenceIdeal.Value.res_main_v0
  exact congrArg (fun z : FVec Ideal S24x1024x2560 .bf16 => shapeCast S24576x2560 z Cert.KernelIdeal.Gen.shapeCasts_S24x1024x2560_S24576x2560) h.x.symm

theorem e_b (h : Agree m c V) : (Ve4 m c Cert.KernelIdeal.main_arg5 : FVec Ideal S16x6912 .bf16) = vB V :=
  (host_b m (outs1 m) c).trans h.b.symm

theorem e_at (h : Agree m c V) {r k : ℕ} (hr : r < 16) (hk : k < 2560) : rAT (Ve4 m) c r k = rd (vA V) k r := by
  unfold rAT
  rw [show (Ve4 m c Cert.KernelIdeal.main_v4 : FVec Ideal S16x2560 .bf16) = transpose S16x2560 [1, 0] (kA m c) Cert.KernelIdeal.Gen.transposes_S2560x16_S16x2560_1_0
    from host_v4 m (outs1 m) c, ← h.a, rd_mk _ hr hk, rd_mk _ hk hr]
  exact transpose_apply _ _ _ _ (ix2 (⟨k, hk⟩ : Fin 2560) (⟨r, hr⟩ : Fin 16)) (fun b => by fin_cases b <;> rfl)

theorem ofBits_one16 : Ideal.ofBits .bf16 0x3F80#16 = 1 := by
  simp [Ideal.ofBits, Ideal.ieee]
  rw [← EReal.coe_mul]
  norm_num

theorem e_ap (h : Agree m c V) {k r : ℕ} (hk : k < 2560) (hr : r < 16) : rAP (Ve4 m) c k r = rd (vA V) k r := by
  unfold rAP
  rw [show (Ve4 m c Cert.KernelIdeal.main_v3 : FVec Ideal S2560x256 .bf16) = _ from host_v3 m (outs1 m) c, rd_mk _ hk (by omega : r < 256), rd_mk _ hk hr]
  refine (pad_apply_of_inside _ _ _ _ _ _ _ _ (ix2 (⟨k, hk⟩ : Fin 2560) (⟨r, hr⟩ : Fin 16)) (fun b => ?_)).trans ?_
  · fin_cases b
    · show k = 0 + k * (0 + 1); omega
    · show r = 0 + r * (0 + 1); omega
  · show (kA m c (ix2 (⟨k, hk⟩ : Fin 2560) (⟨r, hr⟩ : Fin 16)) : EReal) * Ideal.ofBits .bf16 0x3F80#16 = _
    rw [ofBits_one16, ← h.a]
    exact mul_one _

theorem e_w (h : Agree m c V) : (Ve4 m c Cert.KernelIdeal.main_v0 : FVec Ideal S2560x6912 .bf16) = wRef V := by
  refine (host_w m (outs1 m) c).trans ?_
  refine (show outs1 m 1 Cert.KernelIdeal.main_v0 c = weight m c by unfold outs1; rw [Function.update_self]).trans ?_
  refine (arr_w (Ve0 m) c).trans ?_
  unfold wRef
  rw [h.w, h.s]

theorem e_g (h : Agree m c V) {r t : ℕ} (hr : r < 16) (ht : t < 24576) : gS (Ve4 m) c r t = rd (vG V) t r := by
  rw [ref_g V ht hr]
  unfold gS Cert.KernelIdeal.Value.rB rDY
  rw [e_dy h, e_b h]
  exact Finset.sum_congr rfl fun _ _ => mul_comm _ _

theorem e_xa (h : Agree m c V) {r t : ℕ} (hr : r < 16) (ht : t < 24576) : xS (Ve4 m) c r t = rd (vXA V) t r := by
  rw [ref_xa V ht hr]
  unfold xS Cert.KernelIdeal.Value.rX
  rw [e_x h]
  refine Finset.sum_congr rfl fun k hk => ?_
  rw [e_at h hr (Finset.mem_range.1 hk)]
  exact mul_comm _ _

theorem a_g (h : Agree m c V) : ((dat1 m c).arrAt 6 Cert.KernelIdeal.cfg1.N : FVec Ideal S24576x16 .bf16) = vG V := by
  refine (arr_g (Ve4 m) c).trans (funext fun y => ?_)
  exact (e_g h (y 1).isLt (y 0).isLt).trans (rd_at (m := 24576) (n := 16) (vG V) y).symm

theorem a_xa (h : Agree m c V) : ((dat1 m c).arrAt 7 Cert.KernelIdeal.cfg1.N : FVec Ideal S24576x16 .bf16) = vXA V := by
  refine (arr_xa (Ve4 m) c).trans (funext fun y => ?_)
  exact (e_xa h (y 1).isLt (y 0).isLt).trans (rd_at (m := 24576) (n := 16) (vXA V) y).symm

theorem a_dlb (h : Agree m c V) : ((dat1 m c).arrAt 9 Cert.KernelIdeal.cfg1.N : FVec Ideal S16x6912 .f32) = dB V := by
  refine (arr_dlb (Ve4 m) c).trans (funext fun y => ?_)
  refine Eq.trans ?_ (rd_at (m := 16) (n := 6912) (dB V) y).symm
  rw [ref_dB V (y 0).isLt (y 1).isLt]
  unfold rDY
  rw [e_dy h]
  exact Finset.sum_congr rfl fun t ht => by rw [e_xa h (y 0).isLt (Finset.mem_range.1 ht)]

theorem a_dla (h : Agree m c V) : transpose S2560x16 [1, 0] ((dat1 m c).arrAt 8 Cert.KernelIdeal.cfg1.N : FVec Ideal S16x2560 .f32) Cert.KernelIdeal.Gen.transposes_S16x2560_S2560x16_1_0 = dA V := by
  funext y
  refine (transpose_apply _ _ _ y (ix2 (y 1) (y 0) : S16x2560.Idx) (fun b => by fin_cases b <;> rfl)).trans ?_
  refine (congrFun (arr_dla (Ve4 m) c) _).trans ?_
  refine Eq.trans ?_ (rd_at (m := 2560) (n := 16) (dA V) y).symm
  rw [ref_dA V (y 0).isLt (y 1).isLt]
  unfold Cert.KernelIdeal.Value.rX
  rw [e_x h]
  show (∑ t ∈ Finset.range 24576, gS (Ve4 m) c (y 1).val t * rd (m := 24576) (n := 2560) (vX V) t (y 0).val : EReal) = _
  refine Finset.sum_congr rfl fun t ht => ?_
  rw [e_g h (y 1).isLt (Finset.mem_range.1 ht)]
  exact mul_comm _ _

theorem a_dx (h : Agree m c V) : ((dat1 m c).arrAt 5 Cert.KernelIdeal.cfg1.N : FVec Ideal S24576x2560 .bf16)
    = truncf .bf16 (addf (dW V) (dL V)) Cert.ReferenceIdeal.Gen.bitsLt_bf16_f32 := by
  refine (arr_dx (Ve4 m) c).trans (funext fun y => ?_)
  refine Eq.trans ?_ (rd_at (m := 24576) (n := 2560) (truncf .bf16 (addf (dW V) (dL V)) Cert.ReferenceIdeal.Gen.bitsLt_bf16_f32) y).symm
  rw [rd_truncf, rd_addf, ref_dW V (y 0).isLt (y 1).isLt, ref_dL V (y 0).isLt (y 1).isLt]
  unfold rDY Cert.KernelIdeal.Value.rW
  rw [e_dy h, e_w h, show (256 : ℕ) = 16 + 240 from rfl, Finset.sum_range_add]
  rw [Finset.sum_eq_zero (s := Finset.range 240) (fun r _ => by rw [if_neg (by omega)]; exact zero_mul _), add_zero]
  refine (add_comm _ _).trans (congrArg _ (Finset.sum_congr rfl fun r hr => ?_))
  have hr' := Finset.mem_range.1 hr
  rw [if_pos hr', e_g h hr' (y 0).isLt, e_ap h (y 1).isLt hr']

end Cert.Equation

end
-- ==== Proof.Algebraic.lean ====
/- The value claim: over the exact numbers the kernel's five results are the reference's. -/
module

public import proofs.«01_k».proof.Defs
public import proofs.«01_k».proof.Proof.Equation
public import proofs.«01_k».proof.Proof.WholeIdeal

@[expose] public section

noncomputable section

namespace Cert.Proof

open Idealize.ShloMosaic Idealize.ShloMosaic.TcCoe Idealize.SL.Sem Cert.Equation
open Cert.KernelIdeal.Value Cert.KernelIdeal.Whole
open Cert.ReferenceIdeal.Value (vX vDY vA vB vG vXA dA dB dL dW)

variable {m : (ℓ : Loc Cert.KernelIdeal.nD Cert.KernelIdeal.τ Cert.KernelIdeal.sig) → Buf (Elt Ideal) ℓ} {c : Dev Cert.KernelIdeal.nD}
variable {V : Valuation Cert.ReferenceIdeal.τ Cert.ReferenceIdeal.sig (Elt Ideal)}

theorem r_dx (h : Agree m c V) : Cert.KernelIdeal.Gen.V6 m (outs m) c (Proc.devRef .tc Cert.KernelIdeal.main_v8)
    = shapeCast Cert.KernelIdeal.S24x1024x2560 (truncf .bf16 (addf (dW V) (dL V)) Cert.ReferenceIdeal.Gen.bitsLt_bf16_f32 : FVec Ideal Cert.KernelIdeal.S24576x2560 .bf16)
      Cert.KernelIdeal.Gen.shapeCasts_S24576x2560_S24x1024x2560 := by
  refine (host_v8 m (outs m) c).trans ?_
  rw [V5_0, ← a_dx h]

theorem r_dla (h : Agree m c V) : Cert.KernelIdeal.Gen.V6 m (outs m) c (Proc.devRef .tc Cert.KernelIdeal.main_v9) = dA V := by
  refine (host_v9 m (outs m) c).trans ?_
  rw [V5_3]
  exact a_dla h

theorem r_dlb (h : Agree m c V) : Cert.KernelIdeal.Gen.V6 m (outs m) c (Proc.devRef .tc Cert.KernelIdeal.main_v7_4) = dB V :=
  (host_v7_4 m (outs m) c).trans ((V5_4 m c).trans (a_dlb h))

theorem r_g (h : Agree m c V) : Cert.KernelIdeal.Gen.V6 m (outs m) c (Proc.devRef .tc Cert.KernelIdeal.main_v10)
    = shapeCast Cert.KernelIdeal.S24x1024x16 (vG V) Cert.KernelIdeal.Gen.shapeCasts_S24576x16_S24x1024x16 := by
  refine (host_v10 m (outs m) c).trans ?_
  rw [V5_1, ← a_g h]

theorem r_xa (h : Agree m c V) : Cert.KernelIdeal.Gen.V6 m (outs m) c (Proc.devRef .tc Cert.KernelIdeal.main_v11)
    = shapeCast Cert.KernelIdeal.S24x1024x16 (vXA V) Cert.KernelIdeal.Gen.shapeCasts_S24576x16_S24x1024x16 := by
  refine (host_v11 m (outs m) c).trans ?_
  rw [V5_2, ← a_xa h]

theorem value : Cert.algebraic_KernelIdeal_ReferenceIdeal (hKernelIdeal := Cert.KernelIdeal.Gen.facts) (hReferenceIdeal := Cert.ReferenceIdeal.Gen.facts) := by
  intro m ρ m' ρ' _ hagree
  have ha : ∀ c, Agree m c (StableHlo.launchContents m' c) := fun c =>
    ⟨(hagree c).1, (hagree c).2.1, (hagree c).2.2.1, (hagree c).2.2.2.1, (hagree c).2.2.2.2.1, (hagree c).2.2.2.2.2⟩
  refine ⟨fun c => Cert.KernelIdeal.Gen.V6 m (outs m) c (Proc.devRef .tc Cert.KernelIdeal.main_v8),
    fun c => Cert.KernelIdeal.Gen.V6 m (outs m) c (Proc.devRef .tc Cert.KernelIdeal.main_v9),
    fun c => Cert.KernelIdeal.Gen.V6 m (outs m) c (Proc.devRef .tc Cert.KernelIdeal.main_v7_4),
    fun c => Cert.KernelIdeal.Gen.V6 m (outs m) c (Proc.devRef .tc Cert.KernelIdeal.main_v10),
    fun c => Cert.KernelIdeal.Gen.V6 m (outs m) c (Proc.devRef .tc Cert.KernelIdeal.main_v11), ?_, ?_⟩
  · exact (θ_run Cert.KernelIdeal.defs _ _).mono (fun r h => h.1) (run (F := Ideal) m ρ)
  · refine (θ_run Cert.ReferenceIdeal.defs _ _).mono (fun r h c => ?_) (Cert.ReferenceIdeal.Value.run (F := Ideal) m' ρ')
    obtain ⟨h0, h1, h2, h3, h4, h5⟩ := h c
    exact ⟨h0.trans (r_dx (ha c)).symm, h1.trans (r_dla (ha c)).symm, h2.trans (r_dlb (ha c)).symm, h3.trans (r_g (ha c)).symm, h4.trans (r_xa (ha c)).symm, h5⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, frame_kernel, frame_ideal, frame_reference, trivial, value⟩

end Cert.Proof

end
